-- ==== Defs.lean ====
def Pre_Kernel [hPre_idx_in_seq : Cert.Pre_idx_in_seq.Facts] (m : (ℓ : Loc Cert.Kernel.nD Cert.Kernel.τ Cert.Kernel.sig) → Buf (Elt Bits) ℓ) : Prop :=
  ∀ c : Dev Cert.Kernel.nD,
    (Cert.Pre_idx_in_seq.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_seq : Cert.Pre_idx_in_seq.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_seq.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_idx_in_seq : Cert.Pre_idx_in_seq.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_seq.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_seq : Cert.Pre_idx_in_seq.Facts] (m : (ℓ : Loc Cert.Reference.nD Cert.Reference.τ Cert.Reference.sig) → Buf (Elt Bits) ℓ) : Prop :=
  ∀ c : Dev Cert.Reference.nD,
    (Cert.Pre_idx_in_seq.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_idx_in_seq : Cert.Pre_idx_in_seq.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_seq : Cert.Pre_idx_in_seq.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_idx_in_seq : Cert.Pre_idx_in_seq.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_seq : Cert.Pre_idx_in_seq.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21)
      ∧ r.2.mem ((c.tc : Thread Cert.Kernel3.nD Cert.Kernel3.τ).loc Cert.Kernel3.main_arg22) = m ((c.tc : Thread Cert.Kernel3.nD Cert.Kernel3.τ).loc Cert.Kernel3.main_arg22))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
      ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21)
      ∧ r.2.mem ((c.tc : Thread Cert.Reference3Ideal.nD Cert.Reference3Ideal.τ).loc Cert.Reference3Ideal.main_arg22) = m ((c.tc : Thread Cert.Reference3Ideal.nD Cert.Reference3Ideal.τ).loc Cert.Reference3Ideal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_seq : Cert.Pre_idx_in_seq.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_seq : Cert.Pre_idx_in_seq.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v16)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v16) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)
      ∧ m' ((c.tc : Thread Cert.Reference3Ideal.nD Cert.Reference3Ideal.τ).loc Cert.Reference3Ideal.main_arg22) = m ((c.tc : Thread Cert.Kernel3Ideal.nD Cert.Kernel3Ideal.τ).loc Cert.Kernel3Ideal.main_arg22)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
          ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v280) = v0 c
          ∧ r.2.mem ((c.tc : Thread Cert.Reference3Ideal.nD Cert.Reference3Ideal.τ).loc Cert.Reference3Ideal.main_v307) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21)
          ∧ r.2.mem ((c.tc : Thread Cert.Reference3Ideal.nD Cert.Reference3Ideal.τ).loc Cert.Reference3Ideal.main_arg22) = m' ((c.tc : Thread Cert.Reference3Ideal.nD Cert.Reference3Ideal.τ).loc Cert.Reference3Ideal.main_arg22))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_idx_in_seq : Cert.Pre_idx_in_seq.Facts),
    quiescent_Kernel (hKernel := hKernel) (hPre_idx_in_seq := hPre_idx_in_seq)
    ∧ quiescent_KernelIdeal (hKernelIdeal := hKernelIdeal) (hPre_idx_in_seq := hPre_idx_in_seq)
    ∧ quiescent_ReferenceIdeal (hReferenceIdeal := hReferenceIdeal) (hPre_idx_in_seq := hPre_idx_in_seq)
    ∧ quiescent_Reference (hReference := hReference) (hPre_idx_in_seq := hPre_idx_in_seq)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_idx_in_seq := hPre_idx_in_seq)
    ∧ bitexact_Kernel_Reference (hKernel := hKernel) (hReference := hReference) (hPre_idx_in_seq := hPre_idx_in_seq)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_idx_in_seq.lean ====
abbrev S2x16x2048x256 : Shape := ⟨4, ![2, 16, 2048, 256]⟩
abbrev S16x16x256 : Shape := ⟨3, ![16, 16, 256]⟩
abbrev S_ : Shape := ⟨0, ![]⟩

class Facts : Prop where
  bcast_S_S16x16x256 : S_.BroadcastsInDim S16x16x256 (![] : Fin 0 → Fin S16x16x256.rank)

variable [Facts]

def fn {F : FTy → Type} [FloatOps F] (main_arg0 : IVec S2x16x2048x256 32) (main_arg1 : IVec S16x16x256 32) : IVec S16x16x256 1 :=
  let main_c : IVec S_ 32 := constantI S_ 32 0#32
  let main_v0 : IVec S16x16x256 32 := broadcastInDim S16x16x256 ![] bcast_S_S16x16x256 main_c
  let main_v1 : IVec S16x16x256 1 := cmpi .sge main_arg1 main_v0
  let main_c_0 : IVec S_ 32 := constantI S_ 32 2048#32
  let main_v2 : IVec S16x16x256 32 := broadcastInDim S16x16x256 ![] bcast_S_S16x16x256 main_c_0
  let main_v3 : IVec S16x16x256 1 := cmpi .slt main_arg1 main_v2
  let main_v4 : IVec S16x16x256 1 := andi main_v1 main_v3
  main_v4
-- ==== Kernel.lean ====
abbrev S2x16x2048x256 : Shape := ⟨4, ![2, 16, 2048, 256]⟩
abbrev S16x16x256 : Shape := ⟨3, ![16, 16, 256]⟩
abbrev S16 : Shape := ⟨1, ![16]⟩
abbrev S_ : Shape := ⟨0, ![]⟩
abbrev S16x1x1 : Shape := ⟨3, ![16, 1, 1]⟩
abbrev S65536 : Shape := ⟨1, ![65536]⟩
abbrev S131072 : Shape := ⟨1, ![131072]⟩
abbrev S65536x256 : Shape := ⟨2, ![65536, 256]⟩
abbrev S1x131072 : Shape := ⟨2, ![1, 131072]⟩
abbrev S131072x256 : Shape := ⟨2, ![131072, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S65536x128 : Shape := ⟨2, ![65536, 128]⟩
abbrev S2x16x4096x256 : Shape := ⟨4, ![2, 16, 4096, 256]⟩

abbrev nBuf : Table → Nat
  | .hbm => 22
  | .local .scVector .vmem => 2
  | _ => 0

abbrev bufTy : (tb : Table) → Fin (nBuf tb) → BufTy
  | .hbm, ⟨0, _⟩ => ⟨S2x16x2048x256, .i32⟩
  | .hbm, ⟨1, _⟩ => ⟨S16x16x256, .i32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S16x1x1, .i32⟩
  | .hbm, ⟨7, _⟩ => ⟨S16x16x256, .i32⟩
  | .hbm, ⟨8, _⟩ => ⟨S16x16x256, .i32⟩
  | .hbm, ⟨9, _⟩ => ⟨S16x16x256, .i32⟩
  | .hbm, ⟨10, _⟩ => ⟨S65536, .i32⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S131072, .i32⟩
  | .hbm, ⟨18, _⟩ => ⟨S65536x256, .i32⟩
  | .hbm, ⟨19, _⟩ => ⟨S1x131072, .i32⟩
  | .hbm, ⟨20, _⟩ => ⟨S131072x256, .i32⟩
  | .hbm, ⟨21, _⟩ => ⟨S2x16x4096x256, .i32⟩
  | .local .scVector .vmem, ⟨0, _⟩ => ⟨S2x1x128, .i32⟩
  | .local .scVector .vmem, ⟨1, _⟩ => ⟨S2x128x256, .i32⟩
  | _, _ => ⟨S2x16x2048x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v13_scv : Ref sig .scVector := ⟨.hbm, 18, rfl⟩
abbrev main_v14_scv : Ref sig .scVector := ⟨.hbm, 19, rfl⟩
abbrev main_v15_scv : Ref sig .scVector := ⟨.hbm, 20, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S131072x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S131072x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S131072x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S131072x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S131072x256.size a)
theorem k0_off19_inb : ∀ (i : grid0.Coords) (v33_4_r0 : BitVec 32) (k0_hw5 : k0_chk5 i v33_4_r0), ∀ a, (k0_off19 i v33_4_r0) a + S128x256.size a ≤ S131072x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x16x2048x256 : Shape := ⟨4, ![2, 16, 2048, 256]⟩
abbrev S16x16x256 : Shape := ⟨3, ![16, 16, 256]⟩
abbrev S_ : Shape := ⟨0, ![]⟩
abbrev S16x16x256x1 : Shape := ⟨4, ![16, 16, 256, 1]⟩
abbrev S2x16x16x256x256 : Shape := ⟨5, ![2, 16, 16, 256, 256]⟩
abbrev S2x16x4096x256 : Shape := ⟨4, ![2, 16, 4096, 256]⟩

abbrev nBuf : Space → Nat
  | .hbm => 13
  | .vmem => 0
  | .smem => 0
  | _ => 0

abbrev bufTy : (tb : Table) → Fin (tcTables nBuf tb) → BufTy
  | .hbm, ⟨0, _⟩ => ⟨S2x16x2048x256, .i32⟩
  | .hbm, ⟨1, _⟩ => ⟨S16x16x256, .i32⟩
  | .hbm, ⟨2, _⟩ => ⟨S_, .i32⟩
  | .hbm, ⟨3, _⟩ => ⟨S16x16x256, .i32⟩
  | .hbm, ⟨4, _⟩ => ⟨S16x16x256, .i1⟩
  | .hbm, ⟨5, _⟩ => ⟨S_, .i32⟩
  | .hbm, ⟨6, _⟩ => ⟨S16x16x256, .i32⟩
  | .hbm, ⟨7, _⟩ => ⟨S16x16x256, .i32⟩
  | .hbm, ⟨8, _⟩ => ⟨S16x16x256, .i32⟩
  | .hbm, ⟨9, _⟩ => ⟨S16x16x256x1, .i32⟩
  | .hbm, ⟨10, _⟩ => ⟨S2x16x16x256x256, .i32⟩
  | .hbm, ⟨11, _⟩ => ⟨S2x16x16x256x256, .i32⟩
  | .hbm, ⟨12, _⟩ => ⟨S2x16x4096x256, .i32⟩
  | _, _ => ⟨S2x16x2048x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel2.lean ====
abbrev S2x16x4096x256 : Shape := ⟨4, ![2, 16, 4096, 256]⟩
abbrev S1x16x1024x1024 : Shape := ⟨4, ![1, 16, 1024, 1024]⟩
abbrev S16x1024x1024 : Shape := ⟨3, ![16, 1024, 1024]⟩
abbrev S16x4096x1024 : Shape := ⟨3, ![16, 4096, 1024]⟩
abbrev S2x1x1024x256 : Shape := ⟨4, ![2, 1, 1024, 256]⟩
abbrev S1x1024x1024 : Shape := ⟨3, ![1, 1024, 1024]⟩
abbrev S1024x1024 : Shape := ⟨2, ![1024, 1024]⟩
abbrev S1x1x1024x256 : Shape := ⟨4, ![1, 1, 1024, 256]⟩
abbrev S1024x256 : Shape := ⟨2, ![1024, 256]⟩

abbrev nBuf : Space → Nat
  | .hbm => 8
  | .vmem => 13
  | .smem => 0
  | _ => 0

abbrev bufTy : (tb : Table) → Fin (tcTables nBuf tb) → BufTy
  | .hbm, ⟨0, _⟩ => ⟨S2x16x4096x256, .i32⟩
  | .hbm, ⟨1, _⟩ => ⟨S1x16x1024x1024, .f32⟩
  | .hbm, ⟨2, _⟩ => ⟨S1x16x1024x1024, .f32⟩
  | .hbm, ⟨3, _⟩ => ⟨S1x16x1024x1024, .f32⟩
  | .hbm, ⟨4, _⟩ => ⟨S16x1024x1024, .f32⟩
  | .hbm, ⟨5, _⟩ => ⟨S16x1024x1024, .f32⟩
  | .hbm, ⟨6, _⟩ => ⟨S16x1024x1024, .f32⟩
  | .hbm, ⟨7, _⟩ => ⟨S16x4096x1024, .bf16⟩
  | .local _ .vmem, ⟨0, _⟩ => ⟨S2x1x1024x256, .i32⟩
  | .local _ .vmem, ⟨1, _⟩ => ⟨S2x1x1024x256, .i32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S2x16x4096x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x16x4096x256 : Shape := ⟨4, ![2, 16, 4096, 256]⟩
abbrev S1x16x1024x1024 : Shape := ⟨4, ![1, 16, 1024, 1024]⟩
abbrev S2x16x4096x256x2 : Shape := ⟨5, ![2, 16, 4096, 256, 2]⟩
abbrev S16x4096x2x2x256 : Shape := ⟨5, ![16, 4096, 2, 2, 256]⟩
abbrev S16x16x256x1024 : Shape := ⟨4, ![16, 16, 256, 1024]⟩
abbrev S16x1024x1024 : Shape := ⟨3, ![16, 1024, 1024]⟩
abbrev S16x1024x16x256 : Shape := ⟨4, ![16, 1024, 16, 256]⟩
abbrev S_ : Shape := ⟨0, ![]⟩
abbrev S16x4096x1024 : Shape := ⟨3, ![16, 4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x16x4096x256, .i32⟩
  | .hbm, ⟨1, _⟩ => ⟨S1x16x1024x1024, .f32⟩
  | .hbm, ⟨2, _⟩ => ⟨S1x16x1024x1024, .f32⟩
  | .hbm, ⟨3, _⟩ => ⟨S1x16x1024x1024, .f32⟩
  | .hbm, ⟨4, _⟩ => ⟨S2x16x4096x256x2, .bf16⟩
  | .hbm, ⟨5, _⟩ => ⟨S2x16x4096x256x2, .f32⟩
  | .hbm, ⟨6, _⟩ => ⟨S16x4096x2x2x256, .f32⟩
  | .hbm, ⟨7, _⟩ => ⟨S16x16x256x1024, .f32⟩
  | .hbm, ⟨8, _⟩ => ⟨S16x16x256x1024, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S16x1024x16x256, .f32⟩
  | .hbm, ⟨13, _⟩ => ⟨S16x16x256x1024, .f32⟩
  | .hbm, ⟨14, _⟩ => ⟨S16x16x256x1024, .f32⟩
  | .hbm, ⟨15, _⟩ => ⟨S16x16x256x1024, .f32⟩
  | .hbm, ⟨16, _⟩ => ⟨S_, .f32⟩
  | .hbm, ⟨17, _⟩ => ⟨S16x16x256x1024, .f32⟩
  | .hbm, ⟨18, _⟩ => ⟨S16x16x256x1024, .f32⟩
  | .hbm, ⟨19, _⟩ => ⟨S_, .f32⟩
  | .hbm, ⟨20, _⟩ => ⟨S16x16x256x1024, .f32⟩
  | .hbm, ⟨21, _⟩ => ⟨S16x16x256x1024, .f32⟩
  | .hbm, ⟨22, _⟩ => ⟨S16x16x256x1024, .f32⟩
  | .hbm, ⟨23, _⟩ => ⟨S16x1024x16x256, .f32⟩
  | .hbm, ⟨24, _⟩ => ⟨S16x16x256x1024, .f32⟩
  | .hbm, ⟨25, _⟩ => ⟨S16x16x256x1024, .f32⟩
  | .hbm, ⟨26, _⟩ => ⟨S16x1024x16x256, .f32⟩
  | .hbm, ⟨27, _⟩ => ⟨S16x16x256x1024, .f32⟩
  | .hbm, ⟨28, _⟩ => ⟨S16x16x256x1024, .f32⟩
  | .hbm, ⟨29, _⟩ => ⟨S16x4096x1024, .f32⟩
  | .hbm, ⟨30, _⟩ => ⟨S16x4096x1024, .bf16⟩
  | _, _ => ⟨S2x16x4096x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Kernel3.lean ====
abbrev S1x4 : Shape := ⟨2, ![1, 4]⟩
abbrev S2048x64 : Shape := ⟨2, ![2048, 64]⟩
abbrev S32x2048x1024 : Shape := ⟨3, ![32, 2048, 1024]⟩
abbrev S16x2048x1024 : Shape := ⟨3, ![16, 2048, 1024]⟩
abbrev S16x2048x512 : Shape := ⟨3, ![16, 2048, 512]⟩
abbrev S16x8x4x128x256 : Shape := ⟨5, ![16, 8, 4, 128, 256]⟩
abbrev S16x4x128x256 : Shape := ⟨4, ![16, 4, 128, 256]⟩
abbrev S1x1024x6144 : Shape := ⟨3, ![1, 1024, 6144]⟩
abbrev S1x512x1024 : Shape := ⟨3, ![1, 512, 1024]⟩
abbrev S1x1024x1024 : Shape := ⟨3, ![1, 1024, 1024]⟩
abbrev S1x1024 : Shape := ⟨2, ![1, 1024]⟩
abbrev S16x1x1024 : Shape := ⟨3, ![16, 1, 1024]⟩
abbrev S1x1024x16 : Shape := ⟨3, ![1, 1024, 16]⟩
abbrev S512 : Shape := ⟨1, ![512]⟩
abbrev S1024x6144 : Shape := ⟨2, ![1024, 6144]⟩
abbrev S1024x512 : Shape := ⟨2, ![1024, 512]⟩
abbrev S_ : Shape := ⟨0, ![]⟩
abbrev S512x1 : Shape := ⟨2, ![512, 1]⟩
abbrev S1024x3072 : Shape := ⟨2, ![1024, 3072]⟩
abbrev S2048x128 : Shape := ⟨2, ![2048, 128]⟩
abbrev S512x1024 : Shape := ⟨2, ![512, 1024]⟩
abbrev S1024x1024 : Shape := ⟨2, ![1024, 1024]⟩
abbrev S4 : Shape := ⟨1, ![4]⟩
abbrev S1024 : Shape := ⟨1, ![1024]⟩
abbrev S1024x16 : Shape := ⟨2, ![1024, 16]⟩
abbrev S16x1024 : Shape := ⟨2, ![16, 1024]⟩
abbrev S2x16x2048x512 : Shape := ⟨4, ![2, 16, 2048, 512]⟩
abbrev S16x16x2048 : Shape := ⟨3, ![16, 16, 2048]⟩
abbrev S1x512x512 : Shape := ⟨3, ![1, 512, 512]⟩
abbrev S1x2x4x128x256 : Shape := ⟨5, ![1, 2, 4, 128, 256]⟩
abbrev S1x4x128x256 : Shape := ⟨4, ![1, 4, 128, 256]⟩
abbrev S1x1x1024 : Shape := ⟨3, ![1, 1, 1024]⟩
abbrev S512x128 : Shape := ⟨2, ![512, 128]⟩
abbrev S2x1x512x512 : Shape := ⟨4, ![2, 1, 512, 512]⟩
abbrev S1x16x512 : Shape := ⟨3, ![1, 16, 512]⟩
abbrev S4x128x256 : Shape := ⟨3, ![4, 128, 256]⟩
abbrev S512x512 : Shape := ⟨2, ![512, 512]⟩
abbrev S256x1 : Shape := ⟨2, ![256, 1]⟩
abbrev S256x256 : Shape := ⟨2, ![256, 256]⟩
abbrev S1 : Shape := ⟨1, ![1]⟩
abbrev S1x256 : Shape := ⟨2, ![1, 256]⟩
abbrev S256x128 : Shape := ⟨2, ![256, 128]⟩
abbrev S1x256x128 : Shape := ⟨3, ![1, 256, 128]⟩
abbrev S1x256x256 : Shape := ⟨3, ![1, 256, 256]⟩
abbrev S1x128x256 : Shape := ⟨3, ![1, 128, 256]⟩
abbrev S128x256 : Shape := ⟨2, ![128, 256]⟩
abbrev S256x512 : Shape := ⟨2, ![256, 512]⟩
abbrev S1x1x1x128x256 : Shape := ⟨5, ![1, 1, 1, 128, 256]⟩
abbrev S512x256 : Shape := ⟨2, ![512, 256]⟩
abbrev S256 : Shape := ⟨1, ![256]⟩
abbrev S256x1024 : Shape := ⟨2, ![256, 1024]⟩
abbrev S1x1x512x512 : Shape := ⟨4, ![1, 1, 512, 512]⟩
abbrev S32x1024 : Shape := ⟨2, ![32, 1024]⟩
abbrev S32x512 : Shape := ⟨2, ![32, 512]⟩
abbrev S16x512 : Shape := ⟨2, ![16, 512]⟩

abbrev nBuf : Space → Nat
  | .hbm => 58
  | .vmem => 42
  | .smem => 2
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S2048x64, .f32⟩
  | .hbm, ⟨3, _⟩ => ⟨S2048x64, .f32⟩
  | .hbm, ⟨4, _⟩ => ⟨S32x2048x1024, .f32⟩
  | .hbm, ⟨5, _⟩ => ⟨S16x2048x1024, .bf16⟩
  | .hbm, ⟨6, _⟩ => ⟨S16x2048x512, .bf16⟩
  | .hbm, ⟨7, _⟩ => ⟨S16x2048x1024, .bf16⟩
  | .hbm, ⟨8, _⟩ => ⟨S16x8x4x128x256, .bf16⟩
  | .hbm, ⟨9, _⟩ => ⟨S16x8x4x128x256, .f32⟩
  | .hbm, ⟨10, _⟩ => ⟨S16x4x128x256, .f32⟩
  | .hbm, ⟨11, _⟩ => ⟨S16x2048x512, .bf16⟩
  | .hbm, ⟨12, _⟩ => ⟨S1x1024x6144, .f32⟩
  | .hbm, ⟨13, _⟩ => ⟨S1x512x1024, .f32⟩
  | .hbm, ⟨14, _⟩ => ⟨S1x1024x1024, .f32⟩
  | .hbm, ⟨15, _⟩ => ⟨S1x1024x1024, .f32⟩
  | .hbm, ⟨16, _⟩ => ⟨S1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S1x1024, .f32⟩
  | .hbm, ⟨21, _⟩ => ⟨S1x1024, .f32⟩
  | .hbm, ⟨22, _⟩ => ⟨S1x1024x16, .f32⟩
  | .hbm, ⟨23, _⟩ => ⟨S512, .i32⟩
  | .hbm, ⟨24, _⟩ => ⟨S512, .i1⟩
  | .hbm, ⟨25, _⟩ => ⟨S1024x6144, .f32⟩
  | .hbm, ⟨26, _⟩ => ⟨S1024x512, .f32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1024x512, .f32⟩
  | .hbm, ⟨33, _⟩ => ⟨S1024x512, .bf16⟩
  | .hbm, ⟨34, _⟩ => ⟨S1024x3072, .f32⟩
  | .hbm, ⟨35, _⟩ => ⟨S1024x3072, .bf16⟩
  | .hbm, ⟨36, _⟩ => ⟨S2048x128, .f32⟩
  | .hbm, ⟨37, _⟩ => ⟨S2048x64, .f32⟩
  | .hbm, ⟨38, _⟩ => ⟨S2048x128, .f32⟩
  | .hbm, ⟨39, _⟩ => ⟨S512x1024, .f32⟩
  | .hbm, ⟨40, _⟩ => ⟨S512x1024, .bf16⟩
  | .hbm, ⟨41, _⟩ => ⟨S1024x1024, .f32⟩
  | .hbm, ⟨42, _⟩ => ⟨S1024x1024, .bf16⟩
  | .hbm, ⟨43, _⟩ => ⟨S1024x1024, .f32⟩
  | .hbm, ⟨44, _⟩ => ⟨S1024x1024, .bf16⟩
  | .hbm, ⟨45, _⟩ => ⟨S4, .f32⟩
  | .hbm, ⟨46, _⟩ => ⟨S4, .f32⟩
  | .hbm, ⟨47, _⟩ => ⟨S1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S1024x16, .f32⟩
  | .hbm, ⟨54, _⟩ => ⟨S16x1024, .f32⟩
  | .hbm, ⟨55, _⟩ => ⟨S16x2048x1024, .f32⟩
  | .hbm, ⟨56, _⟩ => ⟨S2x16x2048x512, .bf16⟩
  | .hbm, ⟨57, _⟩ => ⟨S16x16x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2x4x128x256, .bf16⟩
  | .local _ .vmem, ⟨9, _⟩ => ⟨S1x2x4x128x256, .bf16⟩
  | .local _ .vmem, ⟨10, _⟩ => ⟨S1x2x4x128x256, .f32⟩
  | .local _ .vmem, ⟨11, _⟩ => ⟨S1x2x4x128x256, .f32⟩
  | .local _ .vmem, ⟨12, _⟩ => ⟨S1x4x128x256, .f32⟩
  | .local _ .vmem, ⟨13, _⟩ => ⟨S1x4x128x256, .f32⟩
  | .local _ .vmem, ⟨14, _⟩ => ⟨S1x512x512, .bf16⟩
  | .local _ .vmem, ⟨15, _⟩ => ⟨S1x512x512, .bf16⟩
  | .local _ .vmem, ⟨16, _⟩ => ⟨S1024x512, .bf16⟩
  | .local _ .vmem, ⟨17, _⟩ => ⟨S1024x3072, .bf16⟩
  | .local _ .vmem, ⟨18, _⟩ => ⟨S512x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1024, .f32⟩
  | .local _ .vmem, ⟨29, _⟩ => ⟨S1x1024, .f32⟩
  | .local _ .vmem, ⟨30, _⟩ => ⟨S16x1024, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S1x512x1024, .f32⟩
  | .local _ .vmem, ⟨36, _⟩ => ⟨S1x512x1024, .f32⟩
  | .local _ .vmem, ⟨37, _⟩ => ⟨S2x1x512x512, .bf16⟩
  | .local _ .vmem, ⟨38, _⟩ => ⟨S2x1x512x512, .bf16⟩
  | .local _ .vmem, ⟨39, _⟩ => ⟨S1x16x512, .f32⟩
  | .local _ .vmem, ⟨40, _⟩ => ⟨S1x16x512, .f32⟩
  | .local _ .vmem, ⟨41, _⟩ => ⟨S4x128x256, .f32⟩
  | .local _ .smem, ⟨0, _⟩ => ⟨S4, .f32⟩
  | .local _ .smem, ⟨1, _⟩ => ⟨S4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_c_0 : Ref sig .tc := ⟨.hbm, 24, rfl⟩
abbrev main_v0 : Ref sig .tc := ⟨.hbm, 25, rfl⟩
abbrev main_v1 : Ref sig .tc := ⟨.hbm, 26, rfl⟩
abbrev main_c_1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29_0 : Ref sig .tc := ⟨.hbm, 55, rfl⟩
abbrev main_v29_1 : Ref sig .tc := ⟨.hbm, 56, rfl⟩
abbrev main_v29_2 : Ref sig .tc := ⟨.hbm, 57, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_scratch0 : Ref sig .tc := ⟨.vmem, 41, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40
abbrev cc0_sem26_0 : DmaSem sig := 41
abbrev cc0_sem26_1 : DmaSem sig := 42

abbrev nD : Nat := 1
abbrev τ : Topo := Topo.v7x

variable {F : FTy → Type} [FloatOps F]

abbrev grid0 : Pipeline.Grid := ⟨2, ![16, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let v1 : BitVec 32 := Scalar.subi c3_i32 arg1
  let c0_i32_0 : BitVec 32 := 0#32
  let c0_i32_1 : BitVec 32 := 0#32
  ![v0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![v0.toNat, c0_i32.toNat]

def cc0_transform_24 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_25 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_26 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, c0_i32.toNat, v0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x4x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S16x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![false, true]

abbrev stage0_23 : Fin 2 → Memref sig .tc .vmem S512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![false, true]

abbrev stage0_24 : Fin 2 → Memref sig .tc .vmem S1x512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S2x1x512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x16x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference3Ideal.lean ====
abbrev S1x4 : Shape := ⟨2, ![1, 4]⟩
abbrev S2048x64 : Shape := ⟨2, ![2048, 64]⟩
abbrev S32x2048x1024 : Shape := ⟨3, ![32, 2048, 1024]⟩
abbrev S16x2048x1024 : Shape := ⟨3, ![16, 2048, 1024]⟩
abbrev S16x2048x512 : Shape := ⟨3, ![16, 2048, 512]⟩
abbrev S16x8x4x128x256 : Shape := ⟨5, ![16, 8, 4, 128, 256]⟩
abbrev S16x4x128x256 : Shape := ⟨4, ![16, 4, 128, 256]⟩
abbrev S1x1024x6144 : Shape := ⟨3, ![1, 1024, 6144]⟩
abbrev S1x512x1024 : Shape := ⟨3, ![1, 512, 1024]⟩
abbrev S1x1024x1024 : Shape := ⟨3, ![1, 1024, 1024]⟩
abbrev S1x1024 : Shape := ⟨2, ![1, 1024]⟩
abbrev S16x1x1024 : Shape := ⟨3, ![16, 1, 1024]⟩
abbrev S1x1024x16 : Shape := ⟨3, ![1, 1024, 16]⟩
abbrev S4 : Shape := ⟨1, ![4]⟩
abbrev S1024x6144 : Shape := ⟨2, ![1024, 6144]⟩
abbrev S1024x512 : Shape := ⟨2, ![1024, 512]⟩
abbrev S16x8x256x4x128 : Shape := ⟨5, ![16, 8, 256, 4, 128]⟩
abbrev S16x8x4x256x128 : Shape := ⟨5, ![16, 8, 4, 256, 128]⟩
abbrev S8x1x256x64 : Shape := ⟨4, ![8, 1, 256, 64]⟩
abbrev S16x8x4x256x64 : Shape := ⟨5, ![16, 8, 4, 256, 64]⟩
abbrev S1x8x1x256x64 : Shape := ⟨5, ![1, 8, 1, 256, 64]⟩
abbrev S16x8x4x256x64x1 : Shape := ⟨6, ![16, 8, 4, 256, 64, 1]⟩
abbrev S16x8x4x256x64x2 : Shape := ⟨6, ![16, 8, 4, 256, 64, 2]⟩
abbrev S16x8x256x4x256 : Shape := ⟨5, ![16, 8, 256, 4, 256]⟩
abbrev S16x8x4x256x256 : Shape := ⟨5, ![16, 8, 4, 256, 256]⟩
abbrev S16x4x256x128 : Shape := ⟨4, ![16, 4, 256, 128]⟩
abbrev S16x4x256x64 : Shape := ⟨4, ![16, 4, 256, 64]⟩
abbrev S16x4x256x64x1 : Shape := ⟨5, ![16, 4, 256, 64, 1]⟩
abbrev S16x4x256x64x2 : Shape := ⟨5, ![16, 4, 256, 64, 2]⟩
abbrev S_ : Shape := ⟨0, ![]⟩
abbrev S4x1x1 : Shape := ⟨3, ![4, 1, 1]⟩
abbrev S1x4x1x1 : Shape := ⟨4, ![1, 4, 1, 1]⟩
abbrev S16x1x4x128x256 : Shape := ⟨5, ![16, 1, 4, 128, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1x1x4x256x256 : Shape := ⟨5, ![1, 1, 4, 256, 256]⟩
abbrev S1x1x4x256x1 : Shape := ⟨5, ![1, 1, 4, 256, 1]⟩
abbrev S16x8x4x256 : Shape := ⟨4, ![16, 8, 4, 256]⟩
abbrev S16x8x4x256x1 : Shape := ⟨5, ![16, 8, 4, 256, 1]⟩
abbrev S1024 : Shape := ⟨1, ![1024]⟩
abbrev S1x1x1024 : Shape := ⟨3, ![1, 1, 1024]⟩
abbrev S1024x1024 : Shape := ⟨2, ![1024, 1024]⟩
abbrev S512x1024 : Shape := ⟨2, ![512, 1024]⟩
abbrev S16x2048 : Shape := ⟨2, ![16, 2048]⟩
abbrev S16x2048x1 : Shape := ⟨3, ![16, 2048, 1]⟩
abbrev S16x2048x2x512 : Shape := ⟨4, ![16, 2048, 2, 512]⟩
abbrev S2x16x2048x512 : Shape := ⟨4, ![2, 16, 2048, 512]⟩

abbrev nBuf : Space → Nat
  | .hbm => 375
  | .vmem => 0
  | .smem => 0
  | _ => 0

abbrev hbmTy0_0 (i : Nat) : BufTy := match i % 128 with
  | 0 => ⟨S1x4, .f32⟩
  | 1 => ⟨S1x4, .f32⟩
  | 2 => ⟨S2048x64, .f32⟩
  | 3 => ⟨S2048x64, .f32⟩
  | 4 => ⟨S32x2048x1024, .f32⟩
  | 5 => ⟨S16x2048x1024, .bf16⟩
  | 6 => ⟨S16x2048x512, .bf16⟩
  | 7 => ⟨S16x2048x1024, .bf16⟩
  | 8 => ⟨S16x8x4x128x256, .bf16⟩
  | 9 => ⟨S16x8x4x128x256, .f32⟩
  | 10 => ⟨S16x4x128x256, .f32⟩
  | 11 => ⟨S16x2048x512, .bf16⟩
  | 12 => ⟨S1x1024x6144, .f32⟩
  | 13 => ⟨S1x512x1024, .f32⟩
  | 14 => ⟨S1x1024x1024, .f32⟩
  | 15 => ⟨S1x1024x1024, .f32⟩
  | 16 => ⟨S1x1024, .f32⟩
  | 17 => ⟨S16x1x1024, .f32⟩
  | 18 => ⟨S16x1x1024, .f32⟩
  | 19 => ⟨S16x1x1024, .f32⟩
  | 20 => ⟨S1x1024, .f32⟩
  | 21 => ⟨S1x1024, .f32⟩
  | 22 => ⟨S1x1024x16, .f32⟩
  | 23 => ⟨S4, .f32⟩
  | 24 => ⟨S4, .f32⟩
  | 25 => ⟨S1024x6144, .f32⟩
  | 26 => ⟨S16x2048x1024, .f32⟩
  | 27 => ⟨S1024x512, .f32⟩
  | 28 => ⟨S16x2048x512, .f32⟩
  | 29 => ⟨S16x8x256x4x128, .f32⟩
  | 30 => ⟨S16x8x4x256x128, .f32⟩
  | 31 => ⟨S8x1x256x64, .f32⟩
  | 32 => ⟨S8x1x256x64, .f32⟩
  | 33 => ⟨S16x8x4x256x64, .f32⟩
  | 34 => ⟨S16x8x4x256x64, .f32⟩
  | 35 => ⟨S1x8x1x256x64, .f32⟩
  | 36 => ⟨S16x8x4x256x64, .f32⟩
  | 37 => ⟨S16x8x4x256x64, .f32⟩
  | 38 => ⟨S1x8x1x256x64, .f32⟩
  | 39 => ⟨S16x8x4x256x64, .f32⟩
  | 40 => ⟨S16x8x4x256x64, .f32⟩
  | 41 => ⟨S16x8x4x256x64, .f32⟩
  | 42 => ⟨S1x8x1x256x64, .f32⟩
  | 43 => ⟨S16x8x4x256x64, .f32⟩
  | 44 => ⟨S16x8x4x256x64, .f32⟩
  | 45 => ⟨S1x8x1x256x64, .f32⟩
  | 46 => ⟨S16x8x4x256x64, .f32⟩
  | 47 => ⟨S16x8x4x256x64, .f32⟩
  | 48 => ⟨S16x8x4x256x64, .f32⟩
  | 49 => ⟨S16x8x4x256x64x1, .f32⟩
  | 50 => ⟨S16x8x4x256x64x1, .f32⟩
  | 51 => ⟨S16x8x4x256x64x2, .f32⟩
  | 52 => ⟨S16x8x4x256x128, .f32⟩
  | 53 => ⟨S16x2048x512, .f32⟩
  | 54 => ⟨S16x8x256x4x128, .f32⟩
  | 55 => ⟨S16x8x4x256x128, .f32⟩
  | 56 => ⟨S16x8x4x256x64, .f32⟩
  | 57 => ⟨S16x8x4x256x64, .f32⟩
  | 58 => ⟨S16x8x4x256x64x1, .f32⟩
  | 59 => ⟨S16x8x4x256x64x1, .f32⟩
  | 60 => ⟨S16x8x4x256x64x2, .f32⟩
  | 61 => ⟨S16x8x4x256x128, .f32⟩
  | 62 => ⟨S16x2048x1024, .f32⟩
  | 63 => ⟨S16x8x256x4x256, .f32⟩
  | 64 => ⟨S16x8x4x256x256, .f32⟩
  | 65 => ⟨S16x8x4x128x256, .f32⟩
  | 66 => ⟨S16x8x4x256x128, .f32⟩
  | 67 => ⟨S16x8x4x256x64, .f32⟩
  | 68 => ⟨S16x8x4x256x64, .f32⟩
  | 69 => ⟨S16x8x4x256x64x1, .f32⟩
  | 70 => ⟨S16x8x4x256x64x1, .f32⟩
  | 71 => ⟨S16x8x4x256x64x2, .f32⟩
  | 72 => ⟨S16x8x4x256x128, .f32⟩
  | 73 => ⟨S16x8x4x128x256, .f32⟩
  | 74 => ⟨S16x4x256x128, .f32⟩
  | 75 => ⟨S16x4x256x64, .f32⟩
  | 76 => ⟨S16x4x256x64, .f32⟩
  | 77 => ⟨S16x4x256x64x1, .f32⟩
  | 78 => ⟨S16x4x256x64x1, .f32⟩
  | 79 => ⟨S16x4x256x64x2, .f32⟩
  | 80 => ⟨S16x4x256x128, .f32⟩
  | 81 => ⟨S16x4x128x256, .f32⟩
  | 82 => ⟨S16x8x4x256x128, .f32⟩
  | 83 => ⟨S16x8x4x256x64, .f32⟩
  | 84 => ⟨S16x8x4x256x64, .f32⟩
  | 85 => ⟨S16x8x4x256x64x1, .f32⟩
  | 86 => ⟨S16x8x4x256x64x1, .f32⟩
  | 87 => ⟨S16x8x4x256x64x2, .f32⟩
  | 88 => ⟨S16x8x4x256x128, .f32⟩
  | 89 => ⟨S16x8x4x128x256, .f32⟩
  | 90 => ⟨S_, .f32⟩
  | 91 => ⟨S4, .f32⟩
  | 92 => ⟨S4, .f32⟩
  | 93 => ⟨S4, .f32⟩
  | 94 => ⟨S4x1x1, .f32⟩
  | 95 => ⟨S1x4x1x1, .f32⟩
  | 96 => ⟨S16x4x128x256, .f32⟩
  | 97 => ⟨S16x4x128x256, .f32⟩
  | 98 => ⟨S16x1x4x128x256, .f32⟩
  | 99 => ⟨S16x4x128x256, .f32⟩
  | 100 => ⟨S16x4x128x256, .f32⟩
  | 101 => ⟨S1x4x1x1, .f32⟩
  | 102 => ⟨S16x4x128x256, .f32⟩
  | 103 => ⟨S16x4x128x256, .f32⟩
  | 104 => ⟨S16x1x4x128x256, .f32⟩
  | 105 => ⟨S16x4x128x256, .f32⟩
  | 106 => ⟨S16x4x128x256, .f32⟩
  | 107 => ⟨S1x4x1x1, .f32⟩
  | 108 => ⟨S16x4x128x256, .f32⟩
  | 109 => ⟨S16x4x128x256, .f32⟩
  | 110 => ⟨S16x1x4x128x256, .f32⟩
  | 111 => ⟨S16x4x128x256, .f32⟩
  | 112 => ⟨S16x4x128x256, .f32⟩
  | 113 => ⟨S1x4x1x1, .f32⟩
  | 114 => ⟨S16x4x128x256, .f32⟩
  | 115 => ⟨S16x4x128x256, .f32⟩
  | 116 => ⟨S16x1x4x128x256, .f32⟩
  | 117 => ⟨S16x4x128x256, .f32⟩
  | 118 => ⟨S16x4x128x256, .f32⟩
  | 119 => ⟨S1x4x1x1, .f32⟩
  | 120 => ⟨S16x4x128x256, .f32⟩
  | 121 => ⟨S16x4x128x256, .f32⟩
  | 122 => ⟨S16x1x4x128x256, .f32⟩
  | 123 => ⟨S16x4x128x256, .f32⟩
  | 124 => ⟨S16x4x128x256, .f32⟩
  | 125 => ⟨S1x4x1x1, .f32⟩
  | 126 => ⟨S16x4x128x256, .f32⟩
  | 127 => ⟨S16x4x128x256, .f32⟩
  | _ => ⟨S1x4, .f32⟩

abbrev hbmTy0_1 (i : Nat) : BufTy := match i % 128 with
  | 0 => ⟨S16x1x4x128x256, .f32⟩
  | 1 => ⟨S16x4x128x256, .f32⟩
  | 2 => ⟨S16x4x128x256, .f32⟩
  | 3 => ⟨S1x4x1x1, .f32⟩
  | 4 => ⟨S16x4x128x256, .f32⟩
  | 5 => ⟨S16x4x128x256, .f32⟩
  | 6 => ⟨S16x1x4x128x256, .f32⟩
  | 7 => ⟨S16x4x128x256, .f32⟩
  | 8 => ⟨S16x4x128x256, .f32⟩
  | 9 => ⟨S1x4x1x1, .f32⟩
  | 10 => ⟨S16x4x128x256, .f32⟩
  | 11 => ⟨S16x4x128x256, .f32⟩
  | 12 => ⟨S16x1x4x128x256, .f32⟩
  | 13 => ⟨S16x4x128x256, .f32⟩
  | 14 => ⟨S16x4x128x256, .f32⟩
  | 15 => ⟨S16x1x4x128x256, .f32⟩
  | 16 => ⟨S16x1x4x128x256, .f32⟩
  | 17 => ⟨S16x1x4x128x256, .f32⟩
  | 18 => ⟨S16x1x4x128x256, .f32⟩
  | 19 => ⟨S16x1x4x128x256, .f32⟩
  | 20 => ⟨S16x1x4x128x256, .f32⟩
  | 21 => ⟨S16x1x4x128x256, .f32⟩
  | 22 => ⟨S16x1x4x128x256, .f32⟩
  | 23 => ⟨S16x8x4x128x256, .f32⟩
  | 24 => ⟨S256, .f32⟩
  | 25 => ⟨S256x1, .f32⟩
  | 26 => ⟨S1x256, .f32⟩
  | 27 => ⟨S256x256, .f32⟩
  | 28 => ⟨S256x256, .f32⟩
  | 29 => ⟨S256x256, .f32⟩
  | 30 => ⟨S_, .f32⟩
  | 31 => ⟨S256x256, .f32⟩
  | 32 => ⟨S256x256, .i1⟩
  | 33 => ⟨S4x1x1, .f32⟩
  | 34 => ⟨S_, .f32⟩
  | 35 => ⟨S256x256, .f32⟩
  | 36 => ⟨S256x256, .f32⟩
  | 37 => ⟨S1x256x256, .f32⟩
  | 38 => ⟨S4x256x256, .f32⟩
  | 39 => ⟨S4x256x256, .f32⟩
  | 40 => ⟨S4x256x256, .f32⟩
  | 41 => ⟨S4x256x256, .f32⟩
  | 42 => ⟨S_, .f32⟩
  | 43 => ⟨S_, .f32⟩
  | 44 => ⟨S4x256x256, .i1⟩
  | 45 => ⟨S4x256x256, .f32⟩
  | 46 => ⟨S4x256x256, .f32⟩
  | 47 => ⟨S_, .f32⟩
  | 48 => ⟨S256x256, .f32⟩
  | 49 => ⟨S256x256, .i1⟩
  | 50 => ⟨S4x1x1, .f32⟩
  | 51 => ⟨S256x256, .f32⟩
  | 52 => ⟨S_, .f32⟩
  | 53 => ⟨S256x256, .f32⟩
  | 54 => ⟨S256x256, .f32⟩
  | 55 => ⟨S1x256x256, .f32⟩
  | 56 => ⟨S4x256x256, .f32⟩
  | 57 => ⟨S4x256x256, .f32⟩
  | 58 => ⟨S4x256x256, .f32⟩
  | 59 => ⟨S4x256x256, .f32⟩
  | 60 => ⟨S_, .f32⟩
  | 61 => ⟨S_, .f32⟩
  | 62 => ⟨S4x256x256, .i1⟩
  | 63 => ⟨S4x256x256, .f32⟩
  | 64 => ⟨S4x256x256, .f32⟩
  | 65 => ⟨S4x1, .f32⟩
  | 66 => ⟨S_, .f32⟩
  | 67 => ⟨S256, .f32⟩
  | 68 => ⟨S256, .f32⟩
  | 69 => ⟨S1x256, .f32⟩
  | 70 => ⟨S4x256, .f32⟩
  | 71 => ⟨S4x256, .f32⟩
  | 72 => ⟨S4x256, .f32⟩
  | 73 => ⟨S4x256, .f32⟩
  | 74 => ⟨S4x256x1, .f32⟩
  | 75 => ⟨S4x1, .f32⟩
  | 76 => ⟨S_, .f32⟩
  | 77 => ⟨S256, .f32⟩
  | 78 => ⟨S256, .f32⟩
  | 79 => ⟨S1x256, .f32⟩
  | 80 => ⟨S4x256, .f32⟩
  | 81 => ⟨S4x256, .f32⟩
  | 82 => ⟨S4x256, .f32⟩
  | 83 => ⟨S4x256, .f32⟩
  | 84 => ⟨S4x256x1, .f32⟩
  | 85 => ⟨S16x8x4x256x256, .f32⟩
  | 86 => ⟨S1x1x4x256x256, .f32⟩
  | 87 => ⟨S16x8x4x256x256, .f32⟩
  | 88 => ⟨S16x8x4x256x256, .f32⟩
  | 89 => ⟨S16x8x4x256x256, .f32⟩
  | 90 => ⟨S1x1x4x256x1, .f32⟩
  | 91 => ⟨S16x8x4x256x128, .f32⟩
  | 92 => ⟨S16x8x4x256x128, .f32⟩
  | 93 => ⟨S16x8x4x256x256, .f32⟩
  | 94 => ⟨S16x8x4x256x256, .f32⟩
  | 95 => ⟨S1x1x4x256x256, .f32⟩
  | 96 => ⟨S16x8x4x256x256, .f32⟩
  | 97 => ⟨S16x8x4x256x256, .f32⟩
  | 98 => ⟨S16x8x4x256x256, .f32⟩
  | 99 => ⟨S1x1x4x256x1, .f32⟩
  | 100 => ⟨S16x8x4x256x128, .f32⟩
  | 101 => ⟨S16x8x4x256x128, .f32⟩
  | 102 => ⟨S16x8x4x256x256, .f32⟩
  | 103 => ⟨S16x8x4x256x256, .f32⟩
  | 104 => ⟨S16x8x4x256x256, .f32⟩
  | 105 => ⟨S_, .f32⟩
  | 106 => ⟨S16x8x4x256, .f32⟩
  | 107 => ⟨S16x8x4x256x1, .f32⟩
  | 108 => ⟨S_, .f32⟩
  | 109 => ⟨S16x8x4x256x1, .f32⟩
  | 110 => ⟨S16x8x4x256x1, .f32⟩
  | 111 => ⟨S16x8x4x256x256, .f32⟩
  | 112 => ⟨S16x8x4x256x256, .f32⟩
  | 113 => ⟨S16x8x4x256x256, .f32⟩
  | 114 => ⟨S_, .f32⟩
  | 115 => ⟨S16x8x4x256, .f32⟩
  | 116 => ⟨S16x8x4x256x1, .f32⟩
  | 117 => ⟨S_, .f32⟩
  | 118 => ⟨S16x8x4x256x1, .f32⟩
  | 119 => ⟨S16x8x4x256x1, .f32⟩
  | 120 => ⟨S16x8x4x256x256, .f32⟩
  | 121 => ⟨S16x8x4x256x256, .f32⟩
  | 122 => ⟨S_, .f32⟩
  | 123 => ⟨S16x8x4x256x1, .f32⟩
  | 124 => ⟨S16x8x4x256x1, .f32⟩
  | 125 => ⟨S16x8x4x256x1, .f32⟩
  | 126 => ⟨S16x8x4x256x256, .f32⟩
  | 127 => ⟨S16x8x4x256x256, .f32⟩
  | _ => ⟨S1x4, .f32⟩

abbrev hbmTy0_2 (i : Nat) : BufTy := match i % 128 with
  | 0 => ⟨S16x8x256x4x256, .f32⟩
  | 1 => ⟨S16x2048x1024, .f32⟩
  | 2 => ⟨S1024, .f32⟩
  | 3 => ⟨S1x1x1024, .f32⟩
  | 4 => ⟨S16x2048x1024, .f32⟩
  | 5 => ⟨S16x2048x1024, .f32⟩
  | 6 => ⟨S1024x1024, .f32⟩
  | 7 => ⟨S16x2048x1024, .f32⟩
  | 8 => ⟨S16x2048x1024, .f32⟩
  | 9 => ⟨S16x2048x1024, .f32⟩
  | 10 => ⟨S_, .f32⟩
  | 11 => ⟨S16x2048x1024, .f32⟩
  | 12 => ⟨S16x2048x1024, .f32⟩
  | 13 => ⟨S_, .f32⟩
  | 14 => ⟨S16x2048x1024, .f32⟩
  | 15 => ⟨S16x2048x1024, .f32⟩
  | 16 => ⟨S16x2048x1024, .f32⟩
  | 17 => ⟨S16x2048x1024, .f32⟩
  | 18 => ⟨S1024x1024, .f32⟩
  | 19 => ⟨S16x2048x1024, .f32⟩
  | 20 => ⟨S16x2048x512, .f32⟩
  | 21 => ⟨S512x1024, .f32⟩
  | 22 => ⟨S16x2048x1024, .f32⟩
  | 23 => ⟨S1024x1024, .f32⟩
  | 24 => ⟨S16x2048x1024, .f32⟩
  | 25 => ⟨S16x2048x1024, .f32⟩
  | 26 => ⟨S16x2048x1024, .f32⟩
  | 27 => ⟨S_, .f32⟩
  | 28 => ⟨S16x2048x1024, .f32⟩
  | 29 => ⟨S16x2048x1024, .f32⟩
  | 30 => ⟨S_, .f32⟩
  | 31 => ⟨S16x2048x1024, .f32⟩
  | 32 => ⟨S16x2048x1024, .f32⟩
  | 33 => ⟨S16x2048x1024, .f32⟩
  | 34 => ⟨S1024x1024, .f32⟩
  | 35 => ⟨S16x2048x1024, .f32⟩
  | 36 => ⟨S16x2048x1024, .f32⟩
  | 37 => ⟨S16x2048x1024, .f32⟩
  | 38 => ⟨S_, .f32⟩
  | 39 => ⟨S16x2048x1024, .f32⟩
  | 40 => ⟨S16x2048x1024, .f32⟩
  | 41 => ⟨S_, .f32⟩
  | 42 => ⟨S16x2048x1024, .f32⟩
  | 43 => ⟨S16x2048x1024, .f32⟩
  | 44 => ⟨S16x2048x1024, .f32⟩
  | 45 => ⟨S16x2048x1024, .f32⟩
  | 46 => ⟨S1024x1024, .f32⟩
  | 47 => ⟨S16x2048x1024, .f32⟩
  | 48 => ⟨S16x2048x1024, .f32⟩
  | 49 => ⟨S_, .f32⟩
  | 50 => ⟨S16x2048x1024, .f32⟩
  | 51 => ⟨S16x2048x1024, .f32⟩
  | 52 => ⟨S16x2048x1024, .f32⟩
  | 53 => ⟨S16x2048x1024, .f32⟩
  | 54 => ⟨S16x2048x1024, .f32⟩
  | 55 => ⟨S_, .f32⟩
  | 56 => ⟨S16x2048, .f32⟩
  | 57 => ⟨S16x2048x1, .f32⟩
  | 58 => ⟨S_, .f32⟩
  | 59 => ⟨S16x2048x1, .f32⟩
  | 60 => ⟨S16x2048x1, .f32⟩
  | 61 => ⟨S16x2048x1024, .f32⟩
  | 62 => ⟨S16x2048x1024, .f32⟩
  | 63 => ⟨S16x2048x1024, .f32⟩
  | 64 => ⟨S_, .f32⟩
  | 65 => ⟨S16x2048, .f32⟩
  | 66 => ⟨S16x2048x1, .f32⟩
  | 67 => ⟨S_, .f32⟩
  | 68 => ⟨S16x2048x1, .f32⟩
  | 69 => ⟨S16x2048x1, .f32⟩
  | 70 => ⟨S16x2048x1024, .f32⟩
  | 71 => ⟨S16x2048x1024, .f32⟩
  | 72 => ⟨S_, .f32⟩
  | 73 => ⟨S16x2048x1, .f32⟩
  | 74 => ⟨S16x2048x1, .f32⟩
  | 75 => ⟨S16x2048x1, .f32⟩
  | 76 => ⟨S16x2048x1024, .f32⟩
  | 77 => ⟨S16x2048x1024, .f32⟩
  | 78 => ⟨S1024, .f32⟩
  | 79 => ⟨S1x1x1024, .f32⟩
  | 80 => ⟨S16x2048x1024, .f32⟩
  | 81 => ⟨S16x2048x1024, .f32⟩
  | 82 => ⟨S1024, .f32⟩
  | 83 => ⟨S1x1x1024, .f32⟩
  | 84 => ⟨S16x2048x1024, .f32⟩
  | 85 => ⟨S16x2048x1024, .f32⟩
  | 86 => ⟨S_, .f32⟩
  | 87 => ⟨S16x2048, .f32⟩
  | 88 => ⟨S16x2048x1, .f32⟩
  | 89 => ⟨S_, .f32⟩
  | 90 => ⟨S16x2048x1, .f32⟩
  | 91 => ⟨S16x2048x1, .f32⟩
  | 92 => ⟨S16x2048x1024, .f32⟩
  | 93 => ⟨S16x2048x1024, .f32⟩
  | 94 => ⟨S16x2048x1024, .f32⟩
  | 95 => ⟨S_, .f32⟩
  | 96 => ⟨S16x2048, .f32⟩
  | 97 => ⟨S16x2048x1, .f32⟩
  | 98 => ⟨S_, .f32⟩
  | 99 => ⟨S16x2048x1, .f32⟩
  | 100 => ⟨S16x2048x1, .f32⟩
  | 101 => ⟨S16x2048x1024, .f32⟩
  | 102 => ⟨S16x2048x1024, .f32⟩
  | 103 => ⟨S_, .f32⟩
  | 104 => ⟨S16x2048x1, .f32⟩
  | 105 => ⟨S16x2048x1, .f32⟩
  | 106 => ⟨S16x2048x1, .f32⟩
  | 107 => ⟨S16x2048x1024, .f32⟩
  | 108 => ⟨S16x2048x1024, .f32⟩
  | 109 => ⟨S_, .f32⟩
  | 110 => ⟨S16x1x1024, .f32⟩
  | 111 => ⟨S16x1x1024, .f32⟩
  | 112 => ⟨S16x2048x1024, .f32⟩
  | 113 => ⟨S16x2048x1024, .f32⟩
  | 114 => ⟨S16x2048x1024, .f32⟩
  | 115 => ⟨S16x2048x1024, .f32⟩
  | 116 => ⟨S16x2048x2x512, .f32⟩
  | 117 => ⟨S2x16x2048x512, .f32⟩
  | 118 => ⟨S2x16x2048x512, .bf16⟩
  | _ => ⟨S1x4, .f32⟩

abbrev hbmTy (i : Nat) : BufTy := match i / 128 with
  | 0 => hbmTy0_0 i
  | 1 => hbmTy0_1 i
  | 2 => hbmTy0_2 i
  | _ => ⟨S1x4, .f32⟩

abbrev bufTy : (tb : Table) → Fin (tcTables nBuf tb) → BufTy
  | .hbm, ⟨i, _⟩ => hbmTy i
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_0 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_1 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_2 : Ref sig .tc := ⟨.hbm, 170, rfl⟩
abbrev main_call0_v0 : Ref sig .tc := ⟨.hbm, 171, rfl⟩
abbrev main_call0_v1 : Ref sig .tc := ⟨.hbm, 172, rfl⟩
abbrev main_call0_v2 : Ref sig .tc := ⟨.hbm, 173, rfl⟩
abbrev main_v144 : Ref sig .tc := ⟨.hbm, 174, rfl⟩
abbrev main_cst_3 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_4 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_5 : Ref sig .tc := ⟨.hbm, 188, rfl⟩
abbrev main_call1_v0 : Ref sig .tc := ⟨.hbm, 189, rfl⟩
abbrev main_call1_v1 : Ref sig .tc := ⟨.hbm, 190, rfl⟩
abbrev main_call1_v2 : Ref sig .tc := ⟨.hbm, 191, rfl⟩
abbrev main_v156 : Ref sig .tc := ⟨.hbm, 192, rfl⟩
abbrev main_v157 : Ref sig .tc := ⟨.hbm, 193, rfl⟩
abbrev main_cst_6 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_7 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_cst_8 : Ref sig .tc := ⟨.hbm, 233, rfl⟩
abbrev main_v195 : Ref sig .tc := ⟨.hbm, 234, rfl⟩
abbrev main_v196 : Ref sig .tc := ⟨.hbm, 235, rfl⟩
abbrev main_cst_9 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_cst_10 : Ref sig .tc := ⟨.hbm, 242, rfl⟩
abbrev main_v202 : Ref sig .tc := ⟨.hbm, 243, rfl⟩
abbrev main_v203 : Ref sig .tc := ⟨.hbm, 244, rfl⟩
abbrev main_cst_11 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_cst_12 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_call2_v0 : Ref sig .tc := ⟨.hbm, 264, rfl⟩
abbrev main_call2_v1 : Ref sig .tc := ⟨.hbm, 265, rfl⟩
abbrev main_call2_cst : Ref sig .tc := ⟨.hbm, 266, rfl⟩
abbrev main_call2_v2 : Ref sig .tc := ⟨.hbm, 267, rfl⟩
abbrev main_call2_v3 : Ref sig .tc := ⟨.hbm, 268, rfl⟩
abbrev main_call2_cst_0 : Ref sig .tc := ⟨.hbm, 269, rfl⟩
abbrev main_call2_v4 : Ref sig .tc := ⟨.hbm, 270, rfl⟩
abbrev main_call2_v5 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_cst_13 : Ref sig .tc := ⟨.hbm, 283, rfl⟩
abbrev main_v232 : Ref sig .tc := ⟨.hbm, 284, rfl⟩
abbrev main_v233 : Ref sig .tc := ⟨.hbm, 285, rfl⟩
abbrev main_cst_14 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_cst_15 : Ref sig .tc := ⟨.hbm, 294, rfl⟩
abbrev main_v241 : Ref sig .tc := ⟨.hbm, 295, rfl⟩
abbrev main_v242 : Ref sig .tc := ⟨.hbm, 296, rfl⟩
abbrev main_cst_16 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_cst_17 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_cst_18 : Ref sig .tc := ⟨.hbm, 311, rfl⟩
abbrev main_v255 : Ref sig .tc := ⟨.hbm, 312, rfl⟩
abbrev main_v256 : Ref sig .tc := ⟨.hbm, 313, rfl⟩
abbrev main_cst_19 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_cst_20 : Ref sig .tc := ⟨.hbm, 320, rfl⟩
abbrev main_v262 : Ref sig .tc := ⟨.hbm, 321, rfl⟩
abbrev main_v263 : Ref sig .tc := ⟨.hbm, 322, rfl⟩
abbrev main_cst_21 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_cst_22 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_cst_23 : Ref sig .tc := ⟨.hbm, 342, rfl⟩
abbrev main_v281 : Ref sig .tc := ⟨.hbm, 343, rfl⟩
abbrev main_v282 : Ref sig .tc := ⟨.hbm, 344, rfl⟩
abbrev main_cst_24 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_cst_25 : Ref sig .tc := ⟨.hbm, 351, rfl⟩
abbrev main_v288 : Ref sig .tc := ⟨.hbm, 352, rfl⟩
abbrev main_v289 : Ref sig .tc := ⟨.hbm, 353, rfl⟩
abbrev main_cst_26 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_cst_27 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_cst_28 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩

abbrev nD : Nat := 1
abbrev τ : Topo := Topo.v7x

variable {F : FTy → Type} [FloatOps F]
-- ==== Proof.Mix.RunA.lean ====
/- The mixer's body at the first block of a row: its run, with what it stores. -/
module

public import proofs.«01_k».proof.Proof.Gen.Kernel3Ideal.Frame.Runs

@[expose] public section

set_option maxRecDepth 16384

noncomputable section

namespace Cert.Proof.Mix

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 40000000 in
/-- The body run at the first block of a row: what it stores, with the proof that it runs and stores that. -/
noncomputable def kernelRun0_A (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) :
    Σ' (L24 : List (View.Piece (Elt F) S1x512x1024 .f32)), Σ' (L25 : List (View.Piece (Elt F) S2x1x512x512 .bf16)), Σ' (L26 : List (View.Piece (Elt F) S1x16x512 .f32)), { LS0 : List (View.Piece (Elt F) S4x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f LS0)) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, fun E K => ?run⟩
  case run =>
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]; · iexists _; iexact H24
    isplitl [H25]; · iexists _; iexact H25
    isplitl [H26]; · iexists _; iexact H26
    iexists _; iexact HS0

end Cert.Proof.Mix

end
-- ==== Proof.Mix.Frame.lean ====
/- The mixer's whole run. A row's four blocks are taken in turn and a state is carried from each to the next;
   the first block of a row starts it afresh. Here: what each buffer holds after each point, that the body is right
   at every point, and so that the run ends, leaving the arguments unchanged. -/
module

public import proofs.«01_k».proof.Proof.Mix.RunB
public import Idealize.ShloMosaic.Lib.Claim

@[expose] public section

set_option maxRecDepth 16384
set_option maxHeartbeats 8000000

noncomputable section

namespace Cert.Proof.Mix

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores made at a first block of a row cover output window 24. -/
theorem cover0_A_24 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1 S1x512x1024.size (by sl_kernel_rfl) y

/-- What the body leaves in output window 24 at a first block of a row. -/
def out0_A_24 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) : Vec F S1x512x1024 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).1)

/-- The stores made at a first block of a row cover output window 25. -/
theorem cover0_A_25 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (y : S2x1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1 S1x1x512x512.size (by sl_kernel_rfl) y

/-- What the body leaves in output window 25 at a first block of a row. -/
def out0_A_25 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) : Vec F S2x1x512x512 .bf16 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.1)

/-- The stores made at a first block of a row cover output window 26. -/
theorem cover0_A_26 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (y : S1x16x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1 S1x16x512.size (by sl_kernel_rfl) y

/-- What the body leaves in output window 26 at a first block of a row. -/
def out0_A_26 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) : Vec F S1x16x512 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.1)

/-- The stores made at a first block of a row cover the carried state. -/
theorem scover0_A_0 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (y : S4x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1 (by sl_whole_mem) y

/-- What the body leaves in the carried state at a first block of a row. -/
def sout0_A_0 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) : Vec F S4x128x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23).2.2.2.1)

/-- The stores made at a later block of a row cover output window 24. -/
theorem cover0_B_24 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) (y : S1x512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).1 S1x512x1024.size (by sl_kernel_rfl) y

/-- What the body leaves in output window 24 at a later block of a row. -/
def out0_B_24 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) : Vec F S1x512x1024 .f32 :=
  VO0_24.read (Elt F) (VO0_24.writes (Elt F) VO0_24.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).1)

/-- The stores made at a later block of a row cover output window 25. -/
theorem cover0_B_25 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) (y : S2x1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.1 S1x1x512x512.size (by sl_kernel_rfl) y

/-- What the body leaves in output window 25 at a later block of a row. -/
def out0_B_25 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) : Vec F S2x1x512x512 .bf16 :=
  VO0_25.read (Elt F) (VO0_25.writes (Elt F) VO0_25.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.1)

/-- The stores made at a later block of a row cover output window 26. -/
theorem cover0_B_26 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) (y : S1x16x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.2.1 S1x16x512.size (by sl_kernel_rfl) y

/-- What the body leaves in output window 26 at a later block of a row. -/
def out0_B_26 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) : Vec F S1x16x512 .f32 :=
  VO0_26.read (Elt F) (VO0_26.writes (Elt F) VO0_26.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.2.1)

/-- The stores made at a later block of a row cover the carried state. -/
theorem scover0_B_0 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) (y : S4x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.2.2.1 S1x128x256.size (by sl_kernel_rfl) y

/-- What the body leaves in the carried state at a later block of a row. -/
def sout0_B_0 (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) : Vec F S4x128x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0).2.2.2.1)

/-! ## What the outputs hold after each point -/

/-- What the three output buffers and the carried state hold after the point at position `n`, by recursion on `n`: a row's first block starts afresh, a later one continues from the point before. -/
def outsAt0 (c : Dev nD) : (n : ℕ) → n < cfg0.N → Vec F S1x512x1024 .f32 × Vec F S2x1x512x512 .bf16 × Vec F S1x16x512 .f32 × Vec F S4x128x256 .f32
  | 0, hn => (out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), out0_A_26 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩))
  | n + 1, hn =>
    if h0 : (n + 1) % 4 = 0 then
      (out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), out0_A_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩))
    else
      (out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2, out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2, out0_B_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.2.2)

/-- The recursion at the first block of a row. -/
theorem outsAt0_A (c : Dev nD) (t : Fin cfg0.N) (h0 : t.val % 4 = 0) :
    outsAt0 m c t.val t.isLt = (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  obtain ⟨n, hn⟩ := t
  cases n with
  | zero => exact rfl
  | succ n => exact (dif_pos h0).trans rfl

/-- The recursion at a later block of a row. -/
theorem outsAt0_B (c : Dev nD) (t : Fin cfg0.N) (h0 : ¬t.val % 4 = 0) :
    outsAt0 m c t.val t.isLt = (out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- What is known of the carried state before position `n`: nothing at first, then what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- The same, just after a point. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- The same, before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## What holds point by point -/

/-- What the pipeline's arrays and buffers hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t.val t.isLt).1
    | ⟨25, _⟩ => (outsAt0 m c t.val t.isLt).2.1
    | ⟨26, _⟩ => (outsAt0 m c t.val t.isLt).2.2.1
    | ⟨_ + 27, h⟩ => absurd h (Nat.not_lt.2 (Nat.le_add_left _ _))
  Φ t := PhiS m c t.val (Nat.le_of_lt_succ t.isLt)
  q _ := fullShare
  owed _ := 0

/-- The arrays are those found at the start. -/
theorem A_eq (c : Dev nD) (w : Fin cfg0.W) : (dats m 0 c).A w = V m c (Pipeline.arrRef spec0 w) := by
  dsimp only [dats]

/-- The invariant at the start of a point, by position. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t.val t.isLt).1 := by dsimp only [dats]
theorem after0_25 (c : Dev nD) (t : Fin cfg0.N) : (dats m 0 c).after 25 t = (outsAt0 m c t.val t.isLt).2.1 := by dsimp only [dats]
theorem after0_26 (c : Dev nD) (t : Fin cfg0.N) : (dats m 0 c).after 26 t = (outsAt0 m c t.val t.isLt).2.2.1 := by dsimp only [dats]

/-- Every input buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body at any point -/

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- What it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 80000000 in
/-- The body is right at every point: the position tells which of the two cases it is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases hz : t.val = 0
    · rw [PhiS_castSucc m c t, PhiS_zero m c _ _ hz, PhiA0_eq]
      rw [outsAt0_A m c t h0]
      unfold out0_A_24 out0_A_25 out0_A_26 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexists _; iexact H24
      isplitl [H25]; · iexists _; iexact H25
      isplitl [H26]; · iexists _; iexact H26
      isplitl [HS0]; · iexact HS0
      iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H26
      ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_24 out0_A_25 out0_A_26 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexists _; iexact H24
      isplitl [H25]; · iexists _; iexact H25
      isplitl [H26]; · iexists _; iexact H26
      isplitl [HS0]; · iexists _; iexact HS0
      iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H26
      ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_24 out0_B_25 out0_B_26 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexists _; iexact H24
      isplitl [H25]; · iexists _; iexact H25
      isplitl [H26]; · iexists _; iexact H26
      isplitl [HS0]; · iexact HS0
      iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]
      · unfold owns; iexists _; isplitr
        swap; · iexact H24
        ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H26
      ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The body is right, as the pipeline asks it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- So it may after the last. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- The whole run: the arrays end as the recursion says, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves every argument as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

/-- Every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  θ_run_and (unchanged m ρ) ((θ_run defs _ _).mono (fun _ h => h.2) (run_main_quiescent m ρ))

end Cert.Proof.Mix

end
-- ==== Proof.Mix.Value.lean ====
/- The mixer's output arrays, block by block: each block ends as the one point that writes it left it. -/
module

public import proofs.«01_k».proof.Proof.Mix.Frame
public import Idealize.ShloMosaic.Lib.Pipeline.Value

@[expose] public section

set_option maxHeartbeats 8000000

noncomputable section

namespace Cert.Proof.Mix

open Cert.Kernel3Ideal Cert.Kernel3Ideal.Gen

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The arrays, block by block -/

/-- What a point writes back to output window 24. -/
theorem flushed24 (c : Dev nD) (t : Fin cfg0.N) :
    (dats m 0 c).flushed 24 t = (cfg0.win 24).cut (grid0.coords t) ((outsAt0 m c t.val t.isLt).1) := by
  show (cfg0.win 24).cut (grid0.coords t) ((dats m 0 c).after 24 t) = _
  rw [after0_24]

/-- What a point writes back to output window 24, at a first block of a row. -/
theorem flushed24_A (c : Dev nD) (t : Fin cfg0.N) (h0 : t.val % 4 = 0) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed24, outsAt0_A m c t h0]

/-- What a point writes back to output window 24, at a later block of a row. -/
theorem flushed24_B (c : Dev nD) (t : Fin cfg0.N) (h0 : ¬t.val % 4 = 0) :
    (dats m 0 c).flushed 24 t = (cfg0.win 24).cut (grid0.coords t) (out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2) := by
  simp only [flushed24, outsAt0_B m c t h0]

/-- Two points never write the same block of output window 24. -/
theorem idx_inj24 : ∀ t t' : Fin cfg0.N, win0_24.index t = win0_24.index t' → t = t' :=
  (by decide +kernel : ∀ t t' : Fin grid0.N, win0_24.index t = win0_24.index t' → t = t')

/-- The blocks written to output window 24 do not meet. -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- Each block of output window 24 ends as the point that wrote it left it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- What a point writes back to output window 25. -/
theorem flushed25 (c : Dev nD) (t : Fin cfg0.N) :
    (dats m 0 c).flushed 25 t = (cfg0.win 25).cut (grid0.coords t) ((outsAt0 m c t.val t.isLt).2.1) := by
  show (cfg0.win 25).cut (grid0.coords t) ((dats m 0 c).after 25 t) = _
  rw [after0_25]

/-- What a point writes back to output window 25, at a first block of a row. -/
theorem flushed25_A (c : Dev nD) (t : Fin cfg0.N) (h0 : t.val % 4 = 0) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed25, outsAt0_A m c t h0]

/-- What a point writes back to output window 25, at a later block of a row. -/
theorem flushed25_B (c : Dev nD) (t : Fin cfg0.N) (h0 : ¬t.val % 4 = 0) :
    (dats m 0 c).flushed 25 t = (cfg0.win 25).cut (grid0.coords t) (out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.2.2) := by
  simp only [flushed25, outsAt0_B m c t h0]

/-- Two points never write the same block of output window 25. -/
theorem idx_inj25 : ∀ t t' : Fin cfg0.N, win0_25.index t = win0_25.index t' → t = t' :=
  (by decide +kernel : ∀ t t' : Fin grid0.N, win0_25.index t = win0_25.index t' → t = t')

/-- The blocks written to output window 25 do not meet. -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- Each block of output window 25 ends as the point that wrote it left it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- Output window 24 after the whole run. -/
theorem post24 (r : PUnit × MemSt nD τ sig (Elt F)) (h : Pipeline.FramePost cfgs (dats m) 0 (V m) r) (c : Dev nD) :
    r.2.mem ((c : Thread nD τ).loc main_v29_0) = (dats m 0 c).arrAt 24 cfg0.N :=
  (h c).1 24

/-- Output window 25 after the whole run. -/
theorem post25 (r : PUnit × MemSt nD τ sig (Elt F)) (h : Pipeline.FramePost cfgs (dats m) 0 (V m) r) (c : Dev nD) :
    r.2.mem ((c : Thread nD τ).loc main_v29_1) = (dats m 0 c).arrAt 25 cfg0.N :=
  (h c).1 25

/-- Output window 26 after the whole run. -/
theorem post26 (r : PUnit × MemSt nD τ sig (Elt F)) (h : Pipeline.FramePost cfgs (dats m) 0 (V m) r) (c : Dev nD) :
    r.2.mem ((c : Thread nD τ).loc main_v29_2) = (dats m 0 c).arrAt 26 cfg0.N :=
  (h c).1 26

/-- The run leaves `main_arg0` as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The run leaves `main_arg1` as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves `main_arg2` as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run leaves `main_arg3` as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves `main_arg4` as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 2).trans (((dats m 0 c).arrAt_in 2 rfl _).trans ((A_eq m c 2).trans (V_main_arg4 m c)))

/-- The run leaves `main_arg5` as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 3).trans (((dats m 0 c).arrAt_in 3 rfl _).trans ((A_eq m c 3).trans (V_main_arg5 m c)))

/-- The run leaves `main_arg6` as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 4).trans (((dats m 0 c).arrAt_in 4 rfl _).trans ((A_eq m c 4).trans (V_main_arg6 m c)))

/-- The run leaves `main_arg7` as it was. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 5).trans (((dats m 0 c).arrAt_in 5 rfl _).trans ((A_eq m c 5).trans (V_main_arg7 m c)))

/-- The run leaves `main_arg8` as it was. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 6).trans (((dats m 0 c).arrAt_in 6 rfl _).trans ((A_eq m c 6).trans (V_main_arg8 m c)))

/-- The run leaves `main_arg9` as it was. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 7).trans (((dats m 0 c).arrAt_in 7 rfl _).trans ((A_eq m c 7).trans (V_main_arg9 m c)))

/-- The run leaves `main_arg10` as it was. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 8).trans (((dats m 0 c).arrAt_in 8 rfl _).trans ((A_eq m c 8).trans (V_main_arg10 m c)))

/-- The run leaves `main_arg11` as it was. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 9).trans (((dats m 0 c).arrAt_in 9 rfl _).trans ((A_eq m c 9).trans (V_main_arg11 m c)))

/-- The run leaves `main_arg12` as it was. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The run leaves `main_arg13` as it was. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The run leaves `main_arg14` as it was. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- The run leaves `main_arg15` as it was. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The run leaves `main_arg16` as it was. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The run leaves `main_arg17` as it was. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 16).trans (((dats m 0 c).arrAt_in 16 rfl _).trans ((A_eq m c 16).trans (V_main_arg17 m c)))

/-- The run leaves `main_arg18` as it was. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 17).trans (((dats m 0 c).arrAt_in 17 rfl _).trans ((A_eq m c 17).trans (V_main_arg18 m c)))

/-- The run leaves `main_arg19` as it was. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 18).trans (((dats m 0 c).arrAt_in 18 rfl _).trans ((A_eq m c 18).trans (V_main_arg19 m c)))

/-- The run leaves `main_arg20` as it was. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- The run leaves `main_arg21` as it was. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- The run leaves `main_arg22` as it was. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- The whole run, with the three output arrays named and the arguments kept. -/
theorem run_blocks : θ_run defs (onTc (τ := τ) (main (F := F))) ⟨m, fun _ => 0, ρ⟩ fun r => ∀ c : Dev nD,
      r.2.mem ((c : Thread nD τ).loc main_v29_0) = (dats m 0 c).arrAt 24 cfg0.N
      ∧ r.2.mem ((c : Thread nD τ).loc main_v29_1) = (dats m 0 c).arrAt 25 cfg0.N
      ∧ r.2.mem ((c : Thread nD τ).loc main_v29_2) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨post24 m r h c,
      post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c⟩)
    (run_main m ρ)

end Cert.Proof.Mix

end
-- ==== Proof.Mix.Heads.lean ====
/-
  The mixer's grid point as functions of whole arrays. Each of a point's eight (head, chunk) blocks is one function,
  `attn`, of that block's queries, keys, values and states; the state a block leaves is `upd`. The printed payloads cut
  these at other places for every block; the equalities below name them back.
-/
module

public import proofs.«01_k».proof.Proof.Gen.Kernel3Ideal.Skeleton

@[expose] public section

set_option maxRecDepth 16384

noncomputable section

namespace Cert.Proof.Mix

open Cert.Kernel3Ideal Cert.Kernel3Ideal.Gen Idealize.ShloMosaic

variable {F : FTy → Type} [FloatOps F]

/-- One head's rotated queries: the head's columns by the cosines, plus their halves exchanged by the signed sines. -/
def rot (qh : FVec F S512x128 .f32) (v5 v7 : Vec F S512x128 .f32) : FVec F S512x128 .f32 :=
  addf (mulf qh (k0_pay8 v5)) (mulf (dynamicRotate 1 64#32 none qh rotates_S512x128_d1) (k0_pay9 v7))

/-- The point's first and second chunk of queries. -/
def lo (v : FVec F S512x128 .f32) : FVec F S256x128 .f32 := extractStridedSlice S256x128 ![0, 0] v slices_S512x128_o0_0_S256x128
@[inherit_doc lo] def hi (v : FVec F S512x128 .f32) : FVec F S256x128 .f32 := extractStridedSlice S256x128 ![256, 0] v slices_S512x128_o256_0_S256x128

/-- The four heads' rotated queries. -/
def rot0 (v11 : FVec F S512x512 .f32) (v5 v7 : Vec F S512x128 .f32) : FVec F S512x128 .f32 := rot (extractStridedSlice S512x128 ![0, 0] v11 slices_S512x512_o0_0_S512x128) v5 v7
@[inherit_doc rot0] def rot1 (v11 : FVec F S512x512 .f32) (v5 v7 : Vec F S512x128 .f32) : FVec F S512x128 .f32 := rot (extractStridedSlice S512x128 ![0, 128] v11 slices_S512x512_o0_128_S512x128) v5 v7
@[inherit_doc rot0] def rot2 (v11 : FVec F S512x512 .f32) (v5 v7 : Vec F S512x128 .f32) : FVec F S512x128 .f32 := rot (extractStridedSlice S512x128 ![0, 256] v11 slices_S512x512_o0_256_S512x128) v5 v7
@[inherit_doc rot0] def rot3 (v11 : FVec F S512x512 .f32) (v5 v7 : Vec F S512x128 .f32) : FVec F S512x128 .f32 := rot (extractStridedSlice S512x128 ![0, 384] v11 slices_S512x512_o0_384_S512x128) v5 v7

/-- The decay of a chunk's positions, forward on and below the diagonal, backward above it. -/
def decay (lf lb : Elt F .f32) : FVec F S256x256 .f32 := k0_pay17 (k0_pay14 (F := F)) (k0_pay15 lf) (k0_pay16 lb)

/-- One block's decayed scores. -/
def scores (qc : FVec F S256x128 .f32) (kc : Vec F S1x256x128 .bf16) (lf lb : Elt F .f32) : FVec F S256x256 .bf16 :=
  truncf .bf16 (mulf (matmul dot_S256x128_S256x128_S256x256_1_1_0_0_n_n none (truncf .bf16 qc bitsLt_bf16_f32)
    (shapeCast S256x128 kc shapeCasts_S1x256x128_S256x128) (constant S256x256 .f32 0x00000000#32)) (decay lf lb)) bitsLt_bf16_f32

/-- One block's normalized output: scores by values, plus the queries into the forward and the backward state. -/
def attn (qc : FVec F S256x128 .f32) (kc : Vec F S1x256x128 .bf16) (vc : Vec F S1x256x256 .bf16) (sf : Vec F S1x1x1x128x256 .bf16)
    (sb : Vec F S1x128x256 .f32) (lf lb : Elt F .f32) : FVec F S256x256 .f32 :=
  k0_pay32 (k0_pay19 (k0_pay11 (F := F)) lb) qc (k0_pay27 vc) (k0_pay28 sb) (scores qc kc lf lb)
    (truncf .bf16 (mulf qc (broadcastTo S256x128 (k0_pay18 (k0_pay11 (F := F)) lf) broadcasts_S256x1_S256x128)) bitsLt_bf16_f32) sf

/-- The backward state after a block. -/
def upd (sb : Vec F S1x128x256 .f32) (lb : Elt F .f32) (ub : Vec F S1x1x1x128x256 .f32) : FVec F S1x128x256 .f32 :=
  k0_pay31 (k0_pay20 lb) (k0_pay28 sb) ub

/-- The eight blocks' outputs as one array: four heads side by side, two chunks one over the other. -/
def cat (l0 l1 l2 l3 h0 h1 h2 h3 : FVec F S256x256 .f32) : FVec F S512x1024 .f32 :=
  concatenate S512x1024 0 [⟨S256x1024, concatenate S256x1024 1 [⟨S256x256, l0⟩, ⟨S256x256, l1⟩, ⟨S256x256, l2⟩, ⟨S256x256, l3⟩] concatenates_S256x256_S256x256_S256x256_S256x256_S256x1024_d1⟩,
    ⟨S256x1024, concatenate S256x1024 1 [⟨S256x256, h0⟩, ⟨S256x256, h1⟩, ⟨S256x256, h2⟩, ⟨S256x256, h3⟩] concatenates_S256x256_S256x256_S256x256_S256x256_S256x1024_d1⟩] concatenates_S256x1024_S256x1024_S512x1024_d0

variable (x3 : Vec F S1x512x1024 .bf16) (v5 v7 : Vec F S512x128 .f32) (v9 : Vec F S1024x512 .bf16) (v11 : FVec F S512x512 .f32) (lf lb : Elt F .f32) (kc : Vec F S1x256x128 .bf16) (vc : Vec F S1x256x256 .bf16) (sf : Vec F S1x1x1x128x256 .bf16)
  (sb : Vec F S1x128x256 .f32) (ub : Vec F S1x1x1x128x256 .f32) (v24 : FVec F S512x128 .f32)

theorem rot0_eq : k0_pay13 x3 v5 v7 v9 = rot0 (k0_pay10 x3 v9) v5 v7 := rfl

theorem hi0 : k0_pay25 (k0_pay22 (k0_pay11 (F := F)) lf lb v24 (k0_pay14 (F := F)) (k0_pay15 lf) (k0_pay16 lb) kc vc sb sf) = attn (hi v24) kc vc sf sb lf lb := rfl

theorem uhi0 : k0_pay24 (k0_pay23 lb sb) ub = upd sb lb ub := rfl

theorem lo0 : k0_pay32 (k0_pay19 (k0_pay11 (F := F)) lb) (k0_pay26 v24) (k0_pay27 vc) (k0_pay28 sb) (k0_pay29 v24 (k0_pay17 (k0_pay14 (F := F)) (k0_pay15 lf) (k0_pay16 lb)) kc) (k0_pay30 v24 (k0_pay18 (k0_pay11 (F := F)) lf)) sf = attn (lo v24) kc vc sf sb lf lb := rfl

theorem ulo0 : k0_pay31 (k0_pay20 lb) (k0_pay28 sb) ub = upd sb lb ub := rfl

theorem hi1 : k0_pay45 (k0_pay37 (k0_pay11 (F := F)) lf) (k0_pay38 (k0_pay11 (F := F)) lb) (k0_pay40 (k0_pay9 v7) (k0_pay33 v11) (k0_pay34 (k0_pay8 v5) v11) 64#32) (k0_pay41 vc) (k0_pay42 sb) (k0_pay43 (k0_pay9 v7) (k0_pay12 (F := F)) lf lb (k0_pay33 v11) (k0_pay34 (k0_pay8 v5) v11) 64#32 kc) sf = attn (hi (rot1 v11 v5 v7)) kc vc sf sb lf lb := rfl

theorem uhi1 : k0_pay44 (k0_pay39 lb) (k0_pay42 sb) ub = upd sb lb ub := rfl

theorem lo1 : k0_pay50 (k0_pay49 (k0_pay36 (k0_pay12 (F := F)) lf lb) (k0_pay37 (k0_pay11 (F := F)) lf) (k0_pay38 (k0_pay11 (F := F)) lb) (k0_pay46 (k0_pay35 (k0_pay9 v7) (k0_pay33 v11) (k0_pay34 (k0_pay8 v5) v11) 64#32)) kc vc sb sf) = attn (lo (rot1 v11 v5 v7)) kc vc sf sb lf lb := rfl

theorem ulo1 : k0_pay48 (k0_pay39 lb) sb ub = upd sb lb ub := rfl

theorem hi2 : k0_pay62 (k0_pay58 (k0_pay52 (k0_pay12 (F := F)) lf lb) (k0_pay53 (k0_pay11 (F := F)) lf) (k0_pay54 (k0_pay11 (F := F)) lb) (k0_pay56 (k0_pay8 v5) (k0_pay9 v7) v11) kc vc sb sf) (k0_pay60 (k0_pay52 (k0_pay12 (F := F)) lf lb) (k0_pay53 (k0_pay11 (F := F)) lf) (k0_pay54 (k0_pay11 (F := F)) lb) (k0_pay56 (k0_pay8 v5) (k0_pay9 v7) v11) kc vc sb sf) (k0_pay61 (F := F)) = attn (hi (rot2 v11 v5 v7)) kc vc sf sb lf lb := rfl

theorem uhi2 : k0_pay59 (k0_pay55 lb) sb ub = upd sb lb ub := rfl

theorem lo2 : k0_pay67 (k0_pay64 (k0_pay51 (k0_pay8 v5) (k0_pay9 v7) v11) (k0_pay52 (k0_pay12 (F := F)) lf lb) (k0_pay53 (k0_pay11 (F := F)) lf) (k0_pay54 (k0_pay11 (F := F)) lb) kc vc sb sf) = attn (lo (rot2 v11 v5 v7)) kc vc sf sb lf lb := rfl

theorem ulo2 : k0_pay66 (k0_pay65 (k0_pay55 lb) sb) ub = upd sb lb ub := rfl

theorem hi3 : k0_pay80 (k0_pay77 (k0_pay11 (F := F)) lf lb (k0_pay68 (k0_pay8 v5) (k0_pay9 v7) v11) (k0_pay69 (k0_pay12 (F := F))) (k0_pay70 (k0_pay12 (F := F)) lf) (k0_pay71 (k0_pay12 (F := F)) lb) kc vc sb sf) = attn (hi (rot3 v11 v5 v7)) kc vc sf sb lf lb := rfl

theorem uhi3 : k0_pay79 (k0_pay78 lb sb) ub = upd sb lb ub := rfl

theorem ulo3 : k0_pay86 (k0_pay75 lb) (k0_pay83 sb) ub = upd sb lb ub := rfl

theorem lo3 (l0 l1 l2 h0 h1 h2 h3 : FVec F S256x256 .f32) :
    k0_pay87 h0 l0 h1 l1 h2 l2 (k0_pay74 (k0_pay11 (F := F)) lb) h3 (k0_pay81 (k0_pay68 (k0_pay8 v5) (k0_pay9 v7) v11)) (k0_pay82 vc) (k0_pay83 sb)
      (k0_pay84 (k0_pay68 (k0_pay8 v5) (k0_pay9 v7) v11) (k0_pay72 (k0_pay69 (k0_pay12 (F := F))) (k0_pay70 (k0_pay12 (F := F)) lf) (k0_pay71 (k0_pay12 (F := F)) lb)) kc) (k0_pay85 (k0_pay68 (k0_pay8 v5) (k0_pay9 v7) v11) (k0_pay73 (k0_pay11 (F := F)) lf)) sf
      = cat l0 l1 l2 (attn (lo (rot3 v11 v5 v7)) kc vc sf sb lf lb) h0 h1 h2 h3 := rfl

end Cert.Proof.Mix

end
-- ==== Proof.Mix.Block.lean ====
/-
  The mixer's grid point as functions of its blocks: the eight blocks' outputs, the states left, the residual's rows and
  the feed-forward's input; and what each case of the run leaves is these.
-/
module

public import proofs.«01_k».proof.Proof.Mix.Value
public import proofs.«01_k».proof.Proof.Mix.Heads
public import Idealize.ShloMosaic.Lib.Pipeline.ReadBack

@[expose] public section

set_option maxRecDepth 16384
set_option maxHeartbeats 4000000

noncomputable section

namespace Cert.Proof.Mix

open Cert.Kernel3Ideal Cert.Kernel3Ideal.Gen Idealize.ShloMosaic

variable {F : FTy → Type} [FloatOps F]

/-- A head's number of four. -/
def one0 (x : Vec F S4 .f32) : Elt F .f32 := View.ld x (Rect.unit ![0] ![1] inb_S4_S1_0) (Shape.Idx.first (by decide))
def one1 (x : Vec F S4 .f32) : Elt F .f32 := View.ld x (Rect.unit ![1] ![1] inb_S4_S1_1) (Shape.Idx.first (by decide))
def one2 (x : Vec F S4 .f32) : Elt F .f32 := View.ld x (Rect.unit ![2] ![1] inb_S4_S1_2) (Shape.Idx.first (by decide))
def one3 (x : Vec F S4 .f32) : Elt F .f32 := View.ld x (Rect.unit ![3] ![1] inb_S4_S1_3) (Shape.Idx.first (by decide))

/-- A head's state. -/
def st0 (sb : Vec F S4x128x256 .f32) : Vec F S1x128x256 .f32 := View.ld sb (Rect.unit ![0, 0, 0] ![1, 128, 256] inb_S4x128x256_S1x128x256_0_0_0)
def st1 (sb : Vec F S4x128x256 .f32) : Vec F S1x128x256 .f32 := View.ld sb (Rect.unit ![1, 0, 0] ![1, 128, 256] inb_S4x128x256_S1x128x256_1_0_0)
def st2 (sb : Vec F S4x128x256 .f32) : Vec F S1x128x256 .f32 := View.ld sb (Rect.unit ![2, 0, 0] ![1, 128, 256] inb_S4x128x256_S1x128x256_2_0_0)
def st3 (sb : Vec F S4x128x256 .f32) : Vec F S1x128x256 .f32 := View.ld sb (Rect.unit ![3, 0, 0] ![1, 128, 256] inb_S4x128x256_S1x128x256_3_0_0)

/-- A head's state after the point's second chunk, and after both. -/
def mid0 (x1 : Vec F S4 .f32) (x7 : Vec F S1x2x4x128x256 .f32) (sb : Vec F S4x128x256 .f32) : Vec F S1x128x256 .f32 := upd (st0 sb) (one0 x1) (View.ld x7 (Rect.unit ![0, 1, 0, 0, 0] ![1, 1, 1, 128, 256] inb_S1x2x4x128x256_S1x1x1x128x256_0_1_0_0_0))
def fin0 (x1 : Vec F S4 .f32) (x7 : Vec F S1x2x4x128x256 .f32) (sb : Vec F S4x128x256 .f32) : Vec F S1x128x256 .f32 := upd (mid0 x1 x7 sb) (one0 x1) (View.ld x7 (Rect.unit ![0, 0, 0, 0, 0] ![1, 1, 1, 128, 256] inb_S1x2x4x128x256_S1x1x1x128x256_0_0_0_0_0))
def mid1 (x1 : Vec F S4 .f32) (x7 : Vec F S1x2x4x128x256 .f32) (sb : Vec F S4x128x256 .f32) : Vec F S1x128x256 .f32 := upd (st1 sb) (one1 x1) (View.ld x7 (Rect.unit ![0, 1, 1, 0, 0] ![1, 1, 1, 128, 256] inb_S1x2x4x128x256_S1x1x1x128x256_0_1_1_0_0))
def fin1 (x1 : Vec F S4 .f32) (x7 : Vec F S1x2x4x128x256 .f32) (sb : Vec F S4x128x256 .f32) : Vec F S1x128x256 .f32 := upd (mid1 x1 x7 sb) (one1 x1) (View.ld x7 (Rect.unit ![0, 0, 1, 0, 0] ![1, 1, 1, 128, 256] inb_S1x2x4x128x256_S1x1x1x128x256_0_0_1_0_0))
def mid2 (x1 : Vec F S4 .f32) (x7 : Vec F S1x2x4x128x256 .f32) (sb : Vec F S4x128x256 .f32) : Vec F S1x128x256 .f32 := upd (st2 sb) (one2 x1) (View.ld x7 (Rect.unit ![0, 1, 2, 0, 0] ![1, 1, 1, 128, 256] inb_S1x2x4x128x256_S1x1x1x128x256_0_1_2_0_0))
def fin2 (x1 : Vec F S4 .f32) (x7 : Vec F S1x2x4x128x256 .f32) (sb : Vec F S4x128x256 .f32) : Vec F S1x128x256 .f32 := upd (mid2 x1 x7 sb) (one2 x1) (View.ld x7 (Rect.unit ![0, 0, 2, 0, 0] ![1, 1, 1, 128, 256] inb_S1x2x4x128x256_S1x1x1x128x256_0_0_2_0_0))
def mid3 (x1 : Vec F S4 .f32) (x7 : Vec F S1x2x4x128x256 .f32) (sb : Vec F S4x128x256 .f32) : Vec F S1x128x256 .f32 := upd (st3 sb) (one3 x1) (View.ld x7 (Rect.unit ![0, 1, 3, 0, 0] ![1, 1, 1, 128, 256] inb_S1x2x4x128x256_S1x1x1x128x256_0_1_3_0_0))
def fin3 (x1 : Vec F S4 .f32) (x7 : Vec F S1x2x4x128x256 .f32) (sb : Vec F S4x128x256 .f32) : Vec F S1x128x256 .f32 := upd (mid3 x1 x7 sb) (one3 x1) (View.ld x7 (Rect.unit ![0, 0, 3, 0, 0] ![1, 1, 1, 128, 256] inb_S1x2x4x128x256_S1x1x1x128x256_0_0_3_0_0))

variable (x0 x1 : Vec F S4 .f32) (x3 : Vec F S1x512x1024 .bf16) (x4 : Vec F S1x512x512 .bf16) (x5 : Vec F S1x512x1024 .bf16) (x6 : Vec F S1x2x4x128x256 .bf16) (x7 : Vec F S1x2x4x128x256 .f32) (x10 : Vec F S1024x512 .bf16) (x22 x23 : Vec F S512x128 .f32) (sb : Vec F S4x128x256 .f32)

/-- The point's blocks' outputs: a head's first chunk and its second. -/
def loB0 : FVec F S256x256 .f32 :=
  attn (lo (rot0 (k0_pay10 x3 x10) x22 x23)) (View.ld x4 (Rect.unit ![0, 0, 0] ![1, 256, 128] inb_S1x512x512_S1x256x128_0_0_0)) (View.ld x5 (Rect.unit ![0, 0, 0] ![1, 256, 256] inb_S1x512x1024_S1x256x256_0_0_0))
    (View.ld x6 (Rect.unit ![0, 0, 0, 0, 0] ![1, 1, 1, 128, 256] inb_S1x2x4x128x256_S1x1x1x128x256_0_0_0_0_0)) (mid0 x1 x7 sb) (one0 x0) (one0 x1)
def hiB0 : FVec F S256x256 .f32 :=
  attn (hi (rot0 (k0_pay10 x3 x10) x22 x23)) (View.ld x4 (Rect.unit ![0, 256, 0] ![1, 256, 128] inb_S1x512x512_S1x256x128_0_256_0)) (View.ld x5 (Rect.unit ![0, 256, 0] ![1, 256, 256] inb_S1x512x1024_S1x256x256_0_256_0))
    (View.ld x6 (Rect.unit ![0, 1, 0, 0, 0] ![1, 1, 1, 128, 256] inb_S1x2x4x128x256_S1x1x1x128x256_0_1_0_0_0)) (st0 sb) (one0 x0) (one0 x1)
def loB1 : FVec F S256x256 .f32 :=
  attn (lo (rot1 (k0_pay10 x3 x10) x22 x23)) (View.ld x4 (Rect.unit ![0, 0, 128] ![1, 256, 128] inb_S1x512x512_S1x256x128_0_0_128)) (View.ld x5 (Rect.unit ![0, 0, 256] ![1, 256, 256] inb_S1x512x1024_S1x256x256_0_0_256))
    (View.ld x6 (Rect.unit ![0, 0, 1, 0, 0] ![1, 1, 1, 128, 256] inb_S1x2x4x128x256_S1x1x1x128x256_0_0_1_0_0)) (mid1 x1 x7 sb) (one1 x0) (one1 x1)
def hiB1 : FVec F S256x256 .f32 :=
  attn (hi (rot1 (k0_pay10 x3 x10) x22 x23)) (View.ld x4 (Rect.unit ![0, 256, 128] ![1, 256, 128] inb_S1x512x512_S1x256x128_0_256_128)) (View.ld x5 (Rect.unit ![0, 256, 256] ![1, 256, 256] inb_S1x512x1024_S1x256x256_0_256_256))
    (View.ld x6 (Rect.unit ![0, 1, 1, 0, 0] ![1, 1, 1, 128, 256] inb_S1x2x4x128x256_S1x1x1x128x256_0_1_1_0_0)) (st1 sb) (one1 x0) (one1 x1)
def loB2 : FVec F S256x256 .f32 :=
  attn (lo (rot2 (k0_pay10 x3 x10) x22 x23)) (View.ld x4 (Rect.unit ![0, 0, 256] ![1, 256, 128] inb_S1x512x512_S1x256x128_0_0_256)) (View.ld x5 (Rect.unit ![0, 0, 512] ![1, 256, 256] inb_S1x512x1024_S1x256x256_0_0_512))
    (View.ld x6 (Rect.unit ![0, 0, 2, 0, 0] ![1, 1, 1, 128, 256] inb_S1x2x4x128x256_S1x1x1x128x256_0_0_2_0_0)) (mid2 x1 x7 sb) (one2 x0) (one2 x1)
def hiB2 : FVec F S256x256 .f32 :=
  attn (hi (rot2 (k0_pay10 x3 x10) x22 x23)) (View.ld x4 (Rect.unit ![0, 256, 256] ![1, 256, 128] inb_S1x512x512_S1x256x128_0_256_256)) (View.ld x5 (Rect.unit ![0, 256, 512] ![1, 256, 256] inb_S1x512x1024_S1x256x256_0_256_512))
    (View.ld x6 (Rect.unit ![0, 1, 2, 0, 0] ![1, 1, 1, 128, 256] inb_S1x2x4x128x256_S1x1x1x128x256_0_1_2_0_0)) (st2 sb) (one2 x0) (one2 x1)
def loB3 : FVec F S256x256 .f32 :=
  attn (lo (rot3 (k0_pay10 x3 x10) x22 x23)) (View.ld x4 (Rect.unit ![0, 0, 384] ![1, 256, 128] inb_S1x512x512_S1x256x128_0_0_384)) (View.ld x5 (Rect.unit ![0, 0, 768] ![1, 256, 256] inb_S1x512x1024_S1x256x256_0_0_768))
    (View.ld x6 (Rect.unit ![0, 0, 3, 0, 0] ![1, 1, 1, 128, 256] inb_S1x2x4x128x256_S1x1x1x128x256_0_0_3_0_0)) (mid3 x1 x7 sb) (one3 x0) (one3 x1)
def hiB3 : FVec F S256x256 .f32 :=
  attn (hi (rot3 (k0_pay10 x3 x10) x22 x23)) (View.ld x4 (Rect.unit ![0, 256, 384] ![1, 256, 128] inb_S1x512x512_S1x256x128_0_256_384)) (View.ld x5 (Rect.unit ![0, 256, 768] ![1, 256, 256] inb_S1x512x1024_S1x256x256_0_256_768))
    (View.ld x6 (Rect.unit ![0, 1, 3, 0, 0] ![1, 1, 1, 128, 256] inb_S1x2x4x128x256_S1x1x1x128x256_0_1_3_0_0)) (st3 sb) (one3 x0) (one3 x1)

/-- The point's retention. -/
def onB : FVec F S512x1024 .f32 :=
  cat (loB0 x0 x1 x3 x4 x5 x6 x7 x10 x22 x23 sb) (loB1 x0 x1 x3 x4 x5 x6 x7 x10 x22 x23 sb) (loB2 x0 x1 x3 x4 x5 x6 x7 x10 x22 x23 sb) (loB3 x0 x1 x3 x4 x5 x6 x7 x10 x22 x23 sb)
    (hiB0 x0 x1 x3 x4 x5 x6 x10 x22 x23 sb) (hiB1 x0 x1 x3 x4 x5 x6 x10 x22 x23 sb) (hiB2 x0 x1 x3 x4 x5 x6 x10 x22 x23 sb) (hiB3 x0 x1 x3 x4 x5 x6 x10 x22 x23 sb)

variable (on : FVec F S512x1024 .f32) (x2 : Vec F S1x512x1024 .f32) (x9 : Vec F S1x512x512 .bf16) (x11 : Vec F S1024x3072 .bf16) (x12 : Vec F S512x1024 .bf16) (x13 x14 : Vec F S1024x1024 .bf16) (x15 : Vec F S1x1024 .f32) (x16 x17 x18 : Vec F S1x1x1024 .f32) (x19 x20 : Vec F S1x1024 .f32)

/-- The retention's branch, the convolution's, and the two gates. -/
def ybB : FVec F S512x1024 .f32 := k0_pay91 (k0_pay7 x3) on (View.ld x11 (Rect.unit ![0, 0] ![1024, 1024] inb_S1024x3072_S1024x1024_0_0)) x15 x13
def gaB : FVec F S512x1024 .f32 := k0_pay93 (k0_pay7 x3) (View.ld x11 (Rect.unit ![0, 1024] ![1024, 1024] inb_S1024x3072_S1024x1024_0_1024))
def gbB : FVec F S512x1024 .f32 := k0_pay94 (k0_pay7 x3) (View.ld x11 (Rect.unit ![0, 2048] ![1024, 1024] inb_S1024x3072_S1024x1024_0_2048))

/-- The centred residual and its variance. -/
def ctrB : FVec F S512x1024 .f32 := k0_pay96 (ybB x3 on x11 x13 x15) (k0_pay92 x9 x12) (gaB x3 x11) (gbB x3 x11) (k0_pay95 (F := F)) x14 x2 x16
def varB : FVec F S512x1 .f32 := k0_pay97 (ybB x3 on x11 x13 x15) (k0_pay92 x9 x12) (gaB x3 x11) (gbB x3 x11) (k0_pay95 (F := F)) x14 x2 x16

/-- The residual's rows. -/
def x1B : FVec F S1x512x1024 .f32 :=
  k0_pay99 (ctrB x3 on x2 x9 x11 x12 x13 x14 x15 x16) (varB x3 on x2 x9 x11 x12 x13 x14 x15 x16) (Scalar.ofBits .f32 0x3727C5AC) x19 x20

/-- The feed-forward's input but for the shift. -/
def h2B : FVec F S512x1024 .f32 :=
  k0_pay100 (ctrB x3 on x2 x9 x11 x12 x13 x14 x15 x16) (varB x3 on x2 x9 x11 x12 x13 x14 x15 x16) (Scalar.ofBits .f32 0x3727C5AC) x19 x20 x18

/-- The feed-forward's input's rows, in two halves. -/
def hpB (h2 : FVec F S512x1024 .f32) : Vec F S2x1x512x512 .bf16 :=
  View.canon [⟨Rect.unit ![1, 0, 0, 0] ![1, 1, 512, 512] inb_S2x1x512x512_S1x1x512x512_1_0_0_0, k0_pay4 h2 (k0_pay101 x17)⟩,
    ⟨Rect.unit ![0, 0, 0, 0] ![1, 1, 512, 512] inb_S2x1x512x512_S1x1x512x512_0_0_0_0, k0_pay3 h2 (k0_pay101 x17)⟩]

/-- The stores of the states, the last first. -/
def stL (L : List (View.Piece (Elt F) S4x128x256 .f32)) : List (View.Piece (Elt F) S4x128x256 .f32) :=
  (⟨Rect.unit ![3, 0, 0] ![1, 128, 256] inb_S4x128x256_S1x128x256_3_0_0, fin3 x1 x7 sb⟩ : View.Piece (Elt F) S4x128x256 .f32) :: (⟨Rect.unit ![3, 0, 0] ![1, 128, 256] inb_S4x128x256_S1x128x256_3_0_0, mid3 x1 x7 sb⟩ : View.Piece (Elt F) S4x128x256 .f32) ::
  (⟨Rect.unit ![2, 0, 0] ![1, 128, 256] inb_S4x128x256_S1x128x256_2_0_0, fin2 x1 x7 sb⟩ : View.Piece (Elt F) S4x128x256 .f32) :: (⟨Rect.unit ![2, 0, 0] ![1, 128, 256] inb_S4x128x256_S1x128x256_2_0_0, mid2 x1 x7 sb⟩ : View.Piece (Elt F) S4x128x256 .f32) ::
  (⟨Rect.unit ![1, 0, 0] ![1, 128, 256] inb_S4x128x256_S1x128x256_1_0_0, fin1 x1 x7 sb⟩ : View.Piece (Elt F) S4x128x256 .f32) :: (⟨Rect.unit ![1, 0, 0] ![1, 128, 256] inb_S4x128x256_S1x128x256_1_0_0, mid1 x1 x7 sb⟩ : View.Piece (Elt F) S4x128x256 .f32) ::
  (⟨Rect.unit ![0, 0, 0] ![1, 128, 256] inb_S4x128x256_S1x128x256_0_0_0, fin0 x1 x7 sb⟩ : View.Piece (Elt F) S4x128x256 .f32) :: (⟨Rect.unit ![0, 0, 0] ![1, 128, 256] inb_S4x128x256_S1x128x256_0_0_0, mid0 x1 x7 sb⟩ : View.Piece (Elt F) S4x128x256 .f32) ::
  L

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- What a case leaves, by the functions above. -/
theorem out0_A_24_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) :
    out0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 = x1B x3 (onB x0 x1 x3 x4 x5 x6 x7 x10 x22 x23 (k0_pay6 x8)) x2 x9 x11 x12 x13 x14 x15 x16 x19 x20 := by
  unfold out0_A_24
  rw [View.read_writes_eq_canon _ _ _ (cover0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread]
  simp (disch := decide) only [↓ View.readCov_skip, ↓ View.readCov_cons_toLoadRect, ↓ View.readCov_fill]
  simp only [rot0_eq, hi0, uhi0, lo0, ulo0, hi1, uhi1, lo1, ulo1, hi2, uhi2, lo2, ulo2, hi3, uhi3, ulo3, lo3]
  try simp only [View.ld_unit_zero (S := S1x512x1024) zero3, View.ld_unit_zero (S := S1x512x512) zero3, View.ld_unit_zero (S := S1x4x128x256) zero4, View.ld_unit_zero (S := S1024x512) zero2, View.ld_unit_zero (S := S512x1024) zero2, View.ld_unit_zero (S := S1024x1024) zero2, View.ld_unit_zero (S := S1x1024) zero2, View.ld_unit_zero (S := S1x1x1024) zero3, View.ld_unit_zero (S := S16x1024) zero2, View.ld_unit_zero (S := S512x128) zero2]
  rw [View.canon_unit_zero zero3]
  rfl

/-- What a case leaves, by the functions above. -/
theorem out0_A_25_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) :
    out0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 = hpB x17 (h2B x3 (onB x0 x1 x3 x4 x5 x6 x7 x10 x22 x23 (k0_pay6 x8)) x2 x9 x11 x12 x13 x14 x15 x16 x18 x19 x20) := by
  unfold out0_A_25
  rw [View.read_writes_eq_canon _ _ _ (cover0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread]
  simp (disch := decide) only [↓ View.readCov_skip, ↓ View.readCov_cons_toLoadRect, ↓ View.readCov_fill]
  simp only [rot0_eq, hi0, uhi0, lo0, ulo0, hi1, uhi1, lo1, ulo1, hi2, uhi2, lo2, ulo2, hi3, uhi3, ulo3, lo3]
  try simp only [View.ld_unit_zero (S := S1x512x1024) zero3, View.ld_unit_zero (S := S1x512x512) zero3, View.ld_unit_zero (S := S1x4x128x256) zero4, View.ld_unit_zero (S := S1024x512) zero2, View.ld_unit_zero (S := S512x1024) zero2, View.ld_unit_zero (S := S1024x1024) zero2, View.ld_unit_zero (S := S1x1024) zero2, View.ld_unit_zero (S := S1x1x1024) zero3, View.ld_unit_zero (S := S16x1024) zero2, View.ld_unit_zero (S := S512x128) zero2]

  rfl

/-- What a case leaves, by the functions above. -/
theorem sout0_A_0_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 = View.canon (stL x1 x7 (k0_pay6 x8) [⟨Rect.unit ![0, 0, 0] ![4, 128, 256] inb_S4x128x256_S4x128x256_0_0_0, k0_pay6 x8⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread]
  simp (disch := decide) only [↓ View.readCov_skip, ↓ View.readCov_cons_toLoadRect, ↓ View.readCov_fill]
  simp only [rot0_eq, hi0, uhi0, lo0, ulo0, hi1, uhi1, lo1, ulo1, hi2, uhi2, lo2, ulo2, hi3, uhi3, ulo3, lo3]
  try simp only [View.ld_unit_zero (S := S1x512x1024) zero3, View.ld_unit_zero (S := S1x512x512) zero3, View.ld_unit_zero (S := S1x4x128x256) zero4, View.ld_unit_zero (S := S1024x512) zero2, View.ld_unit_zero (S := S512x1024) zero2, View.ld_unit_zero (S := S1024x1024) zero2, View.ld_unit_zero (S := S1x1024) zero2, View.ld_unit_zero (S := S1x1x1024) zero3, View.ld_unit_zero (S := S16x1024) zero2, View.ld_unit_zero (S := S512x128) zero2]

  rfl

/-- What a case leaves, by the functions above. -/
theorem out0_B_24_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) :
    out0_B_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0 = x1B x3 (onB x0 x1 x3 x4 x5 x6 x7 x10 x22 x23 xs0) x2 x9 x11 x12 x13 x14 x15 x16 x19 x20 := by
  unfold out0_B_24
  rw [View.read_writes_eq_canon _ _ _ (cover0_B_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg29.read_unread]
  simp (disch := decide) only [↓ View.readCov_skip, ↓ View.readCov_cons_toLoadRect, ↓ View.readCov_fill]
  simp only [rot0_eq, hi0, uhi0, lo0, ulo0, hi1, uhi1, lo1, ulo1, hi2, uhi2, lo2, ulo2, hi3, uhi3, ulo3, lo3]
  try simp only [View.ld_unit_zero (S := S1x512x1024) zero3, View.ld_unit_zero (S := S1x512x512) zero3, View.ld_unit_zero (S := S1x4x128x256) zero4, View.ld_unit_zero (S := S1024x512) zero2, View.ld_unit_zero (S := S512x1024) zero2, View.ld_unit_zero (S := S1024x1024) zero2, View.ld_unit_zero (S := S1x1024) zero2, View.ld_unit_zero (S := S1x1x1024) zero3, View.ld_unit_zero (S := S16x1024) zero2, View.ld_unit_zero (S := S512x128) zero2]
  rw [View.canon_unit_zero zero3]
  rfl

/-- What a case leaves, by the functions above. -/
theorem out0_B_25_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) :
    out0_B_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0 = hpB x17 (h2B x3 (onB x0 x1 x3 x4 x5 x6 x7 x10 x22 x23 xs0) x2 x9 x11 x12 x13 x14 x15 x16 x18 x19 x20) := by
  unfold out0_B_25
  rw [View.read_writes_eq_canon _ _ _ (cover0_B_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg29.read_unread]
  simp (disch := decide) only [↓ View.readCov_skip, ↓ View.readCov_cons_toLoadRect, ↓ View.readCov_fill]
  simp only [rot0_eq, hi0, uhi0, lo0, ulo0, hi1, uhi1, lo1, ulo1, hi2, uhi2, lo2, ulo2, hi3, uhi3, ulo3, lo3]
  try simp only [View.ld_unit_zero (S := S1x512x1024) zero3, View.ld_unit_zero (S := S1x512x512) zero3, View.ld_unit_zero (S := S1x4x128x256) zero4, View.ld_unit_zero (S := S1024x512) zero2, View.ld_unit_zero (S := S512x1024) zero2, View.ld_unit_zero (S := S1024x1024) zero2, View.ld_unit_zero (S := S1x1024) zero2, View.ld_unit_zero (S := S1x1x1024) zero3, View.ld_unit_zero (S := S16x1024) zero2, View.ld_unit_zero (S := S512x128) zero2]

  rfl

/-- What a case leaves, by the functions above. -/
theorem sout0_B_0_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x512x512 .bf16) (harg6 : arg6.IsWhole) (arg7 : Memref sig .tc .vmem S1x512x1024 .bf16) (harg7 : arg7.IsWhole) (arg8 : Memref sig .tc .vmem S1x2x4x128x256 .bf16) (harg8 : arg8.IsWhole) (arg9 : Memref sig .tc .vmem S1x2x4x128x256 .f32) (harg9 : arg9.IsWhole) (arg10 : Memref sig .tc .vmem S1x4x128x256 .f32) (harg10 : arg10.IsWhole) (arg11 : Memref sig .tc .vmem S1x512x512 .bf16) (harg11 : arg11.IsWhole) (arg12 : Memref sig .tc .vmem S1024x512 .bf16) (harg12 : arg12.IsWhole) (arg13 : Memref sig .tc .vmem S1024x3072 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S16x1024 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S1x512x1024 .f32) (harg26 : arg26.IsWhole) (arg27 : Memref sig .tc .vmem S2x1x512x512 .bf16) (harg27 : arg27.IsWhole) (arg28 : Memref sig .tc .vmem S1x16x512 .f32) (harg28 : arg28.IsWhole) (arg29 : Memref sig .tc .vmem S4x128x256 .f32) (harg29 : arg29.IsWhole) (hc0 : ¬cond0_0 i)
    (x0 : Vec F S4 .f32) (x1 : Vec F S4 .f32) (x2 : Vec F S1x512x1024 .f32) (x3 : Vec F S1x512x1024 .bf16) (x4 : Vec F S1x512x512 .bf16) (x5 : Vec F S1x512x1024 .bf16) (x6 : Vec F S1x2x4x128x256 .bf16) (x7 : Vec F S1x2x4x128x256 .f32) (x8 : Vec F S1x4x128x256 .f32) (x9 : Vec F S1x512x512 .bf16) (x10 : Vec F S1024x512 .bf16) (x11 : Vec F S1024x3072 .bf16) (x12 : Vec F S512x1024 .bf16) (x13 : Vec F S1024x1024 .bf16) (x14 : Vec F S1024x1024 .bf16) (x15 : Vec F S1x1024 .f32) (x16 : Vec F S1x1x1024 .f32) (x17 : Vec F S1x1x1024 .f32) (x18 : Vec F S1x1x1024 .f32) (x19 : Vec F S1x1024 .f32) (x20 : Vec F S1x1024 .f32) (x21 : Vec F S16x1024 .f32) (x22 : Vec F S512x128 .f32) (x23 : Vec F S512x128 .f32) (xs0 : Vec F S4x128x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0 = View.canon (stL x1 x7 xs0 []) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 x22 x23 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg29.read_unread]
  simp (disch := decide) only [↓ View.readCov_skip, ↓ View.readCov_cons_toLoadRect, ↓ View.readCov_fill]
  simp only [rot0_eq, hi0, uhi0, lo0, ulo0, hi1, uhi1, lo1, ulo1, hi2, uhi2, lo2, ulo2, hi3, uhi3, ulo3, lo3]
  try simp only [View.ld_unit_zero (S := S1x512x1024) zero3, View.ld_unit_zero (S := S1x512x512) zero3, View.ld_unit_zero (S := S1x4x128x256) zero4, View.ld_unit_zero (S := S1024x512) zero2, View.ld_unit_zero (S := S512x1024) zero2, View.ld_unit_zero (S := S1024x1024) zero2, View.ld_unit_zero (S := S1x1024) zero2, View.ld_unit_zero (S := S1x1x1024) zero3, View.ld_unit_zero (S := S16x1024) zero2, View.ld_unit_zero (S := S512x128) zero2]

  rfl

end Cert.Proof.Mix

end
-- ==== Proof.Mix.Spec.lean ====
/-
  The mixer at the extended reals, entry by entry, in the kernel's order of a head's query and key columns (the two
  halves of a rotated pair 64 apart).
-/
module

public import Idealize.ShloMosaic.PureOps.Ideal.Laws
public import Idealize.ShloMosaic.Lib.IdealHost
public import Idealize.ShloMosaic.Lib.Pointwise.Index

@[expose] public section

noncomputable section

namespace Cert.Proof.Mix

open Idealize.ShloMosaic

/-- The arrays the mixer reads. -/
structure In where
  /-- The heads' forward and backward log decays. -/
  lf : Fin 4 → EReal
  lb : Fin 4 → EReal
  /-- The rotation's cosines and sines, by position and pair. -/
  cs : Fin 2048 → Fin 64 → EReal
  sn : Fin 2048 → Fin 64 → EReal
  /-- The residual and the normalized input, by sequence, position and feature. -/
  x : Fin 16 → Fin 2048 → Fin 1024 → EReal
  h : Fin 16 → Fin 2048 → Fin 1024 → EReal
  /-- The keys and the values. -/
  k : Fin 16 → Fin 2048 → Fin 512 → EReal
  v : Fin 16 → Fin 2048 → Fin 1024 → EReal
  /-- The forward states and the backward updates, by sequence, chunk, head, key column and value column; the last backward state. -/
  sf : Fin 16 → Fin 8 → Fin 4 → Fin 128 → Fin 256 → EReal
  ub : Fin 16 → Fin 8 → Fin 4 → Fin 128 → Fin 256 → EReal
  sb0 : Fin 16 → Fin 4 → Fin 128 → Fin 256 → EReal
  /-- The convolution's branch and the weights. -/
  ya : Fin 16 → Fin 2048 → Fin 512 → EReal
  win : Fin 1024 → Fin 6144 → EReal
  wco : Fin 512 → Fin 1024 → EReal
  wro : Fin 1024 → Fin 1024 → EReal
  wo : Fin 1024 → Fin 1024 → EReal
  gn : Fin 1024 → EReal
  /-- The sequence's gate, shift and scale; the norm's gain and offset. -/
  g1 : Fin 16 → Fin 1024 → EReal
  sh : Fin 16 → Fin 1024 → EReal
  sc : Fin 16 → Fin 1024 → EReal
  lg : Fin 1024 → EReal
  lo : Fin 1024 → EReal

/-- The numbers 256 and 1024 and the norm's small constant, as they are written. -/
def c256 : EReal := Ideal.ofBits .f32 1132462080#32
@[inherit_doc c256] def c1024 : EReal := Ideal.ofBits .f32 1149239296#32
@[inherit_doc c256] def eps : EReal := Ideal.ofBits .f32 925353388#32
/-- The residual's factor. -/
def alpha : EReal := Ideal.ofBits .f32 1066940400#32

/-- A natural number as an extended real. -/
def num (n : ℕ) : EReal := ((n : ℝ) : EReal)

/-- A vector less its mean, over the root of its variance. -/
def nrm {n : ℕ} (N : EReal) (f : Fin n → EReal) (v : Fin n) : EReal :=
  (f v - Ideal.div (∑ x, f x) N) * Ideal.rsqrt (Ideal.div (∑ x, (f x - Ideal.div (∑ x, f x) N) * (f x - Ideal.div (∑ x, f x) N)) N + eps)

/-- The logistic function. -/
def sg (z : EReal) : EReal := Ideal.div 1 (1 + Ideal.exp (-z))

/-- The decay between two positions of a chunk. -/
def dec (lf lb : EReal) (i j : ℕ) : EReal := if j ≤ i then Ideal.exp (lf * num (i - j)) else Ideal.exp (lb * num (j - i))

/-- One block's output before its norm. -/
def blk (q k : Fin 256 → Fin 128 → EReal) (v : Fin 256 → Fin 256 → EReal) (sf sb : Fin 128 → Fin 256 → EReal) (lf lb : EReal) (i w : Fin 256) : EReal :=
  (∑ j : Fin 256, (∑ d : Fin 128, q i d * k j d) * dec lf lb i.val j.val * v j w)
    + ((∑ d : Fin 128, q i d * Ideal.exp (lf * (num i.val + 1)) * sf d w) + ∑ d : Fin 128, q i d * Ideal.exp (lb * (c256 - num i.val)) * sb d w)

namespace In

variable (I : In)

/-- The reference's column of the kernel's query column `c`. -/
def perm (c : Fin 512) : Fin 6144 :=
  ⟨1024 + (c.val / 128 * 128 + (if c.val % 128 < 64 then 2 * (c.val % 128) else 2 * (c.val % 128 - 64) + 1)), by
    have := c.isLt; split <;> omega⟩

/-- The queries before rotation. -/
def q (b : Fin 16) (l : Fin 2048) (c : Fin 512) : EReal := ∑ e : Fin 1024, I.h b l e * I.win e (perm c)

/-- The rotated queries. -/
def rope (b : Fin 16) (l : Fin 2048) (hh : Fin 4) (d : Fin 128) : EReal :=
  I.q b l ⟨128 * hh.val + d.val, by omega⟩ * I.cs l ⟨d.val % 64, Nat.mod_lt _ (by decide)⟩
    + I.q b l ⟨128 * hh.val + (d.val + 64) % 128, by omega⟩
      * (if d.val < 64 then -I.sn l ⟨d.val % 64, Nat.mod_lt _ (by decide)⟩ else I.sn l ⟨d.val % 64, Nat.mod_lt _ (by decide)⟩)

/-- The backward state after `n` chunks, from the last. -/
def back (b : Fin 16) (hh : Fin 4) (d : Fin 128) (w : Fin 256) : ℕ → EReal
  | 0 => I.sb0 b hh d w
  | n + 1 => back b hh d w n * Ideal.exp (I.lb hh * c256) + I.ub b ⟨7 - n % 8, by omega⟩ hh d w

/-- One block's output before its norm. -/
def o (b : Fin 16) (n : Fin 8) (hh : Fin 4) (i w : Fin 256) : EReal :=
  blk (fun i d => I.rope b ⟨256 * n.val + i.val, by omega⟩ hh d) (fun j d => I.k b ⟨256 * n.val + j.val, by omega⟩ ⟨128 * hh.val + d.val, by omega⟩)
    (fun j w => I.v b ⟨256 * n.val + j.val, by omega⟩ ⟨256 * hh.val + w.val, by omega⟩) (I.sf b n hh) (fun d w => I.back b hh d w (7 - n.val)) (I.lf hh) (I.lb hh) i w

/-- The retention's normalized output. -/
def on (b : Fin 16) (l : Fin 2048) (e : Fin 1024) : EReal :=
  nrm c256 (fun w => I.o b ⟨l.val / 256, by omega⟩ ⟨e.val / 256, by omega⟩ ⟨l.val % 256, Nat.mod_lt _ (by decide)⟩ w) ⟨e.val % 256, Nat.mod_lt _ (by decide)⟩

/-- The input through 1024 columns of its projection. -/
def gate (o : ℕ) (ho : o + 1024 ≤ 6144) (b : Fin 16) (l : Fin 2048) (e : Fin 1024) : EReal := ∑ f : Fin 1024, I.h b l f * I.win f ⟨o + e.val, by omega⟩

/-- The retention's branch. -/
def yb (b : Fin 16) (l : Fin 2048) (e : Fin 1024) : EReal :=
  ∑ f : Fin 1024, I.gate 3072 (by decide) b l f * sg (I.gate 3072 (by decide) b l f) * (I.on b l f * I.gn f) * I.wro f e

/-- The convolution's branch. -/
def yc (b : Fin 16) (l : Fin 2048) (e : Fin 1024) : EReal := ∑ f : Fin 512, I.ya b l f * I.wco f e

/-- The mixed branches, projected. -/
def y (b : Fin 16) (l : Fin 2048) (e : Fin 1024) : EReal :=
  ∑ f : Fin 1024, (sg (I.gate 4096 (by decide) b l f) * I.yc b l f + sg (I.gate 5120 (by decide) b l f) * I.yb b l f) * I.wo f e

/-- The residual after the mixer, normalized. -/
def x1 (b : Fin 16) (l : Fin 2048) (e : Fin 1024) : EReal :=
  nrm c1024 (fun e => alpha * I.x b l e + I.g1 b e * I.y b l e) e * I.lg e + I.lo e

/-- The feed-forward's input. -/
def h2 (b : Fin 16) (l : Fin 2048) (e : Fin 1024) : EReal := nrm c1024 (I.x1 b l) e * (1 + I.sc b e) + I.sh b e

end In

end Cert.Proof.Mix

end
-- ==== Proof.Mix.HeadsVal.lean ====
/-
  The mixer's block functions at the extended reals, entry by entry.
-/
module

public import proofs.«01_k».proof.Proof.Mix.Heads
public import proofs.«01_k».proof.Proof.Mix.Spec
public import Idealize.ShloMosaic.Lib.Pointwise
public import Idealize.ShloMosaic.Lib.BitcastConvert

@[expose] public section

set_option maxRecDepth 16384

noncomputable section

namespace Cert.Proof.Mix

open Cert.Kernel3Ideal Cert.Kernel3Ideal.Gen Idealize.ShloMosaic Idealize.ShloMosaic.Pointwise

/-- A small counter read as a number. -/
theorem sitofp_num (n : ℕ) (h : n < 2 ^ 31) : (FloatOps.sitofp .f32 (BitVec.ofNat 32 n) : Ideal .f32) = num n := by
  show (((BitVec.ofNat 32 n).toInt : ℝ) : EReal) = ((n : ℝ) : EReal)
  have : (BitVec.ofNat 32 n).toInt = (n : ℤ) := by
    rw [BitVec.toInt_eq_toNat_of_lt (by rw [BitVec.toNat_ofNat]; omega), BitVec.toNat_ofNat, Nat.mod_eq_of_lt (by omega)]
  rw [this]; norm_cast

/-- The difference of two small counters read as a number. -/
theorem sitofp_diff (i j : ℕ) (hi : i < 256) (hj : j < 256) :
    (FloatOps.sitofp .f32 (IntOp.subi (BitVec.ofNat 32 i) (BitVec.ofNat 32 j)) : Ideal .f32) = (((i : ℝ) - (j : ℝ) : ℝ) : EReal) := by
  show (((BitVec.ofNat 32 i - BitVec.ofNat 32 j).toInt : ℝ) : EReal) = _
  have : (BitVec.ofNat 32 i - BitVec.ofNat 32 j).toInt = (i : ℤ) - (j : ℤ) := by
    rw [BitVec.toInt_sub]
    have h1 : (BitVec.ofNat 32 i).toInt = (i : ℤ) := by
      rw [BitVec.toInt_eq_toNat_of_lt (by rw [BitVec.toNat_ofNat]; omega), BitVec.toNat_ofNat, Nat.mod_eq_of_lt (by omega)]
    have h2 : (BitVec.ofNat 32 j).toInt = (j : ℤ) := by
      rw [BitVec.toInt_eq_toNat_of_lt (by rw [BitVec.toNat_ofNat]; omega), BitVec.toNat_ofNat, Nat.mod_eq_of_lt (by omega)]
    rw [h1, h2]
    apply Int.bmod_eq_of_le <;> omega
  rw [this]; push_cast; rfl

theorem decay_at (lf lb : EReal) (i j : Fin 256) : decay (F := Ideal) lf lb (ix2 i j) = dec lf lb i.val j.val := by
  have hr : decay (F := Ideal) lf lb (ix2 i j)
      = if 0 ≤ (FloatOps.sitofp FTy.f32 (IntOp.subi (BitVec.ofNat 32 ↑i) (BitVec.ofNat 32 ↑j)) : Ideal .f32) then
        Ideal.exp (lf * max (FloatOps.sitofp FTy.f32 (IntOp.subi (BitVec.ofNat 32 ↑i) (BitVec.ofNat 32 ↑j)) : Ideal .f32) 0)
      else Ideal.exp (lb * max (0 - (FloatOps.sitofp FTy.f32 (IntOp.subi (BitVec.ofNat 32 ↑i) (BitVec.ofNat 32 ↑j)) : Ideal .f32)) 0) := by
    pointwise [decay, k0_pay17, k0_pay14, k0_pay15, k0_pay16, k0_pay12]
  rw [hr, sitofp_diff _ _ i.isLt j.isLt]
  unfold dec num
  by_cases h : j.val ≤ i.val
  · have hz : (0 : ℝ) ≤ (i.val : ℝ) - (j.val : ℝ) := sub_nonneg.mpr (by exact_mod_cast h)
    rw [if_pos h, if_pos (by exact_mod_cast hz), max_eq_left (by exact_mod_cast hz), Nat.cast_sub h]
  · have hlt : (i.val : ℝ) < (j.val : ℝ) := by exact_mod_cast Nat.lt_of_not_le h
    have hn : ((i.val : ℝ) - (j.val : ℝ)) < 0 := sub_neg.mpr hlt
    rw [if_neg h, if_neg (by rw [not_le]; exact_mod_cast hn), Nat.cast_sub (by omega)]
    have e : (0 : EReal) - (((i.val : ℝ) - (j.val : ℝ) : ℝ) : EReal) = (((j.val : ℝ) - (i.val : ℝ) : ℝ) : EReal) := by
      rw [zero_sub, ← EReal.coe_neg]; congr 1; ring
    rw [e, max_eq_left (by exact_mod_cast (sub_nonneg.mpr hlt.le : (0:ℝ) ≤ (j.val : ℝ) - (i.val : ℝ)))]

theorem upd_at (sb : Vec Ideal S1x128x256 .f32) (lb : EReal) (ub : Vec Ideal S1x1x1x128x256 .f32) (d : Fin 128) (v : Fin 256) :
    upd (F := Ideal) sb lb ub (ix3 0 d v) = sb (ix3 0 d v) * Ideal.exp (lb * c256) + ub (ix5 0 0 0 d v) := by
  unfold c256
  pointwise [upd, k0_pay31, k0_pay20, k0_pay28]

theorem scores_at (qc : FVec Ideal S256x128 .f32) (kc : Vec Ideal S1x256x128 .bf16) (lf lb : EReal) (i j : Fin 256) :
    scores (F := Ideal) qc kc lf lb (ix2 i j) = (∑ x : Fin 128, qc (ix2 i x) * kc (ix3 0 j x)) * dec lf lb i.val j.val := by
  rw [← decay_at]
  pointwise [scores]

/-- A sum over 512, in three runs. -/
theorem sum512 (f : Fin 512 → EReal) : ∑ x, f x = (∑ j : Fin 256, f ⟨j.val, by omega⟩)
    + ((∑ d : Fin 128, f ⟨256 + d.val, by omega⟩) + ∑ d : Fin 128, f ⟨384 + d.val, by omega⟩) := by
  have h1 := Fin.sum_univ_add (a := 256) (b := 256) (fun x : Fin (256 + 256) => f x)
  have h2 := Fin.sum_univ_add (a := 128) (b := 128) (fun x : Fin (128 + 128) => f ⟨256 + x.val, by omega⟩)
  refine h1.trans (congrArg₂ (· + ·) rfl (h2.trans (congrArg₂ (· + ·) rfl (Finset.sum_congr rfl fun d _ => congrArg f (Fin.ext ?_)))))
  show 256 + (128 + d.val) = 384 + d.val
  omega

theorem attn_at (qc : FVec Ideal S256x128 .f32) (kc : Vec Ideal S1x256x128 .bf16) (vc : Vec Ideal S1x256x256 .bf16) (sf : Vec Ideal S1x1x1x128x256 .bf16)
    (sb : Vec Ideal S1x128x256 .f32) (lf lb : EReal) (i v : Fin 256) :
    attn (F := Ideal) qc kc vc sf sb lf lb (ix2 i v)
      = nrm c256 (blk (fun i d => qc (ix2 i d)) (fun j d => kc (ix3 0 j d)) (fun j w => vc (ix3 0 j w)) (fun d w => sf (ix5 0 0 0 d w)) (fun d w => sb (ix3 0 d w)) lf lb i) v := by
  have hb : blk (fun i d => qc (ix2 i d)) (fun j d => kc (ix3 0 j d)) (fun j w => vc (ix3 0 j w)) (fun d w => sf (ix5 0 0 0 d w)) (fun d w => sb (ix3 0 d w)) lf lb i
      = fun w => ∑ x : Fin 512, (if h : x.val < 256 then scores (F := Ideal) qc kc lf lb (ix2 i ⟨x.val, h⟩)
          else if h' : x.val - 256 < 128 then qc (ix2 i ⟨x.val - 256, h'⟩) * Ideal.exp (lf * ((FloatOps.sitofp FTy.f32 (BitVec.ofNat 32 ↑i) : Ideal .f32) + 1))
          else qc (ix2 i ⟨x.val - 256 - 128, by omega⟩) * Ideal.exp (lb * (Ideal.ofBits FTy.f32 1132462080#32 - (FloatOps.sitofp FTy.f32 (BitVec.ofNat 32 ↑i) : Ideal .f32))))
          * (if h : x.val < 256 then vc (ix3 0 ⟨x.val, h⟩ w) else if h' : x.val - 256 < 128 then sf (ix5 0 0 0 ⟨x.val - 256, h'⟩ w) else sb (ix3 0 ⟨x.val - 256 - 128, by omega⟩ w)) := by
    funext w
    rw [sum512, sitofp_num _ (by omega)]
    unfold blk
    refine congrArg₂ (· + ·) (Finset.sum_congr rfl fun j _ => ?_) (congrArg₂ (· + ·) (Finset.sum_congr rfl fun d _ => ?_) (Finset.sum_congr rfl fun d _ => ?_))
    · rw [dif_pos (show j.val < 256 from j.isLt), dif_pos (show j.val < 256 from j.isLt), scores_at]
    · rw [dif_neg (show ¬ (256 + d.val < 256) by omega), dif_pos (show 256 + d.val - 256 < 128 by omega), dif_neg (show ¬ (256 + d.val < 256) by omega), dif_pos (show 256 + d.val - 256 < 128 by omega)]
      have e : (⟨256 + d.val - 256, by omega⟩ : Fin 128) = d := Fin.ext (by show 256 + d.val - 256 = d.val; omega)
      rw [e]
    · rw [dif_neg (show ¬ (384 + d.val < 256) by omega), dif_neg (show ¬ (384 + d.val - 256 < 128) by omega), dif_neg (show ¬ (384 + d.val < 256) by omega), dif_neg (show ¬ (384 + d.val - 256 < 128) by omega)]
      have e : (⟨384 + d.val - 256 - 128, by omega⟩ : Fin 128) = d := Fin.ext (by show 384 + d.val - 256 - 128 = d.val; omega)
      rw [e]; rfl
  rw [hb]
  unfold nrm c256 eps
  pointwise [attn, k0_pay32, k0_pay19, k0_pay11, k0_pay27, k0_pay28, k0_pay18]

end Cert.Proof.Mix

end
-- ==== Proof.Mix.TailVal.lean ====
/-
  The mixer's tail at the extended reals, entry by entry: the branches, their mix and the two norms.
-/
module

public import proofs.«01_k».proof.Proof.Mix.Heads
public import proofs.«01_k».proof.Proof.Mix.Spec
public import Idealize.ShloMosaic.Lib.Pointwise
public import Idealize.ShloMosaic.Lib.BitcastConvert

@[expose] public section

set_option maxRecDepth 16384

noncomputable section

namespace Cert.Proof.Mix

open Cert.Kernel3Ideal Cert.Kernel3Ideal.Gen Idealize.ShloMosaic Idealize.ShloMosaic.Pointwise

theorem pay91_at (v4 : FVec Ideal S512x1024 .bf16) (v540 : FVec Ideal S512x1024 .f32) (v547 : Vec Ideal S1024x1024 .bf16) (v558 : Vec Ideal S1x1024 .f32) (v564 : Vec Ideal S1024x1024 .bf16) (r : Fin 512) (e : Fin 1024) :
    k0_pay91 v4 v540 v547 v558 v564 (ix2 r e)
      = ∑ x : Fin 1024, (∑ f : Fin 1024, v4 (ix2 r f) * v547 (ix2 f x)) * sg (∑ f : Fin 1024, v4 (ix2 r f) * v547 (ix2 f x)) * (v540 (ix2 r x) * v558 (ix2 0 x)) * v564 (ix2 x e) := by
  unfold sg
  simp only [← zero_sub (∑ f : Fin 1024, v4 (ix2 r f) * v547 (ix2 f _))]
  pointwise [k0_pay91]

theorem pay92_at (a : Vec Ideal S1x512x512 .bf16) (w : Vec Ideal S512x1024 .bf16) (r : Fin 512) (e : Fin 1024) :
    k0_pay92 a w (ix2 r e) = ∑ x : Fin 512, a (ix3 0 r x) * w (ix2 x e) := by
  pointwise [k0_pay92]

theorem pay93_at (a : FVec Ideal S512x1024 .bf16) (w : Vec Ideal S1024x1024 .bf16) (r : Fin 512) (e : Fin 1024) :
    k0_pay93 a w (ix2 r e) = ∑ x : Fin 1024, a (ix2 r x) * w (ix2 x e) := by
  pointwise [k0_pay93]

theorem pay94_at (a : FVec Ideal S512x1024 .bf16) (w : Vec Ideal S1024x1024 .bf16) (r : Fin 512) (e : Fin 1024) :
    k0_pay94 a w (ix2 r e) = ∑ x : Fin 1024, a (ix2 r x) * w (ix2 x e) := by
  pointwise [k0_pay94]

theorem pay7_at (a : Vec Ideal S1x512x1024 .bf16) (r : Fin 512) (e : Fin 1024) : k0_pay7 a (ix2 r e) = a (ix3 0 r e) := by
  pointwise [k0_pay7]

/-- The residual and the mixed branches, before their norm. -/
def mixed (v566 v571 v574 v577 : FVec Ideal S512x1024 .f32) (v596 : Vec Ideal S1024x1024 .bf16) (v599 : Vec Ideal S1x512x1024 .f32) (v603 : Vec Ideal S1x1x1024 .f32) (r : Fin 512) (e : Fin 1024) : EReal :=
  alpha * v599 (ix3 0 r e) + v603 (ix3 0 0 e) * ∑ x : Fin 1024, (sg (v574 (ix2 r x)) * v571 (ix2 r x) + sg (v577 (ix2 r x)) * v566 (ix2 r x)) * v596 (ix2 x e)

theorem pay96_at (v566 v571 v574 v577 : FVec Ideal S512x1024 .f32) (v596 : Vec Ideal S1024x1024 .bf16) (v599 : Vec Ideal S1x512x1024 .f32) (v603 : Vec Ideal S1x1x1024 .f32) (r : Fin 512) (e : Fin 1024) :
    k0_pay96 v566 v571 v574 v577 (k0_pay95 (F := Ideal)) v596 v599 v603 (ix2 r e)
      = mixed v566 v571 v574 v577 v596 v599 v603 r e - Ideal.div (∑ e, mixed v566 v571 v574 v577 v596 v599 v603 r e) c1024 := by
  unfold mixed sg alpha c1024
  simp only [← zero_sub (v574 (ix2 r _)), ← zero_sub (v577 (ix2 r _))]
  pointwise [k0_pay96, k0_pay95]

theorem pay97_at (v566 v571 v574 v577 : FVec Ideal S512x1024 .f32) (v596 : Vec Ideal S1024x1024 .bf16) (v599 : Vec Ideal S1x512x1024 .f32) (v603 : Vec Ideal S1x1x1024 .f32) (r : Fin 512) :
    k0_pay97 v566 v571 v574 v577 (k0_pay95 (F := Ideal)) v596 v599 v603 (ix2 r 0)
      = Ideal.div (∑ e, (mixed v566 v571 v574 v577 v596 v599 v603 r e - Ideal.div (∑ e, mixed v566 v571 v574 v577 v596 v599 v603 r e) c1024)
          * (mixed v566 v571 v574 v577 v596 v599 v603 r e - Ideal.div (∑ e, mixed v566 v571 v574 v577 v596 v599 v603 r e) c1024)) c1024 := by
  unfold mixed sg alpha c1024
  simp only [← zero_sub (v574 (ix2 r _)), ← zero_sub (v577 (ix2 r _))]
  pointwise [k0_pay97, k0_pay96, k0_pay95]

theorem pay98_at (v613 : FVec Ideal S512x1024 .f32) (v618 : FVec Ideal S512x1 .f32) (c : EReal) (v624 v628 : Vec Ideal S1x1024 .f32) (r : Fin 512) (e : Fin 1024) :
    k0_pay98 (F := Ideal) v613 v618 c v624 v628 (ix2 r e) = v613 (ix2 r e) * Ideal.rsqrt (v618 (ix2 r 0) + c) * v624 (ix2 0 e) + v628 (ix2 0 e) := by
  pointwise [k0_pay98]

theorem pay99_at (v613 : FVec Ideal S512x1024 .f32) (v618 : FVec Ideal S512x1 .f32) (c : EReal) (v624 v628 : Vec Ideal S1x1024 .f32) (r : Fin 512) (e : Fin 1024) :
    k0_pay99 (F := Ideal) v613 v618 c v624 v628 (ix3 0 r e) = k0_pay98 (F := Ideal) v613 v618 c v624 v628 (ix2 r e) := by
  pointwise [k0_pay99, k0_pay98]

theorem pay100_at (v613 : FVec Ideal S512x1024 .f32) (v618 : FVec Ideal S512x1 .f32) (c : EReal) (v624 v628 : Vec Ideal S1x1024 .f32) (v : Vec Ideal S1x1x1024 .f32) (r : Fin 512) (e : Fin 1024) :
    k0_pay100 (F := Ideal) v613 v618 c v624 v628 v (ix2 r e) = nrm c1024 (fun e => k0_pay98 (F := Ideal) v613 v618 c v624 v628 (ix2 r e)) e * (1 + v (ix3 0 0 e)) := by
  unfold nrm c1024 eps
  pointwise [k0_pay100, k0_pay98]

theorem pay10_at (x : Vec Ideal S1x512x1024 .bf16) (w : Vec Ideal S1024x512 .bf16) (r : Fin 512) (e : Fin 512) :
    k0_pay10 (F := Ideal) x w (ix2 r e) = ∑ f : Fin 1024, x (ix3 0 r f) * w (ix2 f e) := by
  pointwise [k0_pay10, k0_pay7]

theorem pay3_at (x : FVec Ideal S512x1024 .f32) (w : FVec Ideal S1x1024 .f32) (r : Fin 512) (e : Fin 512) :
    k0_pay3 (F := Ideal) x w (ix4 0 0 r e) = x (ix2 r ⟨e.val, by omega⟩) + w (ix2 0 ⟨e.val, by omega⟩) := by
  pointwise [k0_pay3, k0_pay2, k0_pay1]

theorem pay4_at (x : FVec Ideal S512x1024 .f32) (w : FVec Ideal S1x1024 .f32) (r : Fin 512) (e : Fin 512) :
    k0_pay4 (F := Ideal) x w (ix4 0 0 r e) = x (ix2 r ⟨512 + e.val, by omega⟩) + w (ix2 0 ⟨512 + e.val, by omega⟩) := by
  pointwise [k0_pay4, k0_pay2, k0_pay1]

theorem pay101_at (w : Vec Ideal S1x1x1024 .f32) (e : Fin 1024) : k0_pay101 (F := Ideal) w (ix2 0 e) = w (ix3 0 0 e) := by
  pointwise [k0_pay101]

/-- A head's rotated queries. -/
theorem rot_at (qh : FVec Ideal S512x128 .f32) (v5 v7 : Vec Ideal S512x128 .f32) (i : Fin 512) (d : Fin 128) :
    rot (F := Ideal) qh v5 v7 (ix2 i d) = qh (ix2 i d) * v5 (ix2 i d) + qh (ix2 i ⟨(d.val + 64) % 128, Nat.mod_lt _ (by decide)⟩) * v7 (ix2 i d) := by
  have e : (d.val + 128 - 64) % 128 = (d.val + 64) % 128 := by omega
  simp only [← e]
  pointwise [rot, k0_pay8, k0_pay9]

end Cert.Proof.Mix

end
-- ==== Proof.Mix.BlockVal.lean ====
/-
  The mixer's grid point at the extended reals: what it leaves in its blocks of the results and in the states.
-/
module

public import proofs.«01_k».proof.Proof.Mix.Block
public import proofs.«01_k».proof.Proof.Mix.HeadsVal
public import proofs.«01_k».proof.Proof.Mix.TailVal

@[expose] public section

set_option maxRecDepth 16384

noncomputable section

namespace Cert.Proof.Mix

open Cert.Kernel3Ideal Cert.Kernel3Ideal.Gen Idealize.ShloMosaic Idealize.ShloMosaic.Pointwise

/-- Row `r` of tile `T` of a sequence, and chunk `c` of the tile. -/
def row (T : Fin 4) (r : Fin 512) : Fin 2048 := ⟨512 * T.val + r.val, by omega⟩
def chunk (T : Fin 4) (c : Fin 2) : Fin 8 := ⟨2 * T.val + c.val, by omega⟩

/-- The blocks a point of sequence `b`, tile `T` is given. -/
structure At (I : In) (b : Fin 16) (T : Fin 4) (x0 x1 : Vec Ideal S4 .f32) (x2 : Vec Ideal S1x512x1024 .f32) (x3 : Vec Ideal S1x512x1024 .bf16) (x4 : Vec Ideal S1x512x512 .bf16) (x5 : Vec Ideal S1x512x1024 .bf16)
    (x6 : Vec Ideal S1x2x4x128x256 .bf16) (x7 : Vec Ideal S1x2x4x128x256 .f32) (x8 : Vec Ideal S1x4x128x256 .f32) (x9 : Vec Ideal S1x512x512 .bf16) (x10 : Vec Ideal S1024x512 .bf16) (x11 : Vec Ideal S1024x3072 .bf16)
    (x12 : Vec Ideal S512x1024 .bf16) (x13 x14 : Vec Ideal S1024x1024 .bf16) (x15 : Vec Ideal S1x1024 .f32) (x16 x17 x18 : Vec Ideal S1x1x1024 .f32) (x19 x20 : Vec Ideal S1x1024 .f32) (x22 x23 : Vec Ideal S512x128 .f32) : Prop where
  lf : ∀ h : Fin 4, x0 (ix1 h) = I.lf h
  lb : ∀ h : Fin 4, x1 (ix1 h) = I.lb h
  x : ∀ (r : Fin 512) (e : Fin 1024), x2 (ix3 0 r e) = I.x b (row T r) e
  h : ∀ (r : Fin 512) (e : Fin 1024), x3 (ix3 0 r e) = I.h b (row T r) e
  k : ∀ (r : Fin 512) (e : Fin 512), x4 (ix3 0 r e) = I.k b (row T r) e
  v : ∀ (r : Fin 512) (e : Fin 1024), x5 (ix3 0 r e) = I.v b (row T r) e
  sf : ∀ (c : Fin 2) (h : Fin 4) (d : Fin 128) (w : Fin 256), x6 (ix5 0 c h d w) = I.sf b (chunk T c) h d w
  ub : ∀ (c : Fin 2) (h : Fin 4) (d : Fin 128) (w : Fin 256), x7 (ix5 0 c h d w) = I.ub b (chunk T c) h d w
  sb0 : ∀ (h : Fin 4) (d : Fin 128) (w : Fin 256), x8 (ix4 0 h d w) = I.sb0 b h d w
  ya : ∀ (r : Fin 512) (e : Fin 512), x9 (ix3 0 r e) = I.ya b (row T r) e
  wq : ∀ (e : Fin 1024) (c : Fin 512), x10 (ix2 e c) = I.win e (In.perm c)
  wg : ∀ (e : Fin 1024) (j : Fin 3072), x11 (ix2 e j) = I.win e ⟨3072 + j.val, by omega⟩
  wco : ∀ (f : Fin 512) (e : Fin 1024), x12 (ix2 f e) = I.wco f e
  wro : ∀ (f : Fin 1024) (e : Fin 1024), x13 (ix2 f e) = I.wro f e
  wo : ∀ (f : Fin 1024) (e : Fin 1024), x14 (ix2 f e) = I.wo f e
  gn : ∀ e : Fin 1024, x15 (ix2 0 e) = I.gn e
  g1 : ∀ e : Fin 1024, x16 (ix3 0 0 e) = I.g1 b e
  sh : ∀ e : Fin 1024, x17 (ix3 0 0 e) = I.sh b e
  sc : ∀ e : Fin 1024, x18 (ix3 0 0 e) = I.sc b e
  lg : ∀ e : Fin 1024, x19 (ix2 0 e) = I.lg e
  lo : ∀ e : Fin 1024, x20 (ix2 0 e) = I.lo e
  cs : ∀ (r : Fin 512) (d : Fin 128), x22 (ix2 r d) = I.cs (row T r) ⟨d.val % 64, Nat.mod_lt _ (by decide)⟩
  sn : ∀ (r : Fin 512) (d : Fin 128), x23 (ix2 r d) = if d.val < 64 then -I.sn (row T r) ⟨d.val % 64, Nat.mod_lt _ (by decide)⟩ else I.sn (row T r) ⟨d.val % 64, Nat.mod_lt _ (by decide)⟩

/-- A load of a unit-stride rectangle, entry by entry. -/
theorem ld_at {S : Shape} {e : EltTy} (x : Vec Ideal S e) (off sz : Fin S.rank → ℕ) (inb : ∀ a, off a + sz a ≤ S.size a) (j : (Rect.unit (s := S) off sz inb).shape.Idx) (i : S.Idx)
    (h : ∀ a, (i a).val = off a + (j a).val) : View.ld (Val := Elt Ideal) x (Rect.unit off sz inb) j = x i :=
  congrArg x (funext fun a => Fin.ext (by rw [h a]; show off a + 1 * (j a).val = _; omega))

theorem lo_at (v : FVec Ideal S512x128 .f32) (i : Fin 256) (d : Fin 128) : lo (F := Ideal) v (ix2 i d) = v (ix2 ⟨i.val, by omega⟩ d) := by
  pointwise [lo]
theorem hi_at (v : FVec Ideal S512x128 .f32) (i : Fin 256) (d : Fin 128) : hi (F := Ideal) v (ix2 i d) = v (ix2 ⟨256 + i.val, by omega⟩ d) := by
  pointwise [hi]
theorem pay6_at (x : Vec Ideal S1x4x128x256 .f32) (h : Fin 4) (d : Fin 128) (w : Fin 256) : k0_pay6 (F := Ideal) x (ix3 h d w) = x (ix4 0 h d w) := by
  pointwise [k0_pay6]

theorem slice0_at (v : FVec Ideal S512x512 .f32) (r : Fin 512) (d : Fin 128) : extractStridedSlice S512x128 ![0, 0] v slices_S512x512_o0_0_S512x128 (ix2 r d) = v (ix2 r ⟨0 + d.val, by omega⟩) := by
  refine congrArg v (funext fun a => Fin.ext ?_)
  match a with
  | ⟨0, _⟩ => show 0 + r.val = r.val; omega
  | ⟨1, _⟩ => show 0 + d.val = 0 + d.val; rfl
theorem rot0_at (v : FVec Ideal S512x512 .f32) (v5 v7 : Vec Ideal S512x128 .f32) (r : Fin 512) (d : Fin 128) :
    rot0 (F := Ideal) v v5 v7 (ix2 r d) = v (ix2 r ⟨0 + d.val, by omega⟩) * v5 (ix2 r d) + v (ix2 r ⟨0 + (d.val + 64) % 128, by omega⟩) * v7 (ix2 r d) := by
  unfold rot0
  rw [rot_at, slice0_at, slice0_at]
theorem one0_at (x : Vec Ideal S4 .f32) : one0 (F := Ideal) x = x (ix1 0) := by
  unfold one0
  exact ld_at _ _ _ _ _ _ fun a => by fin_cases a; rfl
theorem st0_at (sb : Vec Ideal S4x128x256 .f32) (d : Fin 128) (w : Fin 256) : st0 (F := Ideal) sb (ix3 0 d w) = sb (ix3 0 d w) := by
  unfold st0
  refine ld_at _ _ _ _ _ _ fun a => ?_
  match a with
  | ⟨0, _⟩ => rfl
  | ⟨1, _⟩ => show d.val = 0 + d.val; omega
  | ⟨2, _⟩ => show w.val = 0 + w.val; omega

theorem slice1_at (v : FVec Ideal S512x512 .f32) (r : Fin 512) (d : Fin 128) : extractStridedSlice S512x128 ![0, 128] v slices_S512x512_o0_128_S512x128 (ix2 r d) = v (ix2 r ⟨128 + d.val, by omega⟩) := by
  refine congrArg v (funext fun a => Fin.ext ?_)
  match a with
  | ⟨0, _⟩ => show 0 + r.val = r.val; omega
  | ⟨1, _⟩ => show 128 + d.val = 128 + d.val; rfl
theorem rot1_at (v : FVec Ideal S512x512 .f32) (v5 v7 : Vec Ideal S512x128 .f32) (r : Fin 512) (d : Fin 128) :
    rot1 (F := Ideal) v v5 v7 (ix2 r d) = v (ix2 r ⟨128 + d.val, by omega⟩) * v5 (ix2 r d) + v (ix2 r ⟨128 + (d.val + 64) % 128, by omega⟩) * v7 (ix2 r d) := by
  unfold rot1
  rw [rot_at, slice1_at, slice1_at]
theorem one1_at (x : Vec Ideal S4 .f32) : one1 (F := Ideal) x = x (ix1 1) := by
  unfold one1
  exact ld_at _ _ _ _ _ _ fun a => by fin_cases a; rfl
theorem st1_at (sb : Vec Ideal S4x128x256 .f32) (d : Fin 128) (w : Fin 256) : st1 (F := Ideal) sb (ix3 0 d w) = sb (ix3 1 d w) := by
  unfold st1
  refine ld_at _ _ _ _ _ _ fun a => ?_
  match a with
  | ⟨0, _⟩ => rfl
  | ⟨1, _⟩ => show d.val = 0 + d.val; omega
  | ⟨2, _⟩ => show w.val = 0 + w.val; omega

theorem slice2_at (v : FVec Ideal S512x512 .f32) (r : Fin 512) (d : Fin 128) : extractStridedSlice S512x128 ![0, 256] v slices_S512x512_o0_256_S512x128 (ix2 r d) = v (ix2 r ⟨256 + d.val, by omega⟩) := by
  refine congrArg v (funext fun a => Fin.ext ?_)
  match a with
  | ⟨0, _⟩ => show 0 + r.val = r.val; omega
  | ⟨1, _⟩ => show 256 + d.val = 256 + d.val; rfl
theorem rot2_at (v : FVec Ideal S512x512 .f32) (v5 v7 : Vec Ideal S512x128 .f32) (r : Fin 512) (d : Fin 128) :
    rot2 (F := Ideal) v v5 v7 (ix2 r d) = v (ix2 r ⟨256 + d.val, by omega⟩) * v5 (ix2 r d) + v (ix2 r ⟨256 + (d.val + 64) % 128, by omega⟩) * v7 (ix2 r d) := by
  unfold rot2
  rw [rot_at, slice2_at, slice2_at]
theorem one2_at (x : Vec Ideal S4 .f32) : one2 (F := Ideal) x = x (ix1 2) := by
  unfold one2
  exact ld_at _ _ _ _ _ _ fun a => by fin_cases a; rfl
theorem st2_at (sb : Vec Ideal S4x128x256 .f32) (d : Fin 128) (w : Fin 256) : st2 (F := Ideal) sb (ix3 0 d w) = sb (ix3 2 d w) := by
  unfold st2
  refine ld_at _ _ _ _ _ _ fun a => ?_
  match a with
  | ⟨0, _⟩ => rfl
  | ⟨1, _⟩ => show d.val = 0 + d.val; omega
  | ⟨2, _⟩ => show w.val = 0 + w.val; omega

theorem slice3_at (v : FVec Ideal S512x512 .f32) (r : Fin 512) (d : Fin 128) : extractStridedSlice S512x128 ![0, 384] v slices_S512x512_o0_384_S512x128 (ix2 r d) = v (ix2 r ⟨384 + d.val, by omega⟩) := by
  refine congrArg v (funext fun a => Fin.ext ?_)
  match a with
  | ⟨0, _⟩ => show 0 + r.val = r.val; omega
  | ⟨1, _⟩ => show 384 + d.val = 384 + d.val; rfl
theorem rot3_at (v : FVec Ideal S512x512 .f32) (v5 v7 : Vec Ideal S512x128 .f32) (r : Fin 512) (d : Fin 128) :
    rot3 (F := Ideal) v v5 v7 (ix2 r d) = v (ix2 r ⟨384 + d.val, by omega⟩) * v5 (ix2 r d) + v (ix2 r ⟨384 + (d.val + 64) % 128, by omega⟩) * v7 (ix2 r d) := by
  unfold rot3
  rw [rot_at, slice3_at, slice3_at]
theorem one3_at (x : Vec Ideal S4 .f32) : one3 (F := Ideal) x = x (ix1 3) := by
  unfold one3
  exact ld_at _ _ _ _ _ _ fun a => by fin_cases a; rfl
theorem st3_at (sb : Vec Ideal S4x128x256 .f32) (d : Fin 128) (w : Fin 256) : st3 (F := Ideal) sb (ix3 0 d w) = sb (ix3 3 d w) := by
  unfold st3
  refine ld_at _ _ _ _ _ _ fun a => ?_
  match a with
  | ⟨0, _⟩ => rfl
  | ⟨1, _⟩ => show d.val = 0 + d.val; omega
  | ⟨2, _⟩ => show w.val = 0 + w.val; omega

/-- One block's output, when its pieces are a chunk's. -/
theorem attn_o (I : In) (b : Fin 16) (n : Fin 8) (hh : Fin 4) (qc : FVec Ideal S256x128 .f32) (kc : Vec Ideal S1x256x128 .bf16) (vc : Vec Ideal S1x256x256 .bf16) (sf : Vec Ideal S1x1x1x128x256 .bf16)
    (sb : Vec Ideal S1x128x256 .f32) (lf lb : EReal) (hq : ∀ (i : Fin 256) (d : Fin 128), qc (ix2 i d) = I.rope b ⟨256 * n.val + i.val, by omega⟩ hh d)
    (hk : ∀ (j : Fin 256) (d : Fin 128), kc (ix3 0 j d) = I.k b ⟨256 * n.val + j.val, by omega⟩ ⟨128 * hh.val + d.val, by omega⟩)
    (hv : ∀ (j w : Fin 256), vc (ix3 0 j w) = I.v b ⟨256 * n.val + j.val, by omega⟩ ⟨256 * hh.val + w.val, by omega⟩)
    (hsf : ∀ (d : Fin 128) (w : Fin 256), sf (ix5 0 0 0 d w) = I.sf b n hh d w) (hsb : ∀ (d : Fin 128) (w : Fin 256), sb (ix3 0 d w) = I.back b hh d w (7 - n.val))
    (hlf : lf = I.lf hh) (hlb : lb = I.lb hh) (i v : Fin 256) :
    attn (F := Ideal) qc kc vc sf sb lf lb (ix2 i v) = nrm c256 (I.o b n hh i) v := by
  rw [attn_at, hlf, hlb]
  simp only [hq, hk, hv, hsf, hsb]
  rfl

theorem on_eq (I : In) (b : Fin 16) (l : Fin 2048) (e : Fin 1024) (n : Fin 8) (hh : Fin 4) (i v : Fin 256) (hl : l.val = 256 * n.val + i.val) (he : e.val = 256 * hh.val + v.val) :
    I.on b l e = nrm c256 (I.o b n hh i) v := by
  unfold In.on
  have e1 : (⟨l.val / 256, by omega⟩ : Fin 8) = n := Fin.ext (by show l.val / 256 = n.val; omega)
  have e2 : (⟨e.val / 256, by omega⟩ : Fin 4) = hh := Fin.ext (by show e.val / 256 = hh.val; omega)
  have e3 : (⟨l.val % 256, Nat.mod_lt _ (by decide)⟩ : Fin 256) = i := Fin.ext (by show l.val % 256 = i.val; omega)
  have e4 : (⟨e.val % 256, Nat.mod_lt _ (by decide)⟩ : Fin 256) = v := Fin.ext (by show e.val % 256 = v.val; omega)
  rw [e1, e2, e3, e4]

section

variable {I : In} {b : Fin 16} {T : Fin 4} {x0 x1 : Vec Ideal S4 .f32} {x2 : Vec Ideal S1x512x1024 .f32} {x3 : Vec Ideal S1x512x1024 .bf16} {x4 : Vec Ideal S1x512x512 .bf16} {x5 : Vec Ideal S1x512x1024 .bf16}
  {x6 : Vec Ideal S1x2x4x128x256 .bf16} {x7 : Vec Ideal S1x2x4x128x256 .f32} {x8 : Vec Ideal S1x4x128x256 .f32} {x9 : Vec Ideal S1x512x512 .bf16} {x10 : Vec Ideal S1024x512 .bf16} {x11 : Vec Ideal S1024x3072 .bf16}
  {x12 : Vec Ideal S512x1024 .bf16} {x13 x14 : Vec Ideal S1024x1024 .bf16} {x15 : Vec Ideal S1x1024 .f32} {x16 x17 x18 : Vec Ideal S1x1x1024 .f32} {x19 x20 : Vec Ideal S1x1024 .f32} {x22 x23 : Vec Ideal S512x128 .f32}
  (A : At I b T x0 x1 x2 x3 x4 x5 x6 x7 x8 x9 x10 x11 x12 x13 x14 x15 x16 x17 x18 x19 x20 x22 x23)

include A

theorem q_at (r : Fin 512) (c : Fin 512) : k0_pay10 (F := Ideal) x3 x10 (ix2 r c) = I.q b (row T r) c := by
  rw [pay10_at]
  unfold In.q
  simp only [A.h, A.wq]

theorem rope0_at (r : Fin 512) (d : Fin 128) : rot0 (F := Ideal) (k0_pay10 x3 x10) x22 x23 (ix2 r d) = I.rope b (row T r) 0 d := by
  rw [rot0_at, q_at A, q_at A, A.cs, A.sn]
  rfl

/-- A head's state after the point's second chunk, and after both. -/
theorem mid0_at (sb : Vec Ideal S4x128x256 .f32) (hs : ∀ (h : Fin 4) (d : Fin 128) (w : Fin 256), sb (ix3 h d w) = I.back b h d w (6 - 2 * T.val)) (d : Fin 128) (w : Fin 256) :
    mid0 (F := Ideal) x1 x7 sb (ix3 0 d w) = I.back b 0 d w (7 - 2 * T.val) := by
  have hT := T.isLt
  unfold mid0
  have e : 7 - 2 * T.val = 6 - 2 * T.val + 1 := by omega
  rw [upd_at, st0_at, hs, one0_at, A.lb, ld_at x7 _ _ _ _ (ix5 0 1 0 d w) (fun a => by
    match a with
    | ⟨0, _⟩ => rfl
    | ⟨1, _⟩ => rfl
    | ⟨2, _⟩ => rfl
    | ⟨3, _⟩ => show d.val = 0 + d.val; omega
    | ⟨4, _⟩ => show w.val = 0 + w.val; omega), A.ub, e]
  show _ = I.back b 0 d w (6 - 2 * T.val) * Ideal.exp (I.lb 0 * c256) + I.ub b ⟨7 - (6 - 2 * T.val) % 8, _⟩ 0 d w
  have e' : chunk T 1 = ⟨7 - (6 - 2 * T.val) % 8, by omega⟩ := Fin.ext (by show 2 * T.val + 1 = 7 - (6 - 2 * T.val) % 8; omega)
  rw [e']

theorem fin0_at (sb : Vec Ideal S4x128x256 .f32) (hs : ∀ (h : Fin 4) (d : Fin 128) (w : Fin 256), sb (ix3 h d w) = I.back b h d w (6 - 2 * T.val)) (d : Fin 128) (w : Fin 256) :
    fin0 (F := Ideal) x1 x7 sb (ix3 0 d w) = I.back b 0 d w (8 - 2 * T.val) := by
  have hT := T.isLt
  unfold fin0
  have e : 8 - 2 * T.val = 7 - 2 * T.val + 1 := by omega
  rw [upd_at, mid0_at A sb hs, one0_at, A.lb, ld_at x7 _ _ _ _ (ix5 0 0 0 d w) (fun a => by
    match a with
    | ⟨0, _⟩ => rfl
    | ⟨1, _⟩ => rfl
    | ⟨2, _⟩ => rfl
    | ⟨3, _⟩ => show d.val = 0 + d.val; omega
    | ⟨4, _⟩ => show w.val = 0 + w.val; omega), A.ub, e]
  show _ = I.back b 0 d w (7 - 2 * T.val) * Ideal.exp (I.lb 0 * c256) + I.ub b ⟨7 - (7 - 2 * T.val) % 8, _⟩ 0 d w
  have e' : chunk T 0 = ⟨7 - (7 - 2 * T.val) % 8, by omega⟩ := Fin.ext (by show 2 * T.val + 0 = 7 - (7 - 2 * T.val) % 8; omega)
  rw [e']

theorem loB0_at (sb : Vec Ideal S4x128x256 .f32) (hs : ∀ (h : Fin 4) (d : Fin 128) (w : Fin 256), sb (ix3 h d w) = I.back b h d w (6 - 2 * T.val)) (i v : Fin 256) :
    loB0 (F := Ideal) x0 x1 x3 x4 x5 x6 x7 x10 x22 x23 sb (ix2 i v) = nrm c256 (I.o b (chunk T 0) 0 i) v := by
  have hT := T.isLt
  have hrow : ∀ j : Fin 256, row T ⟨0 + j.val, by omega⟩ = ⟨256 * (chunk T 0).val + j.val, by show 256 * (2 * T.val + 0) + j.val < 2048; omega⟩ := fun j =>
    Fin.ext (by show 512 * T.val + (0 + j.val) = 256 * (2 * T.val + 0) + j.val; omega)
  unfold loB0
  refine attn_o I b (chunk T 0) 0 _ _ _ _ _ _ _ (fun i d => ?_) (fun j d => ?_) (fun j w => ?_) (fun d w => ?_) (fun d w => ?_) ?_ ?_ i v
  · rw [lo_at, rope0_at A]
    exact congrArg (fun l => I.rope b l 0 d) ((congrArg (row T) (Fin.ext (by show i.val = 0 + i.val; omega))).trans (hrow i))
  · rw [ld_at x4 _ _ _ _ (ix3 0 ⟨0 + j.val, by omega⟩ ⟨0 + d.val, by omega⟩) (fun a => by
      match a with
      | ⟨0, _⟩ => rfl
      | ⟨1, _⟩ => rfl
      | ⟨2, _⟩ => rfl), A.k, hrow]
    rfl
  · rw [ld_at x5 _ _ _ _ (ix3 0 ⟨0 + j.val, by omega⟩ ⟨0 + w.val, by omega⟩) (fun a => by
      match a with
      | ⟨0, _⟩ => rfl
      | ⟨1, _⟩ => rfl
      | ⟨2, _⟩ => rfl), A.v, hrow]
    rfl
  · rw [ld_at x6 _ _ _ _ (ix5 0 0 0 d w) (fun a => by
      match a with
      | ⟨0, _⟩ => rfl
      | ⟨1, _⟩ => rfl
      | ⟨2, _⟩ => rfl
      | ⟨3, _⟩ => show d.val = 0 + d.val; omega
      | ⟨4, _⟩ => show w.val = 0 + w.val; omega), A.sf]
  · exact (mid0_at A sb hs d w).trans (congrArg (I.back b 0 d w) (by show 7 - 2 * T.val = 7 - (2 * T.val + 0); omega))
  · rw [one0_at, A.lf]
  · rw [one0_at, A.lb]

theorem hiB0_at (sb : Vec Ideal S4x128x256 .f32) (hs : ∀ (h : Fin 4) (d : Fin 128) (w : Fin 256), sb (ix3 h d w) = I.back b h d w (6 - 2 * T.val)) (i v : Fin 256) :
    hiB0 (F := Ideal) x0 x1 x3 x4 x5 x6 x10 x22 x23 sb (ix2 i v) = nrm c256 (I.o b (chunk T 1) 0 i) v := by
  have hT := T.isLt
  have hrow : ∀ j : Fin 256, row T ⟨256 + j.val, by omega⟩ = ⟨256 * (chunk T 1).val + j.val, by show 256 * (2 * T.val + 1) + j.val < 2048; omega⟩ := fun j =>
    Fin.ext (by show 512 * T.val + (256 + j.val) = 256 * (2 * T.val + 1) + j.val; omega)
  unfold hiB0
  refine attn_o I b (chunk T 1) 0 _ _ _ _ _ _ _ (fun i d => ?_) (fun j d => ?_) (fun j w => ?_) (fun d w => ?_) (fun d w => ?_) ?_ ?_ i v
  · rw [hi_at, rope0_at A]
    exact congrArg (fun l => I.rope b l 0 d) (hrow i)
  · rw [ld_at x4 _ _ _ _ (ix3 0 ⟨256 + j.val, by omega⟩ ⟨0 + d.val, by omega⟩) (fun a => by
      match a with
      | ⟨0, _⟩ => rfl
      | ⟨1, _⟩ => rfl
      | ⟨2, _⟩ => rfl), A.k, hrow]
    rfl
  · rw [ld_at x5 _ _ _ _ (ix3 0 ⟨256 + j.val, by omega⟩ ⟨0 + w.val, by omega⟩) (fun a => by
      match a with
      | ⟨0, _⟩ => rfl
      | ⟨1, _⟩ => rfl
      | ⟨2, _⟩ => rfl), A.v, hrow]
    rfl
  · rw [ld_at x6 _ _ _ _ (ix5 0 1 0 d w) (fun a => by
      match a with
      | ⟨0, _⟩ => rfl
      | ⟨1, _⟩ => rfl
      | ⟨2, _⟩ => rfl
      | ⟨3, _⟩ => show d.val = 0 + d.val; omega
      | ⟨4, _⟩ => show w.val = 0 + w.val; omega), A.sf]
  · exact (st0_at sb d w).trans ((hs 0 d w).trans (congrArg (I.back b 0 d w) (by show 6 - 2 * T.val = 7 - (2 * T.val + 1); omega)))
  · rw [one0_at, A.lf]
  · rw [one0_at, A.lb]

theorem rope1_at (r : Fin 512) (d : Fin 128) : rot1 (F := Ideal) (k0_pay10 x3 x10) x22 x23 (ix2 r d) = I.rope b (row T r) 1 d := by
  rw [rot1_at, q_at A, q_at A, A.cs, A.sn]
  rfl

/-- A head's state after the point's second chunk, and after both. -/
theorem mid1_at (sb : Vec Ideal S4x128x256 .f32) (hs : ∀ (h : Fin 4) (d : Fin 128) (w : Fin 256), sb (ix3 h d w) = I.back b h d w (6 - 2 * T.val)) (d : Fin 128) (w : Fin 256) :
    mid1 (F := Ideal) x1 x7 sb (ix3 0 d w) = I.back b 1 d w (7 - 2 * T.val) := by
  have hT := T.isLt
  unfold mid1
  have e : 7 - 2 * T.val = 6 - 2 * T.val + 1 := by omega
  rw [upd_at, st1_at, hs, one1_at, A.lb, ld_at x7 _ _ _ _ (ix5 0 1 1 d w) (fun a => by
    match a with
    | ⟨0, _⟩ => rfl
    | ⟨1, _⟩ => rfl
    | ⟨2, _⟩ => rfl
    | ⟨3, _⟩ => show d.val = 0 + d.val; omega
    | ⟨4, _⟩ => show w.val = 0 + w.val; omega), A.ub, e]
  show _ = I.back b 1 d w (6 - 2 * T.val) * Ideal.exp (I.lb 1 * c256) + I.ub b ⟨7 - (6 - 2 * T.val) % 8, _⟩ 1 d w
  have e' : chunk T 1 = ⟨7 - (6 - 2 * T.val) % 8, by omega⟩ := Fin.ext (by show 2 * T.val + 1 = 7 - (6 - 2 * T.val) % 8; omega)
  rw [e']

theorem fin1_at (sb : Vec Ideal S4x128x256 .f32) (hs : ∀ (h : Fin 4) (d : Fin 128) (w : Fin 256), sb (ix3 h d w) = I.back b h d w (6 - 2 * T.val)) (d : Fin 128) (w : Fin 256) :
    fin1 (F := Ideal) x1 x7 sb (ix3 0 d w) = I.back b 1 d w (8 - 2 * T.val) := by
  have hT := T.isLt
  unfold fin1
  have e : 8 - 2 * T.val = 7 - 2 * T.val + 1 := by omega
  rw [upd_at, mid1_at A sb hs, one1_at, A.lb, ld_at x7 _ _ _ _ (ix5 0 0 1 d w) (fun a => by
    match a with
    | ⟨0, _⟩ => rfl
    | ⟨1, _⟩ => rfl
    | ⟨2, _⟩ => rfl
    | ⟨3, _⟩ => show d.val = 0 + d.val; omega
    | ⟨4, _⟩ => show w.val = 0 + w.val; omega), A.ub, e]
  show _ = I.back b 1 d w (7 - 2 * T.val) * Ideal.exp (I.lb 1 * c256) + I.ub b ⟨7 - (7 - 2 * T.val) % 8, _⟩ 1 d w
  have e' : chunk T 0 = ⟨7 - (7 - 2 * T.val) % 8, by omega⟩ := Fin.ext (by show 2 * T.val + 0 = 7 - (7 - 2 * T.val) % 8; omega)
  rw [e']

theorem loB1_at (sb : Vec Ideal S4x128x256 .f32) (hs : ∀ (h : Fin 4) (d : Fin 128) (w : Fin 256), sb (ix3 h d w) = I.back b h d w (6 - 2 * T.val)) (i v : Fin 256) :
    loB1 (F := Ideal) x0 x1 x3 x4 x5 x6 x7 x10 x22 x23 sb (ix2 i v) = nrm c256 (I.o b (chunk T 0) 1 i) v := by
  have hT := T.isLt
  have hrow : ∀ j : Fin 256, row T ⟨0 + j.val, by omega⟩ = ⟨256 * (chunk T 0).val + j.val, by show 256 * (2 * T.val + 0) + j.val < 2048; omega⟩ := fun j =>
    Fin.ext (by show 512 * T.val + (0 + j.val) = 256 * (2 * T.val + 0) + j.val; omega)
  unfold loB1
  refine attn_o I b (chunk T 0) 1 _ _ _ _ _ _ _ (fun i d => ?_) (fun j d => ?_) (fun j w => ?_) (fun d w => ?_) (fun d w => ?_) ?_ ?_ i v
  · rw [lo_at, rope1_at A]
    exact congrArg (fun l => I.rope b l 1 d) ((congrArg (row T) (Fin.ext (by show i.val = 0 + i.val; omega))).trans (hrow i))
  · rw [ld_at x4 _ _ _ _ (ix3 0 ⟨0 + j.val, by omega⟩ ⟨128 + d.val, by omega⟩) (fun a => by
      match a with
      | ⟨0, _⟩ => rfl
      | ⟨1, _⟩ => rfl
      | ⟨2, _⟩ => rfl), A.k, hrow]
    rfl
  · rw [ld_at x5 _ _ _ _ (ix3 0 ⟨0 + j.val, by omega⟩ ⟨256 + w.val, by omega⟩) (fun a => by
      match a with
      | ⟨0, _⟩ => rfl
      | ⟨1, _⟩ => rfl
      | ⟨2, _⟩ => rfl), A.v, hrow]
    rfl
  · rw [ld_at x6 _ _ _ _ (ix5 0 0 1 d w) (fun a => by
      match a with
      | ⟨0, _⟩ => rfl
      | ⟨1, _⟩ => rfl
      | ⟨2, _⟩ => rfl
      | ⟨3, _⟩ => show d.val = 0 + d.val; omega
      | ⟨4, _⟩ => show w.val = 0 + w.val; omega), A.sf]
  · exact (mid1_at A sb hs d w).trans (congrArg (I.back b 1 d w) (by show 7 - 2 * T.val = 7 - (2 * T.val + 0); omega))
  · rw [one1_at, A.lf]
  · rw [one1_at, A.lb]

theorem hiB1_at (sb : Vec Ideal S4x128x256 .f32) (hs : ∀ (h : Fin 4) (d : Fin 128) (w : Fin 256), sb (ix3 h d w) = I.back b h d w (6 - 2 * T.val)) (i v : Fin 256) :
    hiB1 (F := Ideal) x0 x1 x3 x4 x5 x6 x10 x22 x23 sb (ix2 i v) = nrm c256 (I.o b (chunk T 1) 1 i) v := by
  have hT := T.isLt
  have hrow : ∀ j : Fin 256, row T ⟨256 + j.val, by omega⟩ = ⟨256 * (chunk T 1).val + j.val, by show 256 * (2 * T.val + 1) + j.val < 2048; omega⟩ := fun j =>
    Fin.ext (by show 512 * T.val + (256 + j.val) = 256 * (2 * T.val + 1) + j.val; omega)
  unfold hiB1
  refine attn_o I b (chunk T 1) 1 _ _ _ _ _ _ _ (fun i d => ?_) (fun j d => ?_) (fun j w => ?_) (fun d w => ?_) (fun d w => ?_) ?_ ?_ i v
  · rw [hi_at, rope1_at A]
    exact congrArg (fun l => I.rope b l 1 d) (hrow i)
  · rw [ld_at x4 _ _ _ _ (ix3 0 ⟨256 + j.val, by omega⟩ ⟨128 + d.val, by omega⟩) (fun a => by
      match a with
      | ⟨0, _⟩ => rfl
      | ⟨1, _⟩ => rfl
      | ⟨2, _⟩ => rfl), A.k, hrow]
    rfl
  · rw [ld_at x5 _ _ _ _ (ix3 0 ⟨256 + j.val, by omega⟩ ⟨256 + w.val, by omega⟩) (fun a => by
      match a with
      | ⟨0, _⟩ => rfl
      | ⟨1, _⟩ => rfl
      | ⟨2, _⟩ => rfl), A.v, hrow]
    rfl
  · rw [ld_at x6 _ _ _ _ (ix5 0 1 1 d w) (fun a => by
      match a with
      | ⟨0, _⟩ => rfl
      | ⟨1, _⟩ => rfl
      | ⟨2, _⟩ => rfl
      | ⟨3, _⟩ => show d.val = 0 + d.val; omega
      | ⟨4, _⟩ => show w.val = 0 + w.val; omega), A.sf]
  · exact (st1_at sb d w).trans ((hs 1 d w).trans (congrArg (I.back b 1 d w) (by show 6 - 2 * T.val = 7 - (2 * T.val + 1); omega)))
  · rw [one1_at, A.lf]
  · rw [one1_at, A.lb]

theorem rope2_at (r : Fin 512) (d : Fin 128) : rot2 (F := Ideal) (k0_pay10 x3 x10) x22 x23 (ix2 r d) = I.rope b (row T r) 2 d := by
  rw [rot2_at, q_at A, q_at A, A.cs, A.sn]
  rfl

/-- A head's state after the point's second chunk, and after both. -/
theorem mid2_at (sb : Vec Ideal S4x128x256 .f32) (hs : ∀ (h : Fin 4) (d : Fin 128) (w : Fin 256), sb (ix3 h d w) = I.back b h d w (6 - 2 * T.val)) (d : Fin 128) (w : Fin 256) :
    mid2 (F := Ideal) x1 x7 sb (ix3 0 d w) = I.back b 2 d w (7 - 2 * T.val) := by
  have hT := T.isLt
  unfold mid2
  have e : 7 - 2 * T.val = 6 - 2 * T.val + 1 := by omega
  rw [upd_at, st2_at, hs, one2_at, A.lb, ld_at x7 _ _ _ _ (ix5 0 1 2 d w) (fun a => by
    match a with
    | ⟨0, _⟩ => rfl
    | ⟨1, _⟩ => rfl
    | ⟨2, _⟩ => rfl
    | ⟨3, _⟩ => show d.val = 0 + d.val; omega
    | ⟨4, _⟩ => show w.val = 0 + w.val; omega), A.ub, e]
  show _ = I.back b 2 d w (6 - 2 * T.val) * Ideal.exp (I.lb 2 * c256) + I.ub b ⟨7 - (6 - 2 * T.val) % 8, _⟩ 2 d w
  have e' : chunk T 1 = ⟨7 - (6 - 2 * T.val) % 8, by omega⟩ := Fin.ext (by show 2 * T.val + 1 = 7 - (6 - 2 * T.val) % 8; omega)
  rw [e']

theorem fin2_at (sb : Vec Ideal S4x128x256 .f32) (hs : ∀ (h : Fin 4) (d : Fin 128) (w : Fin 256), sb (ix3 h d w) = I.back b h d w (6 - 2 * T.val)) (d : Fin 128) (w : Fin 256) :
    fin2 (F := Ideal) x1 x7 sb (ix3 0 d w) = I.back b 2 d w (8 - 2 * T.val) := by
  have hT := T.isLt
  unfold fin2
  have e : 8 - 2 * T.val = 7 - 2 * T.val + 1 := by omega
  rw [upd_at, mid2_at A sb hs, one2_at, A.lb, ld_at x7 _ _ _ _ (ix5 0 0 2 d w) (fun a => by
    match a with
    | ⟨0, _⟩ => rfl
    | ⟨1, _⟩ => rfl
    | ⟨2, _⟩ => rfl
    | ⟨3, _⟩ => show d.val = 0 + d.val; omega
    | ⟨4, _⟩ => show w.val = 0 + w.val; omega), A.ub, e]
  show _ = I.back b 2 d w (7 - 2 * T.val) * Ideal.exp (I.lb 2 * c256) + I.ub b ⟨7 - (7 - 2 * T.val) % 8, _⟩ 2 d w
  have e' : chunk T 0 = ⟨7 - (7 - 2 * T.val) % 8, by omega⟩ := Fin.ext (by show 2 * T.val + 0 = 7 - (7 - 2 * T.val) % 8; omega)
  rw [e']

theorem loB2_at (sb : Vec Ideal S4x128x256 .f32) (hs : ∀ (h : Fin 4) (d : Fin 128) (w : Fin 256), sb (ix3 h d w) = I.back b h d w (6 - 2 * T.val)) (i v : Fin 256) :
    loB2 (F := Ideal) x0 x1 x3 x4 x5 x6 x7 x10 x22 x23 sb (ix2 i v) = nrm c256 (I.o b (chunk T 0) 2 i) v := by
  have hT := T.isLt
  have hrow : ∀ j : Fin 256, row T ⟨0 + j.val, by omega⟩ = ⟨256 * (chunk T 0).val + j.val, by show 256 * (2 * T.val + 0) + j.val < 2048; omega⟩ := fun j =>
    Fin.ext (by show 512 * T.val + (0 + j.val) = 256 * (2 * T.val + 0) + j.val; omega)
  unfold loB2
  refine attn_o I b (chunk T 0) 2 _ _ _ _ _ _ _ (fun i d => ?_) (fun j d => ?_) (fun j w => ?_) (fun d w => ?_) (fun d w => ?_) ?_ ?_ i v
  · rw [lo_at, rope2_at A]
    exact congrArg (fun l => I.rope b l 2 d) ((congrArg (row T) (Fin.ext (by show i.val = 0 + i.val; omega))).trans (hrow i))
  · rw [ld_at x4 _ _ _ _ (ix3 0 ⟨0 + j.val, by omega⟩ ⟨256 + d.val, by omega⟩) (fun a => by
      match a with
      | ⟨0, _⟩ => rfl
      | ⟨1, _⟩ => rfl
      | ⟨2, _⟩ => rfl), A.k, hrow]
    rfl
  · rw [ld_at x5 _ _ _ _ (ix3 0 ⟨0 + j.val, by omega⟩ ⟨512 + w.val, by omega⟩) (fun a => by
      match a with
      | ⟨0, _⟩ => rfl
      | ⟨1, _⟩ => rfl
      | ⟨2, _⟩ => rfl), A.v, hrow]
    rfl
  · rw [ld_at x6 _ _ _ _ (ix5 0 0 2 d w) (fun a => by
      match a with
      | ⟨0, _⟩ => rfl
      | ⟨1, _⟩ => rfl
      | ⟨2, _⟩ => rfl
      | ⟨3, _⟩ => show d.val = 0 + d.val; omega
      | ⟨4, _⟩ => show w.val = 0 + w.val; omega), A.sf]
  · exact (mid2_at A sb hs d w).trans (congrArg (I.back b 2 d w) (by show 7 - 2 * T.val = 7 - (2 * T.val + 0); omega))
  · rw [one2_at, A.lf]
  · rw [one2_at, A.lb]

theorem hiB2_at (sb : Vec Ideal S4x128x256 .f32) (hs : ∀ (h : Fin 4) (d : Fin 128) (w : Fin 256), sb (ix3 h d w) = I.back b h d w (6 - 2 * T.val)) (i v : Fin 256) :
    hiB2 (F := Ideal) x0 x1 x3 x4 x5 x6 x10 x22 x23 sb (ix2 i v) = nrm c256 (I.o b (chunk T 1) 2 i) v := by
  have hT := T.isLt
  have hrow : ∀ j : Fin 256, row T ⟨256 + j.val, by omega⟩ = ⟨256 * (chunk T 1).val + j.val, by show 256 * (2 * T.val + 1) + j.val < 2048; omega⟩ := fun j =>
    Fin.ext (by show 512 * T.val + (256 + j.val) = 256 * (2 * T.val + 1) + j.val; omega)
  unfold hiB2
  refine attn_o I b (chunk T 1) 2 _ _ _ _ _ _ _ (fun i d => ?_) (fun j d => ?_) (fun j w => ?_) (fun d w => ?_) (fun d w => ?_) ?_ ?_ i v
  · rw [hi_at, rope2_at A]
    exact congrArg (fun l => I.rope b l 2 d) (hrow i)
  · rw [ld_at x4 _ _ _ _ (ix3 0 ⟨256 + j.val, by omega⟩ ⟨256 + d.val, by omega⟩) (fun a => by
      match a with
      | ⟨0, _⟩ => rfl
      | ⟨1, _⟩ => rfl
      | ⟨2, _⟩ => rfl), A.k, hrow]
    rfl
  · rw [ld_at x5 _ _ _ _ (ix3 0 ⟨256 + j.val, by omega⟩ ⟨512 + w.val, by omega⟩) (fun a => by
      match a with
      | ⟨0, _⟩ => rfl
      | ⟨1, _⟩ => rfl
      | ⟨2, _⟩ => rfl), A.v, hrow]
    rfl
  · rw [ld_at x6 _ _ _ _ (ix5 0 1 2 d w) (fun a => by
      match a with
      | ⟨0, _⟩ => rfl
      | ⟨1, _⟩ => rfl
      | ⟨2, _⟩ => rfl
      | ⟨3, _⟩ => show d.val = 0 + d.val; omega
      | ⟨4, _⟩ => show w.val = 0 + w.val; omega), A.sf]
  · exact (st2_at sb d w).trans ((hs 2 d w).trans (congrArg (I.back b 2 d w) (by show 6 - 2 * T.val = 7 - (2 * T.val + 1); omega)))
  · rw [one2_at, A.lf]
  · rw [one2_at, A.lb]

theorem rope3_at (r : Fin 512) (d : Fin 128) : rot3 (F := Ideal) (k0_pay10 x3 x10) x22 x23 (ix2 r d) = I.rope b (row T r) 3 d := by
  rw [rot3_at, q_at A, q_at A, A.cs, A.sn]
  rfl

/-- A head's state after the point's second chunk, and after both. -/
theorem mid3_at (sb : Vec Ideal S4x128x256 .f32) (hs : ∀ (h : Fin 4) (d : Fin 128) (w : Fin 256), sb (ix3 h d w) = I.back b h d w (6 - 2 * T.val)) (d : Fin 128) (w : Fin 256) :
    mid3 (F := Ideal) x1 x7 sb (ix3 0 d w) = I.back b 3 d w (7 - 2 * T.val) := by
  have hT := T.isLt
  unfold mid3
  have e : 7 - 2 * T.val = 6 - 2 * T.val + 1 := by omega
  rw [upd_at, st3_at, hs, one3_at, A.lb, ld_at x7 _ _ _ _ (ix5 0 1 3 d w) (fun a => by
    match a with
    | ⟨0, _⟩ => rfl
    | ⟨1, _⟩ => rfl
    | ⟨2, _⟩ => rfl
    | ⟨3, _⟩ => show d.val = 0 + d.val; omega
    | ⟨4, _⟩ => show w.val = 0 + w.val; omega), A.ub, e]
  show _ = I.back b 3 d w (6 - 2 * T.val) * Ideal.exp (I.lb 3 * c256) + I.ub b ⟨7 - (6 - 2 * T.val) % 8, _⟩ 3 d w
  have e' : chunk T 1 = ⟨7 - (6 - 2 * T.val) % 8, by omega⟩ := Fin.ext (by show 2 * T.val + 1 = 7 - (6 - 2 * T.val) % 8; omega)
  rw [e']

theorem fin3_at (sb : Vec Ideal S4x128x256 .f32) (hs : ∀ (h : Fin 4) (d : Fin 128) (w : Fin 256), sb (ix3 h d w) = I.back b h d w (6 - 2 * T.val)) (d : Fin 128) (w : Fin 256) :
    fin3 (F := Ideal) x1 x7 sb (ix3 0 d w) = I.back b 3 d w (8 - 2 * T.val) := by
  have hT := T.isLt
  unfold fin3
  have e : 8 - 2 * T.val = 7 - 2 * T.val + 1 := by omega
  rw [upd_at, mid3_at A sb hs, one3_at, A.lb, ld_at x7 _ _ _ _ (ix5 0 0 3 d w) (fun a => by
    match a with
    | ⟨0, _⟩ => rfl
    | ⟨1, _⟩ => rfl
    | ⟨2, _⟩ => rfl
    | ⟨3, _⟩ => show d.val = 0 + d.val; omega
    | ⟨4, _⟩ => show w.val = 0 + w.val; omega), A.ub, e]
  show _ = I.back b 3 d w (7 - 2 * T.val) * Ideal.exp (I.lb 3 * c256) + I.ub b ⟨7 - (7 - 2 * T.val) % 8, _⟩ 3 d w
  have e' : chunk T 0 = ⟨7 - (7 - 2 * T.val) % 8, by omega⟩ := Fin.ext (by show 2 * T.val + 0 = 7 - (7 - 2 * T.val) % 8; omega)
  rw [e']

theorem loB3_at (sb : Vec Ideal S4x128x256 .f32) (hs : ∀ (h : Fin 4) (d : Fin 128) (w : Fin 256), sb (ix3 h d w) = I.back b h d w (6 - 2 * T.val)) (i v : Fin 256) :
    loB3 (F := Ideal) x0 x1 x3 x4 x5 x6 x7 x10 x22 x23 sb (ix2 i v) = nrm c256 (I.o b (chunk T 0) 3 i) v := by
  have hT := T.isLt
  have hrow : ∀ j : Fin 256, row T ⟨0 + j.val, by omega⟩ = ⟨256 * (chunk T 0).val + j.val, by show 256 * (2 * T.val + 0) + j.val < 2048; omega⟩ := fun j =>
    Fin.ext (by show 512 * T.val + (0 + j.val) = 256 * (2 * T.val + 0) + j.val; omega)
  unfold loB3
  refine attn_o I b (chunk T 0) 3 _ _ _ _ _ _ _ (fun i d => ?_) (fun j d => ?_) (fun j w => ?_) (fun d w => ?_) (fun d w => ?_) ?_ ?_ i v
  · rw [lo_at, rope3_at A]
    exact congrArg (fun l => I.rope b l 3 d) ((congrArg (row T) (Fin.ext (by show i.val = 0 + i.val; omega))).trans (hrow i))
  · rw [ld_at x4 _ _ _ _ (ix3 0 ⟨0 + j.val, by omega⟩ ⟨384 + d.val, by omega⟩) (fun a => by
      match a with
      | ⟨0, _⟩ => rfl
      | ⟨1, _⟩ => rfl
      | ⟨2, _⟩ => rfl), A.k, hrow]
    rfl
  · rw [ld_at x5 _ _ _ _ (ix3 0 ⟨0 + j.val, by omega⟩ ⟨768 + w.val, by omega⟩) (fun a => by
      match a with
      | ⟨0, _⟩ => rfl
      | ⟨1, _⟩ => rfl
      | ⟨2, _⟩ => rfl), A.v, hrow]
    rfl
  · rw [ld_at x6 _ _ _ _ (ix5 0 0 3 d w) (fun a => by
      match a with
      | ⟨0, _⟩ => rfl
      | ⟨1, _⟩ => rfl
      | ⟨2, _⟩ => rfl
      | ⟨3, _⟩ => show d.val = 0 + d.val; omega
      | ⟨4, _⟩ => show w.val = 0 + w.val; omega), A.sf]
  · exact (mid3_at A sb hs d w).trans (congrArg (I.back b 3 d w) (by show 7 - 2 * T.val = 7 - (2 * T.val + 0); omega))
  · rw [one3_at, A.lf]
  · rw [one3_at, A.lb]

theorem hiB3_at (sb : Vec Ideal S4x128x256 .f32) (hs : ∀ (h : Fin 4) (d : Fin 128) (w : Fin 256), sb (ix3 h d w) = I.back b h d w (6 - 2 * T.val)) (i v : Fin 256) :
    hiB3 (F := Ideal) x0 x1 x3 x4 x5 x6 x10 x22 x23 sb (ix2 i v) = nrm c256 (I.o b (chunk T 1) 3 i) v := by
  have hT := T.isLt
  have hrow : ∀ j : Fin 256, row T ⟨256 + j.val, by omega⟩ = ⟨256 * (chunk T 1).val + j.val, by show 256 * (2 * T.val + 1) + j.val < 2048; omega⟩ := fun j =>
    Fin.ext (by show 512 * T.val + (256 + j.val) = 256 * (2 * T.val + 1) + j.val; omega)
  unfold hiB3
  refine attn_o I b (chunk T 1) 3 _ _ _ _ _ _ _ (fun i d => ?_) (fun j d => ?_) (fun j w => ?_) (fun d w => ?_) (fun d w => ?_) ?_ ?_ i v
  · rw [hi_at, rope3_at A]
    exact congrArg (fun l => I.rope b l 3 d) (hrow i)
  · rw [ld_at x4 _ _ _ _ (ix3 0 ⟨256 + j.val, by omega⟩ ⟨384 + d.val, by omega⟩) (fun a => by
      match a with
      | ⟨0, _⟩ => rfl
      | ⟨1, _⟩ => rfl
      | ⟨2, _⟩ => rfl), A.k, hrow]
    rfl
  · rw [ld_at x5 _ _ _ _ (ix3 0 ⟨256 + j.val, by omega⟩ ⟨768 + w.val, by omega⟩) (fun a => by
      match a with
      | ⟨0, _⟩ => rfl
      | ⟨1, _⟩ => rfl
      | ⟨2, _⟩ => rfl), A.v, hrow]
    rfl
  · rw [ld_at x6 _ _ _ _ (ix5 0 1 3 d w) (fun a => by
      match a with
      | ⟨0, _⟩ => rfl
      | ⟨1, _⟩ => rfl
      | ⟨2, _⟩ => rfl
      | ⟨3, _⟩ => show d.val = 0 + d.val; omega
      | ⟨4, _⟩ => show w.val = 0 + w.val; omega), A.sf]
  · exact (st3_at sb d w).trans ((hs 3 d w).trans (congrArg (I.back b 3 d w) (by show 6 - 2 * T.val = 7 - (2 * T.val + 1); omega)))
  · rw [one3_at, A.lf]
  · rw [one3_at, A.lb]

end

end Cert.Proof.Mix

end
-- ==== Proof.Mix.Arrays.lean ====
/-
  The arrays the mixer's grid points are given, read off the arguments.
-/
module

public import proofs.«01_k».proof.Proof.Mix.Value
public import proofs.«01_k».proof.Proof.Mix.BlockVal

@[expose] public section

set_option maxRecDepth 16384
set_option maxHeartbeats 4000000

noncomputable section

namespace Cert.Proof.Mix

open Cert.Kernel3Ideal Cert.Kernel3Ideal.Gen
open Idealize.ShloMosaic Idealize.ShloMosaic.TcCoe Idealize.SL.Sem Idealize.ShloMosaic.Pointwise

variable {F : FTy → Type} [FloatOps F]
variable (m : (ℓ : Loc nD τ sig) → Buf (Elt F) ℓ)

/-! ## The arrays prepared before the call -/

/-- The reordered query columns, counted from the first query column. -/
def order : IVec S512x1 32 :=
  broadcastInDim S512x1 ![0] bcast_S512_S512x1_0 (select (constantI S512 1 0#1)
    (addi (fun i => lit0 (S512.rowMajor i)) (broadcastInDim S512 ![] bcast_S_S512 (constantI S_ 32 512#32)))
    (fun i => lit0 (S512.rowMajor i)))

/-- The query columns of the input projection, reordered. -/
def wq (w : Vec F S1x1024x6144 .f32) : Vec F S1024x512 .bf16 :=
  truncf .bf16 (Host.gather gather_S1024x512_S512x1_S1024x512_0_1_n_n_1_1_10241
    (extractStridedSlice S1024x512 ![0, 1024] (shapeCast S1024x6144 w shapeCasts_S1x1024x6144_S1024x6144) slices_S1024x6144_S1024x512_0_1024) order) bitsLt_bf16_f32

/-- The gates' columns of the input projection. -/
def wg (w : Vec F S1x1024x6144 .f32) : Vec F S1024x3072 .bf16 :=
  truncf .bf16 (extractStridedSlice S1024x3072 ![0, 3072] (shapeCast S1024x6144 w shapeCasts_S1x1024x6144_S1024x6144) slices_S1024x6144_S1024x3072_0_3072) bitsLt_bf16_f32

/-- The cosines twice, and the sines negated and plain. -/
def cos2 (x : Vec F S2048x64 .f32) : Vec F S2048x128 .f32 :=
  concatenate S2048x128 1 [⟨S2048x64, x⟩, ⟨S2048x64, x⟩] concatenates_S2048x64_S2048x64_S2048x128_d1
@[inherit_doc cos2] def sin2 (x : Vec F S2048x64 .f32) : Vec F S2048x128 .f32 :=
  concatenate S2048x128 1 [⟨S2048x64, Host.negf x⟩, ⟨S2048x64, x⟩] concatenates_S2048x64_S2048x64_S2048x128_d1

/-- A stack of one weight, cast. -/
def w512 (x : Vec F S1x512x1024 .f32) : Vec F S512x1024 .bf16 := truncf .bf16 (shapeCast S512x1024 x shapeCasts_S1x512x1024_S512x1024) bitsLt_bf16_f32
@[inherit_doc w512] def w1024 (x : Vec F S1x1024x1024 .f32) : Vec F S1024x1024 .bf16 := truncf .bf16 (shapeCast S1024x1024 x shapeCasts_S1x1024x1024_S1024x1024) bitsLt_bf16_f32

/-- The decays as a vector, and a row taken apart and put back. -/
def vec4 (x : Vec F S1x4 .f32) : Vec F S4 .f32 := shapeCast S4 x shapeCasts_S1x4_S4
@[inherit_doc vec4] def row1 (x : Vec F S1x1024 .f32) : Vec F S1x1024 .f32 := shapeCast S1x1024 (shapeCast S1024 x shapeCasts_S1x1024_S1024) shapeCasts_S1024_S1x1024

theorem V_main_v7 (c : Dev nD) : V m c main_v7 = wq (F := F) (m ((c : Thread nD τ).loc main_arg12)) := by
  dsimp only [V, hostOps0, List.flatten_cons, List.flatten_nil, List.append_nil]; after_results <;> rfl
theorem V_main_v9 (c : Dev nD) : V m c main_v9 = wg (F := F) (m ((c : Thread nD τ).loc main_arg12)) := by
  dsimp only [V, hostOps0, List.flatten_cons, List.flatten_nil, List.append_nil]; after_results <;> rfl
theorem V_main_v10 (c : Dev nD) : V m c main_v10 = cos2 (F := F) (m ((c : Thread nD τ).loc main_arg2)) := by
  dsimp only [V, hostOps0, List.flatten_cons, List.flatten_nil, List.append_nil]; after_results <;> rfl
theorem V_main_v12 (c : Dev nD) : V m c main_v12 = sin2 (F := F) (m ((c : Thread nD τ).loc main_arg3)) := by
  dsimp only [V, hostOps0, List.flatten_cons, List.flatten_nil, List.append_nil]; after_results <;> rfl
theorem V_main_v14 (c : Dev nD) : V m c main_v14 = w512 (F := F) (m ((c : Thread nD τ).loc main_arg13)) := by
  dsimp only [V, hostOps0, List.flatten_cons, List.flatten_nil, List.append_nil]; after_results <;> rfl
theorem V_main_v16 (c : Dev nD) : V m c main_v16 = w1024 (F := F) (m ((c : Thread nD τ).loc main_arg14)) := by
  dsimp only [V, hostOps0, List.flatten_cons, List.flatten_nil, List.append_nil]; after_results <;> rfl
theorem V_main_v18 (c : Dev nD) : V m c main_v18 = w1024 (F := F) (m ((c : Thread nD τ).loc main_arg15)) := by
  dsimp only [V, hostOps0, List.flatten_cons, List.flatten_nil, List.append_nil]; after_results <;> rfl
theorem V_main_v19 (c : Dev nD) : V m c main_v19 = vec4 (F := F) (m ((c : Thread nD τ).loc main_arg0)) := by
  dsimp only [V, hostOps0, List.flatten_cons, List.flatten_nil, List.append_nil]; after_results <;> rfl
theorem V_main_v20 (c : Dev nD) : V m c main_v20 = vec4 (F := F) (m ((c : Thread nD τ).loc main_arg1)) := by
  dsimp only [V, hostOps0, List.flatten_cons, List.flatten_nil, List.append_nil]; after_results <;> rfl
theorem V_main_v22 (c : Dev nD) : V m c main_v22 = row1 (F := F) (m ((c : Thread nD τ).loc main_arg16)) := by
  dsimp only [V, hostOps0, List.flatten_cons, List.flatten_nil, List.append_nil]; after_results <;> rfl
theorem V_main_v24 (c : Dev nD) : V m c main_v24 = row1 (F := F) (m ((c : Thread nD τ).loc main_arg20)) := by
  dsimp only [V, hostOps0, List.flatten_cons, List.flatten_nil, List.append_nil]; after_results <;> rfl
theorem V_main_v26 (c : Dev nD) : V m c main_v26 = row1 (F := F) (m ((c : Thread nD τ).loc main_arg21)) := by
  dsimp only [V, hostOps0, List.flatten_cons, List.flatten_nil, List.append_nil]; after_results <;> rfl

/-! ## Where each window's block is at a point -/

theorem at0 : ∀ t : Fin cfg0.N, win0_0.index t (0 : Fin 1) = 0 :=
  (by decide +kernel : ∀ t : Fin grid0.N, _)
theorem at1 : ∀ t : Fin cfg0.N, win0_1.index t (0 : Fin 1) = 0 :=
  (by decide +kernel : ∀ t : Fin grid0.N, _)
theorem at2 : ∀ t : Fin cfg0.N, win0_2.index t (0 : Fin 3) = t.val / 4 ∧ win0_2.index t (1 : Fin 3) = 3 - t.val % 4 ∧ win0_2.index t (2 : Fin 3) = 0 :=
  (by decide +kernel : ∀ t : Fin grid0.N, _)
theorem at3 : ∀ t : Fin cfg0.N, win0_3.index t (0 : Fin 3) = t.val / 4 ∧ win0_3.index t (1 : Fin 3) = 3 - t.val % 4 ∧ win0_3.index t (2 : Fin 3) = 0 :=
  (by decide +kernel : ∀ t : Fin grid0.N, _)
theorem at4 : ∀ t : Fin cfg0.N, win0_4.index t (0 : Fin 3) = t.val / 4 ∧ win0_4.index t (1 : Fin 3) = 3 - t.val % 4 ∧ win0_4.index t (2 : Fin 3) = 0 :=
  (by decide +kernel : ∀ t : Fin grid0.N, _)
theorem at5 : ∀ t : Fin cfg0.N, win0_5.index t (0 : Fin 3) = t.val / 4 ∧ win0_5.index t (1 : Fin 3) = 3 - t.val % 4 ∧ win0_5.index t (2 : Fin 3) = 0 :=
  (by decide +kernel : ∀ t : Fin grid0.N, _)
theorem at6 : ∀ t : Fin cfg0.N, win0_6.index t (0 : Fin 5) = t.val / 4 ∧ win0_6.index t (1 : Fin 5) = 3 - t.val % 4 ∧ win0_6.index t (2 : Fin 5) = 0 ∧ win0_6.index t (3 : Fin 5) = 0 ∧ win0_6.index t (4 : Fin 5) = 0 :=
  (by decide +kernel : ∀ t : Fin grid0.N, _)
theorem at7 : ∀ t : Fin cfg0.N, win0_7.index t (0 : Fin 5) = t.val / 4 ∧ win0_7.index t (1 : Fin 5) = 3 - t.val % 4 ∧ win0_7.index t (2 : Fin 5) = 0 ∧ win0_7.index t (3 : Fin 5) = 0 ∧ win0_7.index t (4 : Fin 5) = 0 :=
  (by decide +kernel : ∀ t : Fin grid0.N, _)
theorem at8 : ∀ t : Fin cfg0.N, win0_8.index t (0 : Fin 4) = t.val / 4 ∧ win0_8.index t (1 : Fin 4) = 0 ∧ win0_8.index t (2 : Fin 4) = 0 ∧ win0_8.index t (3 : Fin 4) = 0 :=
  (by decide +kernel : ∀ t : Fin grid0.N, _)
theorem at9 : ∀ t : Fin cfg0.N, win0_9.index t (0 : Fin 3) = t.val / 4 ∧ win0_9.index t (1 : Fin 3) = 3 - t.val % 4 ∧ win0_9.index t (2 : Fin 3) = 0 :=
  (by decide +kernel : ∀ t : Fin grid0.N, _)
theorem at10 : ∀ t : Fin cfg0.N, win0_10.index t (0 : Fin 2) = 0 ∧ win0_10.index t (1 : Fin 2) = 0 :=
  (by decide +kernel : ∀ t : Fin grid0.N, _)
theorem at11 : ∀ t : Fin cfg0.N, win0_11.index t (0 : Fin 2) = 0 ∧ win0_11.index t (1 : Fin 2) = 0 :=
  (by decide +kernel : ∀ t : Fin grid0.N, _)
theorem at12 : ∀ t : Fin cfg0.N, win0_12.index t (0 : Fin 2) = 0 ∧ win0_12.index t (1 : Fin 2) = 0 :=
  (by decide +kernel : ∀ t : Fin grid0.N, _)
theorem at13 : ∀ t : Fin cfg0.N, win0_13.index t (0 : Fin 2) = 0 ∧ win0_13.index t (1 : Fin 2) = 0 :=
  (by decide +kernel : ∀ t : Fin grid0.N, _)
theorem at14 : ∀ t : Fin cfg0.N, win0_14.index t (0 : Fin 2) = 0 ∧ win0_14.index t (1 : Fin 2) = 0 :=
  (by decide +kernel : ∀ t : Fin grid0.N, _)
theorem at15 : ∀ t : Fin cfg0.N, win0_15.index t (0 : Fin 2) = 0 ∧ win0_15.index t (1 : Fin 2) = 0 :=
  (by decide +kernel : ∀ t : Fin grid0.N, _)
theorem at16 : ∀ t : Fin cfg0.N, win0_16.index t (0 : Fin 3) = t.val / 4 ∧ win0_16.index t (1 : Fin 3) = 0 ∧ win0_16.index t (2 : Fin 3) = 0 :=
  (by decide +kernel : ∀ t : Fin grid0.N, _)
theorem at17 : ∀ t : Fin cfg0.N, win0_17.index t (0 : Fin 3) = t.val / 4 ∧ win0_17.index t (1 : Fin 3) = 0 ∧ win0_17.index t (2 : Fin 3) = 0 :=
  (by decide +kernel : ∀ t : Fin grid0.N, _)
theorem at18 : ∀ t : Fin cfg0.N, win0_18.index t (0 : Fin 3) = t.val / 4 ∧ win0_18.index t (1 : Fin 3) = 0 ∧ win0_18.index t (2 : Fin 3) = 0 :=
  (by decide +kernel : ∀ t : Fin grid0.N, _)
theorem at19 : ∀ t : Fin cfg0.N, win0_19.index t (0 : Fin 2) = 0 ∧ win0_19.index t (1 : Fin 2) = 0 :=
  (by decide +kernel : ∀ t : Fin grid0.N, _)
theorem at20 : ∀ t : Fin cfg0.N, win0_20.index t (0 : Fin 2) = 0 ∧ win0_20.index t (1 : Fin 2) = 0 :=
  (by decide +kernel : ∀ t : Fin grid0.N, _)
theorem at22 : ∀ t : Fin cfg0.N, win0_22.index t (0 : Fin 2) = 3 - t.val % 4 ∧ win0_22.index t (1 : Fin 2) = 0 :=
  (by decide +kernel : ∀ t : Fin grid0.N, _)
theorem at23 : ∀ t : Fin cfg0.N, win0_23.index t (0 : Fin 2) = 3 - t.val % 4 ∧ win0_23.index t (1 : Fin 2) = 0 :=
  (by decide +kernel : ∀ t : Fin grid0.N, _)
theorem at24 : ∀ t : Fin cfg0.N, win0_24.index t (0 : Fin 3) = t.val / 4 ∧ win0_24.index t (1 : Fin 3) = 3 - t.val % 4 ∧ win0_24.index t (2 : Fin 3) = 0 :=
  (by decide +kernel : ∀ t : Fin grid0.N, _)
theorem at25 : ∀ t : Fin cfg0.N, win0_25.index t (0 : Fin 4) = 0 ∧ win0_25.index t (1 : Fin 4) = t.val / 4 ∧ win0_25.index t (2 : Fin 4) = 3 - t.val % 4 ∧ win0_25.index t (3 : Fin 4) = 0 :=
  (by decide +kernel : ∀ t : Fin grid0.N, _)

/-! ## The windows' blocks -/

theorem iblk0 (c : Dev nD) (t : Fin cfg0.N) (i0 : Fin 4) :
    (iblk m c 0 t : Vec F S4 .f32) (ix1 i0) = (vec4 (F := F) (m ((c : Thread nD τ).loc main_arg0))) (ix1 i0) := by
  have e0 := at0 t
  show V m c main_v19 (((cfg0.win 0).blk t).view.emb (ix1 i0)) = _
  rw [V_main_v19]
  refine congrArg (vec4 (F := F) (m ((c : Thread nD τ).loc main_arg0))) (funext fun a => Fin.ext ?_)
  match a with
  | ⟨0, _⟩ => show win0_0.index t (0 : Fin 1) * 4 + 1 * i0.val = i0.val; omega
theorem iblk1 (c : Dev nD) (t : Fin cfg0.N) (i0 : Fin 4) :
    (iblk m c 1 t : Vec F S4 .f32) (ix1 i0) = (vec4 (F := F) (m ((c : Thread nD τ).loc main_arg1))) (ix1 i0) := by
  have e0 := at1 t
  show V m c main_v20 (((cfg0.win 1).blk t).view.emb (ix1 i0)) = _
  rw [V_main_v20]
  refine congrArg (vec4 (F := F) (m ((c : Thread nD τ).loc main_arg1))) (funext fun a => Fin.ext ?_)
  match a with
  | ⟨0, _⟩ => show win0_1.index t (0 : Fin 1) * 4 + 1 * i0.val = i0.val; omega
theorem iblk2 (c : Dev nD) (t : Fin cfg0.N) (b : Fin 16) (T : Fin 4) (hb : t.val / 4 = b.val) (hT : 3 - t.val % 4 = T.val) (i0 : Fin 1) (i1 : Fin 512) (i2 : Fin 1024) :
    (iblk m c 2 t : Vec F S1x512x1024 .f32) (ix3 i0 i1 i2) = (m ((c : Thread nD τ).loc main_arg4)) (ix3 (⟨b.val, by omega⟩ : Fin 32) (row T i1) i2) := by
  obtain ⟨e0, e1, e2⟩ := at2 t
  show V m c main_arg4 (((cfg0.win 2).blk t).view.emb (ix3 i0 i1 i2)) = _
  rw [V_main_arg4]
  refine congrArg (m ((c : Thread nD τ).loc main_arg4)) (funext fun a => Fin.ext ?_)
  match a with
  | ⟨0, _⟩ => show win0_2.index t (0 : Fin 3) * 1 + 1 * i0.val = b.val; omega
  | ⟨1, _⟩ => show win0_2.index t (1 : Fin 3) * 512 + 1 * i1.val = 512 * T.val + i1.val; omega
  | ⟨2, _⟩ => show win0_2.index t (2 : Fin 3) * 1024 + 1 * i2.val = i2.val; omega
theorem iblk3 (c : Dev nD) (t : Fin cfg0.N) (b : Fin 16) (T : Fin 4) (hb : t.val / 4 = b.val) (hT : 3 - t.val % 4 = T.val) (i0 : Fin 1) (i1 : Fin 512) (i2 : Fin 1024) :
    (iblk m c 3 t : Vec F S1x512x1024 .bf16) (ix3 i0 i1 i2) = (m ((c : Thread nD τ).loc main_arg5)) (ix3 (⟨b.val, by omega⟩ : Fin 16) (row T i1) i2) := by
  obtain ⟨e0, e1, e2⟩ := at3 t
  show V m c main_arg5 (((cfg0.win 3).blk t).view.emb (ix3 i0 i1 i2)) = _
  rw [V_main_arg5]
  refine congrArg (m ((c : Thread nD τ).loc main_arg5)) (funext fun a => Fin.ext ?_)
  match a with
  | ⟨0, _⟩ => show win0_3.index t (0 : Fin 3) * 1 + 1 * i0.val = b.val; omega
  | ⟨1, _⟩ => show win0_3.index t (1 : Fin 3) * 512 + 1 * i1.val = 512 * T.val + i1.val; omega
  | ⟨2, _⟩ => show win0_3.index t (2 : Fin 3) * 1024 + 1 * i2.val = i2.val; omega
theorem iblk4 (c : Dev nD) (t : Fin cfg0.N) (b : Fin 16) (T : Fin 4) (hb : t.val / 4 = b.val) (hT : 3 - t.val % 4 = T.val) (i0 : Fin 1) (i1 : Fin 512) (i2 : Fin 512) :
    (iblk m c 4 t : Vec F S1x512x512 .bf16) (ix3 i0 i1 i2) = (m ((c : Thread nD τ).loc main_arg6)) (ix3 (⟨b.val, by omega⟩ : Fin 16) (row T i1) i2) := by
  obtain ⟨e0, e1, e2⟩ := at4 t
  show V m c main_arg6 (((cfg0.win 4).blk t).view.emb (ix3 i0 i1 i2)) = _
  rw [V_main_arg6]
  refine congrArg (m ((c : Thread nD τ).loc main_arg6)) (funext fun a => Fin.ext ?_)
  match a with
  | ⟨0, _⟩ => show win0_4.index t (0 : Fin 3) * 1 + 1 * i0.val = b.val; omega
  | ⟨1, _⟩ => show win0_4.index t (1 : Fin 3) * 512 + 1 * i1.val = 512 * T.val + i1.val; omega
  | ⟨2, _⟩ => show win0_4.index t (2 : Fin 3) * 512 + 1 * i2.val = i2.val; omega
theorem iblk5 (c : Dev nD) (t : Fin cfg0.N) (b : Fin 16) (T : Fin 4) (hb : t.val / 4 = b.val) (hT : 3 - t.val % 4 = T.val) (i0 : Fin 1) (i1 : Fin 512) (i2 : Fin 1024) :
    (iblk m c 5 t : Vec F S1x512x1024 .bf16) (ix3 i0 i1 i2) = (m ((c : Thread nD τ).loc main_arg7)) (ix3 (⟨b.val, by omega⟩ : Fin 16) (row T i1) i2) := by
  obtain ⟨e0, e1, e2⟩ := at5 t
  show V m c main_arg7 (((cfg0.win 5).blk t).view.emb (ix3 i0 i1 i2)) = _
  rw [V_main_arg7]
  refine congrArg (m ((c : Thread nD τ).loc main_arg7)) (funext fun a => Fin.ext ?_)
  match a with
  | ⟨0, _⟩ => show win0_5.index t (0 : Fin 3) * 1 + 1 * i0.val = b.val; omega
  | ⟨1, _⟩ => show win0_5.index t (1 : Fin 3) * 512 + 1 * i1.val = 512 * T.val + i1.val; omega
  | ⟨2, _⟩ => show win0_5.index t (2 : Fin 3) * 1024 + 1 * i2.val = i2.val; omega
theorem iblk6 (c : Dev nD) (t : Fin cfg0.N) (b : Fin 16) (T : Fin 4) (hb : t.val / 4 = b.val) (hT : 3 - t.val % 4 = T.val) (i0 : Fin 1) (i1 : Fin 2) (i2 : Fin 4) (i3 : Fin 128) (i4 : Fin 256) :
    (iblk m c 6 t : Vec F S1x2x4x128x256 .bf16) (ix5 i0 i1 i2 i3 i4) = (m ((c : Thread nD τ).loc main_arg8)) (ix5 (⟨b.val, by omega⟩ : Fin 16) (chunk T i1) i2 i3 i4) := by
  obtain ⟨e0, e1, e2, e3, e4⟩ := at6 t
  show V m c main_arg8 (((cfg0.win 6).blk t).view.emb (ix5 i0 i1 i2 i3 i4)) = _
  rw [V_main_arg8]
  refine congrArg (m ((c : Thread nD τ).loc main_arg8)) (funext fun a => Fin.ext ?_)
  match a with
  | ⟨0, _⟩ => show win0_6.index t (0 : Fin 5) * 1 + 1 * i0.val = b.val; omega
  | ⟨1, _⟩ => show win0_6.index t (1 : Fin 5) * 2 + 1 * i1.val = 2 * T.val + i1.val; omega
  | ⟨2, _⟩ => show win0_6.index t (2 : Fin 5) * 4 + 1 * i2.val = i2.val; omega
  | ⟨3, _⟩ => show win0_6.index t (3 : Fin 5) * 128 + 1 * i3.val = i3.val; omega
  | ⟨4, _⟩ => show win0_6.index t (4 : Fin 5) * 256 + 1 * i4.val = i4.val; omega
theorem iblk7 (c : Dev nD) (t : Fin cfg0.N) (b : Fin 16) (T : Fin 4) (hb : t.val / 4 = b.val) (hT : 3 - t.val % 4 = T.val) (i0 : Fin 1) (i1 : Fin 2) (i2 : Fin 4) (i3 : Fin 128) (i4 : Fin 256) :
    (iblk m c 7 t : Vec F S1x2x4x128x256 .f32) (ix5 i0 i1 i2 i3 i4) = (m ((c : Thread nD τ).loc main_arg9)) (ix5 (⟨b.val, by omega⟩ : Fin 16) (chunk T i1) i2 i3 i4) := by
  obtain ⟨e0, e1, e2, e3, e4⟩ := at7 t
  show V m c main_arg9 (((cfg0.win 7).blk t).view.emb (ix5 i0 i1 i2 i3 i4)) = _
  rw [V_main_arg9]
  refine congrArg (m ((c : Thread nD τ).loc main_arg9)) (funext fun a => Fin.ext ?_)
  match a with
  | ⟨0, _⟩ => show win0_7.index t (0 : Fin 5) * 1 + 1 * i0.val = b.val; omega
  | ⟨1, _⟩ => show win0_7.index t (1 : Fin 5) * 2 + 1 * i1.val = 2 * T.val + i1.val; omega
  | ⟨2, _⟩ => show win0_7.index t (2 : Fin 5) * 4 + 1 * i2.val = i2.val; omega
  | ⟨3, _⟩ => show win0_7.index t (3 : Fin 5) * 128 + 1 * i3.val = i3.val; omega
  | ⟨4, _⟩ => show win0_7.index t (4 : Fin 5) * 256 + 1 * i4.val = i4.val; omega
theorem iblk8 (c : Dev nD) (t : Fin cfg0.N) (b : Fin 16) (T : Fin 4) (hb : t.val / 4 = b.val) (hT : 3 - t.val % 4 = T.val) (i0 : Fin 1) (i1 : Fin 4) (i2 : Fin 128) (i3 : Fin 256) :
    (iblk m c 8 t : Vec F S1x4x128x256 .f32) (ix4 i0 i1 i2 i3) = (m ((c : Thread nD τ).loc main_arg10)) (ix4 (⟨b.val, by omega⟩ : Fin 16) i1 i2 i3) := by
  obtain ⟨e0, e1, e2, e3⟩ := at8 t
  show V m c main_arg10 (((cfg0.win 8).blk t).view.emb (ix4 i0 i1 i2 i3)) = _
  rw [V_main_arg10]
  refine congrArg (m ((c : Thread nD τ).loc main_arg10)) (funext fun a => Fin.ext ?_)
  match a with
  | ⟨0, _⟩ => show win0_8.index t (0 : Fin 4) * 1 + 1 * i0.val = b.val; omega
  | ⟨1, _⟩ => show win0_8.index t (1 : Fin 4) * 4 + 1 * i1.val = i1.val; omega
  | ⟨2, _⟩ => show win0_8.index t (2 : Fin 4) * 128 + 1 * i2.val = i2.val; omega
  | ⟨3, _⟩ => show win0_8.index t (3 : Fin 4) * 256 + 1 * i3.val = i3.val; omega
theorem iblk9 (c : Dev nD) (t : Fin cfg0.N) (b : Fin 16) (T : Fin 4) (hb : t.val / 4 = b.val) (hT : 3 - t.val % 4 = T.val) (i0 : Fin 1) (i1 : Fin 512) (i2 : Fin 512) :
    (iblk m c 9 t : Vec F S1x512x512 .bf16) (ix3 i0 i1 i2) = (m ((c : Thread nD τ).loc main_arg11)) (ix3 (⟨b.val, by omega⟩ : Fin 16) (row T i1) i2) := by
  obtain ⟨e0, e1, e2⟩ := at9 t
  show V m c main_arg11 (((cfg0.win 9).blk t).view.emb (ix3 i0 i1 i2)) = _
  rw [V_main_arg11]
  refine congrArg (m ((c : Thread nD τ).loc main_arg11)) (funext fun a => Fin.ext ?_)
  match a with
  | ⟨0, _⟩ => show win0_9.index t (0 : Fin 3) * 1 + 1 * i0.val = b.val; omega
  | ⟨1, _⟩ => show win0_9.index t (1 : Fin 3) * 512 + 1 * i1.val = 512 * T.val + i1.val; omega
  | ⟨2, _⟩ => show win0_9.index t (2 : Fin 3) * 512 + 1 * i2.val = i2.val; omega
theorem iblk10 (c : Dev nD) (t : Fin cfg0.N) (b : Fin 16) (T : Fin 4) (hb : t.val / 4 = b.val) (hT : 3 - t.val % 4 = T.val) (i0 : Fin 1024) (i1 : Fin 512) :
    (iblk m c 10 t : Vec F S1024x512 .bf16) (ix2 i0 i1) = (wq (F := F) (m ((c : Thread nD τ).loc main_arg12))) (ix2 i0 i1) := by
  obtain ⟨e0, e1⟩ := at10 t
  show V m c main_v7 (((cfg0.win 10).blk t).view.emb (ix2 i0 i1)) = _
  rw [V_main_v7]
  refine congrArg (wq (F := F) (m ((c : Thread nD τ).loc main_arg12))) (funext fun a => Fin.ext ?_)
  match a with
  | ⟨0, _⟩ => show win0_10.index t (0 : Fin 2) * 1024 + 1 * i0.val = i0.val; omega
  | ⟨1, _⟩ => show win0_10.index t (1 : Fin 2) * 512 + 1 * i1.val = i1.val; omega
theorem iblk11 (c : Dev nD) (t : Fin cfg0.N) (b : Fin 16) (T : Fin 4) (hb : t.val / 4 = b.val) (hT : 3 - t.val % 4 = T.val) (i0 : Fin 1024) (i1 : Fin 3072) :
    (iblk m c 11 t : Vec F S1024x3072 .bf16) (ix2 i0 i1) = (wg (F := F) (m ((c : Thread nD τ).loc main_arg12))) (ix2 i0 i1) := by
  obtain ⟨e0, e1⟩ := at11 t
  show V m c main_v9 (((cfg0.win 11).blk t).view.emb (ix2 i0 i1)) = _
  rw [V_main_v9]
  refine congrArg (wg (F := F) (m ((c : Thread nD τ).loc main_arg12))) (funext fun a => Fin.ext ?_)
  match a with
  | ⟨0, _⟩ => show win0_11.index t (0 : Fin 2) * 1024 + 1 * i0.val = i0.val; omega
  | ⟨1, _⟩ => show win0_11.index t (1 : Fin 2) * 3072 + 1 * i1.val = i1.val; omega
theorem iblk12 (c : Dev nD) (t : Fin cfg0.N) (b : Fin 16) (T : Fin 4) (hb : t.val / 4 = b.val) (hT : 3 - t.val % 4 = T.val) (i0 : Fin 512) (i1 : Fin 1024) :
    (iblk m c 12 t : Vec F S512x1024 .bf16) (ix2 i0 i1) = (w512 (F := F) (m ((c : Thread nD τ).loc main_arg13))) (ix2 i0 i1) := by
  obtain ⟨e0, e1⟩ := at12 t
  show V m c main_v14 (((cfg0.win 12).blk t).view.emb (ix2 i0 i1)) = _
  rw [V_main_v14]
  refine congrArg (w512 (F := F) (m ((c : Thread nD τ).loc main_arg13))) (funext fun a => Fin.ext ?_)
  match a with
  | ⟨0, _⟩ => show win0_12.index t (0 : Fin 2) * 512 + 1 * i0.val = i0.val; omega
  | ⟨1, _⟩ => show win0_12.index t (1 : Fin 2) * 1024 + 1 * i1.val = i1.val; omega
theorem iblk13 (c : Dev nD) (t : Fin cfg0.N) (b : Fin 16) (T : Fin 4) (hb : t.val / 4 = b.val) (hT : 3 - t.val % 4 = T.val) (i0 : Fin 1024) (i1 : Fin 1024) :
    (iblk m c 13 t : Vec F S1024x1024 .bf16) (ix2 i0 i1) = (w1024 (F := F) (m ((c : Thread nD τ).loc main_arg14))) (ix2 i0 i1) := by
  obtain ⟨e0, e1⟩ := at13 t
  show V m c main_v16 (((cfg0.win 13).blk t).view.emb (ix2 i0 i1)) = _
  rw [V_main_v16]
  refine congrArg (w1024 (F := F) (m ((c : Thread nD τ).loc main_arg14))) (funext fun a => Fin.ext ?_)
  match a with
  | ⟨0, _⟩ => show win0_13.index t (0 : Fin 2) * 1024 + 1 * i0.val = i0.val; omega
  | ⟨1, _⟩ => show win0_13.index t (1 : Fin 2) * 1024 + 1 * i1.val = i1.val; omega
theorem iblk14 (c : Dev nD) (t : Fin cfg0.N) (b : Fin 16) (T : Fin 4) (hb : t.val / 4 = b.val) (hT : 3 - t.val % 4 = T.val) (i0 : Fin 1024) (i1 : Fin 1024) :
    (iblk m c 14 t : Vec F S1024x1024 .bf16) (ix2 i0 i1) = (w1024 (F := F) (m ((c : Thread nD τ).loc main_arg15))) (ix2 i0 i1) := by
  obtain ⟨e0, e1⟩ := at14 t
  show V m c main_v18 (((cfg0.win 14).blk t).view.emb (ix2 i0 i1)) = _
  rw [V_main_v18]
  refine congrArg (w1024 (F := F) (m ((c : Thread nD τ).loc main_arg15))) (funext fun a => Fin.ext ?_)
  match a with
  | ⟨0, _⟩ => show win0_14.index t (0 : Fin 2) * 1024 + 1 * i0.val = i0.val; omega
  | ⟨1, _⟩ => show win0_14.index t (1 : Fin 2) * 1024 + 1 * i1.val = i1.val; omega
theorem iblk15 (c : Dev nD) (t : Fin cfg0.N) (b : Fin 16) (T : Fin 4) (hb : t.val / 4 = b.val) (hT : 3 - t.val % 4 = T.val) (i0 : Fin 1) (i1 : Fin 1024) :
    (iblk m c 15 t : Vec F S1x1024 .f32) (ix2 i0 i1) = (row1 (F := F) (m ((c : Thread nD τ).loc main_arg16))) (ix2 i0 i1) := by
  obtain ⟨e0, e1⟩ := at15 t
  show V m c main_v22 (((cfg0.win 15).blk t).view.emb (ix2 i0 i1)) = _
  rw [V_main_v22]
  refine congrArg (row1 (F := F) (m ((c : Thread nD τ).loc main_arg16))) (funext fun a => Fin.ext ?_)
  match a with
  | ⟨0, _⟩ => show win0_15.index t (0 : Fin 2) * 1 + 1 * i0.val = i0.val; omega
  | ⟨1, _⟩ => show win0_15.index t (1 : Fin 2) * 1024 + 1 * i1.val = i1.val; omega
theorem iblk16 (c : Dev nD) (t : Fin cfg0.N) (b : Fin 16) (T : Fin 4) (hb : t.val / 4 = b.val) (hT : 3 - t.val % 4 = T.val) (i0 : Fin 1) (i1 : Fin 1) (i2 : Fin 1024) :
    (iblk m c 16 t : Vec F S1x1x1024 .f32) (ix3 i0 i1 i2) = (m ((c : Thread nD τ).loc main_arg17)) (ix3 (⟨b.val, by omega⟩ : Fin 16) i1 i2) := by
  obtain ⟨e0, e1, e2⟩ := at16 t
  show V m c main_arg17 (((cfg0.win 16).blk t).view.emb (ix3 i0 i1 i2)) = _
  rw [V_main_arg17]
  refine congrArg (m ((c : Thread nD τ).loc main_arg17)) (funext fun a => Fin.ext ?_)
  match a with
  | ⟨0, _⟩ => show win0_16.index t (0 : Fin 3) * 1 + 1 * i0.val = b.val; omega
  | ⟨1, _⟩ => show win0_16.index t (1 : Fin 3) * 1 + 1 * i1.val = i1.val; omega
  | ⟨2, _⟩ => show win0_16.index t (2 : Fin 3) * 1024 + 1 * i2.val = i2.val; omega
theorem iblk17 (c : Dev nD) (t : Fin cfg0.N) (b : Fin 16) (T : Fin 4) (hb : t.val / 4 = b.val) (hT : 3 - t.val % 4 = T.val) (i0 : Fin 1) (i1 : Fin 1) (i2 : Fin 1024) :
    (iblk m c 17 t : Vec F S1x1x1024 .f32) (ix3 i0 i1 i2) = (m ((c : Thread nD τ).loc main_arg18)) (ix3 (⟨b.val, by omega⟩ : Fin 16) i1 i2) := by
  obtain ⟨e0, e1, e2⟩ := at17 t
  show V m c main_arg18 (((cfg0.win 17).blk t).view.emb (ix3 i0 i1 i2)) = _
  rw [V_main_arg18]
  refine congrArg (m ((c : Thread nD τ).loc main_arg18)) (funext fun a => Fin.ext ?_)
  match a with
  | ⟨0, _⟩ => show win0_17.index t (0 : Fin 3) * 1 + 1 * i0.val = b.val; omega
  | ⟨1, _⟩ => show win0_17.index t (1 : Fin 3) * 1 + 1 * i1.val = i1.val; omega
  | ⟨2, _⟩ => show win0_17.index t (2 : Fin 3) * 1024 + 1 * i2.val = i2.val; omega
theorem iblk18 (c : Dev nD) (t : Fin cfg0.N) (b : Fin 16) (T : Fin 4) (hb : t.val / 4 = b.val) (hT : 3 - t.val % 4 = T.val) (i0 : Fin 1) (i1 : Fin 1) (i2 : Fin 1024) :
    (iblk m c 18 t : Vec F S1x1x1024 .f32) (ix3 i0 i1 i2) = (m ((c : Thread nD τ).loc main_arg19)) (ix3 (⟨b.val, by omega⟩ : Fin 16) i1 i2) := by
  obtain ⟨e0, e1, e2⟩ := at18 t
  show V m c main_arg19 (((cfg0.win 18).blk t).view.emb (ix3 i0 i1 i2)) = _
  rw [V_main_arg19]
  refine congrArg (m ((c : Thread nD τ).loc main_arg19)) (funext fun a => Fin.ext ?_)
  match a with
  | ⟨0, _⟩ => show win0_18.index t (0 : Fin 3) * 1 + 1 * i0.val = b.val; omega
  | ⟨1, _⟩ => show win0_18.index t (1 : Fin 3) * 1 + 1 * i1.val = i1.val; omega
  | ⟨2, _⟩ => show win0_18.index t (2 : Fin 3) * 1024 + 1 * i2.val = i2.val; omega
theorem iblk19 (c : Dev nD) (t : Fin cfg0.N) (b : Fin 16) (T : Fin 4) (hb : t.val / 4 = b.val) (hT : 3 - t.val % 4 = T.val) (i0 : Fin 1) (i1 : Fin 1024) :
    (iblk m c 19 t : Vec F S1x1024 .f32) (ix2 i0 i1) = (row1 (F := F) (m ((c : Thread nD τ).loc main_arg20))) (ix2 i0 i1) := by
  obtain ⟨e0, e1⟩ := at19 t
  show V m c main_v24 (((cfg0.win 19).blk t).view.emb (ix2 i0 i1)) = _
  rw [V_main_v24]
  refine congrArg (row1 (F := F) (m ((c : Thread nD τ).loc main_arg20))) (funext fun a => Fin.ext ?_)
  match a with
  | ⟨0, _⟩ => show win0_19.index t (0 : Fin 2) * 1 + 1 * i0.val = i0.val; omega
  | ⟨1, _⟩ => show win0_19.index t (1 : Fin 2) * 1024 + 1 * i1.val = i1.val; omega
theorem iblk20 (c : Dev nD) (t : Fin cfg0.N) (b : Fin 16) (T : Fin 4) (hb : t.val / 4 = b.val) (hT : 3 - t.val % 4 = T.val) (i0 : Fin 1) (i1 : Fin 1024) :
    (iblk m c 20 t : Vec F S1x1024 .f32) (ix2 i0 i1) = (row1 (F := F) (m ((c : Thread nD τ).loc main_arg21))) (ix2 i0 i1) := by
  obtain ⟨e0, e1⟩ := at20 t
  show V m c main_v26 (((cfg0.win 20).blk t).view.emb (ix2 i0 i1)) = _
  rw [V_main_v26]
  refine congrArg (row1 (F := F) (m ((c : Thread nD τ).loc main_arg21))) (funext fun a => Fin.ext ?_)
  match a with
  | ⟨0, _⟩ => show win0_20.index t (0 : Fin 2) * 1 + 1 * i0.val = i0.val; omega
  | ⟨1, _⟩ => show win0_20.index t (1 : Fin 2) * 1024 + 1 * i1.val = i1.val; omega
theorem iblk22 (c : Dev nD) (t : Fin cfg0.N) (b : Fin 16) (T : Fin 4) (hb : t.val / 4 = b.val) (hT : 3 - t.val % 4 = T.val) (i0 : Fin 512) (i1 : Fin 128) :
    (iblk m c 22 t : Vec F S512x128 .f32) (ix2 i0 i1) = (cos2 (F := F) (m ((c : Thread nD τ).loc main_arg2))) (ix2 (row T i0) i1) := by
  obtain ⟨e0, e1⟩ := at22 t
  show V m c main_v10 (((cfg0.win 22).blk t).view.emb (ix2 i0 i1)) = _
  rw [V_main_v10]
  refine congrArg (cos2 (F := F) (m ((c : Thread nD τ).loc main_arg2))) (funext fun a => Fin.ext ?_)
  match a with
  | ⟨0, _⟩ => show win0_22.index t (0 : Fin 2) * 512 + 1 * i0.val = 512 * T.val + i0.val; omega
  | ⟨1, _⟩ => show win0_22.index t (1 : Fin 2) * 128 + 1 * i1.val = i1.val; omega
theorem iblk23 (c : Dev nD) (t : Fin cfg0.N) (b : Fin 16) (T : Fin 4) (hb : t.val / 4 = b.val) (hT : 3 - t.val % 4 = T.val) (i0 : Fin 512) (i1 : Fin 128) :
    (iblk m c 23 t : Vec F S512x128 .f32) (ix2 i0 i1) = (sin2 (F := F) (m ((c : Thread nD τ).loc main_arg3))) (ix2 (row T i0) i1) := by
  obtain ⟨e0, e1⟩ := at23 t
  show V m c main_v12 (((cfg0.win 23).blk t).view.emb (ix2 i0 i1)) = _
  rw [V_main_v12]
  refine congrArg (sin2 (F := F) (m ((c : Thread nD τ).loc main_arg3))) (funext fun a => Fin.ext ?_)
  match a with
  | ⟨0, _⟩ => show win0_23.index t (0 : Fin 2) * 512 + 1 * i0.val = 512 * T.val + i0.val; omega
  | ⟨1, _⟩ => show win0_23.index t (1 : Fin 2) * 128 + 1 * i1.val = i1.val; omega

end Cert.Proof.Mix

end
-- ==== Proof.Mix.Args.lean ====
/-
  The mixer's arrays, read off the arguments.
-/
module

public import proofs.«01_k».proof.Proof.Mix.Spec

@[expose] public section

noncomputable section

namespace Cert.Proof.Mix

open Idealize.ShloMosaic

/-- Arrays of one to five axes over the extended reals. -/
abbrev A2 (a b : ℕ) : Type := (⟨2, ![a, b]⟩ : Shape).Idx → EReal
@[inherit_doc A2] abbrev A3 (a b c : ℕ) : Type := (⟨3, ![a, b, c]⟩ : Shape).Idx → EReal
@[inherit_doc A2] abbrev A4 (a b c d : ℕ) : Type := (⟨4, ![a, b, c, d]⟩ : Shape).Idx → EReal
@[inherit_doc A2] abbrev A5 (a b c d e : ℕ) : Type := (⟨5, ![a, b, c, d, e]⟩ : Shape).Idx → EReal

/-- The mixer's arrays: the residual's first sixteen sequences, and each weight without its leading axis. -/
def inOf (a0 a1 : A2 1 4) (a2 a3 : A2 2048 64) (a4 : A3 32 2048 1024) (a5 : A3 16 2048 1024) (a6 : A3 16 2048 512) (a7 : A3 16 2048 1024)
    (a8 a9 : A5 16 8 4 128 256) (a10 : A4 16 4 128 256) (a11 : A3 16 2048 512) (a12 : A3 1 1024 6144) (a13 : A3 1 512 1024) (a14 a15 : A3 1 1024 1024)
    (a16 : A2 1 1024) (a17 a18 a19 : A3 16 1 1024) (a20 a21 : A2 1 1024) : In where
  lf h := a0 (ix2 0 h)
  lb h := a1 (ix2 0 h)
  cs l d := a2 (ix2 l d)
  sn l d := a3 (ix2 l d)
  x b l e := a4 (ix3 ⟨b.val, by omega⟩ l e)
  h b l e := a5 (ix3 b l e)
  k b l e := a6 (ix3 b l e)
  v b l e := a7 (ix3 b l e)
  sf b n h d w := a8 (ix5 b n h d w)
  ub b n h d w := a9 (ix5 b n h d w)
  sb0 b h d w := a10 (ix4 b h d w)
  ya b l e := a11 (ix3 b l e)
  win e c := a12 (ix3 0 e c)
  wco f e := a13 (ix3 0 f e)
  wro f e := a14 (ix3 0 f e)
  wo f e := a15 (ix3 0 f e)
  gn e := a16 (ix2 0 e)
  g1 b e := a17 (ix3 b 0 e)
  sh b e := a18 (ix3 b 0 e)
  sc b e := a19 (ix3 b 0 e)
  lg e := a20 (ix2 0 e)
  lo e := a21 (ix2 0 e)

end Cert.Proof.Mix

end
-- ==== Proof.Mix.ArraysVal.lean ====
/-
  The arrays the mixer's grid points are given, at the extended reals, entry by entry.
-/
module

public import proofs.«01_k».proof.Proof.Mix.Arrays
public import proofs.«01_k».proof.Proof.Mix.Args
public import Idealize.ShloMosaic.Lib.ValueIdxCore

@[expose] public section

set_option maxRecDepth 16384
set_option maxHeartbeats 4000000

noncomputable section

namespace Cert.Proof.Mix

open Cert.Kernel3Ideal Cert.Kernel3Ideal.Gen
open Idealize.ShloMosaic Idealize.ShloMosaic.TcCoe Idealize.SL.Sem Idealize.ShloMosaic.Pointwise

/-- Where each reordered query column is. -/
theorem lit_at : ∀ i : Fin 512, (lit0 i).toInt.toNat = i.val / 128 * 128 + (if i.val % 128 < 64 then 2 * (i.val % 128) else 2 * (i.val % 128 - 64) + 1) := by
  decide +kernel

theorem rowMajor_at (i : Fin 512) : S512.rowMajor (ix1 i) = i := by
  refine Fin.ext ?_
  show ((Shape.rowMajor S512) (ix1 i)).val = i.val
  simp [Shape.rowMajor_val_one]

theorem order_at (i : Fin 512) : order (ix2 i 0) = lit0 i := by
  have h : order (ix2 i 0) = lit0 (S512.rowMajor (ix1 i)) := by
    unfold order
    pointwise []
  rw [h, rowMajor_at]

theorem gather_at (x : Vec Ideal S1024x512 .f32) (ix : IVec S512x1 32) (e : Fin 1024) (c : Fin 512) :
    Host.gather gather_S1024x512_S512x1_S1024x512_0_1_n_n_1_1_10241 x ix (ix2 e c)
      = x (ix2 e ⟨min (ix (ix2 c 0)).toInt.toNat 511, by omega⟩) := by
  unfold Host.gather
  congr 1
  funext a
  refine Fin.ext ?_
  show (gather_S1024x512_S512x1_S1024x512_0_1_n_n_1_1_10241).start (ix2 e c) ix a + (gather_S1024x512_S512x1_S1024x512_0_1_n_n_1_1_10241).batchCoord (ix2 e c) a
    + (gather_S1024x512_S512x1_S1024x512_0_1_n_n_1_1_10241).offCoord (ix2 e c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by decide), dif_pos (by decide)]
    show 0 + e.val = e.val
    omega
  · rw [GatherDims.offCoord_eq_zero _ _ _ (fun h => ((GatherDims.mem_sKept _ _).mp h).1 (List.mem_singleton.mpr rfl)), Nat.add_zero]
    unfold GatherDims.start
    rw [dif_pos (show (1 : Fin 2) ∈ (gather_S1024x512_S512x1_S1024x512_0_1_n_n_1_1_10241).startIndexMap from List.mem_singleton.mpr rfl)]
    have hs : (gather_S1024x512_S512x1_S1024x512_0_1_n_n_1_1_10241).siIdx (ix2 e c) ⟨List.idxOf (1 : Fin 2) (gather_S1024x512_S512x1_S1024x512_0_1_n_n_1_1_10241).startIndexMap,
        List.idxOf_lt_length_iff.2 (List.mem_singleton.mpr rfl)⟩ = ix2 c 0 := by
      funext b; refine Fin.ext ?_
      match b with
      | ⟨0, _⟩ => rfl
      | ⟨1, _⟩ => rfl
    rw [hs]
    rfl

theorem trunc_at {s : Shape} (x : FVec Ideal s .f32) (h : FTy.bits .bf16 < FTy.bits .f32) (i : s.Idx) : truncf .bf16 x h i = x i := rfl

theorem wq_at (w : Vec Ideal S1x1024x6144 .f32) (e : Fin 1024) (c : Fin 512) : wq (F := Ideal) w (ix2 e c) = w (ix3 0 e (In.perm c)) := by
  unfold wq
  rw [trunc_at, gather_at]
  pointwise []
  refine congrArg w (congrArg (ix3 0 e) (Fin.ext ?_))
  show 1024 + min (order (ix2 c 0)).toInt.toNat 511 = 1024 + (c.val / 128 * 128 + (if c.val % 128 < 64 then 2 * (c.val % 128) else 2 * (c.val % 128 - 64) + 1))
  rw [order_at, lit_at]
  show 1024 + min (c.val / 128 * 128 + (if c.val % 128 < 64 then 2 * (c.val % 128) else 2 * (c.val % 128 - 64) + 1)) 511
    = 1024 + (c.val / 128 * 128 + (if c.val % 128 < 64 then 2 * (c.val % 128) else 2 * (c.val % 128 - 64) + 1))
  have := c.isLt
  split <;> omega

theorem wg_at (w : Vec Ideal S1x1024x6144 .f32) (e : Fin 1024) (j : Fin 3072) : wg (F := Ideal) w (ix2 e j) = w (ix3 0 e ⟨3072 + j.val, by omega⟩) := by
  pointwise [wg]

theorem w512_at (w : Vec Ideal S1x512x1024 .f32) (f : Fin 512) (e : Fin 1024) : w512 (F := Ideal) w (ix2 f e) = w (ix3 0 f e) := by
  pointwise [w512]
theorem w1024_at (w : Vec Ideal S1x1024x1024 .f32) (f : Fin 1024) (e : Fin 1024) : w1024 (F := Ideal) w (ix2 f e) = w (ix3 0 f e) := by
  pointwise [w1024]
theorem vec4_at (x : Vec Ideal S1x4 .f32) (h : Fin 4) : vec4 (F := Ideal) x (ix1 h) = x (ix2 0 h) := by
  pointwise [vec4]
theorem row1_at (x : Vec Ideal S1x1024 .f32) (e : Fin 1024) : row1 (F := Ideal) x (ix2 0 e) = x (ix2 0 e) := by
  pointwise [row1]

theorem cos2_at (x : Vec Ideal S2048x64 .f32) (l : Fin 2048) (d : Fin 128) : cos2 (F := Ideal) x (ix2 l d) = x (ix2 l ⟨d.val % 64, Nat.mod_lt _ (by decide)⟩) := by
  pointwise [cos2]
  split
  · exact congrArg x (congrArg (ix2 l) (Fin.ext (by show d.val = d.val % 64; omega)))
  · exact congrArg x (congrArg (ix2 l) (Fin.ext (by show d.val - 64 = d.val % 64; omega)))

theorem sin2_at (x : Vec Ideal S2048x64 .f32) (l : Fin 2048) (d : Fin 128) :
    sin2 (F := Ideal) x (ix2 l d) = if d.val < 64 then -x (ix2 l ⟨d.val % 64, Nat.mod_lt _ (by decide)⟩) else x (ix2 l ⟨d.val % 64, Nat.mod_lt _ (by decide)⟩) := by
  pointwise [sin2]
  split
  · exact congrArg (fun k => -x (ix2 l k)) (Fin.ext (by show d.val = d.val % 64; omega))
  · exact congrArg (fun k => x (ix2 l k)) (Fin.ext (by show d.val - 64 = d.val % 64; omega))

/-! ## Every point's blocks -/

variable (m : (ℓ : Loc nD τ sig) → Buf (Elt Ideal) ℓ)

/-- The mixer's arrays on a device. -/
def arrs (c : Dev nD) : In := inOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

/-- The blocks of point `t`: sequence `t / 4`, tile `3 - t % 4`. -/
theorem at_pt (c : Dev nD) (t : Fin cfg0.N) (b : Fin 16) (T : Fin 4) (hb : t.val / 4 = b.val) (hT : 3 - t.val % 4 = T.val) :
    At (arrs m c) b T (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (iblk m c 12 t) (iblk m c 13 t) (iblk m c 14 t) (iblk m c 15 t) (iblk m c 16 t) (iblk m c 17 t) (iblk m c 18 t) (iblk m c 19 t) (iblk m c 20 t) (iblk m c 22 t) (iblk m c 23 t) where
  lf h := (iblk0 m c t h).trans (vec4_at _ h)
  lb h := (iblk1 m c t h).trans (vec4_at _ h)
  x r e := iblk2 m c t b T hb hT 0 r e
  h r e := (iblk3 m c t b T hb hT 0 r e)
  k r e := (iblk4 m c t b T hb hT 0 r e)
  v r e := (iblk5 m c t b T hb hT 0 r e)
  sf n h d w := (iblk6 m c t b T hb hT 0 n h d w)
  ub n h d w := (iblk7 m c t b T hb hT 0 n h d w)
  sb0 h d w := (iblk8 m c t b T hb hT 0 h d w)
  ya r e := (iblk9 m c t b T hb hT 0 r e)
  wq e j := (iblk10 m c t b T hb hT e j).trans (wq_at _ e j)
  wg e j := (iblk11 m c t b T hb hT e j).trans (wg_at _ e j)
  wco f e := (iblk12 m c t b T hb hT f e).trans (w512_at _ f e)
  wro f e := (iblk13 m c t b T hb hT f e).trans (w1024_at _ f e)
  wo f e := (iblk14 m c t b T hb hT f e).trans (w1024_at _ f e)
  gn e := (iblk15 m c t b T hb hT 0 e).trans (row1_at _ e)
  g1 e := (iblk16 m c t b T hb hT 0 0 e)
  sh e := (iblk17 m c t b T hb hT 0 0 e)
  sc e := (iblk18 m c t b T hb hT 0 0 e)
  lg e := (iblk19 m c t b T hb hT 0 e).trans (row1_at _ e)
  lo e := (iblk20 m c t b T hb hT 0 e).trans (row1_at _ e)
  cs r d := (iblk22 m c t b T hb hT r d).trans (cos2_at _ _ d)
  sn r d := (iblk23 m c t b T hb hT r d).trans (sin2_at _ _ d)

end Cert.Proof.Mix

end
-- ==== Proof.Mix.PointVal.lean ====
/-
  The mixer's grid point at the extended reals, whole: the retention's rows, the results' rows and the states.
-/
module

public import proofs.«01_k».proof.Proof.Mix.BlockVal

@[expose] public section

set_option maxRecDepth 16384

noncomputable section

namespace Cert.Proof.Mix

open Cert.Kernel3Ideal Cert.Kernel3Ideal.Gen Idealize.ShloMosaic Idealize.ShloMosaic.Pointwise

/-- An entry before a store's rectangle on some axis is not of it; an entry of the last store is that store's. -/
theorem not_mem_of_lt {S : Shape} {off sz : Fin S.rank → ℕ} {inb} {i : S.Idx} (a : Fin S.rank) (h : (i a).val < off a) : i ∉ (Rect.unit (s := S) off sz inb).set :=
  fun hm => absurd (Rect.mem_set_unit.mp hm a).1 (Nat.not_le.mpr h)

theorem canon_miss {S : Shape} {e : EltTy} (r : Rect S) (w : r.shape.Idx → Elt Ideal e) (L : List (View.Piece (Elt Ideal) S e)) (y : S.Idx) (hy : y ∉ r.set) :
    View.canon ((⟨r, w⟩ : View.Piece (Elt Ideal) S e) :: L) y = View.canon L y := View.canon_cons_of_not_mem _ L hy

theorem canon_hit {S : Shape} {e : EltTy} (r : Rect S) (w : r.shape.Idx → Elt Ideal e) (L : List (View.Piece (Elt Ideal) S e)) (y : S.Idx) (x : r.shape.Idx) (hy : y = r.emb x) :
    View.canon ((⟨r, w⟩ : View.Piece (Elt Ideal) S e) :: L) y = w x := by
  subst hy; exact View.canon_cons_emb r w L x

theorem cat_at (l0 l1 l2 l3 h0 h1 h2 h3 : FVec Ideal S256x256 .f32) (G : Fin 512 → Fin 1024 → EReal)
    (el0 : ∀ i v : Fin 256, l0 (ix2 i v) = G ⟨i.val, by omega⟩ ⟨0 + v.val, by omega⟩) (eh0 : ∀ i v : Fin 256, h0 (ix2 i v) = G ⟨256 + i.val, by omega⟩ ⟨0 + v.val, by omega⟩)
    (el1 : ∀ i v : Fin 256, l1 (ix2 i v) = G ⟨i.val, by omega⟩ ⟨256 + v.val, by omega⟩) (eh1 : ∀ i v : Fin 256, h1 (ix2 i v) = G ⟨256 + i.val, by omega⟩ ⟨256 + v.val, by omega⟩)
    (el2 : ∀ i v : Fin 256, l2 (ix2 i v) = G ⟨i.val, by omega⟩ ⟨512 + v.val, by omega⟩) (eh2 : ∀ i v : Fin 256, h2 (ix2 i v) = G ⟨256 + i.val, by omega⟩ ⟨512 + v.val, by omega⟩)
    (el3 : ∀ i v : Fin 256, l3 (ix2 i v) = G ⟨i.val, by omega⟩ ⟨768 + v.val, by omega⟩) (eh3 : ∀ i v : Fin 256, h3 (ix2 i v) = G ⟨256 + i.val, by omega⟩ ⟨768 + v.val, by omega⟩)
    (r : Fin 512) (e : Fin 1024) : cat (F := Ideal) l0 l1 l2 l3 h0 h1 h2 h3 (ix2 r e) = G r e := by
  pointwise [cat]
  split
  · split
    · rw [el0]; exact congrArg₂ G (Fin.ext rfl) (Fin.ext (by show 0 + e.val = e.val; omega))
    · split
      · rw [el1]; exact congrArg₂ G (Fin.ext rfl) (Fin.ext (by show 256 + (e.val - 256) = e.val; omega))
      · split
        · rw [el2]; exact congrArg₂ G (Fin.ext rfl) (Fin.ext (by show 512 + (e.val - 256 - 256) = e.val; omega))
        · rw [el3]; exact congrArg₂ G (Fin.ext rfl) (Fin.ext (by show 768 + (e.val - 256 - 256 - 256) = e.val; omega))
  · split
    · rw [eh0]; exact congrArg₂ G (Fin.ext (by show 256 + (r.val - 256) = r.val; omega)) (Fin.ext (by show 0 + e.val = e.val; omega))
    · split
      · rw [eh1]; exact congrArg₂ G (Fin.ext (by show 256 + (r.val - 256) = r.val; omega)) (Fin.ext (by show 256 + (e.val - 256) = e.val; omega))
      · split
        · rw [eh2]; exact congrArg₂ G (Fin.ext (by show 256 + (r.val - 256) = r.val; omega)) (Fin.ext (by show 512 + (e.val - 256 - 256) = e.val; omega))
        · rw [eh3]; exact congrArg₂ G (Fin.ext (by show 256 + (r.val - 256) = r.val; omega)) (Fin.ext (by show 768 + (e.val - 256 - 256 - 256) = e.val; omega))

section

variable {I : In} {b : Fin 16} {T : Fin 4} {x0 x1 : Vec Ideal S4 .f32} {x2 : Vec Ideal S1x512x1024 .f32} {x3 : Vec Ideal S1x512x1024 .bf16} {x4 : Vec Ideal S1x512x512 .bf16} {x5 : Vec Ideal S1x512x1024 .bf16}
  {x6 : Vec Ideal S1x2x4x128x256 .bf16} {x7 : Vec Ideal S1x2x4x128x256 .f32} {x8 : Vec Ideal S1x4x128x256 .f32} {x9 : Vec Ideal S1x512x512 .bf16} {x10 : Vec Ideal S1024x512 .bf16} {x11 : Vec Ideal S1024x3072 .bf16}
  {x12 : Vec Ideal S512x1024 .bf16} {x13 x14 : Vec Ideal S1024x1024 .bf16} {x15 : Vec Ideal S1x1024 .f32} {x16 x17 x18 : Vec Ideal S1x1x1024 .f32} {x19 x20 : Vec Ideal S1x1024 .f32} {x22 x23 : Vec Ideal S512x128 .f32}
  (A : At I b T x0 x1 x2 x3 x4 x5 x6 x7 x8 x9 x10 x11 x12 x13 x14 x15 x16 x17 x18 x19 x20 x22 x23)

include A

/-- The point's retention is the sequence's. -/
theorem onB_at (sb : Vec Ideal S4x128x256 .f32) (hs : ∀ (h : Fin 4) (d : Fin 128) (w : Fin 256), sb (ix3 h d w) = I.back b h d w (6 - 2 * T.val)) (r : Fin 512) (e : Fin 1024) :
    onB (F := Ideal) x0 x1 x3 x4 x5 x6 x7 x10 x22 x23 sb (ix2 r e) = I.on b (row T r) e := by
  unfold onB
  refine cat_at _ _ _ _ _ _ _ _ (fun r e => I.on b (row T r) e)
    (fun i v => (loB0_at A sb hs i v).trans (on_eq I b (row T ⟨i.val, by omega⟩) ⟨0 + v.val, by omega⟩ (chunk T 0) 0 i v (by show 512 * T.val + i.val = 256 * (2 * T.val + 0) + i.val; omega) (by show 0 + v.val = 256 * 0 + v.val; omega)).symm)
    (fun i v => (hiB0_at A sb hs i v).trans (on_eq I b (row T ⟨256 + i.val, by omega⟩) ⟨0 + v.val, by omega⟩ (chunk T 1) 0 i v (by show 512 * T.val + (256 + i.val) = 256 * (2 * T.val + 1) + i.val; omega) (by show 0 + v.val = 256 * 0 + v.val; omega)).symm)
    (fun i v => (loB1_at A sb hs i v).trans (on_eq I b (row T ⟨i.val, by omega⟩) ⟨256 + v.val, by omega⟩ (chunk T 0) 1 i v (by show 512 * T.val + i.val = 256 * (2 * T.val + 0) + i.val; omega) (by show 256 + v.val = 256 * 1 + v.val; omega)).symm)
    (fun i v => (hiB1_at A sb hs i v).trans (on_eq I b (row T ⟨256 + i.val, by omega⟩) ⟨256 + v.val, by omega⟩ (chunk T 1) 1 i v (by show 512 * T.val + (256 + i.val) = 256 * (2 * T.val + 1) + i.val; omega) (by show 256 + v.val = 256 * 1 + v.val; omega)).symm)
    (fun i v => (loB2_at A sb hs i v).trans (on_eq I b (row T ⟨i.val, by omega⟩) ⟨512 + v.val, by omega⟩ (chunk T 0) 2 i v (by show 512 * T.val + i.val = 256 * (2 * T.val + 0) + i.val; omega) (by show 512 + v.val = 256 * 2 + v.val; omega)).symm)
    (fun i v => (hiB2_at A sb hs i v).trans (on_eq I b (row T ⟨256 + i.val, by omega⟩) ⟨512 + v.val, by omega⟩ (chunk T 1) 2 i v (by show 512 * T.val + (256 + i.val) = 256 * (2 * T.val + 1) + i.val; omega) (by show 512 + v.val = 256 * 2 + v.val; omega)).symm)
    (fun i v => (loB3_at A sb hs i v).trans (on_eq I b (row T ⟨i.val, by omega⟩) ⟨768 + v.val, by omega⟩ (chunk T 0) 3 i v (by show 512 * T.val + i.val = 256 * (2 * T.val + 0) + i.val; omega) (by show 768 + v.val = 256 * 3 + v.val; omega)).symm)
    (fun i v => (hiB3_at A sb hs i v).trans (on_eq I b (row T ⟨256 + i.val, by omega⟩) ⟨768 + v.val, by omega⟩ (chunk T 1) 3 i v (by show 512 * T.val + (256 + i.val) = 256 * (2 * T.val + 1) + i.val; omega) (by show 768 + v.val = 256 * 3 + v.val; omega)).symm)
    r e

theorem stL0_at (sb : Vec Ideal S4x128x256 .f32) (hs : ∀ (h : Fin 4) (d : Fin 128) (w : Fin 256), sb (ix3 h d w) = I.back b h d w (6 - 2 * T.val)) (L : List (View.Piece (Elt Ideal) S4x128x256 .f32))
    (d : Fin 128) (w : Fin 256) : View.canon (stL (F := Ideal) x1 x7 sb L) (ix3 (0 : Fin 4) d w) = I.back b 0 d w (8 - 2 * T.val) := by
  unfold stL
  have n3 : (ix3 (0 : Fin 4) d w : S4x128x256.Idx) ∉ (Rect.unit (s := S4x128x256) ![3, 0, 0] ![1, 128, 256] inb_S4x128x256_S1x128x256_3_0_0).set := not_mem_of_lt (0 : Fin 3) (show 0 < 3 by decide)
  refine (canon_miss (Rect.unit (s := S4x128x256) ![3, 0, 0] ![1, 128, 256] inb_S4x128x256_S1x128x256_3_0_0) (fin3 (F := Ideal) x1 x7 sb) _ (ix3 (0 : Fin 4) d w) n3).trans ?_
  have n3 : (ix3 (0 : Fin 4) d w : S4x128x256.Idx) ∉ (Rect.unit (s := S4x128x256) ![3, 0, 0] ![1, 128, 256] inb_S4x128x256_S1x128x256_3_0_0).set := not_mem_of_lt (0 : Fin 3) (show 0 < 3 by decide)
  refine (canon_miss (Rect.unit (s := S4x128x256) ![3, 0, 0] ![1, 128, 256] inb_S4x128x256_S1x128x256_3_0_0) (mid3 (F := Ideal) x1 x7 sb) _ (ix3 (0 : Fin 4) d w) n3).trans ?_
  have n2 : (ix3 (0 : Fin 4) d w : S4x128x256.Idx) ∉ (Rect.unit (s := S4x128x256) ![2, 0, 0] ![1, 128, 256] inb_S4x128x256_S1x128x256_2_0_0).set := not_mem_of_lt (0 : Fin 3) (show 0 < 2 by decide)
  refine (canon_miss (Rect.unit (s := S4x128x256) ![2, 0, 0] ![1, 128, 256] inb_S4x128x256_S1x128x256_2_0_0) (fin2 (F := Ideal) x1 x7 sb) _ (ix3 (0 : Fin 4) d w) n2).trans ?_
  have n2 : (ix3 (0 : Fin 4) d w : S4x128x256.Idx) ∉ (Rect.unit (s := S4x128x256) ![2, 0, 0] ![1, 128, 256] inb_S4x128x256_S1x128x256_2_0_0).set := not_mem_of_lt (0 : Fin 3) (show 0 < 2 by decide)
  refine (canon_miss (Rect.unit (s := S4x128x256) ![2, 0, 0] ![1, 128, 256] inb_S4x128x256_S1x128x256_2_0_0) (mid2 (F := Ideal) x1 x7 sb) _ (ix3 (0 : Fin 4) d w) n2).trans ?_
  have n1 : (ix3 (0 : Fin 4) d w : S4x128x256.Idx) ∉ (Rect.unit (s := S4x128x256) ![1, 0, 0] ![1, 128, 256] inb_S4x128x256_S1x128x256_1_0_0).set := not_mem_of_lt (0 : Fin 3) (show 0 < 1 by decide)
  refine (canon_miss (Rect.unit (s := S4x128x256) ![1, 0, 0] ![1, 128, 256] inb_S4x128x256_S1x128x256_1_0_0) (fin1 (F := Ideal) x1 x7 sb) _ (ix3 (0 : Fin 4) d w) n1).trans ?_
  have n1 : (ix3 (0 : Fin 4) d w : S4x128x256.Idx) ∉ (Rect.unit (s := S4x128x256) ![1, 0, 0] ![1, 128, 256] inb_S4x128x256_S1x128x256_1_0_0).set := not_mem_of_lt (0 : Fin 3) (show 0 < 1 by decide)
  refine (canon_miss (Rect.unit (s := S4x128x256) ![1, 0, 0] ![1, 128, 256] inb_S4x128x256_S1x128x256_1_0_0) (mid1 (F := Ideal) x1 x7 sb) _ (ix3 (0 : Fin 4) d w) n1).trans ?_
  refine (canon_hit (Rect.unit (s := S4x128x256) ![0, 0, 0] ![1, 128, 256] inb_S4x128x256_S1x128x256_0_0_0) (fin0 (F := Ideal) x1 x7 sb) _ (ix3 (0 : Fin 4) d w) (ix3 (0 : Fin 1) d w) (funext fun a => Fin.ext ?_)).trans (fin0_at A sb hs d w)
  match a with
  | ⟨0, _⟩ => rfl
  | ⟨1, _⟩ => show d.val = 0 + 1 * d.val; omega
  | ⟨2, _⟩ => show w.val = 0 + 1 * w.val; omega

theorem stL1_at (sb : Vec Ideal S4x128x256 .f32) (hs : ∀ (h : Fin 4) (d : Fin 128) (w : Fin 256), sb (ix3 h d w) = I.back b h d w (6 - 2 * T.val)) (L : List (View.Piece (Elt Ideal) S4x128x256 .f32))
    (d : Fin 128) (w : Fin 256) : View.canon (stL (F := Ideal) x1 x7 sb L) (ix3 (1 : Fin 4) d w) = I.back b 1 d w (8 - 2 * T.val) := by
  unfold stL
  have n3 : (ix3 (1 : Fin 4) d w : S4x128x256.Idx) ∉ (Rect.unit (s := S4x128x256) ![3, 0, 0] ![1, 128, 256] inb_S4x128x256_S1x128x256_3_0_0).set := not_mem_of_lt (0 : Fin 3) (show 1 < 3 by decide)
  refine (canon_miss (Rect.unit (s := S4x128x256) ![3, 0, 0] ![1, 128, 256] inb_S4x128x256_S1x128x256_3_0_0) (fin3 (F := Ideal) x1 x7 sb) _ (ix3 (1 : Fin 4) d w) n3).trans ?_
  have n3 : (ix3 (1 : Fin 4) d w : S4x128x256.Idx) ∉ (Rect.unit (s := S4x128x256) ![3, 0, 0] ![1, 128, 256] inb_S4x128x256_S1x128x256_3_0_0).set := not_mem_of_lt (0 : Fin 3) (show 1 < 3 by decide)
  refine (canon_miss (Rect.unit (s := S4x128x256) ![3, 0, 0] ![1, 128, 256] inb_S4x128x256_S1x128x256_3_0_0) (mid3 (F := Ideal) x1 x7 sb) _ (ix3 (1 : Fin 4) d w) n3).trans ?_
  have n2 : (ix3 (1 : Fin 4) d w : S4x128x256.Idx) ∉ (Rect.unit (s := S4x128x256) ![2, 0, 0] ![1, 128, 256] inb_S4x128x256_S1x128x256_2_0_0).set := not_mem_of_lt (0 : Fin 3) (show 1 < 2 by decide)
  refine (canon_miss (Rect.unit (s := S4x128x256) ![2, 0, 0] ![1, 128, 256] inb_S4x128x256_S1x128x256_2_0_0) (fin2 (F := Ideal) x1 x7 sb) _ (ix3 (1 : Fin 4) d w) n2).trans ?_
  have n2 : (ix3 (1 : Fin 4) d w : S4x128x256.Idx) ∉ (Rect.unit (s := S4x128x256) ![2, 0, 0] ![1, 128, 256] inb_S4x128x256_S1x128x256_2_0_0).set := not_mem_of_lt (0 : Fin 3) (show 1 < 2 by decide)
  refine (canon_miss (Rect.unit (s := S4x128x256) ![2, 0, 0] ![1, 128, 256] inb_S4x128x256_S1x128x256_2_0_0) (mid2 (F := Ideal) x1 x7 sb) _ (ix3 (1 : Fin 4) d w) n2).trans ?_
  refine (canon_hit (Rect.unit (s := S4x128x256) ![1, 0, 0] ![1, 128, 256] inb_S4x128x256_S1x128x256_1_0_0) (fin1 (F := Ideal) x1 x7 sb) _ (ix3 (1 : Fin 4) d w) (ix3 (0 : Fin 1) d w) (funext fun a => Fin.ext ?_)).trans (fin1_at A sb hs d w)
  match a with
  | ⟨0, _⟩ => rfl
  | ⟨1, _⟩ => show d.val = 0 + 1 * d.val; omega
  | ⟨2, _⟩ => show w.val = 0 + 1 * w.val; omega

theorem stL2_at (sb : Vec Ideal S4x128x256 .f32) (hs : ∀ (h : Fin 4) (d : Fin 128) (w : Fin 256), sb (ix3 h d w) = I.back b h d w (6 - 2 * T.val)) (L : List (View.Piece (Elt Ideal) S4x128x256 .f32))
    (d : Fin 128) (w : Fin 256) : View.canon (stL (F := Ideal) x1 x7 sb L) (ix3 (2 : Fin 4) d w) = I.back b 2 d w (8 - 2 * T.val) := by
  unfold stL
  have n3 : (ix3 (2 : Fin 4) d w : S4x128x256.Idx) ∉ (Rect.unit (s := S4x128x256) ![3, 0, 0] ![1, 128, 256] inb_S4x128x256_S1x128x256_3_0_0).set := not_mem_of_lt (0 : Fin 3) (show 2 < 3 by decide)
  refine (canon_miss (Rect.unit (s := S4x128x256) ![3, 0, 0] ![1, 128, 256] inb_S4x128x256_S1x128x256_3_0_0) (fin3 (F := Ideal) x1 x7 sb) _ (ix3 (2 : Fin 4) d w) n3).trans ?_
  have n3 : (ix3 (2 : Fin 4) d w : S4x128x256.Idx) ∉ (Rect.unit (s := S4x128x256) ![3, 0, 0] ![1, 128, 256] inb_S4x128x256_S1x128x256_3_0_0).set := not_mem_of_lt (0 : Fin 3) (show 2 < 3 by decide)
  refine (canon_miss (Rect.unit (s := S4x128x256) ![3, 0, 0] ![1, 128, 256] inb_S4x128x256_S1x128x256_3_0_0) (mid3 (F := Ideal) x1 x7 sb) _ (ix3 (2 : Fin 4) d w) n3).trans ?_
  refine (canon_hit (Rect.unit (s := S4x128x256) ![2, 0, 0] ![1, 128, 256] inb_S4x128x256_S1x128x256_2_0_0) (fin2 (F := Ideal) x1 x7 sb) _ (ix3 (2 : Fin 4) d w) (ix3 (0 : Fin 1) d w) (funext fun a => Fin.ext ?_)).trans (fin2_at A sb hs d w)
  match a with
  | ⟨0, _⟩ => rfl
  | ⟨1, _⟩ => show d.val = 0 + 1 * d.val; omega
  | ⟨2, _⟩ => show w.val = 0 + 1 * w.val; omega

theorem stL3_at (sb : Vec Ideal S4x128x256 .f32) (hs : ∀ (h : Fin 4) (d : Fin 128) (w : Fin 256), sb (ix3 h d w) = I.back b h d w (6 - 2 * T.val)) (L : List (View.Piece (Elt Ideal) S4x128x256 .f32))
    (d : Fin 128) (w : Fin 256) : View.canon (stL (F := Ideal) x1 x7 sb L) (ix3 (3 : Fin 4) d w) = I.back b 3 d w (8 - 2 * T.val) := by
  unfold stL
  refine (canon_hit (Rect.unit (s := S4x128x256) ![3, 0, 0] ![1, 128, 256] inb_S4x128x256_S1x128x256_3_0_0) (fin3 (F := Ideal) x1 x7 sb) _ (ix3 (3 : Fin 4) d w) (ix3 (0 : Fin 1) d w) (funext fun a => Fin.ext ?_)).trans (fin3_at A sb hs d w)
  match a with
  | ⟨0, _⟩ => rfl
  | ⟨1, _⟩ => show d.val = 0 + 1 * d.val; omega
  | ⟨2, _⟩ => show w.val = 0 + 1 * w.val; omega

/-- What the point leaves in the states. -/
theorem stL_at (sb : Vec Ideal S4x128x256 .f32) (hs : ∀ (h : Fin 4) (d : Fin 128) (w : Fin 256), sb (ix3 h d w) = I.back b h d w (6 - 2 * T.val)) (L : List (View.Piece (Elt Ideal) S4x128x256 .f32))
    (h : Fin 4) (d : Fin 128) (w : Fin 256) : View.canon (stL (F := Ideal) x1 x7 sb L) (ix3 h d w) = I.back b h d w (8 - 2 * T.val) := by
  match h with
  | ⟨0, _⟩ => exact stL0_at A sb hs L d w
  | ⟨1, _⟩ => exact stL1_at A sb hs L d w
  | ⟨2, _⟩ => exact stL2_at A sb hs L d w
  | ⟨3, _⟩ => exact stL3_at A sb hs L d w

section

variable (on : FVec Ideal S512x1024 .f32) (hon : ∀ (r : Fin 512) (e : Fin 1024), on (ix2 r e) = I.on b (row T r) e)

theorem gate_at (o : ℕ) (ho : 3072 + o + 1024 ≤ 6144) (inb : ∀ a, (![0, o] : Fin 2 → ℕ) a + (![1024, 1024] : Fin 2 → ℕ) a ≤ S1024x3072.size a) (r : Fin 512) (e : Fin 1024) :
    (∑ f : Fin 1024, k0_pay7 (F := Ideal) x3 (ix2 r f) * View.ld (Val := Elt Ideal) x11 (Rect.unit (s := S1024x3072) ![0, o] ![1024, 1024] inb) (ix2 f e)) = I.gate (3072 + o) ho b (row T r) e := by
  unfold In.gate
  refine Finset.sum_congr rfl fun f _ => ?_
  rw [pay7_at, A.h, ld_at x11 _ _ _ _ (ix2 f ⟨o + e.val, by omega⟩) (fun a => by
    match a with
    | ⟨0, _⟩ => show f.val = 0 + f.val; omega
    | ⟨1, _⟩ => rfl), A.wg]
  exact congrArg (fun j => I.h b (row T r) f * I.win f j) (Fin.ext (by show 3072 + (o + e.val) = 3072 + o + e.val; omega))

theorem gaB_at (r : Fin 512) (e : Fin 1024) : gaB (F := Ideal) x3 x11 (ix2 r e) = I.gate 4096 (by decide) b (row T r) e := by
  unfold gaB
  rw [pay93_at]
  exact gate_at A 1024 (by decide) _ r e

theorem gbB_at (r : Fin 512) (e : Fin 1024) : gbB (F := Ideal) x3 x11 (ix2 r e) = I.gate 5120 (by decide) b (row T r) e := by
  unfold gbB
  rw [pay94_at]
  exact gate_at A 2048 (by decide) _ r e

include hon

theorem ybB_at (r : Fin 512) (e : Fin 1024) : ybB (F := Ideal) x3 on x11 x13 x15 (ix2 r e) = I.yb b (row T r) e := by
  unfold ybB In.yb
  rw [pay91_at]
  refine Finset.sum_congr rfl fun f _ => ?_
  have hg := gate_at A 0 (by decide) inb_S1024x3072_S1024x1024_0_0 r f
  rw [hg, hon, A.gn, A.wro]

theorem mixed_at (r : Fin 512) (e : Fin 1024) :
    mixed (ybB (F := Ideal) x3 on x11 x13 x15) (k0_pay92 x9 x12) (gaB x3 x11) (gbB x3 x11) x14 x2 x16 r e = alpha * I.x b (row T r) e + I.g1 b e * I.y b (row T r) e := by
  unfold mixed In.y In.yc
  simp only [A.x, A.g1, A.wo, gaB_at A, gbB_at A, ybB_at A on hon, pay92_at, A.ya, A.wco]

/-- The residual's rows. -/
theorem x1row_at (r : Fin 512) (e : Fin 1024) :
    k0_pay98 (F := Ideal) (ctrB x3 on x2 x9 x11 x12 x13 x14 x15 x16) (varB x3 on x2 x9 x11 x12 x13 x14 x15 x16) (Scalar.ofBits .f32 0x3727C5AC) x19 x20 (ix2 r e) = I.x1 b (row T r) e := by
  rw [pay98_at]
  unfold ctrB varB
  rw [pay96_at, pay97_at]
  simp only [mixed_at A on hon, A.lg, A.lo]
  rfl

theorem x1B_at (r : Fin 512) (e : Fin 1024) : x1B (F := Ideal) x3 on x2 x9 x11 x12 x13 x14 x15 x16 x19 x20 (ix3 0 r e) = I.x1 b (row T r) e := by
  unfold x1B
  rw [pay99_at]
  exact x1row_at A on hon r e

theorem h2B_at (r : Fin 512) (e : Fin 1024) : h2B (F := Ideal) x3 on x2 x9 x11 x12 x13 x14 x15 x16 x18 x19 x20 (ix2 r e) = nrm c1024 (I.x1 b (row T r)) e * (1 + I.sc b e) := by
  unfold h2B
  rw [pay100_at, A.sc]
  simp only [x1row_at A on hon]

theorem hpB0_at (r : Fin 512) (e : Fin 512) :
    hpB (F := Ideal) x17 (h2B x3 on x2 x9 x11 x12 x13 x14 x15 x16 x18 x19 x20) (ix4 (0 : Fin 2) 0 r e) = I.h2 b (row T r) ⟨0 + e.val, by omega⟩ := by
  unfold hpB
  have n1 : (ix4 (0 : Fin 2) (0 : Fin 1) r e : S2x1x512x512.Idx) ∉ (Rect.unit (s := S2x1x512x512) ![1, 0, 0, 0] ![1, 1, 512, 512] inb_S2x1x512x512_S1x1x512x512_1_0_0_0).set := not_mem_of_lt (0 : Fin 4) (show 0 < 1 by decide)
  refine (canon_miss (e := .bf16) (Rect.unit (s := S2x1x512x512) ![1, 0, 0, 0] ![1, 1, 512, 512] inb_S2x1x512x512_S1x1x512x512_1_0_0_0) (k0_pay4 (F := Ideal) (h2B x3 on x2 x9 x11 x12 x13 x14 x15 x16 x18 x19 x20) (k0_pay101 x17)) _ (ix4 (0 : Fin 2) (0 : Fin 1) r e) n1).trans ?_
  refine (canon_hit (e := .bf16) (Rect.unit (s := S2x1x512x512) ![0, 0, 0, 0] ![1, 1, 512, 512] inb_S2x1x512x512_S1x1x512x512_0_0_0_0) (k0_pay3 (F := Ideal) (h2B x3 on x2 x9 x11 x12 x13 x14 x15 x16 x18 x19 x20) (k0_pay101 x17)) _ (ix4 (0 : Fin 2) (0 : Fin 1) r e) (ix4 (0 : Fin 1) (0 : Fin 1) r e) (funext fun a => Fin.ext ?_)).trans ?_
  · match a with
    | ⟨0, _⟩ => rfl
    | ⟨1, _⟩ => rfl
    | ⟨2, _⟩ => show r.val = 0 + 1 * r.val; omega
    | ⟨3, _⟩ => show e.val = 0 + 1 * e.val; omega
  · rw [pay3_at, h2B_at A on hon, pay101_at, A.sh]
    have e0 : (⟨e.val, by omega⟩ : Fin 1024) = ⟨0 + e.val, by omega⟩ := Fin.ext (by show e.val = 0 + e.val; omega)
    rw [e0]
    rfl

theorem hpB1_at (r : Fin 512) (e : Fin 512) :
    hpB (F := Ideal) x17 (h2B x3 on x2 x9 x11 x12 x13 x14 x15 x16 x18 x19 x20) (ix4 (1 : Fin 2) 0 r e) = I.h2 b (row T r) ⟨512 + e.val, by omega⟩ := by
  unfold hpB
  refine (canon_hit (e := .bf16) (Rect.unit (s := S2x1x512x512) ![1, 0, 0, 0] ![1, 1, 512, 512] inb_S2x1x512x512_S1x1x512x512_1_0_0_0) (k0_pay4 (F := Ideal) (h2B x3 on x2 x9 x11 x12 x13 x14 x15 x16 x18 x19 x20) (k0_pay101 x17)) _ (ix4 (1 : Fin 2) (0 : Fin 1) r e) (ix4 (0 : Fin 1) (0 : Fin 1) r e) (funext fun a => Fin.ext ?_)).trans ?_
  · match a with
    | ⟨0, _⟩ => rfl
    | ⟨1, _⟩ => rfl
    | ⟨2, _⟩ => show r.val = 0 + 1 * r.val; omega
    | ⟨3, _⟩ => show e.val = 0 + 1 * e.val; omega
  · rw [pay4_at, h2B_at A on hon, pay101_at, A.sh]
    rfl

/-- The feed-forward's input's rows. -/
theorem hpB_at (p : Fin 2) (r : Fin 512) (e : Fin 512) :
    hpB (F := Ideal) x17 (h2B x3 on x2 x9 x11 x12 x13 x14 x15 x16 x18 x19 x20) (ix4 p 0 r e) = I.h2 b (row T r) ⟨512 * p.val + e.val, by omega⟩ := by
  match p with
  | ⟨0, _⟩ => exact hpB0_at A on hon r e
  | ⟨1, _⟩ => exact hpB1_at A on hon r e

end

end

end Cert.Proof.Mix

end
-- ==== Proof.Mix.Whole.lean ====
/-
  The mixer's results as arrays: every entry of the two results the later calls read.
-/
module

public import proofs.«01_k».proof.Proof.Mix.ArraysVal
public import proofs.«01_k».proof.Proof.Mix.PointVal

@[expose] public section

set_option maxRecDepth 16384
set_option maxHeartbeats 4000000

noncomputable section

namespace Cert.Proof.Mix

open Cert.Kernel3Ideal Cert.Kernel3Ideal.Gen
open Idealize.ShloMosaic Idealize.ShloMosaic.TcCoe Idealize.SL.Sem

variable (m : (ℓ : Loc nD τ sig) → Buf (Elt Ideal) ℓ)

/-- What point `t` leaves: its block of the first result, of the second, and the states. -/
def Left (c : Dev nD) (n : ℕ) (hn : n < cfg0.N) (b : Fin 16) (T : Fin 4) : Prop :=
  (∀ (r : Fin 512) (e : Fin 1024), (outsAt0 m c n hn).1 (ix3 0 r e) = (arrs m c).x1 b (row T r) e)
  ∧ (∀ (p : Fin 2) (r : Fin 512) (e : Fin 512), (outsAt0 m c n hn).2.1 (ix4 p 0 r e) = (arrs m c).h2 b (row T r) ⟨512 * p.val + e.val, by omega⟩)
  ∧ ∀ (h : Fin 4) (d : Fin 128) (w : Fin 256), (outsAt0 m c n hn).2.2.2 (ix3 h d w) = (arrs m c).back b h d w (8 - 2 * T.val)

/-- A sequence's first point, which starts from the last backward state. -/
theorem left_A (c : Dev nD) (t : Fin cfg0.N) (h0 : t.val % 4 = 0) (b : Fin 16) (T : Fin 4) (hb : t.val / 4 = b.val) (hT : 3 - t.val % 4 = T.val) :
    Left m c t.val t.isLt b T := by
  have A := at_pt m c t b T hb hT
  have hs : ∀ (h : Fin 4) (d : Fin 128) (w : Fin 256), k0_pay6 (F := Ideal) (iblk m c 8 t) (ix3 h d w) = (arrs m c).back b h d w (6 - 2 * T.val) := by
    intro h d w
    rw [pay6_at, show 6 - 2 * T.val = 0 by omega]
    exact A.sb0 h d w
  unfold Left
  rw [outsAt0_A m c t h0]
  dsimp only
  rw [out0_A_24_eq, out0_A_25_eq, sout0_A_0_eq]
  exact ⟨fun r e => x1B_at A _ (onB_at A _ hs) r e, fun p r e => hpB_at A _ (onB_at A _ hs) p r e, fun h d w => stL_at A _ hs _ h d w⟩

/-- Any other point, which starts from the states the point before left. -/
theorem left_B (c : Dev nD) (t : Fin cfg0.N) (h0 : ¬t.val % 4 = 0) (b : Fin 16) (T : Fin 4) (hb : t.val / 4 = b.val) (hT : 3 - t.val % 4 = T.val)
    (hs : ∀ (h : Fin 4) (d : Fin 128) (w : Fin 256), (outsAt0 m c (t.val - 1) (Nat.lt_of_le_of_lt (Nat.sub_le _ _) t.isLt)).2.2.2 (ix3 h d w) = (arrs m c).back b h d w (6 - 2 * T.val)) :
    Left m c t.val t.isLt b T := by
  have A := at_pt m c t b T hb hT
  unfold Left
  rw [outsAt0_B m c t h0]
  dsimp only
  rw [out0_B_24_eq, out0_B_25_eq, sout0_B_0_eq]
  exact ⟨fun r e => x1B_at A _ (onB_at A _ hs) r e, fun p r e => hpB_at A _ (onB_at A _ hs) p r e, fun h d w => stL_at A _ hs _ h d w⟩

/-- After any point. -/
theorem left_at (c : Dev nD) : ∀ (n : ℕ) (hn : n < cfg0.N) (b : Fin 16) (T : Fin 4), n / 4 = b.val → 3 - n % 4 = T.val → Left m c n hn b T := by
  intro n
  induction n with
  | zero => exact fun hn b T hb hT => left_A m c ⟨0, hn⟩ rfl b T hb hT
  | succ n ih =>
    intro hn b T hb hT
    by_cases h0 : (n + 1) % 4 = 0
    · exact left_A m c ⟨n + 1, hn⟩ h0 b T hb hT
    · refine left_B m c ⟨n + 1, hn⟩ h0 b T hb hT fun h d w => ?_
      have hT' : T.val + 1 < 4 := by omega
      have hp := (ih (Nat.lt_of_succ_lt hn) b ⟨T.val + 1, hT'⟩ (by omega) (by show 3 - n % 4 = T.val + 1; omega)).2.2 h d w
      have e : 8 - 2 * (T.val + 1) = 6 - 2 * T.val := by omega
      rw [← e]
      exact hp

/-- The point of sequence `b`, tile `T`. -/
def ptOf (b : Fin 16) (T : Fin 4) : Fin cfg0.N := ⟨4 * b.val + (3 - T.val), by rw [show cfg0.N = 64 from N_0]; omega⟩

theorem flush24 : ∀ t : Fin cfg0.N, (cfg0.win 24).flush t = true := (by decide +kernel : ∀ t : Fin grid0.N, win0_24.flush t = true)
theorem flush25 : ∀ t : Fin cfg0.N, (cfg0.win 25).flush t = true := (by decide +kernel : ∀ t : Fin grid0.N, win0_25.flush t = true)

/-- The first result, entry by entry. -/
theorem whole24 (c : Dev nD) (b : Fin 16) (T : Fin 4) (r : Fin 512) (e : Fin 1024) :
    ((dats m 0 c).arrAt 24 cfg0.N : Vec Ideal S16x2048x1024 .f32) (ix3 b (row T r) e) = (arrs m c).x1 b (row T r) e := by
  have hp : (ptOf b T).val = 4 * b.val + (3 - T.val) := rfl
  have hl := (left_at m c (ptOf b T).val (ptOf b T).isLt b T (by omega) (by omega)).1 r e
  obtain ⟨e0, e1, e2⟩ := at24 (ptOf b T)
  have hbk := congrFun ((blocks24 m c (ptOf b T) (flush24 _)).trans (flushed24 m c (ptOf b T))) (ix3 0 r e)
  refine Eq.trans ?_ (hbk.trans (Eq.trans ?_ hl))
  · show _ = ((dats m 0 c).arrAt 24 cfg0.N : Vec Ideal S16x2048x1024 .f32) (((cfg0.win 24).blk (ptOf b T)).view.emb (ix3 0 r e))
    refine congrArg ((dats m 0 c).arrAt 24 cfg0.N : Vec Ideal S16x2048x1024 .f32) (funext fun a => Fin.ext ?_)
    match a with
    | ⟨0, _⟩ => show b.val = win0_24.index (ptOf b T) (0 : Fin 3) * 1 + 1 * 0; omega
    | ⟨1, _⟩ => show 512 * T.val + r.val = win0_24.index (ptOf b T) (1 : Fin 3) * 512 + 1 * r.val; omega
    | ⟨2, _⟩ => show e.val = win0_24.index (ptOf b T) (2 : Fin 3) * 1024 + 1 * e.val; omega
  · rfl

/-- The second result, entry by entry. -/
theorem whole25 (c : Dev nD) (p : Fin 2) (b : Fin 16) (T : Fin 4) (r : Fin 512) (e : Fin 512) :
    ((dats m 0 c).arrAt 25 cfg0.N : Vec Ideal S2x16x2048x512 .bf16) (ix4 p b (row T r) e) = (arrs m c).h2 b (row T r) ⟨512 * p.val + e.val, by omega⟩ := by
  have hp : (ptOf b T).val = 4 * b.val + (3 - T.val) := rfl
  have hl := (left_at m c (ptOf b T).val (ptOf b T).isLt b T (by omega) (by omega)).2.1 p r e
  obtain ⟨e0, e1, e2, e3⟩ := at25 (ptOf b T)
  have hbk := congrFun ((blocks25 m c (ptOf b T) (flush25 _)).trans (flushed25 m c (ptOf b T))) (ix4 p 0 r e)
  refine Eq.trans ?_ (hbk.trans (Eq.trans ?_ hl))
  · show _ = ((dats m 0 c).arrAt 25 cfg0.N : Vec Ideal S2x16x2048x512 .bf16) (((cfg0.win 25).blk (ptOf b T)).view.emb (ix4 p 0 r e))
    refine congrArg ((dats m 0 c).arrAt 25 cfg0.N : Vec Ideal S2x16x2048x512 .bf16) (funext fun a => Fin.ext ?_)
    match a with
    | ⟨0, _⟩ => show p.val = win0_25.index (ptOf b T) (0 : Fin 4) * 2 + 1 * p.val; omega
    | ⟨1, _⟩ => show b.val = win0_25.index (ptOf b T) (1 : Fin 4) * 1 + 1 * 0; omega
    | ⟨2, _⟩ => show 512 * T.val + r.val = win0_25.index (ptOf b T) (2 : Fin 4) * 512 + 1 * r.val; omega
    | ⟨3, _⟩ => show e.val = win0_25.index (ptOf b T) (3 : Fin 4) * 512 + 1 * e.val; omega
  · rfl

/-- The first result. -/
theorem result24 (c : Dev nD) : ((dats m 0 c).arrAt 24 cfg0.N : Vec Ideal S16x2048x1024 .f32) = fun i => (arrs m c).x1 (i 0) (i 1) (i 2) := by
  funext i
  obtain ⟨b, l, e, rfl⟩ : ∃ (b : Fin 16) (l : Fin 2048) (e : Fin 1024), i = ix3 b l e := ⟨i 0, i 1, i 2, by funext a; match a with | ⟨0, _⟩ => rfl | ⟨1, _⟩ => rfl | ⟨2, _⟩ => rfl⟩
  have hl : l = row ⟨l.val / 512, by omega⟩ ⟨l.val % 512, Nat.mod_lt _ (by decide)⟩ := Fin.ext (by show l.val = 512 * (l.val / 512) + l.val % 512; omega)
  show _ = (arrs m c).x1 b l e
  rw [hl]
  exact whole24 m c b _ _ e

/-- The second result. -/
theorem result25 (c : Dev nD) : ((dats m 0 c).arrAt 25 cfg0.N : Vec Ideal S2x16x2048x512 .bf16) = fun i =>
    (arrs m c).h2 (i 1) (i 2) ⟨512 * (i 0).val + (i 3).val, by have h0 : (i 0).val < 2 := (i 0).isLt; have h3 : (i 3).val < 512 := (i 3).isLt; omega⟩ := by
  funext i
  obtain ⟨p, b, l, e, rfl⟩ : ∃ (p : Fin 2) (b : Fin 16) (l : Fin 2048) (e : Fin 512), i = ix4 p b l e := ⟨i 0, i 1, i 2, i 3, by funext a; match a with | ⟨0, _⟩ => rfl | ⟨1, _⟩ => rfl | ⟨2, _⟩ => rfl | ⟨3, _⟩ => rfl⟩
  have hl : l = row ⟨l.val / 512, by omega⟩ ⟨l.val % 512, Nat.mod_lt _ (by decide)⟩ := Fin.ext (by show l.val = 512 * (l.val / 512) + l.val % 512; omega)
  show _ = (arrs m c).h2 b l ⟨512 * p.val + e.val, by omega⟩
  rw [hl]
  exact whole25 m c p b _ _ e

end Cert.Proof.Mix

end
-- ==== Proof.Mix.RefDef.lean ====
/-
  The reference's mixer as functions of its arguments, named step by step, and its run.
-/
module

public import proofs.«01_k».proof.Proof.Gen.Reference3Ideal.Run
public import proofs.«01_k».proof.Proof.Mix.Args

@[expose] public section

set_option maxRecDepth 16384
set_option maxHeartbeats 4000000

noncomputable section

namespace Cert.Proof.MixRef

open Cert.Reference3Ideal Cert.Reference3Ideal.Gen Cert.Reference3Ideal.Value
open Idealize.ShloMosaic Idealize.ShloMosaic.TcCoe Idealize.SL.Sem

variable {F : FTy → Type} [FloatOps F]

/-- The arguments the results depend on. -/
structure Args (F : FTy → Type) where
  a0 : FVec F S1x4 .f32
  a1 : FVec F S1x4 .f32
  a2 : FVec F S2048x64 .f32
  a3 : FVec F S2048x64 .f32
  a4 : FVec F S32x2048x1024 .f32
  a5 : FVec F S16x2048x1024 .bf16
  a6 : FVec F S16x2048x512 .bf16
  a7 : FVec F S16x2048x1024 .bf16
  a8 : FVec F S16x8x4x128x256 .bf16
  a9 : FVec F S16x8x4x128x256 .f32
  a10 : FVec F S16x4x128x256 .f32
  a11 : FVec F S16x2048x512 .bf16
  a12 : FVec F S1x1024x6144 .f32
  a13 : FVec F S1x512x1024 .f32
  a14 : FVec F S1x1024x1024 .f32
  a15 : FVec F S1x1024x1024 .f32
  a16 : FVec F S1x1024 .f32
  a17 : FVec F S16x1x1024 .f32
  a18 : FVec F S16x1x1024 .f32
  a19 : FVec F S16x1x1024 .f32
  a20 : FVec F S1x1024 .f32
  a21 : FVec F S1x1024 .f32

/-- The two halves of each head's columns laid side by side. -/
def il (x : FVec F S16x8x4x256x128 .f32) : FVec F S16x8x4x256x128 .f32 :=
  shapeCast _ (concatenate S16x8x4x256x64x2 5 [⟨S16x8x4x256x64x1, (broadcastInDim S16x8x4x256x64x1 ![0, 1, 2, 3, 4] bcast_S16x8x4x256x64_S16x8x4x256x64x1_0_1_2_3_4 (extractStridedSlice S16x8x4x256x64 ![0, 0, 0, 0, 0] x slices_S16x8x4x256x128_S16x8x4x256x64_0_0_0_0_0))⟩, ⟨S16x8x4x256x64x1, (broadcastInDim S16x8x4x256x64x1 ![0, 1, 2, 3, 4] bcast_S16x8x4x256x64_S16x8x4x256x64x1_0_1_2_3_4 (extractStridedSlice S16x8x4x256x64 ![0, 0, 0, 0, 64] x slices_S16x8x4x256x128_S16x8x4x256x64_0_0_0_0_64))⟩] concatenates_S16x8x4x256x64x1_S16x8x4x256x64x1_S16x8x4x256x64x2_d5) shapeCasts_S16x8x4x256x64x2_S16x8x4x256x128

@[inherit_doc il] def il4 (x : FVec F S16x4x256x128 .f32) : FVec F S16x4x256x128 .f32 :=
  shapeCast _ (concatenate S16x4x256x64x2 4 [⟨S16x4x256x64x1, (broadcastInDim S16x4x256x64x1 ![0, 1, 2, 3] bcast_S16x4x256x64_S16x4x256x64x1_0_1_2_3 (extractStridedSlice S16x4x256x64 ![0, 0, 0, 0] x slices_S16x4x256x128_S16x4x256x64_0_0_0_0))⟩, ⟨S16x4x256x64x1, (broadcastInDim S16x4x256x64x1 ![0, 1, 2, 3] bcast_S16x4x256x64_S16x4x256x64x1_0_1_2_3 (extractStridedSlice S16x4x256x64 ![0, 0, 0, 64] x slices_S16x4x256x128_S16x4x256x64_0_0_0_64))⟩] concatenates_S16x4x256x64x1_S16x4x256x64x1_S16x4x256x64x2_d4) shapeCasts_S16x4x256x64x2_S16x4x256x128

/-- The reference's step 0. -/
def r0 (A : Args F) : FVec F S4 .f32 :=
  shapeCast _ A.a0 shapeCasts_S1x4_S4

/-- The reference's step 1. -/
def r1 (A : Args F) : FVec F S4 .f32 :=
  shapeCast _ A.a1 shapeCasts_S1x4_S4

/-- The reference's step 2. -/
def r2 (A : Args F) : FVec F S1024x6144 .f32 :=
  shapeCast _ A.a12 shapeCasts_S1x1024x6144_S1024x6144

/-- The reference's step 3. -/
def r3 (A : Args F) : FVec F S16x2048x1024 .f32 :=
  extf .f32 A.a5 bitsLt_bf16_f32

/-- The reference's step 7. -/
def r7 (A : Args F) : FVec F S16x8x4x256x128 .f32 :=
  transpose S16x8x4x256x128 [0, 1, 3, 2, 4] (shapeCast _ (Host.dotGeneral dot_S16x2048x1024_S1024x512_S16x2048x512_2_0_01_1_n_n none (r3 A) (extractStridedSlice S1024x512 ![0, 1024] (r2 A) slices_S1024x6144_S1024x512_0_1024)) shapeCasts_S16x2048x512_S16x8x256x4x128) transposes_S16x8x256x4x128_S16x8x4x256x128_0_1_3_2_4

/-- The reference's step 8. -/
def r8 (A : Args F) : FVec F S8x1x256x64 .f32 :=
  shapeCast _ A.a2 shapeCasts_S2048x64_S8x1x256x64

/-- The reference's step 9. -/
def r9 (A : Args F) : FVec F S8x1x256x64 .f32 :=
  shapeCast _ A.a3 shapeCasts_S2048x64_S8x1x256x64

/-- The reference's step 10. -/
def r10 (A : Args F) : FVec F S16x8x4x256x64 .f32 :=
  Host.slice S16x8x4x256x64 ![0, 0, 0, 0, 0] ![1, 1, 1, 1, 2] (r7 A) slicesBy_S16x8x4x256x128_S16x8x4x256x64_0s1_0s1_0s1_0s1_0s2

/-- The reference's step 11. -/
def r11 (A : Args F) : FVec F S16x8x4x256x64 .f32 :=
  Host.slice S16x8x4x256x64 ![0, 0, 0, 0, 1] ![1, 1, 1, 1, 2] (r7 A) slicesBy_S16x8x4x256x128_S16x8x4x256x64_0s1_0s1_0s1_0s1_1s2

/-- The reference's step 29. -/
def r29 (A : Args F) : FVec F S16x8x4x256x128 .f32 :=
  shapeCast _ (concatenate S16x8x4x256x64x2 5 [⟨S16x8x4x256x64x1, (broadcastInDim S16x8x4x256x64x1 ![0, 1, 2, 3, 4] bcast_S16x8x4x256x64_S16x8x4x256x64x1_0_1_2_3_4 (subf (mulf (r10 A) (broadcastInDim S16x8x4x256x64 ![0, 1, 2, 3, 4] bcast_S1x8x1x256x64_S16x8x4x256x64_0_1_2_3_4 (broadcastInDim S1x8x1x256x64 ![1, 2, 3, 4] bcast_S8x1x256x64_S1x8x1x256x64_1_2_3_4 (r8 A)))) (mulf (r11 A) (broadcastInDim S16x8x4x256x64 ![0, 1, 2, 3, 4] bcast_S1x8x1x256x64_S16x8x4x256x64_0_1_2_3_4 (broadcastInDim S1x8x1x256x64 ![1, 2, 3, 4] bcast_S8x1x256x64_S1x8x1x256x64_1_2_3_4 (r9 A))))))⟩, ⟨S16x8x4x256x64x1, (broadcastInDim S16x8x4x256x64x1 ![0, 1, 2, 3, 4] bcast_S16x8x4x256x64_S16x8x4x256x64x1_0_1_2_3_4 (addf (mulf (r10 A) (broadcastInDim S16x8x4x256x64 ![0, 1, 2, 3, 4] bcast_S1x8x1x256x64_S16x8x4x256x64_0_1_2_3_4 (broadcastInDim S1x8x1x256x64 ![1, 2, 3, 4] bcast_S8x1x256x64_S1x8x1x256x64_1_2_3_4 (r9 A)))) (mulf (r11 A) (broadcastInDim S16x8x4x256x64 ![0, 1, 2, 3, 4] bcast_S1x8x1x256x64_S16x8x4x256x64_0_1_2_3_4 (broadcastInDim S1x8x1x256x64 ![1, 2, 3, 4] bcast_S8x1x256x64_S1x8x1x256x64_1_2_3_4 (r8 A))))))⟩] concatenates_S16x8x4x256x64x1_S16x8x4x256x64x1_S16x8x4x256x64x2_d5) shapeCasts_S16x8x4x256x64x2_S16x8x4x256x128

/-- The reference's step 32. -/
def r32 (A : Args F) : FVec F S16x8x4x256x128 .f32 :=
  transpose S16x8x4x256x128 [0, 1, 3, 2, 4] (shapeCast _ (extf .f32 A.a6 bitsLt_bf16_f32) shapeCasts_S16x2048x512_S16x8x256x4x128) transposes_S16x8x256x4x128_S16x8x4x256x128_0_1_3_2_4

/-- The reference's step 41. -/
def r41 (A : Args F) : FVec F S16x8x4x256x256 .f32 :=
  transpose S16x8x4x256x256 [0, 1, 3, 2, 4] (shapeCast _ (extf .f32 A.a7 bitsLt_bf16_f32) shapeCasts_S16x2048x1024_S16x8x256x4x256) transposes_S16x8x256x4x256_S16x8x4x256x256_0_1_3_2_4

/-- The reference's step 43. -/
def r43 (A : Args F) : FVec F S16x8x4x256x128 .f32 :=
  transpose S16x8x4x256x128 [0, 1, 2, 4, 3] (extf .f32 A.a8 bitsLt_bf16_f32) transposes_S16x8x4x128x256_S16x8x4x256x128_0_1_2_4_3

/-- The reference's step 51. -/
def r51 (A : Args F) : FVec F S16x4x256x128 .f32 :=
  transpose S16x4x256x128 [0, 1, 3, 2] A.a10 transposes_S16x4x128x256_S16x4x256x128_0_1_3_2

/-- The reference's step 58. -/
def r58 (A : Args F) : FVec F S16x4x128x256 .f32 :=
  transpose S16x4x128x256 [0, 1, 3, 2] (il4 (r51 A)) transposes_S16x4x256x128_S16x4x128x256_0_1_3_2

/-- The reference's step 59. -/
def r59 (A : Args F) : FVec F S16x8x4x256x128 .f32 :=
  transpose S16x8x4x256x128 [0, 1, 2, 4, 3] A.a9 transposes_S16x8x4x128x256_S16x8x4x256x128_0_1_2_4_3

/-- The reference's step 66. -/
def r66 (A : Args F) : FVec F S16x8x4x128x256 .f32 :=
  transpose S16x8x4x128x256 [0, 1, 2, 4, 3] (il (r59 A)) transposes_S16x8x4x256x128_S16x8x4x128x256_0_1_2_4_3

/-- The reference's step 70. -/
def r70 (A : Args F) : FVec F S4x1x1 .f32 :=
  broadcastInDim S4x1x1 ![0] bcast_S4_S4x1x1_0 (Host.exp (mulf (r1 A) (broadcastInDim S4 ![] bcast_S_S4 (constant S_ .f32 0x43800000#32))))

/-- The reference's step 76. -/
def r76 (A : Args F) : FVec F S16x4x128x256 .f32 :=
  addf (mulf (r58 A) (broadcastInDim S16x4x128x256 ![0, 1, 2, 3] bcast_S1x4x1x1_S16x4x128x256_0_1_2_3 (broadcastInDim S1x4x1x1 ![1, 2, 3] bcast_S4x1x1_S1x4x1x1_1_2_3 (r70 A)))) (shapeCast _ (extractStridedSlice S16x1x4x128x256 ![0, 7, 0, 0, 0] (r66 A) slices_S16x8x4x128x256_S16x1x4x128x256_0_7_0_0_0) shapeCasts_S16x1x4x128x256_S16x4x128x256)

/-- The reference's step 82. -/
def r82 (A : Args F) : FVec F S16x4x128x256 .f32 :=
  addf (mulf (r76 A) (broadcastInDim S16x4x128x256 ![0, 1, 2, 3] bcast_S1x4x1x1_S16x4x128x256_0_1_2_3 (broadcastInDim S1x4x1x1 ![1, 2, 3] bcast_S4x1x1_S1x4x1x1_1_2_3 (r70 A)))) (shapeCast _ (extractStridedSlice S16x1x4x128x256 ![0, 6, 0, 0, 0] (r66 A) slices_S16x8x4x128x256_S16x1x4x128x256_0_6_0_0_0) shapeCasts_S16x1x4x128x256_S16x4x128x256)

/-- The reference's step 88. -/
def r88 (A : Args F) : FVec F S16x4x128x256 .f32 :=
  addf (mulf (r82 A) (broadcastInDim S16x4x128x256 ![0, 1, 2, 3] bcast_S1x4x1x1_S16x4x128x256_0_1_2_3 (broadcastInDim S1x4x1x1 ![1, 2, 3] bcast_S4x1x1_S1x4x1x1_1_2_3 (r70 A)))) (shapeCast _ (extractStridedSlice S16x1x4x128x256 ![0, 5, 0, 0, 0] (r66 A) slices_S16x8x4x128x256_S16x1x4x128x256_0_5_0_0_0) shapeCasts_S16x1x4x128x256_S16x4x128x256)

/-- The reference's step 94. -/
def r94 (A : Args F) : FVec F S16x4x128x256 .f32 :=
  addf (mulf (r88 A) (broadcastInDim S16x4x128x256 ![0, 1, 2, 3] bcast_S1x4x1x1_S16x4x128x256_0_1_2_3 (broadcastInDim S1x4x1x1 ![1, 2, 3] bcast_S4x1x1_S1x4x1x1_1_2_3 (r70 A)))) (shapeCast _ (extractStridedSlice S16x1x4x128x256 ![0, 4, 0, 0, 0] (r66 A) slices_S16x8x4x128x256_S16x1x4x128x256_0_4_0_0_0) shapeCasts_S16x1x4x128x256_S16x4x128x256)

/-- The reference's step 100. -/
def r100 (A : Args F) : FVec F S16x4x128x256 .f32 :=
  addf (mulf (r94 A) (broadcastInDim S16x4x128x256 ![0, 1, 2, 3] bcast_S1x4x1x1_S16x4x128x256_0_1_2_3 (broadcastInDim S1x4x1x1 ![1, 2, 3] bcast_S4x1x1_S1x4x1x1_1_2_3 (r70 A)))) (shapeCast _ (extractStridedSlice S16x1x4x128x256 ![0, 3, 0, 0, 0] (r66 A) slices_S16x8x4x128x256_S16x1x4x128x256_0_3_0_0_0) shapeCasts_S16x1x4x128x256_S16x4x128x256)

/-- The reference's step 106. -/
def r106 (A : Args F) : FVec F S16x4x128x256 .f32 :=
  addf (mulf (r100 A) (broadcastInDim S16x4x128x256 ![0, 1, 2, 3] bcast_S1x4x1x1_S16x4x128x256_0_1_2_3 (broadcastInDim S1x4x1x1 ![1, 2, 3] bcast_S4x1x1_S1x4x1x1_1_2_3 (r70 A)))) (shapeCast _ (extractStridedSlice S16x1x4x128x256 ![0, 2, 0, 0, 0] (r66 A) slices_S16x8x4x128x256_S16x1x4x128x256_0_2_0_0_0) shapeCasts_S16x1x4x128x256_S16x4x128x256)

/-- The reference's step 112. -/
def r112 (A : Args F) : FVec F S16x4x128x256 .f32 :=
  addf (mulf (r106 A) (broadcastInDim S16x4x128x256 ![0, 1, 2, 3] bcast_S1x4x1x1_S16x4x128x256_0_1_2_3 (broadcastInDim S1x4x1x1 ![1, 2, 3] bcast_S4x1x1_S1x4x1x1_1_2_3 (r70 A)))) (shapeCast _ (extractStridedSlice S16x1x4x128x256 ![0, 1, 0, 0, 0] (r66 A) slices_S16x8x4x128x256_S16x1x4x128x256_0_1_0_0_0) shapeCasts_S16x1x4x128x256_S16x4x128x256)

/-- The reference's step 128. -/
def r128 (A : Args F) : FVec F S256 .f32 :=
  sitofp .f32 (iotaInDim S256 32 0)

/-- The reference's step 133. -/
def r133 (A : Args F) : FVec F S256x256 .f32 :=
  subf (broadcastInDim S256x256 ![0, 1] bcast_S256x1_S256x256_0_1 (broadcastInDim S256x1 ![0] bcast_S256_S256x1_0 (r128 A))) (broadcastInDim S256x256 ![0, 1] bcast_S1x256_S256x256_0_1 (broadcastInDim S1x256 ![1] bcast_S256_S1x256_1 (r128 A)))

/-- The reference's step 175. -/
def r175 (A : Args F) : FVec F S16x8x4x256x256 .f32 :=
  Host.dotGeneral dot_S16x8x4x256x128_S16x8x4x256x128_S16x8x4x256x256_4_4_3_3_012_012 none (r29 A) (il (r32 A))

/-- The forward decays within a chunk. -/
def decF (A : Args F) : FVec F S4x256x256 .f32 :=
  (select (broadcastInDim S4x256x256 ![1, 2] bcast_S256x256_S4x256x256_1_2 (cmpf .oge (r133 A) (broadcastInDim S256x256 ![] bcast_S_S256x256 (constant S_ .f32 0x00000000#32)))) (Host.exp (mulf (broadcastInDim S4x256x256 ![0, 1, 2] bcast_S4x1x1_S4x256x256_0_1_2 (broadcastInDim S4x1x1 ![0] bcast_S4_S4x1x1_0 (r0 A))) (broadcastInDim S4x256x256 ![0, 1, 2] bcast_S1x256x256_S4x256x256_0_1_2 (broadcastInDim S1x256x256 ![1, 2] bcast_S256x256_S1x256x256_1_2 (maximumf (r133 A) (broadcastInDim S256x256 ![] bcast_S_S256x256 (constant S_ .f32 0x00000000#32))))))) (broadcastInDim S4x256x256 ![] bcast_S_S4x256x256 (id (constant S_ .f32 0x00000000#32))))

/-- The backward decays within a chunk. -/
def decB (A : Args F) : FVec F S4x256x256 .f32 :=
  (select (broadcastInDim S4x256x256 ![1, 2] bcast_S256x256_S4x256x256_1_2 (cmpf .olt (r133 A) (broadcastInDim S256x256 ![] bcast_S_S256x256 (constant S_ .f32 0x00000000#32)))) (Host.exp (mulf (broadcastInDim S4x256x256 ![0, 1, 2] bcast_S4x1x1_S4x256x256_0_1_2 (broadcastInDim S4x1x1 ![0] bcast_S4_S4x1x1_0 (r1 A))) (broadcastInDim S4x256x256 ![0, 1, 2] bcast_S1x256x256_S4x256x256_0_1_2 (broadcastInDim S1x256x256 ![1, 2] bcast_S256x256_S1x256x256_1_2 (maximumf (Host.negf (r133 A)) (broadcastInDim S256x256 ![] bcast_S_S256x256 (constant S_ .f32 0x00000000#32))))))) (broadcastInDim S4x256x256 ![] bcast_S_S4x256x256 (id (constant S_ .f32 0x00000000#32))))

/-- The forward decays from a chunk's start. -/
def crossF (A : Args F) : FVec F S4x256x1 .f32 :=
  (broadcastInDim S4x256x1 ![0, 1] bcast_S4x256_S4x256x1_0_1 (Host.exp (mulf (broadcastInDim S4x256 ![0, 1] bcast_S4x1_S4x256_0_1 (broadcastInDim S4x1 ![0] bcast_S4_S4x1_0 (r0 A))) (broadcastInDim S4x256 ![0, 1] bcast_S1x256_S4x256_0_1 (broadcastInDim S1x256 ![1] bcast_S256_S1x256_1 (addf (r128 A) (broadcastInDim S256 ![] bcast_S_S256 (constant S_ .f32 0x3F800000#32))))))))

/-- The backward decays from a chunk's end. -/
def crossB (A : Args F) : FVec F S4x256x1 .f32 :=
  (broadcastInDim S4x256x1 ![0, 1] bcast_S4x256_S4x256x1_0_1 (Host.exp (mulf (broadcastInDim S4x256 ![0, 1] bcast_S4x1_S4x256_0_1 (broadcastInDim S4x1 ![0] bcast_S4_S4x1_0 (r1 A))) (broadcastInDim S4x256 ![0, 1] bcast_S1x256_S4x256_0_1 (broadcastInDim S1x256 ![1] bcast_S256_S1x256_1 (subf (broadcastInDim S256 ![] bcast_S_S256 (constant S_ .f32 0x43800000#32)) (r128 A)))))))

/-- The backward states, chunk by chunk. -/
def states (A : Args F) : FVec F S16x8x4x128x256 .f32 :=
  (concatenate S16x8x4x128x256 1 [⟨S16x1x4x128x256, ((broadcastInDim S16x1x4x128x256 ![0, 2, 3, 4] bcast_S16x4x128x256_S16x1x4x128x256_0_2_3_4 (r112 A)) : (⟨S16x1x4x128x256, .f32⟩ : BufTy).Contents (Elt F))⟩, ⟨S16x1x4x128x256, ((broadcastInDim S16x1x4x128x256 ![0, 2, 3, 4] bcast_S16x4x128x256_S16x1x4x128x256_0_2_3_4 (r106 A)) : (⟨S16x1x4x128x256, .f32⟩ : BufTy).Contents (Elt F))⟩, ⟨S16x1x4x128x256, ((broadcastInDim S16x1x4x128x256 ![0, 2, 3, 4] bcast_S16x4x128x256_S16x1x4x128x256_0_2_3_4 (r100 A)) : (⟨S16x1x4x128x256, .f32⟩ : BufTy).Contents (Elt F))⟩, ⟨S16x1x4x128x256, ((broadcastInDim S16x1x4x128x256 ![0, 2, 3, 4] bcast_S16x4x128x256_S16x1x4x128x256_0_2_3_4 (r94 A)) : (⟨S16x1x4x128x256, .f32⟩ : BufTy).Contents (Elt F))⟩, ⟨S16x1x4x128x256, ((broadcastInDim S16x1x4x128x256 ![0, 2, 3, 4] bcast_S16x4x128x256_S16x1x4x128x256_0_2_3_4 (r88 A)) : (⟨S16x1x4x128x256, .f32⟩ : BufTy).Contents (Elt F))⟩, ⟨S16x1x4x128x256, ((broadcastInDim S16x1x4x128x256 ![0, 2, 3, 4] bcast_S16x4x128x256_S16x1x4x128x256_0_2_3_4 (r82 A)) : (⟨S16x1x4x128x256, .f32⟩ : BufTy).Contents (Elt F))⟩, ⟨S16x1x4x128x256, ((broadcastInDim S16x1x4x128x256 ![0, 2, 3, 4] bcast_S16x4x128x256_S16x1x4x128x256_0_2_3_4 (r76 A)) : (⟨S16x1x4x128x256, .f32⟩ : BufTy).Contents (Elt F))⟩, ⟨S16x1x4x128x256, ((broadcastInDim S16x1x4x128x256 ![0, 2, 3, 4] bcast_S16x4x128x256_S16x1x4x128x256_0_2_3_4 (r58 A)) : (⟨S16x1x4x128x256, .f32⟩ : BufTy).Contents (Elt F))⟩] concatenates_S16x1x4x128x256_S16x1x4x128x256_S16x1x4x128x256_S16x1x4x128x256_S16x1x4x128x256_S16x1x4x128x256_S16x1x4x128x256_S16x1x4x128x256_S16x8x4x128x256_d1 : (⟨S16x8x4x128x256, .f32⟩ : BufTy).Contents (Elt F))

/-- What a chunk's earlier positions give. -/
def inF (A : Args F) : FVec F S16x8x4x256x256 .f32 :=
  (Host.dotGeneral dot_S16x8x4x256x256_S16x8x4x256x256_S16x8x4x256x256_4_3_3_4_012_012 none (mulf (r175 A) (broadcastInDim S16x8x4x256x256 ![0, 1, 2, 3, 4] bcast_S1x1x4x256x256_S16x8x4x256x256_0_1_2_3_4 (broadcastInDim S1x1x4x256x256 ![2, 3, 4] bcast_S4x256x256_S1x1x4x256x256_2_3_4 (decF A)))) (r41 A))

/-- What the forward states give. -/
def outF (A : Args F) : FVec F S16x8x4x256x256 .f32 :=
  (Host.dotGeneral dot_S16x8x4x256x128_S16x8x4x128x256_S16x8x4x256x256_4_3_3_4_012_012 none (mulf (r29 A) (broadcastInDim S16x8x4x256x128 ![0, 1, 2, 3, 4] bcast_S1x1x4x256x1_S16x8x4x256x128_0_1_2_3_4 (broadcastInDim S1x1x4x256x1 ![2, 3, 4] bcast_S4x256x1_S1x1x4x256x1_2_3_4 (crossF A)))) (transpose S16x8x4x128x256 [0, 1, 2, 4, 3] (il (r43 A)) transposes_S16x8x4x256x128_S16x8x4x128x256_0_1_2_4_3))

/-- What a chunk's later positions give. -/
def inB (A : Args F) : FVec F S16x8x4x256x256 .f32 :=
  (Host.dotGeneral dot_S16x8x4x256x256_S16x8x4x256x256_S16x8x4x256x256_4_3_3_4_012_012 none (mulf (r175 A) (broadcastInDim S16x8x4x256x256 ![0, 1, 2, 3, 4] bcast_S1x1x4x256x256_S16x8x4x256x256_0_1_2_3_4 (broadcastInDim S1x1x4x256x256 ![2, 3, 4] bcast_S4x256x256_S1x1x4x256x256_2_3_4 (decB A)))) (r41 A))

/-- What the backward states give. -/
def outB (A : Args F) : FVec F S16x8x4x256x256 .f32 :=
  (Host.dotGeneral dot_S16x8x4x256x128_S16x8x4x128x256_S16x8x4x256x256_4_3_3_4_012_012 none (mulf (r29 A) (broadcastInDim S16x8x4x256x128 ![0, 1, 2, 3, 4] bcast_S1x1x4x256x1_S16x8x4x256x128_0_1_2_3_4 (broadcastInDim S1x1x4x256x1 ![2, 3, 4] bcast_S4x256x1_S1x1x4x256x1_2_3_4 (crossB A)))) ((states A)))

/-- The reference's step 194. -/
def r194 (A : Args F) : FVec F S16x8x4x256x256 .f32 :=
  addf (addf (inF A) (outF A)) (addf (inB A) (outB A))

/-- The reference's step 198. -/
def r198 (A : Args F) : FVec F S16x8x4x256x1 .f32 :=
  Host.divf (broadcastInDim S16x8x4x256x1 ![0, 1, 2, 3] bcast_S16x8x4x256_S16x8x4x256x1_0_1_2_3 (Host.reduceAdd (r194 A) (constant S_ .f32 0x00000000#32) reducesTo_S16x8x4x256x256_S16x8x4x256_d4 h_S_)) (broadcastInDim S16x8x4x256x1 ![] bcast_S_S16x8x4x256x1 (constant S_ .f32 0x43800000#32))

/-- The reference's step 200. -/
def r200 (A : Args F) : FVec F S16x8x4x256x256 .f32 :=
  subf (r194 A) (broadcastInDim S16x8x4x256x256 ![0, 1, 2, 3, 4] bcast_S16x8x4x256x1_S16x8x4x256x256_0_1_2_3_4 (r198 A))

/-- The reference's step 220. -/
def r220 (A : Args F) : FVec F S16x2048x1024 .f32 :=
  Host.dotGeneral dot_S16x2048x1024_S1024x1024_S16x2048x1024_2_0_01_1_n_n none (r3 A) (extractStridedSlice S1024x1024 ![0, 3072] (r2 A) slices_S1024x6144_S1024x1024_0_3072)

/-- The retention's normalized output. -/
def onR (A : Args F) : FVec F S16x2048x1024 .f32 :=
  (shapeCast _ (transpose S16x8x256x4x256 [0, 1, 3, 2, 4] (mulf (subf (r194 A) (broadcastInDim S16x8x4x256x256 ![0, 1, 2, 3, 4] bcast_S16x8x4x256x1_S16x8x4x256x256_0_1_2_3_4 (r198 A))) (broadcastInDim S16x8x4x256x256 ![0, 1, 2, 3, 4] bcast_S16x8x4x256x1_S16x8x4x256x256_0_1_2_3_4 (Host.rsqrt (addf (Host.divf (broadcastInDim S16x8x4x256x1 ![0, 1, 2, 3] bcast_S16x8x4x256_S16x8x4x256x1_0_1_2_3 (Host.reduceAdd (mulf (r200 A) (r200 A)) (constant S_ .f32 0x00000000#32) reducesTo_S16x8x4x256x256_S16x8x4x256_d4 h_S_)) (broadcastInDim S16x8x4x256x1 ![] bcast_S_S16x8x4x256x1 (constant S_ .f32 0x43800000#32))) (broadcastInDim S16x8x4x256x1 ![] bcast_S_S16x8x4x256x1 (constant S_ .f32 0x3727C5AC#32)))))) transposes_S16x8x4x256x256_S16x8x256x4x256_0_1_3_2_4) shapeCasts_S16x8x256x4x256_S16x2048x1024)

/-- The convolution's gate before its logistic. -/
def gA (A : Args F) : FVec F S16x2048x1024 .f32 :=
  (Host.dotGeneral dot_S16x2048x1024_S1024x1024_S16x2048x1024_2_0_01_1_n_n none (r3 A) (extractStridedSlice S1024x1024 ![0, 4096] (r2 A) slices_S1024x6144_S1024x1024_0_4096))

/-- The retention's gate before its logistic. -/
def gB (A : Args F) : FVec F S16x2048x1024 .f32 :=
  (Host.dotGeneral dot_S16x2048x1024_S1024x1024_S16x2048x1024_2_0_01_1_n_n none (r3 A) (extractStridedSlice S1024x1024 ![0, 5120] (r2 A) slices_S1024x6144_S1024x1024_0_5120))

/-- The convolution's branch. -/
def ycR (A : Args F) : FVec F S16x2048x1024 .f32 :=
  (Host.dotGeneral dot_S16x2048x512_S512x1024_S16x2048x1024_2_0_01_1_n_n none (extf .f32 A.a11 bitsLt_bf16_f32) (shapeCast _ A.a13 shapeCasts_S1x512x1024_S512x1024))

/-- The retention's branch. -/
def ybR (A : Args F) : FVec F S16x2048x1024 .f32 :=
  (Host.dotGeneral dot_S16x2048x1024_S1024x1024_S16x2048x1024_2_0_01_1_n_n none (mulf (mulf (r220 A) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (r220 A)))))) (mulf (onR A) (broadcastInDim S16x2048x1024 ![0, 1, 2] bcast_S1x1x1024_S16x2048x1024_0_1_2 (broadcastInDim S1x1x1024 ![2] bcast_S1024_S1x1x1024_2 (shapeCast _ A.a16 shapeCasts_S1x1024_S1024))))) (shapeCast _ A.a14 shapeCasts_S1x1024x1024_S1024x1024))

/-- The mixed branches, projected. -/
def yR (A : Args F) : FVec F S16x2048x1024 .f32 :=
  (Host.dotGeneral dot_S16x2048x1024_S1024x1024_S16x2048x1024_2_0_01_1_n_n none (addf (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (gA A))))) (ycR A)) (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (gB A))))) (ybR A))) (shapeCast _ A.a15 shapeCasts_S1x1024x1024_S1024x1024))

/-- The reference's step 254. -/
def r254 (A : Args F) : FVec F S16x2048x1024 .f32 :=
  addf (mulf (broadcastInDim S16x2048x1024 ![] bcast_S_S16x2048x1024 (constant S_ .f32 0x3F9837F0#32)) (extractStridedSlice S16x2048x1024 ![0, 0, 0] A.a4 slices_S32x2048x1024_S16x2048x1024_0_0_0)) (mulf (broadcastInDim S16x2048x1024 ![0, 1, 2] bcast_S16x1x1024_S16x2048x1024_0_1_2 A.a17) (yR A))

/-- The reference's step 258. -/
def r258 (A : Args F) : FVec F S16x2048x1 .f32 :=
  Host.divf (broadcastInDim S16x2048x1 ![0, 1] bcast_S16x2048_S16x2048x1_0_1 (Host.reduceAdd (r254 A) (constant S_ .f32 0x00000000#32) reducesTo_S16x2048x1024_S16x2048_d2 h_S_)) (broadcastInDim S16x2048x1 ![] bcast_S_S16x2048x1 (constant S_ .f32 0x44800000#32))

/-- The reference's step 260. -/
def r260 (A : Args F) : FVec F S16x2048x1024 .f32 :=
  subf (r254 A) (broadcastInDim S16x2048x1024 ![0, 1, 2] bcast_S16x2048x1_S16x2048x1024_0_1_2 (r258 A))

/-- The reference's step 280. -/
def r280 (A : Args F) : FVec F S16x2048x1024 .f32 :=
  addf (mulf (mulf (subf (r254 A) (broadcastInDim S16x2048x1024 ![0, 1, 2] bcast_S16x2048x1_S16x2048x1024_0_1_2 (r258 A))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (r260 A) (r260 A)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 (shapeCast _ A.a20 shapeCasts_S1x1024_S1024)))) (broadcastInDim S16x2048x1024 ![0, 1, 2] bcast_S1x1x1024_S16x2048x1024_0_1_2 (broadcastInDim S1x1x1024 ![2] bcast_S1024_S1x1x1024_2 (shapeCast _ A.a21 shapeCasts_S1x1024_S1024)))

/-- The reference's step 284. -/
def r284 (A : Args F) : FVec F S16x2048x1 .f32 :=
  Host.divf (broadcastInDim S16x2048x1 ![0, 1] bcast_S16x2048_S16x2048x1_0_1 (Host.reduceAdd (r280 A) (constant S_ .f32 0x00000000#32) reducesTo_S16x2048x1024_S16x2048_d2 h_S_)) (broadcastInDim S16x2048x1 ![] bcast_S_S16x2048x1 (constant S_ .f32 0x44800000#32))

/-- The reference's step 286. -/
def r286 (A : Args F) : FVec F S16x2048x1024 .f32 :=
  subf (r280 A) (broadcastInDim S16x2048x1024 ![0, 1, 2] bcast_S16x2048x1_S16x2048x1024_0_1_2 (r284 A))

/-- The reference's step 307. -/
def r307 (A : Args F) : FVec F S2x16x2048x512 .bf16 :=
  truncf .bf16 (transpose S2x16x2048x512 [2, 0, 1, 3] (shapeCast _ (addf (mulf (mulf (subf (r280 A) (broadcastInDim S16x2048x1024 ![0, 1, 2] bcast_S16x2048x1_S16x2048x1024_0_1_2 (r284 A))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (r286 A) (r286 A)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S16x1x1024_S16x2048x1024_0_1_2 (addf (broadcastInDim S16x1x1024 ![] bcast_S_S16x1x1024 (constant S_ .f32 0x3F800000#32)) A.a19))) (broadcastInDim S16x2048x1024 ![0, 1, 2] bcast_S16x1x1024_S16x2048x1024_0_1_2 A.a18)) shapeCasts_S16x2048x1024_S16x2048x2x512) transposes_S16x2048x2x512_S2x16x2048x512_2_0_1_3) bitsLt_bf16_f32

/-- The arguments in a device's arrays. -/
def argsOf (V0 : Valuation τ sig (Elt F)) : Args F :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17), V0 (Proc.devRef .tc main_arg18), V0 (Proc.devRef .tc main_arg19), V0 (Proc.devRef .tc main_arg20), V0 (Proc.devRef .tc main_arg21)⟩

variable (V0 : Valuation τ sig (Elt F))

theorem res0 : res_main_v0 V0 = r0 (argsOf V0) := rfl
theorem res1 : res_main_v1 V0 = r1 (argsOf V0) := rfl
theorem res2 : res_main_v2 V0 = r2 (argsOf V0) := rfl
theorem res3 : res_main_v3 V0 = r3 (argsOf V0) := rfl
theorem res7 : res_main_v7 V0 = r7 (argsOf V0) := rfl
theorem res8 : res_main_v8 V0 = r8 (argsOf V0) := rfl
theorem res9 : res_main_v9 V0 = r9 (argsOf V0) := rfl
theorem res10 : res_main_v10 V0 = r10 (argsOf V0) := rfl
theorem res11 : res_main_v11 V0 = r11 (argsOf V0) := rfl
theorem res29 : res_main_v29 V0 = r29 (argsOf V0) := rfl
theorem res32 : res_main_v32 V0 = r32 (argsOf V0) := rfl
theorem res41 : res_main_v41 V0 = r41 (argsOf V0) := rfl
theorem res43 : res_main_v43 V0 = r43 (argsOf V0) := rfl
theorem res51 : res_main_v51 V0 = r51 (argsOf V0) := rfl
theorem res58 : res_main_v58 V0 = r58 (argsOf V0) := rfl
theorem res59 : res_main_v59 V0 = r59 (argsOf V0) := rfl
theorem res66 : res_main_v66 V0 = r66 (argsOf V0) := rfl
theorem res70 : res_main_v70 V0 = r70 (argsOf V0) := rfl
theorem res76 : res_main_v76 V0 = r76 (argsOf V0) := rfl
theorem res82 : res_main_v82 V0 = r82 (argsOf V0) := rfl
theorem res88 : res_main_v88 V0 = r88 (argsOf V0) := rfl
theorem res94 : res_main_v94 V0 = r94 (argsOf V0) := rfl
theorem res100 : res_main_v100 V0 = r100 (argsOf V0) := rfl
theorem res106 : res_main_v106 V0 = r106 (argsOf V0) := rfl
theorem res112 : res_main_v112 V0 = r112 (argsOf V0) := rfl
theorem res128 : res_main_v128 V0 = r128 (argsOf V0) := rfl
theorem res133 : res_main_v133 V0 = r133 (argsOf V0) := rfl
theorem res175 : res_main_v175 V0 = r175 (argsOf V0) := rfl
theorem res194 : res_main_v194 V0 = r194 (argsOf V0) := rfl
theorem res198 : res_main_v198 V0 = r198 (argsOf V0) := rfl
theorem res200 : res_main_v200 V0 = r200 (argsOf V0) := rfl
theorem res220 : res_main_v220 V0 = r220 (argsOf V0) := rfl
theorem res254 : res_main_v254 V0 = r254 (argsOf V0) := rfl
theorem res258 : res_main_v258 V0 = r258 (argsOf V0) := rfl
theorem res260 : res_main_v260 V0 = r260 (argsOf V0) := rfl
theorem res280 : res_main_v280 V0 = r280 (argsOf V0) := rfl
theorem res284 : res_main_v284 V0 = r284 (argsOf V0) := rfl
theorem res286 : res_main_v286 V0 = r286 (argsOf V0) := rfl

end Cert.Proof.MixRef

end
-- ==== Proof.Mix.RefA.lean ====
/-
  The reference's mixer at the extended reals, entry by entry: the queries, the keys and the states. The reference keeps
  a rotated pair's two halves side by side.
-/
module

public import proofs.«01_k».proof.Proof.Mix.RefDef
public import Idealize.ShloMosaic.Lib.Pointwise
public import Idealize.ShloMosaic.Lib.BitcastConvert

@[expose] public section

set_option maxRecDepth 16384
set_option maxHeartbeats 4000000

noncomputable section

namespace Cert.Proof.MixRef

open Cert.Reference3Ideal Cert.Reference3Ideal.Gen Cert.Reference3Ideal.Value
open Idealize.ShloMosaic Idealize.ShloMosaic.TcCoe Idealize.SL.Sem Idealize.ShloMosaic.Pointwise
open Cert.Proof.Mix

/-- The kernel's column of the reference's column `c` of a head. -/
def un (c : Fin 128) : Fin 128 := ⟨c.val / 2 + 64 * (c.val % 2), by omega⟩

theorem un_bijective : Function.Bijective un := by
  decide +kernel

/-- A sum over a head's columns in either order. -/
theorem sum_un (f : Fin 128 → EReal) : ∑ c, f (un c) = ∑ d, f d := un_bijective.sum_comp f

variable (A : Args Ideal)

/-- The arrays of the arguments. -/
def I : In := inOf A.a0 A.a1 A.a2 A.a3 A.a4 A.a5 A.a6 A.a7 A.a8 A.a9 A.a10 A.a11 A.a12 A.a13 A.a14 A.a15 A.a16 A.a17 A.a18 A.a19 A.a20 A.a21

theorem il_at (x : FVec Ideal S16x8x4x256x128 .f32) (b : Fin 16) (n : Fin 8) (h : Fin 4) (j : Fin 256) (c : Fin 128) :
    il (F := Ideal) x (ix5 b n h j c) = x (ix5 b n h j (un c)) := by
  pointwise [il]
  split
  · exact congrArg x (congrArg (ix5 b n h j) (Fin.ext (by show c.val / 2 = c.val / 2 + 64 * (c.val % 2); omega)))
  · exact congrArg x (congrArg (ix5 b n h j) (Fin.ext (by show 64 + c.val / 2 = c.val / 2 + 64 * (c.val % 2); omega)))

theorem il4_at (x : FVec Ideal S16x4x256x128 .f32) (b : Fin 16) (h : Fin 4) (j : Fin 256) (c : Fin 128) :
    il4 (F := Ideal) x (ix4 b h j c) = x (ix4 b h j (un c)) := by
  pointwise [il4]
  split
  · exact congrArg x (congrArg (ix4 b h j) (Fin.ext (by show c.val / 2 = c.val / 2 + 64 * (c.val % 2); omega)))
  · exact congrArg x (congrArg (ix4 b h j) (Fin.ext (by show 64 + c.val / 2 = c.val / 2 + 64 * (c.val % 2); omega)))

theorem v7_at (b : Fin 16) (n : Fin 8) (h : Fin 4) (i : Fin 256) (c : Fin 128) :
    r7 (F := Ideal) A (ix5 b n h i c) = (I A).q b ⟨256 * n.val + i.val, by omega⟩ ⟨128 * h.val + (un c).val, by omega⟩ := by
  pointwise [r7, r3, r2]
  unfold In.q In.perm
  show (∑ x : Fin 1024, (I A).h b ⟨n.val * 256 + i.val, by omega⟩ x * (I A).win x ⟨1024 + (h.val * 128 + c.val), by omega⟩) = (_ : EReal)
  refine Finset.sum_congr rfl fun x _ => congrArg₂ (fun l c : _ => (I A).h b l x * (I A).win x c) (Fin.ext ?_) (Fin.ext ?_)
  · show n.val * 256 + i.val = 256 * n.val + i.val
    omega
  · have e1 : (128 * h.val + (c.val / 2 + 64 * (c.val % 2))) / 128 = h.val := by
      rw [Nat.mul_add_div (by decide), Nat.div_eq_of_lt (by omega), Nat.add_zero]
    have e2 : (128 * h.val + (c.val / 2 + 64 * (c.val % 2))) % 128 = c.val / 2 + 64 * (c.val % 2) := by
      rw [Nat.mul_add_mod, Nat.mod_eq_of_lt (by omega)]
    show 1024 + (h.val * 128 + c.val) = 1024 + ((128 * h.val + (c.val / 2 + 64 * (c.val % 2))) / 128 * 128 + (if (128 * h.val + (c.val / 2 + 64 * (c.val % 2))) % 128 < 64 then 2 * ((128 * h.val + (c.val / 2 + 64 * (c.val % 2))) % 128) else 2 * ((128 * h.val + (c.val / 2 + 64 * (c.val % 2))) % 128 - 64) + 1))
    rw [e1, e2]
    split <;> omega

theorem v70_at (h : Fin 4) : r70 (F := Ideal) A (ix3 h 0 0) = Ideal.exp ((I A).lb h * c256) := by
  unfold c256
  pointwise [r70, r1]
  rfl

theorem v29_raw (b : Fin 16) (n : Fin 8) (h : Fin 4) (i : Fin 256) (c : Fin 128) :
    r29 (F := Ideal) A (ix5 b n h i c) = if c.val % 2 < 1 then
      r7 A (ix5 b n h i ⟨2 * (c.val / 2), by omega⟩) * A.a2 (ix2 ⟨n.val * 256 + i.val, by omega⟩ ⟨c.val / 2, by omega⟩) -
        r7 A (ix5 b n h i ⟨1 + 2 * (c.val / 2), by omega⟩) * A.a3 (ix2 ⟨n.val * 256 + i.val, by omega⟩ ⟨c.val / 2, by omega⟩)
    else
      r7 A (ix5 b n h i ⟨2 * (c.val / 2), by omega⟩) * A.a3 (ix2 ⟨n.val * 256 + i.val, by omega⟩ ⟨c.val / 2, by omega⟩) +
        r7 A (ix5 b n h i ⟨1 + 2 * (c.val / 2), by omega⟩) * A.a2 (ix2 ⟨n.val * 256 + i.val, by omega⟩ ⟨c.val / 2, by omega⟩) := by
  pointwise [r29, r10, r11, r8, r9]
  by_cases hc : c.val % 2 < 1
  · exact (dif_pos hc).trans (if_pos hc).symm
  · exact (dif_neg hc).trans (if_neg hc).symm

theorem a2_at (l : Fin 2048) (d : Fin 64) : A.a2 (ix2 l d) = (I A).cs l d := rfl
theorem a3_at (l : Fin 2048) (d : Fin 64) : A.a3 (ix2 l d) = (I A).sn l d := rfl

theorem v29_at (b : Fin 16) (n : Fin 8) (h : Fin 4) (i : Fin 256) (c : Fin 128) :
    r29 (F := Ideal) A (ix5 b n h i c) = (I A).rope b ⟨256 * n.val + i.val, by omega⟩ h (un c) := by
  rw [v29_raw, v7_at, v7_at, a2_at, a3_at]
  unfold In.rope
  have hl : (⟨n.val * 256 + i.val, by omega⟩ : Fin 2048) = ⟨256 * n.val + i.val, by omega⟩ := Fin.ext (by show n.val * 256 + i.val = 256 * n.val + i.val; omega)
  have hu : (un c).val = c.val / 2 + 64 * (c.val % 2) := rfl
  rw [hl]
  have hd : (⟨(un c).val % 64, Nat.mod_lt _ (by decide)⟩ : Fin 64) = ⟨c.val / 2, by omega⟩ := Fin.ext (by show (un c).val % 64 = c.val / 2; omega)
  rw [hd]
  have h0 : (un ⟨2 * (c.val / 2), by omega⟩).val = c.val / 2 := by show 2 * (c.val / 2) / 2 + 64 * (2 * (c.val / 2) % 2) = _; omega
  have h1 : (un ⟨1 + 2 * (c.val / 2), by omega⟩).val = c.val / 2 + 64 := by show (1 + 2 * (c.val / 2)) / 2 + 64 * ((1 + 2 * (c.val / 2)) % 2) = _; omega
  by_cases hc : c.val % 2 < 1
  · rw [if_pos hc, if_pos (show (un c).val < 64 by omega), sub_eq_add_neg, mul_neg]
    refine congrArg₂ (· + ·) (congrArg (fun k => (I A).q b _ k * _) (Fin.ext ?_)) (congrArg (fun k => -((I A).q b _ k * _)) (Fin.ext ?_))
    · show 128 * h.val + (un _).val = 128 * h.val + (un c).val
      rw [h0]; omega
    · show 128 * h.val + (un _).val = 128 * h.val + ((un c).val + 64) % 128
      rw [h1]; omega
  · rw [if_neg hc, if_neg (show ¬ (un c).val < 64 by omega), add_comm]
    refine congrArg₂ (· + ·) (congrArg (fun k => (I A).q b _ k * _) (Fin.ext ?_)) (congrArg (fun k => (I A).q b _ k * _) (Fin.ext ?_))
    · show 128 * h.val + (un _).val = 128 * h.val + (un c).val
      rw [h1]; omega
    · show 128 * h.val + (un _).val = 128 * h.val + ((un c).val + 64) % 128
      rw [h0]; omega

theorem v32_at (b : Fin 16) (n : Fin 8) (h : Fin 4) (i : Fin 256) (c : Fin 128) :
    r32 (F := Ideal) A (ix5 b n h i c) = (I A).k b ⟨256 * n.val + i.val, by omega⟩ ⟨128 * h.val + c.val, by omega⟩ := by
  pointwise [r32]
  refine congrArg₂ ((I A).k b) (Fin.ext ?_) (Fin.ext ?_)
  · show n.val * 256 + i.val = 256 * n.val + i.val
    omega
  · show h.val * 128 + c.val = 128 * h.val + c.val
    omega

theorem v41_at (b : Fin 16) (n : Fin 8) (h : Fin 4) (i : Fin 256) (w : Fin 256) :
    r41 (F := Ideal) A (ix5 b n h i w) = (I A).v b ⟨256 * n.val + i.val, by omega⟩ ⟨256 * h.val + w.val, by omega⟩ := by
  pointwise [r41]
  refine congrArg₂ ((I A).v b) (Fin.ext ?_) (Fin.ext ?_)
  · show n.val * 256 + i.val = 256 * n.val + i.val
    omega
  · show h.val * 256 + w.val = 256 * h.val + w.val
    omega

theorem v43_at (b : Fin 16) (n : Fin 8) (h : Fin 4) (w : Fin 256) (c : Fin 128) :
    r43 (F := Ideal) A (ix5 b n h w c) = (I A).sf b n h c w := by
  pointwise [r43]
  rfl

theorem v51_at (b : Fin 16) (h : Fin 4) (c : Fin 128) (w : Fin 256) : r51 (F := Ideal) A (ix4 b h w c) = (I A).sb0 b h c w := by
  pointwise [r51]
  rfl

theorem v58_at (b : Fin 16) (h : Fin 4) (c : Fin 128) (w : Fin 256) :
    r58 (F := Ideal) A (ix4 b h c w) = (I A).sb0 b h (un c) w := by
  pointwise [r58]
  rw [il4_at, v51_at]

theorem v59_at (b : Fin 16) (n : Fin 8) (h : Fin 4) (c : Fin 128) (w : Fin 256) : r59 (F := Ideal) A (ix5 b n h w c) = (I A).ub b n h c w := by
  pointwise [r59]
  rfl

theorem swap_at (x : FVec Ideal S16x8x4x256x128 .f32) (b : Fin 16) (n : Fin 8) (h : Fin 4) (c : Fin 128) (w : Fin 256) :
    transpose S16x8x4x128x256 [0, 1, 2, 4, 3] x transposes_S16x8x4x256x128_S16x8x4x128x256_0_1_2_4_3 (ix5 b n h c w) = x (ix5 b n h w c) := by
  pointwise []

theorem v66_at (b : Fin 16) (n : Fin 8) (h : Fin 4) (c : Fin 128) (w : Fin 256) :
    r66 (F := Ideal) A (ix5 b n h c w) = (I A).ub b n h (un c) w := by
  unfold r66
  rw [swap_at, il_at, v59_at]

theorem back_succ (I : In) (b : Fin 16) (h : Fin 4) (d : Fin 128) (w : Fin 256) (n : ℕ) (k : Fin 8) (hk : 7 - n % 8 = k.val) :
    I.back b h d w (n + 1) = I.back b h d w n * Ideal.exp (I.lb h * c256) + I.ub b k h d w := by
  rw [show k = ⟨7 - n % 8, by omega⟩ from Fin.ext hk.symm]
  rw [In.back]

theorem back_zero (I : In) (b : Fin 16) (h : Fin 4) (d : Fin 128) (w : Fin 256) : I.back b h d w 0 = I.sb0 b h d w := by
  rw [In.back]

theorem step7_at (x : FVec Ideal S16x4x128x256 .f32) (g : FVec Ideal S4x1x1 .f32) (u : FVec Ideal S16x8x4x128x256 .f32) (b : Fin 16) (h : Fin 4) (c : Fin 128) (w : Fin 256) :
    (addf (mulf x (broadcastInDim S16x4x128x256 ![0, 1, 2, 3] bcast_S1x4x1x1_S16x4x128x256_0_1_2_3 (broadcastInDim S1x4x1x1 ![1, 2, 3] bcast_S4x1x1_S1x4x1x1_1_2_3 g)))
      (shapeCast S16x4x128x256 (extractStridedSlice S16x1x4x128x256 ![0, 7, 0, 0, 0] u slices_S16x8x4x128x256_S16x1x4x128x256_0_7_0_0_0) shapeCasts_S16x1x4x128x256_S16x4x128x256) : FVec Ideal S16x4x128x256 .f32) (ix4 b h c w)
      = x (ix4 b h c w) * g (ix3 h 0 0) + u (ix5 b 7 h c w) := by
  pointwise []

theorem v76_at (b : Fin 16) (h : Fin 4) (c : Fin 128) (w : Fin 256) :
    r76 (F := Ideal) A (ix4 b h c w) = (I A).back b h (un c) w 1 := by
  unfold r76
  rw [step7_at, v58_at, v70_at, v66_at, ← back_zero]
  exact (back_succ _ b h (un c) w 0 7 rfl).symm

theorem step6_at (x : FVec Ideal S16x4x128x256 .f32) (g : FVec Ideal S4x1x1 .f32) (u : FVec Ideal S16x8x4x128x256 .f32) (b : Fin 16) (h : Fin 4) (c : Fin 128) (w : Fin 256) :
    (addf (mulf x (broadcastInDim S16x4x128x256 ![0, 1, 2, 3] bcast_S1x4x1x1_S16x4x128x256_0_1_2_3 (broadcastInDim S1x4x1x1 ![1, 2, 3] bcast_S4x1x1_S1x4x1x1_1_2_3 g)))
      (shapeCast S16x4x128x256 (extractStridedSlice S16x1x4x128x256 ![0, 6, 0, 0, 0] u slices_S16x8x4x128x256_S16x1x4x128x256_0_6_0_0_0) shapeCasts_S16x1x4x128x256_S16x4x128x256) : FVec Ideal S16x4x128x256 .f32) (ix4 b h c w)
      = x (ix4 b h c w) * g (ix3 h 0 0) + u (ix5 b 6 h c w) := by
  pointwise []

theorem v82_at (b : Fin 16) (h : Fin 4) (c : Fin 128) (w : Fin 256) :
    r82 (F := Ideal) A (ix4 b h c w) = (I A).back b h (un c) w 2 := by
  unfold r82
  rw [step6_at, v76_at, v70_at, v66_at]
  exact (back_succ _ b h (un c) w 1 6 rfl).symm

theorem step5_at (x : FVec Ideal S16x4x128x256 .f32) (g : FVec Ideal S4x1x1 .f32) (u : FVec Ideal S16x8x4x128x256 .f32) (b : Fin 16) (h : Fin 4) (c : Fin 128) (w : Fin 256) :
    (addf (mulf x (broadcastInDim S16x4x128x256 ![0, 1, 2, 3] bcast_S1x4x1x1_S16x4x128x256_0_1_2_3 (broadcastInDim S1x4x1x1 ![1, 2, 3] bcast_S4x1x1_S1x4x1x1_1_2_3 g)))
      (shapeCast S16x4x128x256 (extractStridedSlice S16x1x4x128x256 ![0, 5, 0, 0, 0] u slices_S16x8x4x128x256_S16x1x4x128x256_0_5_0_0_0) shapeCasts_S16x1x4x128x256_S16x4x128x256) : FVec Ideal S16x4x128x256 .f32) (ix4 b h c w)
      = x (ix4 b h c w) * g (ix3 h 0 0) + u (ix5 b 5 h c w) := by
  pointwise []

theorem v88_at (b : Fin 16) (h : Fin 4) (c : Fin 128) (w : Fin 256) :
    r88 (F := Ideal) A (ix4 b h c w) = (I A).back b h (un c) w 3 := by
  unfold r88
  rw [step5_at, v82_at, v70_at, v66_at]
  exact (back_succ _ b h (un c) w 2 5 rfl).symm

theorem step4_at (x : FVec Ideal S16x4x128x256 .f32) (g : FVec Ideal S4x1x1 .f32) (u : FVec Ideal S16x8x4x128x256 .f32) (b : Fin 16) (h : Fin 4) (c : Fin 128) (w : Fin 256) :
    (addf (mulf x (broadcastInDim S16x4x128x256 ![0, 1, 2, 3] bcast_S1x4x1x1_S16x4x128x256_0_1_2_3 (broadcastInDim S1x4x1x1 ![1, 2, 3] bcast_S4x1x1_S1x4x1x1_1_2_3 g)))
      (shapeCast S16x4x128x256 (extractStridedSlice S16x1x4x128x256 ![0, 4, 0, 0, 0] u slices_S16x8x4x128x256_S16x1x4x128x256_0_4_0_0_0) shapeCasts_S16x1x4x128x256_S16x4x128x256) : FVec Ideal S16x4x128x256 .f32) (ix4 b h c w)
      = x (ix4 b h c w) * g (ix3 h 0 0) + u (ix5 b 4 h c w) := by
  pointwise []

theorem v94_at (b : Fin 16) (h : Fin 4) (c : Fin 128) (w : Fin 256) :
    r94 (F := Ideal) A (ix4 b h c w) = (I A).back b h (un c) w 4 := by
  unfold r94
  rw [step4_at, v88_at, v70_at, v66_at]
  exact (back_succ _ b h (un c) w 3 4 rfl).symm

theorem step3_at (x : FVec Ideal S16x4x128x256 .f32) (g : FVec Ideal S4x1x1 .f32) (u : FVec Ideal S16x8x4x128x256 .f32) (b : Fin 16) (h : Fin 4) (c : Fin 128) (w : Fin 256) :
    (addf (mulf x (broadcastInDim S16x4x128x256 ![0, 1, 2, 3] bcast_S1x4x1x1_S16x4x128x256_0_1_2_3 (broadcastInDim S1x4x1x1 ![1, 2, 3] bcast_S4x1x1_S1x4x1x1_1_2_3 g)))
      (shapeCast S16x4x128x256 (extractStridedSlice S16x1x4x128x256 ![0, 3, 0, 0, 0] u slices_S16x8x4x128x256_S16x1x4x128x256_0_3_0_0_0) shapeCasts_S16x1x4x128x256_S16x4x128x256) : FVec Ideal S16x4x128x256 .f32) (ix4 b h c w)
      = x (ix4 b h c w) * g (ix3 h 0 0) + u (ix5 b 3 h c w) := by
  pointwise []

theorem v100_at (b : Fin 16) (h : Fin 4) (c : Fin 128) (w : Fin 256) :
    r100 (F := Ideal) A (ix4 b h c w) = (I A).back b h (un c) w 5 := by
  unfold r100
  rw [step3_at, v94_at, v70_at, v66_at]
  exact (back_succ _ b h (un c) w 4 3 rfl).symm

theorem step2_at (x : FVec Ideal S16x4x128x256 .f32) (g : FVec Ideal S4x1x1 .f32) (u : FVec Ideal S16x8x4x128x256 .f32) (b : Fin 16) (h : Fin 4) (c : Fin 128) (w : Fin 256) :
    (addf (mulf x (broadcastInDim S16x4x128x256 ![0, 1, 2, 3] bcast_S1x4x1x1_S16x4x128x256_0_1_2_3 (broadcastInDim S1x4x1x1 ![1, 2, 3] bcast_S4x1x1_S1x4x1x1_1_2_3 g)))
      (shapeCast S16x4x128x256 (extractStridedSlice S16x1x4x128x256 ![0, 2, 0, 0, 0] u slices_S16x8x4x128x256_S16x1x4x128x256_0_2_0_0_0) shapeCasts_S16x1x4x128x256_S16x4x128x256) : FVec Ideal S16x4x128x256 .f32) (ix4 b h c w)
      = x (ix4 b h c w) * g (ix3 h 0 0) + u (ix5 b 2 h c w) := by
  pointwise []

theorem v106_at (b : Fin 16) (h : Fin 4) (c : Fin 128) (w : Fin 256) :
    r106 (F := Ideal) A (ix4 b h c w) = (I A).back b h (un c) w 6 := by
  unfold r106
  rw [step2_at, v100_at, v70_at, v66_at]
  exact (back_succ _ b h (un c) w 5 2 rfl).symm

theorem step1_at (x : FVec Ideal S16x4x128x256 .f32) (g : FVec Ideal S4x1x1 .f32) (u : FVec Ideal S16x8x4x128x256 .f32) (b : Fin 16) (h : Fin 4) (c : Fin 128) (w : Fin 256) :
    (addf (mulf x (broadcastInDim S16x4x128x256 ![0, 1, 2, 3] bcast_S1x4x1x1_S16x4x128x256_0_1_2_3 (broadcastInDim S1x4x1x1 ![1, 2, 3] bcast_S4x1x1_S1x4x1x1_1_2_3 g)))
      (shapeCast S16x4x128x256 (extractStridedSlice S16x1x4x128x256 ![0, 1, 0, 0, 0] u slices_S16x8x4x128x256_S16x1x4x128x256_0_1_0_0_0) shapeCasts_S16x1x4x128x256_S16x4x128x256) : FVec Ideal S16x4x128x256 .f32) (ix4 b h c w)
      = x (ix4 b h c w) * g (ix3 h 0 0) + u (ix5 b 1 h c w) := by
  pointwise []

theorem v112_at (b : Fin 16) (h : Fin 4) (c : Fin 128) (w : Fin 256) :
    r112 (F := Ideal) A (ix4 b h c w) = (I A).back b h (un c) w 7 := by
  unfold r112
  rw [step1_at, v106_at, v70_at, v66_at]
  exact (back_succ _ b h (un c) w 6 1 rfl).symm

theorem v175_at (b : Fin 16) (n : Fin 8) (h : Fin 4) (i j : Fin 256) :
    r175 (F := Ideal) A (ix5 b n h i j)
      = ∑ d : Fin 128, (I A).rope b ⟨256 * n.val + i.val, by omega⟩ h d * (I A).k b ⟨256 * n.val + j.val, by omega⟩ ⟨128 * h.val + d.val, by omega⟩ := by
  pointwise [r175]
  refine (Finset.sum_congr rfl fun x _ => ?_).trans (sum_un fun d => (I A).rope b ⟨256 * n.val + i.val, by omega⟩ h d * (I A).k b ⟨256 * n.val + j.val, by omega⟩ ⟨128 * h.val + d.val, by omega⟩)
  rw [v29_at, il_at, v32_at]

theorem toInt_small (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

theorem v128_at (i : Fin 256) : r128 (F := Ideal) A (ix1 i) = num i.val := by
  pointwise [r128]
  show (((BitVec.ofNat 32 i.val).toInt : ℝ) : EReal) = _
  rw [toInt_small _ (by omega)]
  unfold num
  push_cast
  rfl

theorem v133_at (i j : Fin 256) :
    r133 (F := Ideal) A (ix2 i j) = (((i.val : ℝ) - (j.val : ℝ) : ℝ) : EReal) := by
  pointwise [r133, r128]
  show (((BitVec.ofNat 32 i.val).toInt : ℝ) : EReal) - (((BitVec.ofNat 32 j.val).toInt : ℝ) : EReal) = _
  rw [toInt_small _ (by omega), toInt_small _ (by omega)]
  push_cast
  rfl

end Cert.Proof.MixRef

end
-- ==== Proof.Mix.RefB.lean ====
/-
  The reference's mixer at the extended reals, entry by entry: the retention's sum.
-/
module

public import proofs.«01_k».proof.Proof.Mix.RefA

@[expose] public section

set_option maxRecDepth 16384
set_option maxHeartbeats 4000000

noncomputable section

namespace Cert.Proof.MixRef

open Cert.Reference3Ideal Cert.Reference3Ideal.Gen Cert.Reference3Ideal.Value
open Idealize.ShloMosaic Idealize.ShloMosaic.TcCoe Idealize.SL.Sem Idealize.ShloMosaic.Pointwise
open Cert.Proof.Mix

variable (A : Args Ideal)

theorem r0_at (h : Fin 4) : r0 (F := Ideal) A (ix1 h) = (I A).lf h := by
  pointwise [r0]
  rfl

theorem r1_at (h : Fin 4) : r1 (F := Ideal) A (ix1 h) = (I A).lb h := by
  pointwise [r1]
  rfl

theorem id_zero : id (constant (F := Ideal) S_ FTy.f32 0x00000000#32) ix0 = (0 : EReal) := by
  show (constant (F := Ideal) S_ FTy.f32 0x00000000#32) ix0 = (0 : EReal)
  pointwise []

theorem decF_at (h : Fin 4) (i j : Fin 256) : decF (F := Ideal) A (ix3 h i j) = if j.val ≤ i.val then Ideal.exp ((I A).lf h * num (i.val - j.val)) else 0 := by
  have hr : decF (F := Ideal) A (ix3 h i j) = if 0 ≤ r133 A (ix2 i j) then Ideal.exp (r0 A (ix1 h) * max (r133 A (ix2 i j)) 0) else 0 := by
    pointwise [decF]
    rw [id_zero]
  rw [hr, v133_at, r0_at]
  unfold num
  by_cases hij : j.val ≤ i.val
  · have hz : (0 : ℝ) ≤ (i.val : ℝ) - (j.val : ℝ) := sub_nonneg.mpr (by exact_mod_cast hij)
    rw [if_pos hij, if_pos (by exact_mod_cast hz), max_eq_left (by exact_mod_cast hz), Nat.cast_sub hij]
  · have hn : ((i.val : ℝ) - (j.val : ℝ)) < 0 := sub_neg.mpr (by exact_mod_cast Nat.lt_of_not_le hij)
    rw [if_neg hij, if_neg (by rw [not_le]; exact_mod_cast hn)]

theorem decB_at (h : Fin 4) (i j : Fin 256) : decB (F := Ideal) A (ix3 h i j) = if j.val ≤ i.val then 0 else Ideal.exp ((I A).lb h * num (j.val - i.val)) := by
  have hr : decB (F := Ideal) A (ix3 h i j) = if r133 A (ix2 i j) < 0 then Ideal.exp (r1 A (ix1 h) * max (-(r133 A (ix2 i j))) 0) else 0 := by
    pointwise [decB]
    rw [id_zero]
  rw [hr, v133_at, r1_at]
  unfold num
  by_cases hij : j.val ≤ i.val
  · have hz : (0 : ℝ) ≤ (i.val : ℝ) - (j.val : ℝ) := sub_nonneg.mpr (by exact_mod_cast hij)
    rw [if_pos hij, if_neg (by rw [not_lt]; exact_mod_cast hz)]
  · have hlt : (i.val : ℝ) < (j.val : ℝ) := by exact_mod_cast Nat.lt_of_not_le hij
    have hn : ((i.val : ℝ) - (j.val : ℝ)) < 0 := sub_neg.mpr hlt
    rw [if_neg hij, if_pos (by exact_mod_cast hn), Nat.cast_sub (by omega)]
    have e : -(((i.val : ℝ) - (j.val : ℝ) : ℝ) : EReal) = (((j.val : ℝ) - (i.val : ℝ) : ℝ) : EReal) := by
      rw [← EReal.coe_neg]; congr 1; ring
    rw [e, max_eq_left (by exact_mod_cast (sub_nonneg.mpr hlt.le : (0:ℝ) ≤ (j.val : ℝ) - (i.val : ℝ)))]

theorem crossF_at (h : Fin 4) (i : Fin 256) : crossF (F := Ideal) A (ix3 h i 0) = Ideal.exp ((I A).lf h * (num i.val + 1)) := by
  have hr : crossF (F := Ideal) A (ix3 h i 0) = Ideal.exp (r0 A (ix1 h) * (r128 A (ix1 i) + 1)) := by
    pointwise [crossF]
  rw [hr, v128_at, r0_at]

theorem crossB_at (h : Fin 4) (i : Fin 256) : crossB (F := Ideal) A (ix3 h i 0) = Ideal.exp ((I A).lb h * (c256 - num i.val)) := by
  have hr : crossB (F := Ideal) A (ix3 h i 0) = Ideal.exp (r1 A (ix1 h) * (c256 - r128 A (ix1 i))) := by
    unfold c256
    pointwise [crossB]
  rw [hr, v128_at, r1_at]

theorem states_at (b : Fin 16) (n : Fin 8) (h : Fin 4) (c : Fin 128) (w : Fin 256) :
    states (F := Ideal) A (ix5 b n h c w) = (I A).back b h (un c) w (7 - n.val) := by
  have e0 : states (F := Ideal) A (ix5 b 0 h c w) = r112 A (ix4 b h c w) := by pointwise [states]
  have e1 : states (F := Ideal) A (ix5 b 1 h c w) = r106 A (ix4 b h c w) := by pointwise [states]
  have e2 : states (F := Ideal) A (ix5 b 2 h c w) = r100 A (ix4 b h c w) := by pointwise [states]
  have e3 : states (F := Ideal) A (ix5 b 3 h c w) = r94 A (ix4 b h c w) := by pointwise [states]
  have e4 : states (F := Ideal) A (ix5 b 4 h c w) = r88 A (ix4 b h c w) := by pointwise [states]
  have e5 : states (F := Ideal) A (ix5 b 5 h c w) = r82 A (ix4 b h c w) := by pointwise [states]
  have e6 : states (F := Ideal) A (ix5 b 6 h c w) = r76 A (ix4 b h c w) := by pointwise [states]
  have e7 : states (F := Ideal) A (ix5 b 7 h c w) = r58 A (ix4 b h c w) := by pointwise [states]
  rw [v112_at] at e0
  rw [v106_at] at e1
  rw [v100_at] at e2
  rw [v94_at] at e3
  rw [v88_at] at e4
  rw [v82_at] at e5
  rw [v76_at] at e6
  rw [v58_at, ← back_zero] at e7
  match n with
  | 0 => exact e0
  | 1 => exact e1
  | 2 => exact e2
  | 3 => exact e3
  | 4 => exact e4
  | 5 => exact e5
  | 6 => exact e6
  | 7 => exact e7

/-! ## The four products of a block, over any operands -/

theorem inner_at (s : FVec Ideal S16x8x4x256x256 .f32) (d : FVec Ideal S4x256x256 .f32) (v : FVec Ideal S16x8x4x256x256 .f32)
    (b : Fin 16) (n : Fin 8) (h : Fin 4) (i w : Fin 256) :
    Host.dotGeneral dot_S16x8x4x256x256_S16x8x4x256x256_S16x8x4x256x256_4_3_3_4_012_012 none (mulf s (broadcastInDim S16x8x4x256x256 ![0, 1, 2, 3, 4] bcast_S1x1x4x256x256_S16x8x4x256x256_0_1_2_3_4 (broadcastInDim S1x1x4x256x256 ![2, 3, 4] bcast_S4x256x256_S1x1x4x256x256_2_3_4 d))) v (ix5 b n h i w)
      = ∑ j : Fin 256, s (ix5 b n h i j) * d (ix3 h i j) * v (ix5 b n h j w) := by
  pointwise []

theorem cross_at (q : FVec Ideal S16x8x4x256x128 .f32) (d : FVec Ideal S4x256x1 .f32) (v : FVec Ideal S16x8x4x128x256 .f32)
    (b : Fin 16) (n : Fin 8) (h : Fin 4) (i w : Fin 256) :
    Host.dotGeneral dot_S16x8x4x256x128_S16x8x4x128x256_S16x8x4x256x256_4_3_3_4_012_012 none (mulf q (broadcastInDim S16x8x4x256x128 ![0, 1, 2, 3, 4] bcast_S1x1x4x256x1_S16x8x4x256x128_0_1_2_3_4 (broadcastInDim S1x1x4x256x1 ![2, 3, 4] bcast_S4x256x1_S1x1x4x256x1_2_3_4 d))) v (ix5 b n h i w)
      = ∑ c : Fin 128, q (ix5 b n h i c) * d (ix3 h i 0) * v (ix5 b n h c w) := by
  pointwise []

theorem inF_at (b : Fin 16) (n : Fin 8) (h : Fin 4) (i w : Fin 256) :
    inF (F := Ideal) A (ix5 b n h i w) = ∑ j : Fin 256, r175 A (ix5 b n h i j) * decF A (ix3 h i j) * r41 A (ix5 b n h j w) := by
  unfold inF
  exact inner_at _ _ _ b n h i w

theorem inB_at (b : Fin 16) (n : Fin 8) (h : Fin 4) (i w : Fin 256) :
    inB (F := Ideal) A (ix5 b n h i w) = ∑ j : Fin 256, r175 A (ix5 b n h i j) * decB A (ix3 h i j) * r41 A (ix5 b n h j w) := by
  unfold inB
  exact inner_at _ _ _ b n h i w

theorem outF_at (b : Fin 16) (n : Fin 8) (h : Fin 4) (i w : Fin 256) :
    outF (F := Ideal) A (ix5 b n h i w) = ∑ d : Fin 128, (I A).rope b ⟨256 * n.val + i.val, by omega⟩ h d * Ideal.exp ((I A).lf h * (num i.val + 1)) * (I A).sf b n h d w := by
  unfold outF
  rw [cross_at]
  refine (Finset.sum_congr rfl fun x _ => ?_).trans
    (sum_un fun d => (I A).rope b ⟨256 * n.val + i.val, by omega⟩ h d * Ideal.exp ((I A).lf h * (num i.val + 1)) * (I A).sf b n h d w)
  rw [v29_at, crossF_at, swap_at, il_at, v43_at]

theorem outB_at (b : Fin 16) (n : Fin 8) (h : Fin 4) (i w : Fin 256) :
    outB (F := Ideal) A (ix5 b n h i w) = ∑ d : Fin 128, (I A).rope b ⟨256 * n.val + i.val, by omega⟩ h d * Ideal.exp ((I A).lb h * (c256 - num i.val)) * (I A).back b h d w (7 - n.val) := by
  unfold outB
  rw [cross_at]
  refine (Finset.sum_congr rfl fun x _ => ?_).trans
    (sum_un fun d => (I A).rope b ⟨256 * n.val + i.val, by omega⟩ h d * Ideal.exp ((I A).lb h * (c256 - num i.val)) * (I A).back b h d w (7 - n.val))
  rw [v29_at, crossB_at, states_at]

/-- A product with one of two decays, the other being zero. -/
theorem split_dec (lf lb s v : EReal) (i j : ℕ) :
    s * (if j ≤ i then Ideal.exp (lf * num (i - j)) else 0) * v + s * (if j ≤ i then 0 else Ideal.exp (lb * num (j - i))) * v = s * dec lf lb i j * v := by
  unfold dec
  by_cases h : j ≤ i
  · rw [if_pos h, if_pos h, if_pos h, mul_zero, zero_mul, add_zero]
  · rw [if_neg h, if_neg h, if_neg h, mul_zero, zero_mul, zero_add]

/-- The retention's sum for one position of a chunk. -/
theorem v194_at (b : Fin 16) (n : Fin 8) (h : Fin 4) (i w : Fin 256) : r194 (F := Ideal) A (ix5 b n h i w) = (I A).o b n h i w := by
  have hr : r194 (F := Ideal) A (ix5 b n h i w)
      = (inF A (ix5 b n h i w) + outF A (ix5 b n h i w)) + (inB A (ix5 b n h i w) + outB A (ix5 b n h i w)) := rfl
  rw [hr, add_add_add_comm, outF_at, outB_at, inF_at, inB_at, ← Finset.sum_add_distrib]
  unfold In.o blk
  refine congrArg₂ (· + ·) (Finset.sum_congr rfl fun j _ => ?_) rfl
  rw [decF_at, decB_at, split_dec, v175_at, v41_at]

end Cert.Proof.MixRef

end
-- ==== Proof.Mix.RefC.lean ====
/-
  The reference's mixer at the extended reals, entry by entry: the norms and the products after the retention.
-/
module

public import proofs.«01_k».proof.Proof.Mix.RefB

@[expose] public section

set_option maxRecDepth 16384
set_option maxHeartbeats 4000000

noncomputable section

namespace Cert.Proof.MixRef

open Cert.Reference3Ideal Cert.Reference3Ideal.Gen Cert.Reference3Ideal.Value
open Idealize.ShloMosaic Idealize.ShloMosaic.TcCoe Idealize.SL.Sem Idealize.ShloMosaic.Pointwise
open Cert.Proof.Mix

variable (A : Args Ideal)

theorem v198_at (b : Fin 16) (n : Fin 8) (h : Fin 4) (i : Fin 256) :
    r198 (F := Ideal) A (ix5 b n h i 0) = Ideal.div (∑ w : Fin 256, (I A).o b n h i w) c256 := by
  have hr : r198 (F := Ideal) A (ix5 b n h i 0) = Ideal.div (∑ w : Fin 256, r194 A (ix5 b n h i w)) c256 := by
    unfold c256
    pointwise [r198]
  rw [hr]
  exact congrArg (fun s => Ideal.div s c256) (Finset.sum_congr rfl fun w _ => v194_at A b n h i w)

theorem v200_at (b : Fin 16) (n : Fin 8) (h : Fin 4) (i w : Fin 256) :
    r200 (F := Ideal) A (ix5 b n h i w) = (I A).o b n h i w - Ideal.div (∑ w : Fin 256, (I A).o b n h i w) c256 := by
  have hr : r200 (F := Ideal) A (ix5 b n h i w) = r194 A (ix5 b n h i w) - r198 A (ix5 b n h i 0) := by
    pointwise [r200]
  rw [hr, v194_at, v198_at]

/-- A block's rows normalized and set side by side, over any operands. -/
theorem norm5_at (o : FVec Ideal S16x8x4x256x256 .f32) (mu : FVec Ideal S16x8x4x256x1 .f32) (d : FVec Ideal S16x8x4x256x256 .f32)
    (b : Fin 16) (l : Fin 2048) (e : Fin 1024) :
    (shapeCast S16x2048x1024 (transpose S16x8x256x4x256 [0, 1, 3, 2, 4] (mulf (subf o (broadcastInDim S16x8x4x256x256 ![0, 1, 2, 3, 4] bcast_S16x8x4x256x1_S16x8x4x256x256_0_1_2_3_4 mu)) (broadcastInDim S16x8x4x256x256 ![0, 1, 2, 3, 4] bcast_S16x8x4x256x1_S16x8x4x256x256_0_1_2_3_4 (Host.rsqrt (addf (Host.divf (broadcastInDim S16x8x4x256x1 ![0, 1, 2, 3] bcast_S16x8x4x256_S16x8x4x256x1_0_1_2_3 (Host.reduceAdd (mulf d d) (constant S_ .f32 0x00000000#32) reducesTo_S16x8x4x256x256_S16x8x4x256_d4 h_S_)) (broadcastInDim S16x8x4x256x1 ![] bcast_S_S16x8x4x256x1 (constant S_ .f32 0x43800000#32))) (broadcastInDim S16x8x4x256x1 ![] bcast_S_S16x8x4x256x1 (constant S_ .f32 0x3727C5AC#32)))))) transposes_S16x8x4x256x256_S16x8x256x4x256_0_1_3_2_4) shapeCasts_S16x8x256x4x256_S16x2048x1024 : FVec Ideal S16x2048x1024 .f32) (ix3 b l e)
      = (o (ix5 b ⟨l.val / 256, by omega⟩ ⟨e.val / 256, by omega⟩ ⟨l.val % 256, Nat.mod_lt _ (by decide)⟩ ⟨e.val % 256, Nat.mod_lt _ (by decide)⟩)
          - mu (ix5 b ⟨l.val / 256, by omega⟩ ⟨e.val / 256, by omega⟩ ⟨l.val % 256, Nat.mod_lt _ (by decide)⟩ 0))
        * Ideal.rsqrt (Ideal.div (∑ w : Fin 256, d (ix5 b ⟨l.val / 256, by omega⟩ ⟨e.val / 256, by omega⟩ ⟨l.val % 256, Nat.mod_lt _ (by decide)⟩ w) * d (ix5 b ⟨l.val / 256, by omega⟩ ⟨e.val / 256, by omega⟩ ⟨l.val % 256, Nat.mod_lt _ (by decide)⟩ w)) c256 + eps) := by
  unfold c256 eps
  pointwise []

theorem on_at (b : Fin 16) (l : Fin 2048) (e : Fin 1024) : onR (F := Ideal) A (ix3 b l e) = (I A).on b l e := by
  unfold onR
  rw [norm5_at, v194_at, v198_at]
  unfold In.on nrm
  refine congrArg (fun s => _ * Ideal.rsqrt (Ideal.div s c256 + eps)) (Finset.sum_congr rfl fun w _ => ?_)
  rw [v200_at]

/-! ## The gates and the branches -/

theorem r3_at (b : Fin 16) (l : Fin 2048) (e : Fin 1024) : r3 (F := Ideal) A (ix3 b l e) = (I A).h b l e := by
  pointwise [r3]
  rfl

theorem r2_at (e : Fin 1024) (f : Fin 6144) : r2 (F := Ideal) A (ix2 e f) = (I A).win e f := by
  pointwise [r2]
  rfl

theorem prod_at (x : FVec Ideal S16x2048x1024 .f32) (w : FVec Ideal S1024x1024 .f32) (b : Fin 16) (l : Fin 2048) (e : Fin 1024) :
    Host.dotGeneral dot_S16x2048x1024_S1024x1024_S16x2048x1024_2_0_01_1_n_n none x w (ix3 b l e) = ∑ f : Fin 1024, x (ix3 b l f) * w (ix2 f e) := by
  pointwise []

theorem cut3072_at (w : FVec Ideal S1024x6144 .f32) (f e : Fin 1024) :
    extractStridedSlice S1024x1024 ![0, 3072] w slices_S1024x6144_S1024x1024_0_3072 (ix2 f e) = w (ix2 f ⟨3072 + e.val, by omega⟩) := by
  pointwise []

theorem cut4096_at (w : FVec Ideal S1024x6144 .f32) (f e : Fin 1024) :
    extractStridedSlice S1024x1024 ![0, 4096] w slices_S1024x6144_S1024x1024_0_4096 (ix2 f e) = w (ix2 f ⟨4096 + e.val, by omega⟩) := by
  pointwise []

theorem cut5120_at (w : FVec Ideal S1024x6144 .f32) (f e : Fin 1024) :
    extractStridedSlice S1024x1024 ![0, 5120] w slices_S1024x6144_S1024x1024_0_5120 (ix2 f e) = w (ix2 f ⟨5120 + e.val, by omega⟩) := by
  pointwise []

theorem gR_at (b : Fin 16) (l : Fin 2048) (e : Fin 1024) : r220 (F := Ideal) A (ix3 b l e) = (I A).gate 3072 (by decide) b l e := by
  unfold r220
  rw [prod_at]
  unfold In.gate
  refine Finset.sum_congr rfl fun f _ => ?_
  rw [r3_at, cut3072_at, r2_at]

theorem gA_at (b : Fin 16) (l : Fin 2048) (e : Fin 1024) : gA (F := Ideal) A (ix3 b l e) = (I A).gate 4096 (by decide) b l e := by
  unfold gA
  rw [prod_at]
  unfold In.gate
  refine Finset.sum_congr rfl fun f _ => ?_
  rw [r3_at, cut4096_at, r2_at]

theorem gB_at (b : Fin 16) (l : Fin 2048) (e : Fin 1024) : gB (F := Ideal) A (ix3 b l e) = (I A).gate 5120 (by decide) b l e := by
  unfold gB
  rw [prod_at]
  unfold In.gate
  refine Finset.sum_congr rfl fun f _ => ?_
  rw [r3_at, cut5120_at, r2_at]

theorem yc_at (b : Fin 16) (l : Fin 2048) (e : Fin 1024) : ycR (F := Ideal) A (ix3 b l e) = (I A).yc b l e := by
  have hr : ycR (F := Ideal) A (ix3 b l e) = ∑ f : Fin 512, A.a11 (ix3 b l f) * A.a13 (ix3 0 f e) := by
    pointwise [ycR]
  exact hr

/-- The logistic function as it is written out. -/
theorem sg_at (g : FVec Ideal S16x2048x1024 .f32) (b : Fin 16) (l : Fin 2048) (e : Fin 1024) :
    Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf g))) (ix3 b l e)
      = sg (g (ix3 b l e)) := by
  unfold sg
  pointwise []

theorem mul_at (x y : FVec Ideal S16x2048x1024 .f32) (b : Fin 16) (l : Fin 2048) (e : Fin 1024) : mulf x y (ix3 b l e) = x (ix3 b l e) * y (ix3 b l e) := by
  pointwise []

theorem add_at (x y : FVec Ideal S16x2048x1024 .f32) (b : Fin 16) (l : Fin 2048) (e : Fin 1024) : addf x y (ix3 b l e) = x (ix3 b l e) + y (ix3 b l e) := by
  pointwise []

theorem gn_at (b : Fin 16) (l : Fin 2048) (e : Fin 1024) :
    (broadcastInDim S16x2048x1024 ![0, 1, 2] bcast_S1x1x1024_S16x2048x1024_0_1_2 (broadcastInDim S1x1x1024 ![2] bcast_S1024_S1x1x1024_2 (shapeCast S1024 A.a16 shapeCasts_S1x1024_S1024))) (ix3 b l e) = (I A).gn e := by
  have hr (v : FVec Ideal S1x1024 .f32) : (broadcastInDim S16x2048x1024 ![0, 1, 2] bcast_S1x1x1024_S16x2048x1024_0_1_2 (broadcastInDim S1x1x1024 ![2] bcast_S1024_S1x1x1024_2 (shapeCast S1024 v shapeCasts_S1x1024_S1024))) (ix3 b l e) = v (ix2 0 e) := by
    pointwise []
  exact hr A.a16

theorem sq1024_at (v : FVec Ideal S1x1024x1024 .f32) (f e : Fin 1024) : shapeCast S1024x1024 v shapeCasts_S1x1024x1024_S1024x1024 (ix2 f e) = v (ix3 0 f e) := by
  pointwise []

theorem yb_at (b : Fin 16) (l : Fin 2048) (e : Fin 1024) : ybR (F := Ideal) A (ix3 b l e) = (I A).yb b l e := by
  unfold ybR
  rw [prod_at]
  unfold In.yb
  refine Finset.sum_congr rfl fun f _ => ?_
  rw [mul_at, mul_at, mul_at, sg_at, gR_at, on_at, gn_at, sq1024_at]
  rfl

theorem y_at (b : Fin 16) (l : Fin 2048) (e : Fin 1024) : yR (F := Ideal) A (ix3 b l e) = (I A).y b l e := by
  unfold yR
  rw [prod_at]
  unfold In.y
  refine Finset.sum_congr rfl fun f _ => ?_
  rw [add_at, mul_at, mul_at, sg_at, sg_at, gA_at, gB_at, yc_at, yb_at, sq1024_at]
  rfl

/-! ## The two norms -/

theorem v254_at (b : Fin 16) (l : Fin 2048) (e : Fin 1024) :
    r254 (F := Ideal) A (ix3 b l e) = alpha * (I A).x b l e + (I A).g1 b e * (I A).y b l e := by
  have hr (x : FVec Ideal S32x2048x1024 .f32) (g : FVec Ideal S16x1x1024 .f32) (y : FVec Ideal S16x2048x1024 .f32) :
      addf (mulf (broadcastInDim S16x2048x1024 ![] bcast_S_S16x2048x1024 (constant S_ .f32 0x3F9837F0#32)) (extractStridedSlice S16x2048x1024 ![0, 0, 0] x slices_S32x2048x1024_S16x2048x1024_0_0_0)) (mulf (broadcastInDim S16x2048x1024 ![0, 1, 2] bcast_S16x1x1024_S16x2048x1024_0_1_2 g) y) (ix3 b l e)
      = alpha * x (ix3 ⟨b.val, by omega⟩ l e) + g (ix3 b 0 e) * y (ix3 b l e) := by
    unfold alpha
    pointwise []
  unfold r254
  rw [hr, y_at]
  rfl

theorem mean_at (x : FVec Ideal S16x2048x1024 .f32) (b : Fin 16) (l : Fin 2048) :
    Host.divf (broadcastInDim S16x2048x1 ![0, 1] bcast_S16x2048_S16x2048x1_0_1 (Host.reduceAdd x (constant S_ .f32 0x00000000#32) reducesTo_S16x2048x1024_S16x2048_d2 h_S_)) (broadcastInDim S16x2048x1 ![] bcast_S_S16x2048x1 (constant S_ .f32 0x44800000#32)) (ix3 b l 0)
      = Ideal.div (∑ e : Fin 1024, x (ix3 b l e)) c1024 := by
  unfold c1024
  pointwise []

theorem less_at (x : FVec Ideal S16x2048x1024 .f32) (mu : FVec Ideal S16x2048x1 .f32) (b : Fin 16) (l : Fin 2048) (e : Fin 1024) :
    subf x (broadcastInDim S16x2048x1024 ![0, 1, 2] bcast_S16x2048x1_S16x2048x1024_0_1_2 mu) (ix3 b l e) = x (ix3 b l e) - mu (ix3 b l 0) := by
  pointwise []

/-- A row over the root of its variance. -/
theorem norm_at (x : FVec Ideal S16x2048x1024 .f32) (b : Fin 16) (l : Fin 2048) (e : Fin 1024) (f : Fin 1024 → EReal) (hx : ∀ e, x (ix3 b l e) = f e)
    (mu : FVec Ideal S16x2048x1 .f32) (hmu : mu (ix3 b l 0) = Ideal.div (∑ e, f e) c1024) (d : FVec Ideal S16x2048x1024 .f32) (hd : ∀ e, d (ix3 b l e) = f e - Ideal.div (∑ e, f e) c1024) :
    mulf (subf x (broadcastInDim S16x2048x1024 ![0, 1, 2] bcast_S16x2048x1_S16x2048x1024_0_1_2 mu)) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf d d) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32))))) (ix3 b l e)
      = nrm c1024 f e := by
  have hr : mulf (subf x (broadcastInDim S16x2048x1024 ![0, 1, 2] bcast_S16x2048x1_S16x2048x1024_0_1_2 mu)) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf d d) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32))))) (ix3 b l e)
      = (x (ix3 b l e) - mu (ix3 b l 0)) * Ideal.rsqrt (Ideal.div (∑ e : Fin 1024, d (ix3 b l e) * d (ix3 b l e)) c1024 + eps) := by
    unfold c1024 eps
    pointwise []
  rw [hr, hx, hmu]
  unfold nrm
  refine congrArg (fun s => _ * Ideal.rsqrt (Ideal.div s c1024 + eps)) (Finset.sum_congr rfl fun e _ => ?_)
  rw [hd]

theorem v258_at (b : Fin 16) (l : Fin 2048) :
    r258 (F := Ideal) A (ix3 b l 0) = Ideal.div (∑ e : Fin 1024, (alpha * (I A).x b l e + (I A).g1 b e * (I A).y b l e)) c1024 := by
  unfold r258
  rw [mean_at]
  exact congrArg (fun s => Ideal.div s c1024) (Finset.sum_congr rfl fun e _ => v254_at A b l e)

theorem v260_at (b : Fin 16) (l : Fin 2048) (e : Fin 1024) :
    r260 (F := Ideal) A (ix3 b l e) = (alpha * (I A).x b l e + (I A).g1 b e * (I A).y b l e)
      - Ideal.div (∑ e : Fin 1024, (alpha * (I A).x b l e + (I A).g1 b e * (I A).y b l e)) c1024 := by
  unfold r260
  rw [less_at, v254_at, v258_at]

theorem row_at (v : FVec Ideal S1x1024 .f32) (b : Fin 16) (l : Fin 2048) (e : Fin 1024) :
    (broadcastInDim S16x2048x1024 ![0, 1, 2] bcast_S1x1x1024_S16x2048x1024_0_1_2 (broadcastInDim S1x1x1024 ![2] bcast_S1024_S1x1x1024_2 (shapeCast S1024 v shapeCasts_S1x1024_S1024))) (ix3 b l e) = v (ix2 0 e) := by
  pointwise []

/-- The first result: the residual after the mixer, normalized. -/
theorem v280_at (b : Fin 16) (l : Fin 2048) (e : Fin 1024) : r280 (F := Ideal) A (ix3 b l e) = (I A).x1 b l e := by
  unfold r280
  rw [add_at, mul_at, row_at, row_at,
    norm_at (r254 A) b l e (fun e => alpha * (I A).x b l e + (I A).g1 b e * (I A).y b l e) (v254_at A b l) (r258 A) (v258_at A b l) (r260 A) (v260_at A b l)]
  rfl

theorem v284_at (b : Fin 16) (l : Fin 2048) : r284 (F := Ideal) A (ix3 b l 0) = Ideal.div (∑ e : Fin 1024, (I A).x1 b l e) c1024 := by
  unfold r284
  rw [mean_at]
  exact congrArg (fun s => Ideal.div s c1024) (Finset.sum_congr rfl fun e _ => v280_at A b l e)

theorem v286_at (b : Fin 16) (l : Fin 2048) (e : Fin 1024) :
    r286 (F := Ideal) A (ix3 b l e) = (I A).x1 b l e - Ideal.div (∑ e : Fin 1024, (I A).x1 b l e) c1024 := by
  unfold r286
  rw [less_at, v280_at, v284_at]

theorem halves_at (x : FVec Ideal S16x2048x1024 .f32) (p : Fin 2) (b : Fin 16) (l : Fin 2048) (e : Fin 512) :
    (truncf .bf16 (transpose S2x16x2048x512 [2, 0, 1, 3] (shapeCast S16x2048x2x512 x shapeCasts_S16x2048x1024_S16x2048x2x512) transposes_S16x2048x2x512_S2x16x2048x512_2_0_1_3) bitsLt_bf16_f32 : FVec Ideal S2x16x2048x512 .bf16) (ix4 p b l e)
      = x (ix3 b l ⟨512 * p.val + e.val, by omega⟩) := by
  pointwise []
  exact congrArg x (congrArg (ix3 b l) (Fin.ext (by show p.val * 512 + e.val = 512 * p.val + e.val; omega)))

theorem seq_at (v : FVec Ideal S16x1x1024 .f32) (b : Fin 16) (l : Fin 2048) (e : Fin 1024) :
    broadcastInDim S16x2048x1024 ![0, 1, 2] bcast_S16x1x1024_S16x2048x1024_0_1_2 v (ix3 b l e) = v (ix3 b 0 e) := by
  pointwise []

theorem one_at (v : FVec Ideal S16x1x1024 .f32) (b : Fin 16) (e : Fin 1024) :
    addf (broadcastInDim S16x1x1024 ![] bcast_S_S16x1x1024 (constant S_ .f32 0x3F800000#32)) v (ix3 b 0 e) = 1 + v (ix3 b 0 e) := by
  pointwise []

/-- The second result: the feed-forward's input, its two halves apart. -/
theorem v307_at (p : Fin 2) (b : Fin 16) (l : Fin 2048) (e : Fin 512) :
    r307 (F := Ideal) A (ix4 p b l e) = (I A).h2 b l ⟨512 * p.val + e.val, by omega⟩ := by
  unfold r307
  rw [halves_at, add_at, mul_at, seq_at, seq_at, one_at,
    norm_at (r280 A) b l _ ((I A).x1 b l) (v280_at A b l) (r284 A) (v284_at A b l) (r286 A) (v286_at A b l)]
  rfl

end Cert.Proof.MixRef

end
-- ==== Proof.Mix.RefRun.lean ====
/-
  The run of the reference's mixer: its two results at the extended reals.
-/
module

public import proofs.«01_k».proof.Proof.Mix.RefC
public import proofs.«01_k».proof.Proof.Gen.Reference3Ideal.Run

@[expose] public section

set_option maxRecDepth 16384
set_option maxHeartbeats 4000000

noncomputable section

namespace Cert.Proof.MixRef

open Cert.Reference3Ideal Cert.Reference3Ideal.Gen Cert.Reference3Ideal.Value
open Idealize.ShloMosaic Idealize.ShloMosaic.TcCoe Idealize.SL.Sem
open Cert.Proof.Mix
open Cert.Reference3Ideal Cert.Reference3Ideal.Gen Idealize.ShloMosaic Idealize.ShloMosaic.TcCoe Idealize.SL.Sem Idealize.ShloMosaic.StableHlo

variable {F : FTy → Type} [FloatOps F]

/-- From any arrays, the run ends with the two results as functions of the arguments, and the arguments unchanged. -/
theorem run_mixer (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v280) = r280 (argsOf (launchContents m c))
      ∧ r.2.mem ((c : Thread nD τ).loc main_v307) = r307 (argsOf (launchContents m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (res280 _), (h c).2.1.trans rfl, (h c).2.2⟩) (Cert.Reference3Ideal.Value.run m ρ)

/-- The arrays of a device's arguments. -/
def arrs (m : (ℓ : Loc nD τ sig) → Buf (Elt Ideal) ℓ) (c : Dev nD) : In := I (argsOf (launchContents m c))

theorem first (m : (ℓ : Loc nD τ sig) → Buf (Elt Ideal) ℓ) (c : Dev nD) :
    r280 (F := Ideal) (argsOf (launchContents m c)) = fun i => (arrs m c).x1 (i 0) (i 1) (i 2) :=
  funext fun i => (congrArg (r280 (F := Ideal) (argsOf (launchContents m c))) (eq_ix3 i)).trans (v280_at _ _ _ _)

theorem second (m : (ℓ : Loc nD τ sig) → Buf (Elt Ideal) ℓ) (c : Dev nD) :
    r307 (F := Ideal) (argsOf (launchContents m c)) = fun i => (arrs m c).h2 (i 1) (i 2) ⟨512 * (i 0).val + (i 3).val, by have h0 : (i 0).val < 2 := (i 0).isLt; have h3 : (i 3).val < 512 := (i 3).isLt; omega⟩ :=
  funext fun i => (congrArg (r307 (F := Ideal) (argsOf (launchContents m c))) (eq_ix4 i)).trans (v307_at _ _ _ _ _)

end Cert.Proof.MixRef

end
-- ==== Proof.Mix.Claims.lean ====
/-
  The mixer's claims: both programs' frames at the extended reals, and the equality of their two results.
-/
module

public import proofs.«01_k».proof.Defs
public import proofs.«01_k».proof.Proof.Mix.Whole
public import proofs.«01_k».proof.Proof.Mix.RefRun
public import Idealize.ShloMosaic.Adequacy
public import Idealize.ShloMosaic.Init

@[expose] public section

set_option maxRecDepth 16384
set_option maxHeartbeats 4000000

noncomputable section

namespace Cert.Proof.Mix

open Idealize.ShloMosaic Idealize.SL.Sem

/-- Equal arguments are the same arrays. -/
theorem same_arrs (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (hm : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)
      ∧ m' ((c.tc : Thread Cert.Reference3Ideal.nD Cert.Reference3Ideal.τ).loc Cert.Reference3Ideal.main_arg22) = m ((c.tc : Thread Cert.Kernel3Ideal.nD Cert.Kernel3Ideal.τ).loc Cert.Kernel3Ideal.main_arg22)) : MixRef.arrs m' c = arrs m c := by
  obtain ⟨h0, h1, h2, h3, h4, h5, h6, h7, h8, h9, h10, h11, h12, h13, h14, h15, h16, h17, h18, h19, h20, h21, h22⟩ := hm
  show inOf (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13)) (m' ((c.tc : Thread Cert.Reference3Ideal.nD Cert.Reference3Ideal.τ).loc Cert.Reference3Ideal.main_arg14)) (m' ((c.tc : Thread Cert.Reference3Ideal.nD Cert.Reference3Ideal.τ).loc Cert.Reference3Ideal.main_arg15)) (m' ((c.tc : Thread Cert.Reference3Ideal.nD Cert.Reference3Ideal.τ).loc Cert.Reference3Ideal.main_arg16)) (m' ((c.tc : Thread Cert.Reference3Ideal.nD Cert.Reference3Ideal.τ).loc Cert.Reference3Ideal.main_arg17)) (m' ((c.tc : Thread Cert.Reference3Ideal.nD Cert.Reference3Ideal.τ).loc Cert.Reference3Ideal.main_arg18)) (m' ((c.tc : Thread Cert.Reference3Ideal.nD Cert.Reference3Ideal.τ).loc Cert.Reference3Ideal.main_arg19)) (m' ((c.tc : Thread Cert.Reference3Ideal.nD Cert.Reference3Ideal.τ).loc Cert.Reference3Ideal.main_arg20)) (m' ((c.tc : Thread Cert.Reference3Ideal.nD Cert.Reference3Ideal.τ).loc Cert.Reference3Ideal.main_arg21)) = inOf (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17)) (m ((c.tc : Thread Cert.Kernel3Ideal.nD Cert.Kernel3Ideal.τ).loc Cert.Kernel3Ideal.main_arg18)) (m ((c.tc : Thread Cert.Kernel3Ideal.nD Cert.Kernel3Ideal.τ).loc Cert.Kernel3Ideal.main_arg19)) (m ((c.tc : Thread Cert.Kernel3Ideal.nD Cert.Kernel3Ideal.τ).loc Cert.Kernel3Ideal.main_arg20)) (m ((c.tc : Thread Cert.Kernel3Ideal.nD Cert.Kernel3Ideal.τ).loc Cert.Kernel3Ideal.main_arg21))
  rw [h0, h1, h2, h3, h4, h5, h6, h7, h8, h9, h10, h11, h12, h13, h14, h15, h16, h17, h18, h19, h20, h21]

theorem frame_kernel3Ideal : Cert.quiescent_Kernel3Ideal := fun m ρ _ => frame (F := Ideal) m ρ

theorem frame_reference3Ideal : Cert.quiescent_Reference3Ideal := fun m ρ _ =>
  (θ_run Cert.Reference3Ideal.defs _ _).mono (fun r h => ⟨fun c => (h c).2.2, sem_eq_zero_of_no_sems (by decide) r.2⟩)
    (MixRef.run_mixer (F := Ideal) m ρ)

theorem algebraic3 : Cert.algebraic_Kernel3Ideal_Reference3Ideal := fun m ρ m' ρ' _ hm =>
  ⟨fun c i => (arrs m c).x1 (i 0) (i 1) (i 2),
    fun c i => (arrs m c).h2 (i 1) (i 2) ⟨512 * (i 0).val + (i 3).val, by have h0 : (i 0).val < 2 := (i 0).isLt; have h3 : (i 3).val < 512 := (i 3).isLt; omega⟩,
    (θ_run Cert.Kernel3Ideal.defs _ _).mono (fun _ h c => ⟨(h c).1.trans (result24 m c), (h c).2.1.trans (result25 m c), (h c).2.2.2⟩) (run_blocks (F := Ideal) m ρ),
    (θ_run Cert.Reference3Ideal.defs _ _).mono
      (fun _ h c => ⟨(h c).1.trans ((MixRef.first m' c).trans (by rw [same_arrs m m' c (hm c)]; rfl)),
        (h c).2.1.trans ((MixRef.second m' c).trans (by rw [same_arrs m m' c (hm c)]; rfl)), (h c).2.2⟩) (MixRef.run_mixer (F := Ideal) m' ρ')⟩

end Cert.Proof.Mix

end
-- ==== Proof.Mix.FrameB.lean ====
/-
  The frame of the mixer's program at the machine's floats: its text is the ideal one's, so the one proof serves both.
-/
module

public import proofs.«01_k».proof.Defs
public import proofs.«01_k».proof.Proof.Gen.Kernel3
public import proofs.«01_k».proof.Proof.Mix.Frame

@[expose] public section

set_option maxHeartbeats 8000000
set_option maxRecDepth 16384

noncomputable section

namespace Cert.Proof.Mix

open Idealize.ShloMosaic Idealize.SL.Sem

/-- The two texts' body tables are one. -/
theorem same_bodies : Cert.Kernel3.defs₀ (F := Bits) = Cert.Kernel3Ideal.defs₀ (F := Bits) := by
  refine congrArg (Defs.onTc (nD := Cert.Kernel3Ideal.nD) (τ := Cert.Kernel3Ideal.τ) (sig := Cert.Kernel3Ideal.sig) (Val := Elt Bits) (Λ := Cert.Kernel3Ideal.Λ₀)) ?_
  refine funext fun p => ?_
  have hp : p = (0 : Fin 1) := Fin.ext (Nat.lt_one_iff.mp p.isLt)
  subst hp
  rfl

/-- So are their calls, -/
theorem same_calls : Cert.Kernel3.pcfgs (F := Bits) = Cert.Kernel3Ideal.pcfgs (F := Bits) := rfl

/-- and their programs. -/
theorem same_main : Cert.Kernel3.main (F := Bits) = Cert.Kernel3Ideal.main (F := Bits) := rfl

theorem same_defs : Cert.Kernel3.defs (F := Bits) = Cert.Kernel3Ideal.defs (F := Bits) :=
  congrArg (Pipeline.defs (Cert.Kernel3Ideal.pcfgs (F := Bits))) same_bodies

theorem frame_kernel3 : Cert.quiescent_Kernel3 := fun m ρ _ => by
  have h := frame (F := Bits) m ρ
  rw [← same_defs, ← same_main] at h
  exact h

end Cert.Proof.Mix

end
-- ==== Proof.FfnOpen.lean ====
/-
  What one grid point of the experts' feed-forward kernel leaves in its buffers: at an expert's first row block the
  three weights, cast, in the scratches, and at every row block the block's result over the scratches.
-/
module

public import proofs.«01_k».proof.Proof.Gen.Kernel2Ideal.Value
public import Idealize.ShloMosaic.Lib.Pipeline.Value

@[expose] public section

noncomputable section

namespace Cert.Proof.Ffn

open Cert.Kernel2Ideal Cert.Kernel2Ideal.Gen
open Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The first pack part of a block of packed rows. -/
abbrev part0 (x : Vec F S2x1x1024x256 .i32) : Vec F S1x1x1024x256 .i32 :=
  View.ld x (Rect.unit (s := S2x1x1024x256) ![0, 0, 0, 0] S1x1x1024x256.size inb_S2x1x1024x256_S1x1x1024x256_0_0_0_0)
/-- The second pack part of a block of packed rows. -/
abbrev part1 (x : Vec F S2x1x1024x256 .i32) : Vec F S1x1x1024x256 .i32 :=
  View.ld x (Rect.unit (s := S2x1x1024x256) ![1, 0, 0, 0] S1x1x1024x256.size inb_S2x1x1024x256_S1x1x1024x256_1_0_0_0)

/-- One row block's result, over the packed rows and the cast weights. -/
abbrev block (x : Vec F S2x1x1024x256 .i32) (g u d : Vec F S1024x1024 .bf16) : Vec F S1x1024x1024 .bf16 :=
  k0_pay1 (k0_pay5 (part0 x) (part1 x)) (k0_pay6 (part0 x) (part1 x) g) u d

section Cases

variable (c : Dev nD) (i : grid0.Coords)
  (a2 : Memref sig .tc .vmem S2x1x1024x256 .i32) (h2 : a2.IsWhole)
  (a3 : Memref sig .tc .vmem S1x1024x1024 .f32) (h3 : a3.IsWhole)
  (a4 : Memref sig .tc .vmem S1x1024x1024 .f32) (h4 : a4.IsWhole)
  (a5 : Memref sig .tc .vmem S1x1024x1024 .f32) (h5 : a5.IsWhole)
  (a6 : Memref sig .tc .vmem S1x1024x1024 .bf16) (h6 : a6.IsWhole)
  (a7 : Memref sig .tc .vmem S1024x1024 .bf16) (h7 : a7.IsWhole)
  (a8 : Memref sig .tc .vmem S1024x1024 .bf16) (h8 : a8.IsWhole)
  (a9 : Memref sig .tc .vmem S1024x1024 .bf16) (h9 : a9.IsWhole)

/-- A row block after the expert's first: the block's result over the scratches as they were. -/
theorem out_B (hc : ¬cond0_0 i) (x0 : Vec F S2x1x1024x256 .i32) (x1 x2 x3 : Vec F S1x1024x1024 .f32) (g u d : Vec F S1024x1024 .bf16) :
    out0_B_4 c i a2 h2 a3 h3 a4 h4 a5 h5 a6 h6 a7 h7 a8 h8 a9 h9 hc x0 x1 x2 x3 g u d = block x0 g u d := by
  unfold out0_B_4
  rw [View.read_writes_eq_canon _ _ _ (cover0_B_4 c i a2 h2 a3 h3 a4 h4 a5 h5 a6 h6 a7 h7 a8 h8 a9 h9 hc x0 x1 x2 x3 g u d)]
  unfold kernelRun0_B
  dsimp only
  sl_unfold_words
  rw [View.canon_unit_zero zero3]
  simp only [View.readAt_eq_ld, h2.read_unread, h7.read_unread, h8.read_unread, h9.read_unread, View.ld_unit_zero (S := S1024x1024) zero2]

/-- The expert's first row block: the same over the weights just cast. -/
theorem out_A (hc : cond0_0 i) (x0 : Vec F S2x1x1024x256 .i32) (x1 x2 x3 : Vec F S1x1024x1024 .f32) :
    out0_A_4 c i a2 h2 a3 h3 a4 h4 a5 h5 a6 h6 a7 h7 a8 h8 a9 h9 hc x0 x1 x2 x3 = block x0 (k0_pay2 x1) (k0_pay3 x2) (k0_pay4 x3) := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_unit_zero zero3]
  simp only [View.readCov_unit_zero (S := S1024x1024) _ zero2, View.readAt_eq_ld, h2.read_unread, h3.read_unread, h4.read_unread, h5.read_unread,
    View.ld_unit_zero (S := S1x1024x1024) zero3, View.ld_unit_zero (S := S1024x1024) zero2]

/-- What it leaves in the first scratch: the cast gate weight. -/
theorem scr_A_0 (hc : cond0_0 i) (x0 : Vec F S2x1x1024x256 .i32) (x1 x2 x3 : Vec F S1x1024x1024 .f32) :
    sout0_A_0 c i a2 h2 a3 h3 a4 h4 a5 h5 a6 h6 a7 h7 a8 h8 a9 h9 hc x0 x1 x2 x3 = k0_pay2 x1 := by
  unfold sout0_A_0
  rw [View.read_writes_eq_canon _ _ _ (scover0_A_0 c i a2 h2 a3 h3 a4 h4 a5 h5 a6 h6 a7 h7 a8 h8 a9 h9 hc x0 x1 x2 x3)]
  unfold kernelRun0_A
  dsimp only
  sl_unfold_words
  rw [View.canon_unit_zero zero2]
  simp only [View.readAt_eq_ld, h3.read_unread, View.ld_unit_zero (S := S1x1024x1024) zero3]

/-- In the second: the cast up weight. -/
theorem scr_A_1 (hc : cond0_0 i) (x0 : Vec F S2x1x1024x256 .i32) (x1 x2 x3 : Vec F S1x1024x1024 .f32) :
    sout0_A_1 c i a2 h2 a3 h3 a4 h4 a5 h5 a6 h6 a7 h7 a8 h8 a9 h9 hc x0 x1 x2 x3 = k0_pay3 x2 := by
  unfold sout0_A_1
  rw [View.read_writes_eq_canon _ _ _ (scover0_A_1 c i a2 h2 a3 h3 a4 h4 a5 h5 a6 h6 a7 h7 a8 h8 a9 h9 hc x0 x1 x2 x3)]
  unfold kernelRun0_A
  dsimp only
  sl_unfold_words
  rw [View.canon_unit_zero zero2]
  simp only [View.readAt_eq_ld, h4.read_unread, View.ld_unit_zero (S := S1x1024x1024) zero3]

/-- In the third: the cast down weight. -/
theorem scr_A_2 (hc : cond0_0 i) (x0 : Vec F S2x1x1024x256 .i32) (x1 x2 x3 : Vec F S1x1024x1024 .f32) :
    sout0_A_2 c i a2 h2 a3 h3 a4 h4 a5 h5 a6 h6 a7 h7 a8 h8 a9 h9 hc x0 x1 x2 x3 = k0_pay4 x3 := by
  unfold sout0_A_2
  rw [View.read_writes_eq_canon _ _ _ (scover0_A_2 c i a2 h2 a3 h3 a4 h4 a5 h5 a6 h6 a7 h7 a8 h8 a9 h9 hc x0 x1 x2 x3)]
  unfold kernelRun0_A
  dsimp only
  sl_unfold_words
  rw [View.canon_unit_zero zero2]
  simp only [View.readAt_eq_ld, h5.read_unread, View.ld_unit_zero (S := S1x1024x1024) zero3]

end Cases

end Cert.Proof.Ffn
-- ==== Proof.FfnVal.lean ====
/-
  The experts' feed-forward call's result as one function of the arrays it is given: each row block's result over the
  block's packed rows and its expert's weights, cast.
-/
module

public import proofs.«01_k».proof.Proof.FfnOpen
public import Idealize.ShloMosaic.Lib.Pointwise.Index

@[expose] public section

noncomputable section

namespace Cert.Proof.Ffn

open Cert.Kernel2Ideal Cert.Kernel2Ideal.Gen Cert.Kernel2Ideal.Value
open Idealize.ShloMosaic Idealize.ShloMosaic.TcCoe Idealize.SL.Sem

variable {F : FTy → Type} [FloatOps F]
variable (m : (ℓ : Loc nD τ sig) → Buf (Elt F) ℓ)

/-- A point's expert's first point. -/
abbrev first (n : ℕ) (hn : n < cfg0.N) : Fin cfg0.N := ⟨n / 4 * 4, by omega⟩

/-- After any point: the output's buffer at the block's result, the scratches at the expert's cast weights. -/
theorem outs_eq (c : Dev nD) : ∀ (n : ℕ) (hn : n < cfg0.N), outsAt0 m c n hn =
    (block (iblk m c 0 ⟨n, hn⟩) (k0_pay2 (iblk m c 1 (first n hn))) (k0_pay3 (iblk m c 2 (first n hn))) (k0_pay4 (iblk m c 3 (first n hn))),
      k0_pay2 (iblk m c 1 (first n hn)), k0_pay3 (iblk m c 2 (first n hn)), k0_pay4 (iblk m c 3 (first n hn))) := by
  intro n
  induction n with
  | zero =>
    intro hn
    refine (outsAt0_A m c ⟨0, hn⟩ rfl).trans ?_
    rw [out_A, scr_A_0, scr_A_1, scr_A_2]
  | succ n ih =>
    intro hn
    by_cases h0 : (n + 1) % 4 = 0
    · refine (outsAt0_A m c ⟨n + 1, hn⟩ h0).trans ?_
      rw [out_A, scr_A_0, scr_A_1, scr_A_2]
      have e : first (n + 1) hn = ⟨n + 1, hn⟩ := Fin.ext (by show (n + 1) / 4 * 4 = n + 1; omega)
      rw [e]
    · refine (outsAt0_B m c ⟨n + 1, hn⟩ h0).trans ?_
      have e : first (n + 1) hn = first n (Nat.lt_of_succ_lt hn) := Fin.ext (by show (n + 1) / 4 * 4 = n / 4 * 4; omega)
      have ih' := ih (Nat.lt_of_succ_lt hn)
      rw [out_B]
      unfold sout0_B_0 sout0_B_1 sout0_B_2
      have key : ∀ (k : ℕ) (hk : k < cfg0.N), k = n → outsAt0 m c k hk = outsAt0 m c n (Nat.lt_of_succ_lt hn) := fun k hk h => by subst h; rfl
      rw [key _ _ (Nat.add_sub_cancel n 1), ih', e]

/-! ## The windows' blocks -/

/-- Where each window's block is at a point. -/
theorem at0 : ∀ t : Fin cfg0.N, win0_0.index t (0 : Fin 4) = 0 ∧ win0_0.index t (1 : Fin 4) = t.val / 4
    ∧ win0_0.index t (2 : Fin 4) = t.val % 4 ∧ win0_0.index t (3 : Fin 4) = 0 := (by decide +kernel : ∀ t : Fin grid0.N, _)
theorem at1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem at2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem at3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

/-- The packed rows of row block `b` of expert `e`. -/
def rowsAt (x : S2x16x4096x256.Idx → BitVec 32) (e : Fin 16) (b : Fin 4) : S2x1x1024x256.Idx → BitVec 32 := fun j =>
  x (ix4 (j 0) e (⟨1024 * b.val + (j 2).val, by have h : (j 2).val < 1024 := (j 2).isLt; omega⟩ : Fin 4096) (j 3))

/-- Expert `e`'s weight of a stack of them. -/
def weightAt (w : S16x1024x1024.Idx → F .f32) (e : Fin 16) : S1x1024x1024.Idx → F .f32 := fun j => w (ix3 e (j 1) (j 2))

/-- A stack of weights without its leading axis. -/
abbrev stack (w : S1x16x1024x1024.Idx → F .f32) : S16x1024x1024.Idx → F .f32 := shapeCast S16x1024x1024 w shapeCasts_S1x16x1024x1024_S16x1024x1024

theorem V_main_v0 (c : Dev nD) : V m c main_v0 = stack (F := F) (m ((c : Thread nD τ).loc main_arg1)) := by
  dsimp only [V, hostOps0, List.flatten_cons, List.flatten_nil, List.append_nil]; after_results <;> rfl
theorem V_main_v1 (c : Dev nD) : V m c main_v1 = stack (F := F) (m ((c : Thread nD τ).loc main_arg2)) := by
  dsimp only [V, hostOps0, List.flatten_cons, List.flatten_nil, List.append_nil]; after_results <;> rfl
theorem V_main_v2 (c : Dev nD) : V m c main_v2 = stack (F := F) (m ((c : Thread nD τ).loc main_arg3)) := by
  dsimp only [V, hostOps0, List.flatten_cons, List.flatten_nil, List.append_nil]; after_results <;> rfl

theorem iblk0 (c : Dev nD) (t : Fin cfg0.N) (e : Fin 16) (b : Fin 4) (h : t.val = 4 * e.val + b.val) :
    iblk m c 0 t = rowsAt (m ((c : Thread nD τ).loc main_arg0)) e b := by
  obtain ⟨e0, e1, e2, e3⟩ := at0 t
  funext j
  show V m c main_arg0 (((cfg0.win 0).blk t).view.emb j) = _
  rw [V_main_arg0]
  refine congrArg (m ((c : Thread nD τ).loc main_arg0)) (funext fun a => Fin.ext ?_)
  have h0 : (j 0).val < 2 := (j 0).isLt
  have h1 : (j 1).val < 1 := (j 1).isLt
  have h2 : (j 2).val < 1024 := (j 2).isLt
  have h3 : (j 3).val < 256 := (j 3).isLt
  match a with
  | ⟨0, _⟩ => show win0_0.index t (0 : Fin 4) * 2 + 1 * (j 0).val = (j 0).val; omega
  | ⟨1, _⟩ => show win0_0.index t (1 : Fin 4) * 1 + 1 * (j 1).val = e.val; omega
  | ⟨2, _⟩ => show win0_0.index t (2 : Fin 4) * 1024 + 1 * (j 2).val = 1024 * b.val + (j 2).val; omega
  | ⟨3, _⟩ => show win0_0.index t (3 : Fin 4) * 256 + 1 * (j 3).val = (j 3).val; omega

theorem iblk1 (c : Dev nD) (t : Fin cfg0.N) (e : Fin 16) (h : t.val / 4 = e.val) :
    iblk m c 1 t = weightAt (stack (F := F) (m ((c : Thread nD τ).loc main_arg1))) e := by
  obtain ⟨e0, e1, e2⟩ := at1 t
  funext j
  show V m c main_v0 (((cfg0.win 1).blk t).view.emb j) = _
  rw [V_main_v0]
  refine congrArg (stack (F := F) (m ((c : Thread nD τ).loc main_arg1))) (funext fun a => Fin.ext ?_)
  have h0 : (j 0).val < 1 := (j 0).isLt
  match a with
  | ⟨0, _⟩ => show win0_1.index t (0 : Fin 3) * 1 + 1 * (j 0).val = e.val; omega
  | ⟨1, _⟩ => show win0_1.index t (1 : Fin 3) * 1024 + 1 * (j 1).val = (j 1).val; omega
  | ⟨2, _⟩ => show win0_1.index t (2 : Fin 3) * 1024 + 1 * (j 2).val = (j 2).val; omega

theorem iblk2 (c : Dev nD) (t : Fin cfg0.N) (e : Fin 16) (h : t.val / 4 = e.val) :
    iblk m c 2 t = weightAt (stack (F := F) (m ((c : Thread nD τ).loc main_arg2))) e := by
  obtain ⟨e0, e1, e2⟩ := at2 t
  funext j
  show V m c main_v1 (((cfg0.win 2).blk t).view.emb j) = _
  rw [V_main_v1]
  refine congrArg (stack (F := F) (m ((c : Thread nD τ).loc main_arg2))) (funext fun a => Fin.ext ?_)
  have h0 : (j 0).val < 1 := (j 0).isLt
  match a with
  | ⟨0, _⟩ => show win0_2.index t (0 : Fin 3) * 1 + 1 * (j 0).val = e.val; omega
  | ⟨1, _⟩ => show win0_2.index t (1 : Fin 3) * 1024 + 1 * (j 1).val = (j 1).val; omega
  | ⟨2, _⟩ => show win0_2.index t (2 : Fin 3) * 1024 + 1 * (j 2).val = (j 2).val; omega

theorem iblk3 (c : Dev nD) (t : Fin cfg0.N) (e : Fin 16) (h : t.val / 4 = e.val) :
    iblk m c 3 t = weightAt (stack (F := F) (m ((c : Thread nD τ).loc main_arg3))) e := by
  obtain ⟨e0, e1, e2⟩ := at3 t
  funext j
  show V m c main_v2 (((cfg0.win 3).blk t).view.emb j) = _
  rw [V_main_v2]
  refine congrArg (stack (F := F) (m ((c : Thread nD τ).loc main_arg3))) (funext fun a => Fin.ext ?_)
  have h0 : (j 0).val < 1 := (j 0).isLt
  match a with
  | ⟨0, _⟩ => show win0_3.index t (0 : Fin 3) * 1 + 1 * (j 0).val = e.val; omega
  | ⟨1, _⟩ => show win0_3.index t (1 : Fin 3) * 1024 + 1 * (j 1).val = (j 1).val; omega
  | ⟨2, _⟩ => show win0_3.index t (2 : Fin 3) * 1024 + 1 * (j 2).val = (j 2).val; omega

/-! ## The result -/

/-- The call's result: row `r` of expert `e` at its place in row block `r / 1024`'s result. -/
def ffnOut (x : S2x16x4096x256.Idx → BitVec 32) (g u d : S1x16x1024x1024.Idx → F .f32) : S16x4096x1024.Idx → F .bf16 := fun i =>
  have hb : (i 1).val / 1024 < 4 := by have h : (i 1).val < 4096 := (i 1).isLt; omega
  block (rowsAt x (i 0) ⟨(i 1).val / 1024, hb⟩) (k0_pay2 (weightAt (stack g) (i 0))) (k0_pay3 (weightAt (stack u) (i 0)))
    (k0_pay4 (weightAt (stack d) (i 0))) (loc4Of i)

theorem G4_eq (c : Dev nD) : G4 m c = ffnOut (m ((c : Thread nD τ).loc main_arg0)) (m ((c : Thread nD τ).loc main_arg1))
    (m ((c : Thread nD τ).loc main_arg2)) (m ((c : Thread nD τ).loc main_arg3)) := by
  funext i
  have h0 : (i 0).val < 16 := (i 0).isLt
  have h1 : (i 1).val < 4096 := (i 1).isLt
  have h2 : (i 2).val < 1024 := (i 2).isLt
  have hb : (i 1).val / 1024 < 4 := by omega
  have hp : pt4Of i = 4 * (i 0).val + (i 1).val / 1024 := by
    show 4 * ((i 0).val / 1 - 0) + 1 * ((i 1).val / 1024 - 0) + 1 * ((i 2).val / 1024 - 0) = _
    omega
  have hN : pt4Of i < cfg0.N := by rw [show cfg0.N = 64 from N_0]; omega
  unfold G4
  rw [dif_pos hN, ← outsAt0_sweep m c (pt4Of i) hN, outs_eq]
  have hf : (first (pt4Of i) hN).val / 4 = (i 0).val := by show pt4Of i / 4 * 4 / 4 = _; omega
  rw [iblk0 m c ⟨pt4Of i, hN⟩ (i 0) ⟨(i 1).val / 1024, hb⟩ hp, iblk1 m c _ (i 0) hf, iblk2 m c _ (i 0) hf, iblk3 m c _ (i 0) hf]
  rfl

/-- The call's run: the result array at that function, the arguments unchanged. -/
theorem run_ffn (ρ : Dev nD → PrngReg) :
    θ_run defs (onTc (τ := τ) (main (F := F))) ⟨m, fun _ => 0, ρ⟩ fun r => ∀ c : Dev nD,
      r.2.mem ((c : Thread nD τ).loc main_v3) = ffnOut (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (G4_eq m c), (h c).2⟩) (run m ρ)

end Cert.Proof.Ffn
-- ==== Proof.FfnSpec.lean ====
/-
  The experts' feed-forward at the extended reals, entry by entry, and the two halves of a packed word as numbers: a
  half word read as a half-width float is the word with it on top and zeros below read as a full-width one.
-/
module

public import Idealize.ShloMosaic.PureOps.Ideal.Laws
public import Idealize.ShloMosaic.Lib.IdealHost
public import Idealize.ShloMosaic.Lib.Pointwise.Index

@[expose] public section

noncomputable section

namespace Cert.Proof.Ffn

open Idealize.ShloMosaic

/-- The two formats' exponents have one width, so the longer significand, its low bits zero, is the same number. -/
theorem half_top (w : BitVec 32) (h : BitVec 16) (e : w.toNat = h.toNat * 65536) : Ideal.ofBits .f32 w = Ideal.ofBits .bf16 h := by
  have lt := h.isLt
  have hs : (w.extractLsb' 31 1 == 1#1) = (h.extractLsb' 15 1 == 1#1) := by
    have : w.extractLsb' 31 1 = h.extractLsb' 15 1 := BitVec.eq_of_toNat_eq (by
      simp only [BitVec.extractLsb'_toNat, Nat.shiftRight_eq_div_pow, e]; omega)
    rw [this]
  have hx : (w.extractLsb' 23 8).toNat = (h.extractLsb' 7 8).toNat := by
    simp only [BitVec.extractLsb'_toNat, Nat.shiftRight_eq_div_pow, e]; omega
  have hf : (w.extractLsb' 0 23).toNat = (h.extractLsb' 0 7).toNat * 65536 := by
    simp only [BitVec.extractLsb'_toNat, Nat.shiftRight_eq_div_pow, e]; omega
  show Ideal.ieee 8 23 w = Ideal.ieee 8 7 h
  unfold Ideal.ieee
  dsimp only
  rw [show w.extractLsb' (8 + 23) 1 = w.extractLsb' 31 1 from rfl, show h.extractLsb' (8 + 7) 1 = h.extractLsb' 15 1 from rfl, hs, hx, hf]
  have h0 : ((h.extractLsb' 0 7).toNat * 65536 = 0) = ((h.extractLsb' 0 7).toNat = 0) := by
    apply propext; constructor <;> intro; all_goals omega
  simp only [h0]
  have hp : ∀ z : ℤ, (65536 : ℝ) * (2 : ℝ) ^ (z - 23) = (2 : ℝ) ^ (z - 7) := fun z => by
    rw [show z - 7 = (z - 23) + 16 by ring, zpow_add₀ (by norm_num : (2 : ℝ) ≠ 0)]; norm_num; ring
  generalize (if (h.extractLsb' 15 1 == 1#1) = true then (-1 : ℝ) else 1) = sg
  generalize (h.extractLsb' 7 8).toNat = ex
  generalize (h.extractLsb' 0 7).toNat = fr
  split
  · rfl
  · split
    · congr 1
      have := hp (1 - (2 ^ (8 - 1) - 1))
      push_cast at this ⊢
      rw [← this]; ring
    · congr 1
      have := hp ((ex : ℤ) - (2 ^ (8 - 1) - 1))
      push_cast at this ⊢
      rw [← this]; ring

/-- The word shifted up is its low half on top. -/
theorem low_half (w : BitVec 32) : Ideal.ofBits .f32 (w <<< 16) = Ideal.ofBits .bf16 (w.extractLsb' 0 16) :=
  half_top _ _ (by simp only [BitVec.toNat_shiftLeft, BitVec.extractLsb'_toNat, Nat.shiftLeft_eq, Nat.shiftRight_zero]; have := w.isLt; omega)

/-- The word with its low half cleared is its high half on top. -/
theorem high_half (w : BitVec 32) : Ideal.ofBits .f32 (w &&& 4294901760#32) = Ideal.ofBits .bf16 (w.extractLsb' 16 16) := by
  have e : w &&& 4294901760#32 = (w.extractLsb' 16 16).setWidth 32 <<< 16 := by
    apply BitVec.eq_of_getLsbD_eq
    intro i hi
    simp only [BitVec.getLsbD_and, BitVec.getLsbD_shiftLeft, BitVec.getLsbD_setWidth, BitVec.getLsbD_extractLsb']
    interval_cases i <;> simp
  refine half_top _ _ ?_
  rw [e]
  have := (w.extractLsb' 16 16).isLt
  simp only [BitVec.toNat_shiftLeft, BitVec.toNat_setWidth, Nat.shiftLeft_eq]
  omega

/-! ## The feed-forward -/

/-- The packed rows, by pack part, expert, row and word. -/
abbrev Words := (⟨4, ![2, 16, 4096, 256]⟩ : Shape).Idx → BitVec 32
/-- A weight, by layer (one), expert, row and column. -/
abbrev Weight := (⟨4, ![1, 16, 1024, 1024]⟩ : Shape).Idx → EReal

/-- Feature `k` of row `r` of expert `e`: pack part `k / 512`, half `k / 256 % 2`, word `k % 256`. -/
def feature (x : Words) (e : Fin 16) (r : Fin 4096) (k : Fin 1024) : EReal :=
  Ideal.ofBits .bf16 (BitVec.extractLsb' (k.val / 256 % 2 * 16) 16
    (x (ix4 (⟨k.val / 512, by have := k.isLt; omega⟩ : Fin 2) e r (⟨k.val % 256, Nat.mod_lt _ (by decide)⟩ : Fin 256))))

/-- A row through its expert's weight. -/
def through (w : Weight) (e : Fin 16) (X : Fin 1024 → EReal) (f : Fin 1024) : EReal := ∑ k : Fin 1024, X k * w (ix4 (0 : Fin 1) e k f)

/-- A number times its logistic function. -/
def silu (z : EReal) : EReal := z * Ideal.div 1 (1 + Ideal.exp (-z))

/-- Entry `c` of row `r` of expert `e` of the result. -/
def ffn (x : Words) (g u d : Weight) (e : Fin 16) (r : Fin 4096) (c : Fin 1024) : EReal :=
  through d e (fun f => silu (through g e (feature x e r) f) * through u e (feature x e r) f) c

end Cert.Proof.Ffn
-- ==== Proof.FfnBlock.lean ====
/-
  The experts' feed-forward of the kernel, read entry by entry at the extended reals.
-/
module

public import proofs.«01_k».proof.Proof.FfnVal
public import proofs.«01_k».proof.Proof.FfnSpec
public import Idealize.ShloMosaic.Lib.Pointwise

@[expose] public section

noncomputable section

namespace Cert.Proof.Ffn

open Cert.Kernel2Ideal Cert.Kernel2Ideal.Gen
open Idealize.ShloMosaic

/-- The unpacked rows of a block, entry by entry. -/
theorem pay5_apply (x : S2x16x4096x256.Idx → BitVec 32) (e : Fin 16) (b : Fin 4) (r k : Fin 1024) (R : Fin 4096) (hR : R.val = 1024 * b.val + r.val) :
    k0_pay5 (F := Ideal) (part0 (F := Ideal) (rowsAt x e b)) (part1 (F := Ideal) (rowsAt x e b)) (ix2 r k) = feature x e R k := by
  have hk := k.isLt
  have h0 : ∀ j : Fin 256, part0 (F := Ideal) (rowsAt x e b) (ix4 (0 : Fin 1) (0 : Fin 1) r j) = x (ix4 (0 : Fin 2) e R j) := fun j => by
    refine congrArg x (funext fun a => Fin.ext ?_)
    match a with
    | ⟨0, _⟩ => rfl
    | ⟨1, _⟩ => rfl
    | ⟨2, _⟩ => show 1024 * b.val + (0 + 1 * r.val) = R.val; omega
    | ⟨3, _⟩ => show 0 + 1 * j.val = j.val; omega
  have h1 : ∀ j : Fin 256, part1 (F := Ideal) (rowsAt x e b) (ix4 (0 : Fin 1) (0 : Fin 1) r j) = x (ix4 (1 : Fin 2) e R j) := fun j => by
    refine congrArg x (funext fun a => Fin.ext ?_)
    match a with
    | ⟨0, _⟩ => rfl
    | ⟨1, _⟩ => rfl
    | ⟨2, _⟩ => show 1024 * b.val + (0 + 1 * r.val) = R.val; omega
    | ⟨3, _⟩ => show 0 + 1 * j.val = j.val; omega
  have hf : ∀ (p : Fin 2) (h : ℕ) (j : Fin 256), k.val / 512 = p.val → k.val / 256 % 2 * 16 = h → k.val % 256 = j.val →
      feature x e R k = Ideal.ofBits .bf16 (BitVec.extractLsb' h 16 (x (ix4 p e R j))) := by
    intro p h j hp hh hj
    subst hh
    unfold feature
    have ep : (⟨k.val / 512, by omega⟩ : Fin 2) = p := Fin.ext hp
    have ej : (⟨k.val % 256, Nat.mod_lt _ (by decide)⟩ : Fin 256) = j := Fin.ext hj
    rw [ep, ej]
  pointwise [k0_pay5]
  split
  · rw [h0, hf 0 0 ⟨k.val, by omega⟩ (by show k.val / 512 = 0; omega) (by omega) (by show k.val % 256 = k.val; omega)]
    exact low_half _
  · split
    · rw [h0, hf 0 16 ⟨k.val - 256, by omega⟩ (by show k.val / 512 = 0; omega) (by omega) (by show k.val % 256 = k.val - 256; omega)]
      exact high_half _
    · split
      · rw [h1, hf 1 0 ⟨k.val - 256 - 256, by omega⟩ (by show k.val / 512 = 1; omega) (by omega) (by show k.val % 256 = k.val - 256 - 256; omega)]
        exact low_half _
      · rw [h1, hf 1 16 ⟨k.val - 256 - 256 - 256, by omega⟩ (by show k.val / 512 = 1; omega) (by omega) (by show k.val % 256 = k.val - 256 - 256 - 256; omega)]
        exact high_half _

/-- The cast weights of an expert, entry by entry. -/
theorem pay2_apply (w : FVec Ideal S1x16x1024x1024 .f32) (e : Fin 16) (r k : Fin 1024) :
    k0_pay2 (F := Ideal) (weightAt (stack w) e) (ix2 r k) = w (ix4 (0 : Fin 1) e r k) := by
  pointwise [k0_pay2, weightAt, stack]
theorem pay3_apply (w : FVec Ideal S1x16x1024x1024 .f32) (e : Fin 16) (r k : Fin 1024) :
    k0_pay3 (F := Ideal) (weightAt (stack w) e) (ix2 r k) = w (ix4 (0 : Fin 1) e r k) := by
  pointwise [k0_pay3, weightAt, stack]
theorem pay4_apply (w : FVec Ideal S1x16x1024x1024 .f32) (e : Fin 16) (r k : Fin 1024) :
    k0_pay4 (F := Ideal) (weightAt (stack w) e) (ix2 r k) = w (ix4 (0 : Fin 1) e r k) := by
  pointwise [k0_pay4, weightAt, stack]

/-- The gated activation of a row of unpacked rows over a cast weight. -/
theorem pay6_apply (v3 v13 : Vec Ideal S1x1x1024x256 .i32) (v24 : Vec Ideal S1024x1024 .bf16) (r f : Fin 1024) :
    k0_pay6 (F := Ideal) v3 v13 v24 (ix2 r f) = silu (∑ k : Fin 1024, k0_pay5 (F := Ideal) v3 v13 (ix2 r k) * v24 (ix2 k f)) := by
  pointwise [k0_pay6]
  unfold silu
  rw [zero_sub]

/-- The up product, the product with the gate, the down product. -/
theorem pay1_apply (v23 : FVec Ideal S1024x1024 .bf16) (v33 : FVec Ideal S1024x1024 .f32) (v34 v38 : Vec Ideal S1024x1024 .bf16) (i : S1x1024x1024.Idx) :
    k0_pay1 (F := Ideal) v23 v33 v34 v38 i
      = ∑ f : Fin 1024, (v33 (ix2 (i 1) f) * ∑ k : Fin 1024, v23 (ix2 (i 1) k) * v34 (ix2 k f)) * v38 (ix2 f (i 2)) := by
  pointwise [k0_pay1]

/-- A block's result, entry by entry, is the feed-forward at the block's row. -/
theorem block_apply (x : S2x16x4096x256.Idx → BitVec 32) (g u d : FVec Ideal S1x16x1024x1024 .f32) (e : Fin 16) (b : Fin 4)
    (r : Fin 1024) (R : Fin 4096) (hR : R.val = 1024 * b.val + r.val) (c : Fin 1024) :
    block (F := Ideal) (rowsAt x e b) (k0_pay2 (F := Ideal) (weightAt (stack g) e)) (k0_pay3 (F := Ideal) (weightAt (stack u) e))
      (k0_pay4 (F := Ideal) (weightAt (stack d) e)) (ix3 (0 : Fin 1) r c) = ffn x g u d e R c := by
  refine (pay1_apply _ _ _ _ _).trans ?_
  unfold ffn through
  refine Finset.sum_congr rfl fun f _ => congrArg₂ (· * ·) (congrArg₂ (· * ·) ?_ ?_) (pay4_apply d e f c)
  · refine (pay6_apply _ _ _ r f).trans (congrArg silu (Finset.sum_congr rfl fun k _ => ?_))
    exact congrArg₂ (· * ·) (pay5_apply x e b r k R hR) (pay2_apply g e k f)
  · refine Finset.sum_congr rfl fun k _ => ?_
    exact congrArg₂ (· * ·) (pay5_apply x e b r k R hR) (pay3_apply u e k f)

/-- The kernel's result is the feed-forward. -/
theorem ffnOut_apply (x : S2x16x4096x256.Idx → BitVec 32) (g u d : FVec Ideal S1x16x1024x1024 .f32) (e : Fin 16) (r : Fin 4096) (c : Fin 1024) :
    ffnOut (F := Ideal) x g u d (ix3 e r c) = ffn x g u d e r c := by
  have hr := r.isLt
  have hl : Value.loc4Of (ix3 e r c) = ix3 (0 : Fin 1) (⟨r.val % 1024, Nat.mod_lt _ (by decide)⟩ : Fin 1024) c := by
    funext a
    match a with
    | ⟨0, _⟩ => exact Fin.ext (Nat.mod_one _)
    | ⟨1, _⟩ => rfl
    | ⟨2, _⟩ => exact Fin.ext (Nat.mod_eq_of_lt c.isLt)
  unfold ffnOut
  dsimp only
  rw [hl]
  exact block_apply x g u d e ⟨r.val / 1024, by omega⟩ ⟨r.val % 1024, Nat.mod_lt _ (by decide)⟩ r (by show r.val = 1024 * (r.val / 1024) + r.val % 1024; omega) c

end Cert.Proof.Ffn
-- ==== Proof.FfnRef.lean ====
/-
  The experts' feed-forward of the reference, read entry by entry at the extended reals.
-/
module

public import proofs.«01_k».proof.Proof.Gen.Reference2Ideal.Run
public import proofs.«01_k».proof.Proof.FfnSpec
public import Idealize.ShloMosaic.Lib.Pointwise
public import Idealize.ShloMosaic.Lib.BitcastConvert

@[expose] public section

noncomputable section

namespace Cert.Proof.FfnRef

open Cert.Reference2Ideal Cert.Reference2Ideal.Gen
open Idealize.ShloMosaic Idealize.ShloMosaic.TcCoe Idealize.SL.Sem
open Cert.Proof.Ffn (feature through silu ffn)

variable {F : FTy → Type} [FloatOps F]

/-- The packed rows' features, by sample, expert, place and feature. -/
def rows (x : S2x16x4096x256.Idx → BitVec 32) : FVec F S16x16x256x1024 .f32 :=
  transpose S16x16x256x1024 [1, 0, 2, 3] (shapeCast _ (transpose S16x4096x2x2x256 [1, 2, 0, 4, 3] (extf .f32 (bitcastToFloat (F := F) .bf16 (Host.bitcastConvertNarrow S2x16x4096x256x2 16 x splits_S2x16x4096x256_w32_S2x16x4096x256x2_w16)) bitsLt_bf16_f32) transposes_S2x16x4096x256x2_S16x4096x2x2x256_1_2_0_4_3) shapeCasts_S16x4096x2x2x256_S16x16x256x1024) transposes_S16x16x256x1024_S16x16x256x1024_1_0_2_3

/-- The rows through their experts' weights. -/
def prod (w : FVec F S1x16x1024x1024 .f32) (X : FVec F S16x16x256x1024 .f32) : FVec F S16x16x256x1024 .f32 :=
  transpose S16x16x256x1024 [2, 0, 3, 1] (Host.dotGeneral dot_S16x1024x1024_S16x16x256x1024_S16x1024x16x256_1_3_2_02_0_1 none (shapeCast _ w shapeCasts_S1x16x1024x1024_S16x1024x1024) X) transposes_S16x1024x16x256_S16x16x256x1024_2_0_3_1

/-- Each entry times its logistic function. -/
def gate (X : FVec F S16x16x256x1024 .f32) : FVec F S16x16x256x1024 .f32 :=
  mulf X (Host.divf (broadcastInDim S16x16x256x1024 ![] bcast_S_S16x16x256x1024 (constant S_ .f32 0x3F800000#32)) (addf (broadcastInDim S16x16x256x1024 ![] bcast_S_S16x16x256x1024 (constant S_ .f32 0x3F800000#32)) (Host.exp (Host.negf X))))

/-- The samples' rows of each expert in one line. -/
def back (X : FVec F S16x16x256x1024 .f32) : FVec F S16x4096x1024 .bf16 :=
  truncf .bf16 (shapeCast _ (transpose S16x16x256x1024 [1, 0, 2, 3] X transposes_S16x16x256x1024_S16x16x256x1024_1_0_2_3) shapeCasts_S16x16x256x1024_S16x4096x1024) bitsLt_bf16_f32

/-- The reference's result. -/
def ffnRef (x : S2x16x4096x256.Idx → BitVec 32) (g u d : FVec F S1x16x1024x1024 .f32) : FVec F S16x4096x1024 .bf16 :=
  back (prod d (mulf (gate (prod g (rows x))) (prod u (rows x))))

/-- The reference's run: the result array at that function, the arguments unchanged. -/
theorem run_ffn (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v18) = ffnRef (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans rfl, (h c).2⟩) (Cert.Reference2Ideal.Value.run m ρ)

/-! ## At the extended reals -/

/-- The features, entry by entry: row `256 b + s` of expert `e`. -/
theorem rows_apply (x : S2x16x4096x256.Idx → BitVec 32) (b e : Fin 16) (s : Fin 256) (k : Fin 1024) (r : Fin 4096) (hr : r.val = b.val * 256 + s.val) :
    rows (F := Ideal) x (ix4 b e s k) = feature x e r k := by
  have hlt : b.val * 256 + s.val < 4096 := hr ▸ r.isLt
  rw [show r = ⟨b.val * 256 + s.val, hlt⟩ from Fin.ext hr]
  pointwise [rows]
  unfold feature
  congr 3
  funext a
  fin_cases a <;> rfl

theorem prod_apply (w : FVec Ideal S1x16x1024x1024 .f32) (X : FVec Ideal S16x16x256x1024 .f32) (b e : Fin 16) (s : Fin 256) (f : Fin 1024) :
    prod (F := Ideal) w X (ix4 b e s f) = through w e (fun k => X (ix4 b e s k)) f := by
  pointwise [prod]
  unfold through
  exact Finset.sum_congr rfl fun k _ => mul_comm _ _

theorem gate_apply (X : FVec Ideal S16x16x256x1024 .f32) (i : S16x16x256x1024.Idx) : gate (F := Ideal) X i = silu (X i) := by
  pointwise [gate]
  rfl

theorem back_apply (X : FVec Ideal S16x16x256x1024 .f32) (i : S16x4096x1024.Idx) : back (F := Ideal) X i =
    X (ix4 (⟨(i 1).val / 256, by have h : (i 1).val < 4096 := (i 1).isLt; omega⟩ : Fin 16) (i 0) (⟨(i 1).val % 256, Nat.mod_lt _ (by decide)⟩ : Fin 256) (i 2)) := by
  pointwise [back]

/-- The reference's result is the feed-forward. -/
theorem ffnRef_apply (x : S2x16x4096x256.Idx → BitVec 32) (g u d : FVec Ideal S1x16x1024x1024 .f32) (e : Fin 16) (r : Fin 4096) (c : Fin 1024) :
    ffnRef (F := Ideal) x g u d (ix3 e r c) = ffn x g u d e r c := by
  have hr : r.val = r.val / 256 * 256 + r.val % 256 := by omega
  have hb : r.val / 256 < 16 := by have := r.isLt; omega
  unfold ffnRef
  rw [back_apply]
  refine (prod_apply d _ ⟨r.val / 256, hb⟩ e ⟨r.val % 256, Nat.mod_lt _ (by decide)⟩ c).trans ?_
  unfold ffn
  congr 1
  funext f
  refine congrArg₂ (· * ·) ((gate_apply _ _).trans (congrArg silu ?_)) ?_
  · exact (prod_apply g _ _ e _ f).trans (congrArg (through g e · f) (funext fun k => rows_apply x _ e _ k r hr))
  · exact (prod_apply u _ _ e _ f).trans (congrArg (through u e · f) (funext fun k => rows_apply x _ e _ k r hr))

end Cert.Proof.FfnRef
-- ==== Proof.Words.lean ====
/-
  The arithmetic of the ring's counters. A task's pipeline carries five words through its loop: the next slot to fetch
  into, the slot to read, the slot to store from, the slot whose store is to be awaited, and the block's number. At the
  entry of trip `k` they are `a6 k … a10 k` below; this module evaluates, at these words, the offsets, the conditions and
  the checks the kernel computes from them. Everything here is about 32-bit words, over all 32 tasks and all 32 trips.
-/
module

public import proofs.«01_k».proof.Proof.Gen.KernelIdeal
public import proofs.«01_k».proof.Proof.Gen.KernelIdeal.Skeleton

@[expose] public section

namespace Cert.Proof.Words

open Idealize.ShloMosaic
open Cert.KernelIdeal Cert.KernelIdeal.Gen

/-- The trips of the loop are 32. -/
theorem trips_eq : k0_t1_loop.trips = 32 := by decide

/-- The five words at the entry of trip `k`. -/
abbrev a6 (k : ℕ) : BitVec 32 := BitVec.ofNat 32 (min (k + 1) 32)
abbrev a7 (k : ℕ) : BitVec 32 := BitVec.ofNat 32 k
abbrev a9 (k : ℕ) : BitVec 32 := BitVec.ofNat 32 (k - 1)
abbrev a10 (k : ℕ) : BitVec 32 := BitVec.ofNat 32 (k % 32)

/-- Task `L`'s number, `0 … 31`: its subcore, and sixteen more on the second SparseCore. -/
abbrev wid (L : grid0.Coords) : ℕ := (L 1).val + 16 * (L 0).val

/-- The word `32 * wid L` each task computes first: its first block's number. -/
abbrev v4 (L : grid0.Coords) : BitVec 32 := BitVec.ofNat 32 (32 * wid L)

theorem cond1_iff : ∀ (L : grid0.Coords) (k : Fin k0_t1_loop.trips), k0_cond1 L k (a10 k.val) = 1#1 ↔ k.val < 31 := by decide +kernel
theorem cond2_eq : ∀ (L : grid0.Coords) (k : Fin k0_t1_loop.trips), k0_cond2 L k (a10 k.val) = 1#1 := by decide +kernel
theorem cond5_eq : ∀ (L : grid0.Coords) (k : Fin k0_t1_loop.trips), k0_cond5 L k (a10 k.val) = 1#1 := by decide +kernel
theorem cond7_iff : ∀ (L : grid0.Coords) (k : Fin k0_t1_loop.trips), k0_cond7 L k (a10 k.val) = 1#1 ↔ k.val ≠ 0 := by decide +kernel

theorem chk1_ok : ∀ (L : grid0.Coords) (k : Fin k0_t1_loop.trips), k0_chk1 L k (a6 k.val) (a7 k.val) (a7 k.val) (a9 k.val) (a10 k.val) := by decide +kernel
theorem chk2_ok : ∀ (k : Fin k0_t1_loop.trips), k0_chk2 (a7 k.val) := by decide +kernel
theorem chk3_ok : ∀ (k : Fin k0_t1_loop.trips), k0_chk3 (a7 k.val) := by decide +kernel
theorem chk4_ok : k0_chk4 (a9 32) := by decide +kernel
theorem chk5_ok : ∀ (L : grid0.Coords), k0_chk5 L (a10 32) := by decide +kernel

theorem off4_eq : ∀ (k : Fin k0_t1_loop.trips), k.val < 31 → k0_off4 (a6 k.val) = ![(k.val + 1) % 2, 0, 0] := by decide +kernel
theorem off5_eq : ∀ (L : grid0.Coords) (k : Fin k0_t1_loop.trips), k.val < 31 → k0_off5 L (a10 k.val) = ![0, 128 * (32 * wid L + (k.val + 1))] := by decide +kernel
theorem off6_eq : ∀ (k : Fin k0_t1_loop.trips), k.val < 31 → k0_off6 (a6 k.val) = ![(k.val + 1) % 2] := by decide +kernel
theorem off9_eq : ∀ (k : Fin k0_t1_loop.trips), k0_off9 (a7 k.val) = ![k.val % 2] := by decide +kernel
theorem off10_eq : ∀ (k : Fin k0_t1_loop.trips), k0_off10 (a7 k.val) = ![k.val % 2, 0, 0] := by decide +kernel
theorem off11_eq : ∀ (k : Fin k0_t1_loop.trips), k0_off11 (a7 k.val) = ![k.val % 2, 0, 0] := by decide +kernel
theorem off12_eq : ∀ (k : Fin k0_t1_loop.trips), k0_off12 (a7 k.val) = ![k.val % 2, 0, 0] := by decide +kernel
theorem off13_eq : ∀ (L : grid0.Coords) (k : Fin k0_t1_loop.trips), k0_off13 L (a10 k.val) = ![128 * (32 * wid L + k.val), 0] := by decide +kernel
theorem off14_eq : ∀ (k : Fin k0_t1_loop.trips), k0_off14 (a7 k.val) = ![k.val % 2] := by decide +kernel
theorem off17_eq : ∀ (k : Fin k0_t1_loop.trips), k.val ≠ 0 → k0_off17 (a9 k.val) = ![(k.val - 1) % 2] := by decide +kernel
theorem off20_eq : k0_off20 (a9 32) = ![1] := by decide +kernel
theorem off1_eq : k0_off1 = ![0, 0, 0] := by decide +kernel
theorem off2_eq : ∀ (L : grid0.Coords), k0_off2 L = ![0, 128 * (32 * wid L + 0)] := by decide +kernel
theorem off3_eq : k0_off3 = ![0] := by decide +kernel

end Cert.Proof.Words
-- ==== Proof.Setup.lean ====
/-
  The gather's launch as the SparseCore launch theorem sees it: the call's configuration, its buffers, the slots of the
  two rings each task keeps, and what the launch hands each task. A task (one vector subcore of one SparseCore) is given
  a thirty-second share of the packed rows and of the row numbers, and its own thirty-two blocks of the result, 128 rows
  each; it brings them back with the result's blocks holding the gathered rows.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program at its launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are told apart and none is scoped; no buffer of a task is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The packed rows, the row numbers and the result, in HBM. -/
abbrev xLoc (d : Dev nD) : Loc nD τ sig := (SparseCore.T d).loc main_v13
abbrev iLoc (d : Dev nD) : Loc nD τ sig := (SparseCore.T d).loc main_v14
abbrev oLoc (d : Dev nD) : Loc nD τ sig := (SparseCore.T d).loc main_v15

abbrev xV : Memref sig .scVector .hbm S65536x256 .i32 := Memref.whole main_v13_scv
abbrev iV : Memref sig .scVector .hbm S1x131072 .i32 := Memref.whole main_v14_scv
abbrev oV : Memref sig .scVector .hbm S131072x256 .i32 := Memref.whole main_v15_scv
/-- The ring of two index windows and the ring of two row windows, in the subcore's memory. -/
abbrev aV : Memref sig .scVector .vmem S2x1x128 .i32 := Memref.whole cc0_scoped0
abbrev bV : Memref sig .scVector .vmem S2x128x256 .i32 := Memref.whole cc0_scoped2

/-- The slot of trip `k`. -/
abbrev par (k : ℕ) : Fin 2 := ⟨k % 2, Nat.mod_lt _ (by decide)⟩

theorem aIn (p : Fin 2) : ∀ a, (![p.val, 0, 0] : Fin 3 → ℕ) a + S1x1x128.size a ≤ S2x1x128.size a := by
  revert p; decide
theorem bIn (p : Fin 2) : ∀ a, (![p.val, 0, 0] : Fin 3 → ℕ) a + S1x128x256.size a ≤ S2x128x256.size a := by
  revert p; decide
theorem sIn (p : Fin 2) : ∀ a, (![p.val] : Fin 1 → ℕ) a + S1.size a ≤ S2.size a := by
  revert p; decide
theorem iIn {n : ℕ} (h : n < 1024) : ∀ a, (![0, 128 * n] : Fin 2 → ℕ) a + S1x128.size a ≤ S1x131072.size a :=
  Rect.inb₂ (by show 0 + 1 ≤ 1; omega) (by show 128 * n + 128 ≤ 131072; omega)
theorem oIn {n : ℕ} (h : n < 1024) : ∀ a, (![128 * n, 0] : Fin 2 → ℕ) a + S128x256.size a ≤ S131072x256.size a :=
  Rect.inb₂ (by show 128 * n + 128 ≤ 131072; omega) (by show 0 + 256 ≤ 256; omega)

/-- Slot `p` of the index ring, of the row ring, and their semaphores. -/
abbrev aSlot (p : Fin 2) : Memref sig .scVector .vmem S1x128 .i32 :=
  ((aV).slice (Rect.unit (s := S2x1x128) ![p.val, 0, 0] S1x1x128.size (aIn p)) (fun _ => rfl)).squeeze S1x128 squeezes_S1x1x128_S1x128
abbrev bSlot (p : Fin 2) : Memref sig .scVector .vmem S128x256 .i32 :=
  ((bV).slice (Rect.unit (s := S2x128x256) ![p.val, 0, 0] S1x128x256.size (bIn p)) (fun _ => rfl)).squeeze S128x256 squeezes_S1x128x256_S128x256
abbrev semI (p : Fin 2) : DmaSem sig := ((cc0_scoped1.slice (Rect.unit (s := S2) ![p.val] S1.size (sIn p))).squeeze S_ squeezes_S1_S_).sem
abbrev semO (p : Fin 2) : DmaSem sig := ((cc0_scoped3.slice (Rect.unit (s := S2) ![p.val] S1.size (sIn p))).squeeze S_ squeezes_S1_S_).sem

/-- Block `n` of the row numbers (128 of them), and of the result (128 rows). -/
abbrev iBlk {n : ℕ} (h : n < 1024) : Memref sig .scVector .hbm S1x128 .i32 :=
  (iV).slice (Rect.unit (s := S1x131072) ![0, 128 * n] S1x128.size (iIn h)) (fun _ => rfl)
abbrev oBlk {n : ℕ} (h : n < 1024) : Memref sig .scVector .hbm S128x256 .i32 :=
  (oV).slice (Rect.unit (s := S131072x256) ![128 * n, 0] S128x256.size (oIn h)) (fun _ => rfl)

/-! ## What the gather computes -/

/-- The index `(a, b)` of a matrix. -/
def ix2 {n m : ℕ} (a : Fin n) (b : Fin m) : (⟨2, ![n, m]⟩ : Shape).Idx := fun
  | ⟨0, _⟩ => a
  | ⟨1, _⟩ => b

theorem ix2_ext {n m : ℕ} {y z : (⟨2, ![n, m]⟩ : Shape).Idx} (h0 : (y 0).val = (z 0).val) (h1 : (y 1).val = (z 1).val) : y = z :=
  funext fun a => by
    match a with
    | ⟨0, _⟩ => exact Fin.ext h0
    | ⟨1, _⟩ => exact Fin.ext h1

variable (X : S65536x256.Idx → BitVec 32) (I : S1x131072.Idx → BitVec 32)

/-- The row number at position `r`, as a row of the packed array (a number out of range, which the call never has, is
    read modulo the number of rows). -/
def rowAt (r : Fin 131072) : Fin 65536 := ⟨(I (ix2 (0 : Fin 1) r)).toNat % 65536, Nat.mod_lt _ (by decide)⟩

/-- The gathered array: row `r` is the packed row the row number at `r` names. -/
def gathered : S131072x256.Idx → BitVec 32 := fun y => X (ix2 (rowAt I (y 0)) (y 1))

/-! ## Shares and the handshakes' resources -/

/-- Task number of subcore `s` of SparseCore `c`. -/
abbrev widN (c : Fin 2) (s : Fin 16) : Fin 32 := ⟨s.val + 16 * c.val, by omega⟩
/-- A task's share of the arrays every task reads. -/
abbrev qW (w : Fin 32) : PosShare TreeShare := ShareLeaves.leaf 5 fullShare w

/-- Block `t` of task `w` of the result. -/
abbrev oSetN (n : Fin 1024) : Finset S131072x256.Idx := (oBlk n.isLt).view.set
abbrev blkOf (w t : Fin 32) : Fin 1024 := ⟨32 * w.val + t.val, by omega⟩

variable (Xd : ∀ d, Buf (Elt F) (xLoc d)) (Id : ∀ d, Buf (Elt F) (iLoc d)) (Od : ∀ d, Buf (Elt F) (oLoc d))

abbrev oPts (d : Dev nD) (w t : Fin 32) (f : Buf (Elt F) (oLoc d)) : sProp 𝕄 := oLoc d ↦[oSetN (blkOf w t)]{fullShare} f

/-- The gathered array as contents of the result. -/
abbrev Gd (d : Dev nD) : Buf (Elt F) (oLoc d) := gathered (Xd d) (Id d)

abbrev goRes (d : Dev nD) (w : Fin 32) : sProp 𝕄 :=
  iprop((iLoc d ↦{qW w} Id d) ∗ (xLoc d ↦{qW w} Xd d) ∗ bigSep Finset.univ fun t : Fin 32 => oPts d w t (Od d))
abbrev tdRes (d : Dev nD) (w : Fin 32) : sProp 𝕄 :=
  iprop((iLoc d ↦{qW w} Id d) ∗ (xLoc d ↦{qW w} Xd d) ∗ bigSep Finset.univ fun t : Fin 32 => oPts d w t (Gd Xd Id d))

/-- What each SparseCore, and each of its tasks, is handed and brings back. -/
def P : (K (F := F)).Pay (nD := nD) (Val := Elt F) (Name := ℕ) (U := UU) where
  st := fun q d c => match q with
    | 0 => bigSep Finset.univ fun i : Fin ((K (F := F)).nSub 0) => goRes Xd Id Od d (widN (Fin.cast nCore_zero c) (Fin.cast nSub_zero i))
  dn := fun q d c => match q with
    | 0 => bigSep Finset.univ fun i : Fin ((K (F := F)).nSub 0) => tdRes Xd Id d (widN (Fin.cast nCore_zero c) (Fin.cast nSub_zero i))
  go := fun q d c i => match q with | 0 => goRes Xd Id Od d (widN (Fin.cast nCore_zero c) (Fin.cast nSub_zero i))
  td := fun q d c i => match q with | 0 => tdRes Xd Id d (widN (Fin.cast nCore_zero c) (Fin.cast nSub_zero i))
  x := fun _ _ => iprop(emp)

instance P_storable : (P (F := F) Xd Id Od).IsStorable where
  st q d c := match q with
    | 0 => (inferInstance : BI.Storable (upEmb : UEmb _ 𝕄)
      (bigSep Finset.univ fun i : Fin ((K (F := F)).nSub 0) => goRes Xd Id Od d (widN (Fin.cast nCore_zero c) (Fin.cast nSub_zero i))))
  dn q d c := match q with
    | 0 => (inferInstance : BI.Storable (upEmb : UEmb _ 𝕄)
      (bigSep Finset.univ fun i : Fin ((K (F := F)).nSub 0) => tdRes Xd Id d (widN (Fin.cast nCore_zero c) (Fin.cast nSub_zero i))))
  go q d c i := match q with
    | 0 => (inferInstance : BI.Storable (upEmb : UEmb _ 𝕄) (goRes Xd Id Od d (widN (Fin.cast nCore_zero c) (Fin.cast nSub_zero i))))
  td q d c i := match q with
    | 0 => (inferInstance : BI.Storable (upEmb : UEmb _ 𝕄) (tdRes Xd Id d (widN (Fin.cast nCore_zero c) (Fin.cast nSub_zero i))))

/-- The call's split of its operands among a SparseCore's tasks is the identity: the SparseCore is handed exactly what
    its tasks are. -/
theorem vecSplit : (K (F := F)).VecSplit' (P Xd Id Od) 0 := by
  intro d c
  show (bigSep Finset.univ fun i : Fin ((K (F := F)).nSub 0) => goRes Xd Id Od d (widN (Fin.cast nCore_zero c) (Fin.cast nSub_zero i))) ⊢ |={Set.univ}=> iprop(
      (bigSep Finset.univ fun i : Fin ((K (F := F)).nSub 0) => goRes Xd Id Od d (widN (Fin.cast nCore_zero c) (Fin.cast nSub_zero i)))
      ∗ ((bigSep Finset.univ fun i : Fin ((K (F := F)).nSub 0) => tdRes Xd Id d (widN (Fin.cast nCore_zero c) (Fin.cast nSub_zero i)))
          -∗ (bigSep Finset.univ fun i : Fin ((K (F := F)).nSub 0) => tdRes Xd Id d (widN (Fin.cast nCore_zero c) (Fin.cast nSub_zero i)))))
  iintro H; imodintro
  isplitl [H]; · iexact H
  iintro H; iexact H

/-! ## A subcore's own buffers and semaphores -/

abbrev cV (L : grid0.Coords) : Fin τ.nSC := (L 0).castLE hcore0
abbrev jV (L : grid0.Coords) : Fin τ.nSub := (L 1).castLE hsub0
/-- The subcore's thread. -/
abbrev thr (d : Dev nD) (L : grid0.Coords) : Thread nD τ := V d (cV L) (jV L)

abbrev cell (d : Dev nD) (L : grid0.Coords) (s : DmaSem sig) : GSem nD τ sig := (thr d L, .dma s)

theorem cell_ne {d : Dev nD} {L : grid0.Coords} {s s' : DmaSem sig} (h : s ≠ s') : cell d L s ≠ cell d L s' :=
  fun e => h (SemLoc.dma.inj (Prod.mk.inj e).2)
theorem mem_own (d : Dev nD) (L : grid0.Coords) (s : DmaSem sig) (h : (SemLoc.dma s : SemLoc sig).isScoped .scVector = true) :
    cell d L s ∈ ownCells (thr d L) := (mem_ownCells (g := cell d L s)).mpr ⟨rfl, h⟩

/-- The rest of a subcore's semaphores, the six of the kernel taken out. -/
abbrev restCells (d : Dev nD) (L : grid0.Coords) : Finset (GSem nD τ sig) :=
  ((((((ownCells (thr d L)).erase (cell d L (semI 0))).erase (cell d L (semI 1))).erase (cell d L (semO 0))).erase (cell d L (semO 1))).erase
    (cell d L cc0_scoped4.sem)).erase (cell d L cc0_scoped5.sem)

theorem ownSems0_thr (d : Dev nD) (L : grid0.Coords) :
    (ownSems0 (thr d L) : sProp 𝕄)
      = iprop(semVal (cell d L (semI 0)) 0 ∗ semVal (cell d L (semI 1)) 0 ∗ semVal (cell d L (semO 0)) 0 ∗ semVal (cell d L (semO 1)) 0
          ∗ semVal (cell d L cc0_scoped4.sem) 0 ∗ semVal (cell d L cc0_scoped5.sem) 0 ∗ bigSep (restCells d L) fun g => semVal g 0) := by
  unfold SparseCore.Cfg.ownSems0
  rw [SparseCore.bigSep_erase' (mem_own d L (semI 0) (by decide)),
    SparseCore.bigSep_erase' (Finset.mem_erase.mpr ⟨cell_ne (by decide), mem_own d L (semI 1) (by decide)⟩),
    SparseCore.bigSep_erase' (Finset.mem_erase.mpr ⟨cell_ne (by decide), Finset.mem_erase.mpr ⟨cell_ne (by decide), mem_own d L (semO 0) (by decide)⟩⟩),
    SparseCore.bigSep_erase' (Finset.mem_erase.mpr ⟨cell_ne (by decide), Finset.mem_erase.mpr ⟨cell_ne (by decide),
      Finset.mem_erase.mpr ⟨cell_ne (by decide), mem_own d L (semO 1) (by decide)⟩⟩⟩),
    SparseCore.bigSep_erase' (Finset.mem_erase.mpr ⟨cell_ne (by decide), Finset.mem_erase.mpr ⟨cell_ne (by decide),
      Finset.mem_erase.mpr ⟨cell_ne (by decide), Finset.mem_erase.mpr ⟨cell_ne (by decide), mem_own d L cc0_scoped4.sem (by decide)⟩⟩⟩⟩),
    SparseCore.bigSep_erase' (Finset.mem_erase.mpr ⟨cell_ne (by decide), Finset.mem_erase.mpr ⟨cell_ne (by decide),
      Finset.mem_erase.mpr ⟨cell_ne (by decide), Finset.mem_erase.mpr ⟨cell_ne (by decide), Finset.mem_erase.mpr ⟨cell_ne (by decide),
        mem_own d L cc0_scoped5.sem (by decide)⟩⟩⟩⟩⟩)]

abbrev refA (L : grid0.Coords) : DevRef τ sig := (Proc.scVector (cV L) (jV L)).devRef cc0_scoped0
abbrev refB (L : grid0.Coords) : DevRef τ sig := (Proc.scVector (cV L) (jV L)).devRef cc0_scoped2

theorem ownBufs_thr (d : Dev nD) (L : grid0.Coords) :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase (refA L)).erase (refB L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := refA L) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := refB L) rfl⟩)]

end Cert.Proof.Gather

end
-- ==== Proof.Ring.lean ====
/-
  The transfers of one task, one rule per kind: the fetch of a window of row numbers into a slot of the index ring, the
  two indirect gathers that fill a slot of the row ring (the left and the right 128 columns of 128 rows), the store of a
  full slot to its block of the result, and the wait for any of them. Each rule takes the offsets as the kernel computes
  them, with what they are, so the program's steps apply it as they stand.
-/
module

public import proofs.«01_k».proof.Proof.Setup
public import Idealize.ShloMosaic.Lib.ViewIndex

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Resources framed into a transfer in flight -/

/-- A resource held beside a transfer in flight may be counted among what the transfer delivers. -/
theorem flight_frame {c : Thread nD τ} {sm : SemLoc sig} {N : ℕ} {D R : sProp 𝕄} :
    iprop(Transfers.Flight countersEmb c sm (default : HIx 1) N D ∗ R) ⊢ Transfers.Flight countersEmb c sm (default : HIx 1) N iprop(D ∗ R) := by
  unfold Transfers.Flight
  iintro ⟨⟨⟨%S, HS, %hcap, %hpeek⟩, Hcred⟩, HR⟩
  isplitl [HS HR]
  · iexists iprop(S ∗ R)
    isplitl [HS HR]
    · isplitl [HS]; · iexact HS
      iexact HR
    isplit
    · ipureintro
      intro K
      refine BIBase.Entails.trans ?_ (hcap K)
      iintro ⟨⟨HS, HR⟩, HK⟩
      isplitl [HS]; · iexact HS
      iintro ⟨Hv, HD⟩
      iapply HK
      isplitl [Hv]; · iexact Hv
      isplitl [HD]; · iexact HD
      iexact HR
    · ipureintro
      intro K
      refine BIBase.Entails.trans ?_ (hpeek K)
      iintro ⟨⟨HS, HR⟩, HK⟩
      isplitl [HS]; · iexact HS
      iintro HS
      iapply HK
      isplitl [HS]; · iexact HS
      iexact HR
  · iexact Hcred

/-! ## The state of the rings -/

section

variable (Xd : ∀ d, Buf (Elt F) (xLoc d)) (Id : ∀ d, Buf (Elt F) (iLoc d)) (Od : ∀ d, Buf (Elt F) (oLoc d))
variable (d : Dev nD) (L : grid0.Coords)

theorem wid_lt : wid L < 32 := by
  have h0 : (L 0).val < 2 := (L 0).isLt
  have h1 : (L 1).val < 16 := (L 1).isLt
  show (L 1).val + 16 * (L 0).val < 32
  omega
/-- The task's number. -/
abbrev wL : Fin 32 := ⟨wid L, wid_lt L⟩
theorem blk_lt {t : ℕ} (h : t < 32) : 32 * wid L + t < 1024 := by
  have := wid_lt L; omega

/-- The half of the task's share of the row numbers its fetches into slot `p` read through. -/
abbrev qI (p : Fin 2) : PosShare TreeShare := if p = 0 then (qW (wL L)).left else (qW (wL L)).right
abbrev iTok (p : Fin 2) : sProp 𝕄 := iLoc d ↦{qI L p} Id d
abbrev xTok : sProp 𝕄 := xLoc d ↦{qW (wL L)} Xd d

abbrev slotA (p : Fin 2) (f : Buf (Elt F) ((aSlot p).view.loc (thr d L))) : sProp 𝕄 :=
  (aSlot p).view.loc (thr d L) ↦[(aSlot p).view.set]{fullShare} f
abbrev slotB (p : Fin 2) (f : Buf (Elt F) ((bSlot p).view.loc (thr d L))) : sProp 𝕄 :=
  (bSlot p).view.loc (thr d L) ↦[(bSlot p).view.set]{fullShare} f

/-- The bytes the semaphores count. -/
abbrev NA : ℕ := (aSlot 0).view.dmaCredit
abbrev NO : ℕ := (oBlk (n := 0) (by decide)).view.dmaCredit

abbrev Fly (s : DmaSem sig) (N : ℕ) (R : sProp 𝕄) : sProp 𝕄 :=
  Transfers.Flight countersEmb (thr d L) (.dma s) (default : HIx 1) N R

/-- An index slot at rest. -/
abbrev FetchIdle (p : Fin 2) : sProp 𝕄 := iprop((∃ f, slotA d L p f) ∗ iTok Id d L p ∗ semVal (cell d L (semI p)) 0)
/-- The index slot of trip `k` holding window `k`'s row numbers. -/
abbrev Fetched {k : ℕ} (hk : k < 32) : sProp 𝕄 :=
  iprop(∃ f, ⌜(aSlot (par k)).view.read (Elt F) f = (iBlk (blk_lt L hk)).view.read (Elt F) (Id d)⌝ ∗ slotA d L (par k) f)
/-- The fetch of window `k` in flight. -/
abbrev Fetching {k : ℕ} (hk : k < 32) : sProp 𝕄 := Fly d L (semI (par k)) NA iprop(Fetched Id d L hk ∗ iTok Id d L (par k))

/-- The row slot of trip `k`, holding the gathered rows at the indices `done`. -/
abbrev Rows {k : ℕ} (hk : k < 32) (done : S128x256.Idx → Prop) : sProp 𝕄 :=
  iprop(∃ f, ⌜∀ y, done y → (bSlot (par k)).view.read (Elt F) f y = (oBlk (blk_lt L hk)).view.read (Elt F) (Gd Xd Id d) y⌝ ∗ slotB d L (par k) f)

/-- A row slot at rest. -/
abbrev StoreIdle (p : Fin 2) : sProp 𝕄 := iprop((∃ f, slotB d L p f) ∗ semVal (cell d L (semO p)) 0)
/-- Block `k` of the result as the task is handed it, and as it leaves it. -/
abbrev BlkInit (t : Fin 32) : sProp 𝕄 := oPts d (wL L) t (Od d)
abbrev BlkDone (t : Fin 32) : sProp 𝕄 := oPts d (wL L) t (Gd Xd Id d)
/-- The store of block `k` in flight. -/
abbrev Storing (t : Fin 32) : sProp 𝕄 := Fly d L (semO (par t.val)) NO iprop(BlkDone Xd Id d L t ∗ ∃ f, slotB d L (par t.val) f)

variable (O : CellTallies nD τ sig (HIx 1)) (W : Waits sig (HIx 1))

/-- What the task owes, the waits it has made recorded. -/
abbrev Owing : sProp 𝕄 := iprop(∃ W', ⌜∀ p ∈ W', p ∈ W ∨ p.2 = none⌝ ∗ owes (thr d L) O W')
abbrev Lv : sProp 𝕄 := levAts (K (F := F)).L (K (F := F)).lev

local notation "WP" => wp frame (wpE (defs₀ (F := F)) 𝒱₀ (thr d L) none) Set.univ

/-! ## Waiting -/

variable {O W} in
theorem wp_await (hO : ∀ g, O g none = 0) {α : Type} {sp sp' : Space} {s s' : Shape} {e e' : EltTy} {κ' : Kind} {sem : DmaSem sig}
    {srcw : Memref sig (thr d L).2.kind sp' s' e'} {dstw : Memref sig κ' sp s e} {hsrc : srcw.view.WordExact} {hdst : dstw.view.WordExact}
    {k : PUnit → Prog (TpuEff nD τ sig (Elt F) Λ₀ (thr d L).2) α} {Q : α → sProp 𝕄} {N : ℕ} {R : sProp 𝕄} (hN : dstw.view.dmaCredit = N) :
    iprop(Lv (F := F) ∗ Fly d L sem N R ∗ Owing d L O W)
      ⊢ iprop((iprop(R ∗ semVal (cell d L sem) 0 ∗ Owing d L O W) -∗ WP (k ⟨⟩) Q) -∗ WP (.op (.waitDma2 sem srcw dstw hsrc hdst) k) Q) := by
  iintro ⟨#Hlv, HF, %W', %hW, HO⟩ Hk
  ihave Hmw := (show Lv (F := F) ⊢ Transfers.MayWaits (thr d L) (default : HIx 1) O from (K (F := F)).mayWaits_none (thr := thr d L) hO) $$ Hlv
  iapply (Transfers.wp_waitLocalO countersEmb 𝒱₀ (thr d L) none (default : HIx 1) hN) $$ [HF HO Hmw]
  · isplitl [HF]; · iexact HF
    isplitl [HO]; · iexact HO
    iapply (Transfers.MayWaits.elim (SemLoc.dma sem)) $$ Hmw
  iintro ⟨HR, Hs, HO⟩
  iapply Hk
  isplitl [HR]; · iexact HR
  isplitl [Hs]; · iexact Hs
  iexists _; isplitr
  swap; · iexact HO
  ipureintro; intro p hp
  rcases Finset.mem_insert.mp hp with hp | hp; · exact .inr (hp ▸ rfl)
  exact hW p hp

/-! ## Fetching a window of row numbers -/

theorem wp_fetch {α : Type} {k : ℕ} (hk : k < 32) {off1 : Fin 3 → ℕ} {off2 : Fin 2 → ℕ} {off3 : Fin 1 → ℕ}
    {h1 : ∀ a, off1 a + S1x1x128.size a ≤ S2x1x128.size a} {h2 : ∀ a, off2 a + S1x128.size a ≤ S1x131072.size a}
    {h3 : ∀ a, off3 a + S1.size a ≤ S2.size a}
    (e1 : off1 = ![k % 2, 0, 0]) (e2 : off2 = ![0, 128 * (32 * wid L + k)]) (e3 : off3 = ![k % 2])
    {hsrc hdst hsem} {kont : PUnit → Prog (TpuEff nD τ sig (Elt F) Λ₀ (thr d L).2) α} {Q : α → sProp 𝕄} :
    FetchIdle Id d L (par k) ⊢ iprop((Fetching Id d L hk -∗ WP (kont ⟨⟩) Q) -∗
      WP (.op (.enqueueDmaAs ((iV).slice (Rect.unit (s := S1x131072) off2 S1x128.size h2) (fun _ => rfl))
        (.here (((aV).slice (Rect.unit (s := S2x1x128) off1 S1x1x128.size h1) (fun _ => rfl)).squeeze S1x128 squeezes_S1x1x128_S1x128)) .same
        (.dma ((cc0_scoped1.slice (Rect.unit (s := S2) off3 S1.size h3)).squeeze S_ squeezes_S1_S_).sem) hsrc hdst hsem) kont) Q) := by
  subst e1 e2 e3
  iintro ⟨⟨%f, Ha⟩, Hi, Hs⟩ Hk
  ihave Hi2 := (pointsTo_split_subset (q := qI L (par k)) (f := Id d) (S := Finset.univ) (Finset.subset_univ (iBlk (blk_lt L hk)).view.set)).1 $$ Hi
  icases Hi2 with ⟨Hi, Hr⟩
  iapply (Transfers.wp_dmaLocal countersEmb 𝒱₀ (thr d L) none (src := iBlk (blk_lt L hk)) (dst := aSlot (par k)) (sm := .dma (semI (par k)))
      (q := qI L (par k)) (fs := Id d) (fd := f) (default : HIx 1) NA rfl (View.dmaCredit_pos _ (by decide)) (Finset.Subset.refl _)) $$ [Hi Ha Hs]
  · isplitl [Hi]; · iexact Hi
    isplitl [Ha]; · iexact Ha
    iexact Hs
  iintro HF
  iapply Hk
  ihave HF2 := (flight_frame (F := F) (R := iprop(iLoc d ↦[Finset.univ \ (iBlk (blk_lt L hk)).view.set]{qI L (par k)} Id d))) $$ [HF Hr]
  · isplitl [HF]; · iexact HF
    iexact Hr
  iapply (Transfers.Flight_mono countersEmb (thr d L) ?_) $$ HF2
  iintro ⟨⟨Ha, Hi⟩, Hr⟩
  isplitl [Ha]
  · iexists _
    isplitr
    swap; · iexact Ha
    ipureintro
    exact View.read_write_univ _ _
  iapply (pointsTo_split_subset (q := qI L (par k)) (f := Id d) (S := Finset.univ) (Finset.subset_univ (iBlk (blk_lt L hk)).view.set)).2
  isplitl [Hi]; · iexact Hi
  iexact Hr

/-! ## Storing a full slot -/

theorem wp_store {α : Type} {k : ℕ} (hk : k < 32) {off1 : Fin 3 → ℕ} {off2 : Fin 2 → ℕ} {off3 : Fin 1 → ℕ}
    {h1 : ∀ a, off1 a + S1x128x256.size a ≤ S2x128x256.size a} {h2 : ∀ a, off2 a + S128x256.size a ≤ S131072x256.size a}
    {h3 : ∀ a, off3 a + S1.size a ≤ S2.size a}
    (e1 : off1 = ![k % 2, 0, 0]) (e2 : off2 = ![128 * (32 * wid L + k), 0]) (e3 : off3 = ![k % 2])
    {hsrc hdst hsem} {kont : PUnit → Prog (TpuEff nD τ sig (Elt F) Λ₀ (thr d L).2) α} {Q : α → sProp 𝕄} :
    iprop(Rows Xd Id d L hk (fun _ => True) ∗ BlkInit Od d L ⟨k, hk⟩ ∗ semVal (cell d L (semO (par k))) 0)
      ⊢ iprop((Storing Xd Id d L ⟨k, hk⟩ -∗ WP (kont ⟨⟩) Q) -∗
      WP (.op (.enqueueDmaAs (((bV).slice (Rect.unit (s := S2x128x256) off1 S1x128x256.size h1) (fun _ => rfl)).squeeze S128x256 squeezes_S1x128x256_S128x256)
        (.here ((oV).slice (Rect.unit (s := S131072x256) off2 S128x256.size h2) (fun _ => rfl))) .same
        (.dma ((cc0_scoped3.slice (Rect.unit (s := S2) off3 S1.size h3)).squeeze S_ squeezes_S1_S_).sem) hsrc hdst hsem) kont) Q) := by
  subst e1 e2 e3
  iintro ⟨⟨%f, %hf, Hb⟩, Ho, Hs⟩ Hk
  iapply (Transfers.wp_dmaLocal countersEmb 𝒱₀ (thr d L) none (src := bSlot (par k)) (dst := oBlk (blk_lt L hk)) (sm := .dma (semO (par k)))
      (q := fullShare) (fs := f) (fd := Od d) (default : HIx 1) NO rfl (View.dmaCredit_pos _ (by decide)) (Finset.Subset.refl _)) $$ [Hb Ho Hs]
  · isplitl [Hb]; · iexact Hb
    isplitl [Ho]; · iexact Ho
    iexact Hs
  iintro HF
  iapply Hk
  iapply (Transfers.Flight_mono countersEmb (thr d L) ?_) $$ HF
  iintro ⟨Ho, Hb⟩
  isplitl [Ho]
  · iapply (Entails.of_eq (pointsTo_congr ?_)) $$ Ho
    intro i hi
    obtain ⟨y, -, rfl⟩ := Finset.mem_map.mp hi
    refine View.eq_of_read_eq (v := (oBlk (blk_lt L hk)).view) ?_
    rw [View.read_write_univ]
    exact hf y trivial
  · iexists _; iexact Hb

end

end Cert.Proof.Gather

end
-- ==== Proof.Half.lean ====
/-
  The indirect gather of one half of a window: 128 rows of 128 columns, out of the packed rows at the window's row
  numbers, into the same columns of a slot of the row ring. The first part is what the pieces read; the second the rule.
-/
module

public import proofs.«01_k».proof.Proof.Ring

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the pieces read -/

/-- A slot's window as the list of 128 words the gather reads. -/
abbrev list (p : Fin 2) : Memref sig .scVector .vmem S128 .i32 :=
  ((aSlot p).slice (Rect.unit (s := S1x128) ![0, 0] S1x128.size inb_S1x128_S1x128_0_0) (fun _ => rfl)).squeeze S128 squeezes_S1x128_S128

theorem unit_zero_set : (Rect.unit (s := S1x128) ![0, 0] S1x128.size inb_S1x128_S1x128_0_0).set = Finset.univ := by
  ext y
  simp only [Rect.mem_set_unit, Finset.mem_univ, iff_true]
  intro a
  match a with
  | ⟨0, _⟩ => exact ⟨Nat.zero_le _, by have h : (y 0).val < 1 := (y 0).isLt; show (y 0).val < 0 + 1; omega⟩
  | ⟨1, _⟩ => exact ⟨Nat.zero_le _, by have h : (y 1).val < 128 := (y 1).isLt; show (y 1).val < 0 + 128; omega⟩

theorem list_set (p : Fin 2) : (list p).view.set = (aSlot p).view.set := by
  show ((((aSlot p).view.slice (Rect.unit (s := S1x128) ![0, 0] S1x128.size inb_S1x128_S1x128_0_0)).reshape S128 squeezes_S1x128_S128.numel_eq)).set = _
  rw [View.set_reshape, View.set_slice, unit_zero_set]
  rfl

theorem list_read (p : Fin 2) (f : (aSlot p).view.ty.Contents (Elt F)) (z : S128.Idx) :
    (list p).view.read (Elt F) f z = (aSlot p).view.read (Elt F) f (ix2 (0 : Fin 1) (z 0)) := by
  show (aSlot p).view.read (Elt F) f ((Rect.unit (s := S1x128) ![0, 0] S1x128.size inb_S1x128_S1x128_0_0).emb
    (Shape.reshapeEquiv squeezes_S1x128_S128.numel_eq z)) = _
  congr 1
  rw [show Shape.reshapeEquiv (s := S1x128) squeezes_S1x128_S128.numel_eq z = ix2 (0 : Fin 1) (z 0) from
    Shape.reshapeEquiv_eq_of_rowMajor _ (by
      refine (Shape.rowMajor_val_two (d := ![1, 128]) (ix2 (0 : Fin 1) (z 0))).trans (Eq.trans ?_ (Shape.rowMajor_val_one (d := ![128]) z).symm)
      show 0 * 128 + (z 0).val = (z 0).val
      omega)]
  refine ix2_ext ?_ ?_
  · show 0 + 1 * 0 = 0; rfl
  · show 0 + 1 * (z 0).val = (z 0).val; omega

theorem iBlk_read {n : ℕ} (h : n < 1024) (J : (iBlk h).view.ty.Contents (Elt F)) (y : S1x128.Idx) :
    (iBlk h).view.read (Elt F) J y = J (ix2 (0 : Fin 1) (⟨128 * n + (y 1).val, by have : (y 1).val < 128 := (y 1).isLt; omega⟩ : Fin 131072)) := by
  rw [View.read_apply, cast_eq]
  congr 1
  refine ix2_ext ?_ ?_
  · show 0 + 1 * (y 0).val = 0
    have : (y 0).val < 1 := (y 0).isLt
    omega
  · show 128 * n + 1 * (y 1).val = 128 * n + (y 1).val; omega

theorem oBlk_read {n : ℕ} (h : n < 1024) (J : (oBlk h).view.ty.Contents (Elt F)) (y : S128x256.Idx) :
    (oBlk h).view.read (Elt F) J y = J (ix2 (⟨128 * n + (y 0).val, by have : (y 0).val < 128 := (y 0).isLt; omega⟩ : Fin 131072) (y 1)) := by
  rw [View.read_apply, cast_eq]
  congr 1
  refine ix2_ext ?_ ?_
  · show 128 * n + 1 * (y 0).val = 128 * n + (y 0).val; omega
  · show 0 + 1 * (y 1).val = (y 1).val; omega

theorem xHalf_read {co : ℕ} (hx : ∀ a, (![0, co] : Fin 2 → ℕ) a + S65536x128.size a ≤ S65536x256.size a)
    (J : (xV).view.ty.Contents (Elt F)) (y : S65536x128.Idx) (hlt : co + (y 1).val < 256) :
    ((xV).slice (Rect.unit (s := S65536x256) ![0, co] S65536x128.size hx) (fun _ => rfl)).view.read (Elt F) J y
      = J (ix2 (n := 65536) (m := 256) (y 0) ⟨co + (y 1).val, hlt⟩) := by
  rw [View.read_apply, cast_eq]
  congr 1
  refine ix2_ext ?_ ?_
  · show 0 + 1 * (y 0).val = (y 0).val; omega
  · show co + 1 * (y 1).val = co + (y 1).val; omega

/-! ## The rule -/

section

variable (Xd : ∀ d, Buf (Elt F) (xLoc d)) (Id : ∀ d, Buf (Elt F) (iLoc d)) (Od : ∀ d, Buf (Elt F) (oLoc d))
variable (d : Dev nD) (L : grid0.Coords)

/-- Every row number is a row of the packed array. -/
def InRange : Prop := ∀ (d : Dev nD) (j : S1x131072.Idx), (Id d j : BitVec 32).toNat < 65536

/-- The bytes a half's gather counts. -/
abbrev NG : ℕ := ((bSlot 0).slice (Rect.unit (s := S128x256) ![0, 0] S128x128.size inb_S128x256_S128x128_0_0) (fun _ => rfl)).view.dmaCredit

local notation "WP" => wp frame (wpE (defs₀ (F := F)) 𝒱₀ (thr d L) none) Set.univ

/-- The columns `co … co + 127`. -/
abbrev inHalf (co : ℕ) (y : S128x256.Idx) : Prop := co ≤ (y 1).val ∧ (y 1).val < co + 128

abbrev halfRect (co : ℕ) (hb : ∀ a, (![0, co] : Fin 2 → ℕ) a + S128x128.size a ≤ S128x256.size a) : Rect S128x256 :=
  Rect.unit (s := S128x256) ![0, co] S128x128.size hb

/-- The payload of the half at `co`, at row `r` and column `c` of the half. -/
theorem payload_eq {k : ℕ} (hk : k < 32) {co : ℕ} (hco : co + 128 ≤ 256)
    (hx : ∀ a, (![0, co] : Fin 2 → ℕ) a + S65536x128.size a ≤ S65536x256.size a)
    (hb : ∀ a, (![0, co] : Fin 2 → ℕ) a + S128x128.size a ≤ S128x256.size a)
    (hI : InRange Id)
    (f : (aSlot (par k)).view.ty.Contents (Elt F))
    (hf : (aSlot (par k)).view.read (Elt F) f = (iBlk (blk_lt L hk)).view.read (Elt F) (Id d))
    (hn : S128.numel = S128x128.size gathers_S65536x128_S128x128.axis')
    (hin : ∀ z, ((list (par k)).view.read (Elt F) f z).toNat < S65536x128.size gathers_S65536x128_S128x128.axis)
    (x : S128x128.Idx) :
    SparseCore.gatherPayload gathers_S65536x128_S128x128
        (((xV).slice (Rect.unit (s := S65536x256) ![0, co] S65536x128.size hx) (fun _ => rfl)).view.read (Elt F) (Xd d))
        (SparseCore.rows ((list (par k)).view.read (Elt F) f) hn hin) x
      = (oBlk (blk_lt L hk)).view.read (Elt F) (Gd Xd Id d) ((halfRect co hb).emb x) := by
  have hx0 : (x 0).val < 128 := (x 0).isLt
  have hx1 : (x 1).val < 128 := (x 1).isLt
  unfold SparseCore.gatherPayload
  have hc : (gathers_S65536x128_S128x128.idx (SparseCore.rows ((list (par k)).view.read (Elt F) f) hn hin) x 1).val = (x 1).val :=
    Shape.Gathers.idx_of_ne gathers_S65536x128_S128x128 _ x 1 (by decide)
  have hr : (gathers_S65536x128_S128x128.idx (SparseCore.rows ((list (par k)).view.read (Elt F) f) hn hin) x 0)
      = SparseCore.rows ((list (par k)).view.read (Elt F) f) hn hin (x 0) :=
    Shape.Gathers.idx_axis gathers_S65536x128_S128x128 _ x
  rw [xHalf_read (F := F) hx (Xd d) _ (by rw [hc]; omega), oBlk_read]
  show Xd d _ = Xd d (ix2 (rowAt (Id d) _) _)
  congr 1
  refine ix2_ext ?_ ?_
  · show (gathers_S65536x128_S128x128.idx (SparseCore.rows ((list (par k)).view.read (Elt F) f) hn hin) x 0).val = (rowAt (Id d) _).val
    rw [hr]
    show ((list (par k)).view.read (Elt F) f (S128.rowMajor.symm ((x 0).cast hn.symm))).toNat = _ % 65536
    have hz : (S128.rowMajor.symm ((x 0).cast hn.symm)) 0 = x 0 := by
      apply Fin.ext
      have e := Shape.rowMajor_val_one (d := ![128]) (S128.rowMajor.symm ((x 0).cast hn.symm))
      rw [← e]
      show ((S128.rowMajor (S128.rowMajor.symm ((x 0).cast hn.symm))).val) = _
      rw [Equiv.apply_symm_apply]; rfl
    rw [list_read, hf, iBlk_read]
    refine Eq.trans ?_ (Nat.mod_eq_of_lt (hI d _)).symm
    congr 2
    refine ix2_ext rfl ?_
    show 128 * (32 * wid L + k) + ((S128.rowMajor.symm ((x 0).cast hn.symm)) 0).val = 128 * (32 * wid L + k) + (0 + 1 * (x 0).val)
    rw [hz]; omega
  · show co + (gathers_S65536x128_S128x128.idx (SparseCore.rows ((list (par k)).view.read (Elt F) f) hn hin) x 1).val = co + 1 * (x 1).val
    rw [hc]; omega

theorem mem_halfRect {co : ℕ} (hb : ∀ a, (![0, co] : Fin 2 → ℕ) a + S128x128.size a ≤ S128x256.size a) (y : S128x256.Idx) :
    y ∈ (halfRect co hb).set ↔ inHalf co y := by
  rw [Rect.mem_set_unit]
  constructor
  · intro h; exact h 1
  · intro h a
    match a with
    | ⟨0, _⟩ => exact ⟨Nat.zero_le _, by have h : (y 0).val < 128 := (y 0).isLt; show (y 0).val < 0 + 128; omega⟩
    | ⟨1, _⟩ => exact h

theorem hNG (p : Fin 2) (co : ℕ) (hb : ∀ a, (![0, co] : Fin 2 → ℕ) a + S128x128.size a ≤ S128x256.size a) :
    ∑ j, (((bSlot p).slice (halfRect co hb) (fun _ => rfl)).slice (S128x128.rowRect gathers_S65536x128_S128x128.axis' j)
      (S128x128.stride_rowRect gathers_S65536x128_S128x128.axis' j)).view.dmaCredit = NG := by
  show (∑ j : Fin 128, (cc0_scoped2 : Ref sig .scVector).dmaCredit (S128x128.rowShape 0) .i32) = (cc0_scoped2 : Ref sig .scVector).dmaCredit S128x128 .i32
  decide

/-- The two halves' gathers: started, the transfer in flight will leave the slot's half filled, whatever else it held
    kept. -/
theorem wp_half {α : Type} (hI : InRange Id) {k : ℕ} (hk : k < 32) {co : ℕ} (hco : co + 128 ≤ 256) {off1 off2 : Fin 3 → ℕ}
    {h1 : ∀ a, off1 a + S1x128x256.size a ≤ S2x128x256.size a} {h2 : ∀ a, off2 a + S1x1x128.size a ≤ S2x1x128.size a}
    (e1 : off1 = ![k % 2, 0, 0]) (e2 : off2 = ![k % 2, 0, 0])
    {hx : ∀ a, (![0, co] : Fin 2 → ℕ) a + S65536x128.size a ≤ S65536x256.size a}
    {hb : ∀ a, (![0, co] : Fin 2 → ℕ) a + S128x128.size a ≤ S128x256.size a}
    {sem : DmaSem sig} {done : S128x256.Idx → Prop}
    {hp hn hsrc he hsp hr} {kont : PUnit → Prog (TpuEff nD τ sig (Elt F) Λ₀ (thr d L).2) α} {Q : α → sProp 𝕄} :
    iprop(Fetched Id d L hk ∗ Rows Xd Id d L hk done ∗ xTok Xd d L ∗ semVal (cell d L sem) 0)
      ⊢ iprop((Fly d L sem NG iprop(Fetched Id d L hk ∗ Rows Xd Id d L hk (fun y => done y ∨ inHalf co y) ∗ xTok Xd d L) -∗ WP (kont ⟨⟩) Q) -∗
      WP (SparseCore.enqueueIndirectGather hp
        ((xV).slice (Rect.unit (s := S65536x256) ![0, co] S65536x128.size hx) (fun _ => rfl))
        ((((bV).slice (Rect.unit (s := S2x128x256) off1 S1x128x256.size h1) (fun _ => rfl)).squeeze S128x256 squeezes_S1x128x256_S128x256).slice
          (Rect.unit (s := S128x256) ![0, co] S128x128.size hb) (fun _ => rfl))
        gathers_S65536x128_S128x128
        (((((aV).slice (Rect.unit (s := S2x1x128) off2 S1x1x128.size h2) (fun _ => rfl)).squeeze S1x128 squeezes_S1x1x128_S1x128).slice
          (Rect.unit (s := S1x128) ![0, 0] S1x128.size inb_S1x128_S1x128_0_0) (fun _ => rfl)).squeeze S128 squeezes_S1x128_S128)
        hn sem hsrc he hsp hr >>= kont) Q) := by
  subst e1 e2
  iintro ⟨⟨%f, %hf, Ha⟩, ⟨%g, %hg, Hb⟩, Hx, Hs⟩ Hk
  have hin : ∀ z, ((list (par k)).view.read (Elt F) f z).toNat < S65536x128.size gathers_S65536x128_S128x128.axis := by
    intro z
    rw [list_read, hf, iBlk_read]
    exact hI d _
  have hpay := payload_eq (F := F) Xd Id d L hk hco hx hb hI f hf hn hin
  have hsub : ((bSlot (par k)).view.slice (halfRect co hb)).set ⊆ (bSlot (par k)).view.set := View.set_slice_subset _ _
  ihave Hx2 := (pointsTo_split_subset (q := qW (wL L)) (f := Xd d) (S := Finset.univ)
    (Finset.subset_univ ((xV).slice (Rect.unit (s := S65536x256) ![0, co] S65536x128.size hx) (fun _ => rfl)).view.set)).1 $$ Hx
  icases Hx2 with ⟨Hx, Hxr⟩
  ihave Hb2 := (pointsTo_split_subset (q := fullShare) (f := g) (S := (bSlot (par k)).view.set) hsub).1 $$ Hb
  icases Hb2 with ⟨Hb, Hbr⟩
  ihave Ha2 := (Entails.of_eq (show (slotA d L (par k) f : sProp 𝕄) = ((list (par k)).view.loc (thr d L) ↦[(list (par k)).view.set]{fullShare} f) by rw [list_set])) $$ Ha
  iapply (SparseCore.wp_indirectGatherLocal countersEmb 𝒱₀ (thr d L) none
      (src := (xV).slice (Rect.unit (s := S65536x256) ![0, co] S65536x128.size hx) (fun _ => rfl))
      (dst := (bSlot (par k)).slice (halfRect co hb) (fun _ => rfl)) (offs := list (par k))
      (hg := gathers_S65536x128_S128x128) (q := qW (wL L)) (qo := fullShare) (fs := Xd d) (fd := g) (fo := f) (default : HIx 1)
      NG (hNG (par k) co hb) (show 0 < S128x128.numel by decide) hin) $$ [Hx Hb Ha2 Hs]
  · isplitl [Hx]; · iexact Hx
    isplitl [Hb]; · iexact Hb
    isplitl [Ha2]; · iexact Ha2
    iexact Hs
  iintro HF
  iapply Hk
  ihave HF2 := (flight_frame (F := F) (R := iprop((xLoc d ↦[Finset.univ \ ((xV).slice (Rect.unit (s := S65536x256) ![0, co] S65536x128.size hx) (fun _ => rfl)).view.set]{qW (wL L)} Xd d)
      ∗ ((bSlot (par k)).view.loc (thr d L) ↦[(bSlot (par k)).view.set \ ((bSlot (par k)).view.slice (halfRect co hb)).set]{fullShare} g)))) $$ [HF Hxr Hbr]
  · isplitl [HF]; · iexact HF
    isplitl [Hxr]; · iexact Hxr
    iexact Hbr
  iapply (Transfers.Flight_mono countersEmb (thr d L) ?_) $$ HF2
  iintro ⟨⟨Hb, Hx, Ha⟩, Hxr, Hbr⟩
  isplitl [Ha]
  · iexists f
    isplitr; · ipureintro; exact hf
    iapply (Entails.of_eq (show (slotA d L (par k) f : sProp 𝕄) = ((list (par k)).view.loc (thr d L) ↦[(list (par k)).view.set]{fullShare} f) by rw [list_set]).symm) $$ Ha
  isplitl [Hb Hbr]
  · iexists (((bSlot (par k)).slice (halfRect co hb) (fun _ => rfl)).view.write (Elt F) g _ Finset.univ)
    isplitr
    swap
    · iapply (pointsTo_split_subset (q := fullShare) (S := (bSlot (par k)).view.set) hsub).2
      isplitl [Hb]; · iexact Hb
      iapply (Entails.of_eq (SparseCore.pointsTo_rest_write (c := thr d L) (v := (bSlot (par k)).view.slice (halfRect co hb)) g _)) $$ Hbr
    · ipureintro
      intro y hy
      by_cases hyh : inHalf co y
      · obtain ⟨x, -, rfl⟩ := Finset.mem_map.mp ((Rect.map_emb_univ (halfRect co hb)).symm ▸ (mem_halfRect hb y).mpr hyh)
        refine (View.read_slice_write_emb (v := (bSlot (par k)).view) (halfRect co hb) g _ (Finset.mem_univ x)).trans ?_
        exact hpay x
      · refine (View.read_slice_write_of_not_mem (v := (bSlot (par k)).view) (halfRect co hb) g _ Finset.univ ?_).trans (hg y (hy.resolve_right hyh))
        intro hm
        exact hyh ((mem_halfRect hb y).mp (Rect.map_emb_univ (halfRect co hb) ▸ hm))
  · iapply (pointsTo_split_subset (q := qW (wL L)) (f := Xd d) (S := Finset.univ)
      (Finset.subset_univ ((xV).slice (Rect.unit (s := S65536x256) ![0, co] S65536x128.size hx) (fun _ => rfl)).view.set)).2
    isplitl [Hx]; · iexact Hx
    iexact Hxr

end

end Cert.Proof.Gather

end
-- ==== Proof.Trip.lean ====
/-
  One trip of a task's loop. Before trip `k` the fetch of window `k` is in flight into its slot, the other index slot is at
  rest, the store of block `k - 1` is in flight from its slot (none before the first trip), and the other row slot is at
  rest. The trip starts the fetch of window `k + 1` (but in the last trip), awaits window `k`, gathers its rows by two
  indirect copies, starts the store of block `k`, and awaits the store of block `k - 1` (but in the first trip).
-/
module

public import proofs.«01_k».proof.Proof.Half

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (Xd : ∀ d, Buf (Elt F) (xLoc d)) (Id : ∀ d, Buf (Elt F) (iLoc d)) (Od : ∀ d, Buf (Elt F) (oLoc d))
variable (d : Dev nD) (L : grid0.Coords)
variable (O : CellTallies nD τ sig (HIx 1)) (W : Waits sig (HIx 1))

local notation "WP" => wp frame (wpE (defs₀ (F := F)) 𝒱₀ (thr d L) none) Set.univ

theorem emp_sep_eq (R : sProp 𝕄) : iprop(emp ∗ R) = R := BI.equiv_iff.mp emp_sep

theorem par_add_two (k : ℕ) : par (k + 2) = par k := Fin.ext (Nat.add_mod_right k 2)

/-! ## The state between the steps -/

/-- The slot of window `j`: its fetch in flight, or at rest after the last window. -/
def NextI (j : ℕ) : sProp 𝕄 := if h : j < 32 then Fetching Id d L h else FetchIdle Id d L (par j)

/-- The other row slot before trip `k`: the store of block `k - 1` in flight, or at rest before the first trip. -/
def PrevO (k : ℕ) : sProp 𝕄 :=
  if h : 0 < k ∧ k ≤ 32 then Storing Xd Id d L ⟨k - 1, by omega⟩ else StoreIdle d L (par (k + 1))

/-- The task's blocks of the result: those below `lo` as the task leaves them, those from `hi` on as it was handed them,
    those between in flight. -/
def blkAt (lo hi : ℕ) (t : Fin 32) : sProp 𝕄 :=
  if t.val < lo then BlkDone Xd Id d L t else if t.val < hi then iprop(emp) else BlkInit Od d L t
def Blks (lo hi : ℕ) : sProp 𝕄 := bigSep Finset.univ (blkAt Xd Id Od d L lo hi)

theorem blks_take {lo k : ℕ} (hlo : lo ≤ k) (hk : k < 32) :
    (Blks Xd Id Od d L lo k : sProp 𝕄) = iprop(BlkInit Od d L ⟨k, hk⟩ ∗ Blks Xd Id Od d L lo (k + 1)) := by
  have e : (bigSep (Finset.univ.erase (⟨k, hk⟩ : Fin 32)) (blkAt Xd Id Od d L lo k) : sProp 𝕄)
      = bigSep (Finset.univ.erase (⟨k, hk⟩ : Fin 32)) (blkAt Xd Id Od d L lo (k + 1)) := by
    refine bigSep_congr fun t ht => ?_
    have hne : t.val ≠ k := fun h => (Finset.mem_erase.mp ht).1 (Fin.ext h)
    unfold blkAt
    by_cases h1 : t.val < lo
    · rw [if_pos h1, if_pos h1]
    · rw [if_neg h1, if_neg h1]
      by_cases h2 : t.val < k
      · rw [if_pos h2, if_pos (by omega)]
      · rw [if_neg h2, if_neg (by omega)]
  have e0 : blkAt Xd Id Od d L lo k ⟨k, hk⟩ = BlkInit Od d L ⟨k, hk⟩ := by
    unfold blkAt; rw [if_neg (by simp only; omega), if_neg (by simp only; omega)]
  have e1 : blkAt Xd Id Od d L lo (k + 1) ⟨k, hk⟩ = iprop(emp) := by
    unfold blkAt; rw [if_neg (by simp only; omega), if_pos (by simp only; omega)]
  unfold Blks
  rw [SparseCore.bigSep_erase' (Finset.mem_univ (⟨k, hk⟩ : Fin 32)) (Φ := blkAt Xd Id Od d L lo k),
    SparseCore.bigSep_erase' (Finset.mem_univ (⟨k, hk⟩ : Fin 32)) (Φ := blkAt Xd Id Od d L lo (k + 1)), e, e0, e1, emp_sep_eq]

theorem blks_put {k hi : ℕ} (hk : k < 32) (hhi : k < hi) :
    iprop(BlkDone Xd Id d L ⟨k, hk⟩ ∗ Blks Xd Id Od d L k hi) = (Blks Xd Id Od d L (k + 1) hi : sProp 𝕄) := by
  have e : (bigSep (Finset.univ.erase (⟨k, hk⟩ : Fin 32)) (blkAt Xd Id Od d L k hi) : sProp 𝕄)
      = bigSep (Finset.univ.erase (⟨k, hk⟩ : Fin 32)) (blkAt Xd Id Od d L (k + 1) hi) := by
    refine bigSep_congr fun t ht => ?_
    have hne : t.val ≠ k := fun h => (Finset.mem_erase.mp ht).1 (Fin.ext h)
    unfold blkAt
    by_cases h1 : t.val < k
    · rw [if_pos h1, if_pos (by omega)]
    · rw [if_neg h1, if_neg (show ¬t.val < k + 1 by omega)]
  have e0 : blkAt Xd Id Od d L (k + 1) hi ⟨k, hk⟩ = BlkDone Xd Id d L ⟨k, hk⟩ := by
    unfold blkAt; rw [if_pos (by simp only; omega)]
  have e1 : blkAt Xd Id Od d L k hi ⟨k, hk⟩ = iprop(emp) := by
    unfold blkAt; rw [if_neg (by simp only; omega), if_pos (by simp only; omega)]
  unfold Blks
  rw [SparseCore.bigSep_erase' (Finset.mem_univ (⟨k, hk⟩ : Fin 32)) (Φ := blkAt Xd Id Od d L k hi),
    SparseCore.bigSep_erase' (Finset.mem_univ (⟨k, hk⟩ : Fin 32)) (Φ := blkAt Xd Id Od d L (k + 1) hi), e, e0, e1, emp_sep_eq]

theorem nextI_of_lt {j : ℕ} (h : j < 32) : (NextI Id d L j : sProp 𝕄) = Fetching Id d L h := by unfold NextI; rw [dif_pos h]
theorem nextI_of_le {j : ℕ} (h : ¬j < 32) : (NextI Id d L j : sProp 𝕄) = FetchIdle Id d L (par j) := by unfold NextI; rw [dif_neg h]
theorem prevO_zero : (PrevO Xd Id d L 0 : sProp 𝕄) = StoreIdle d L (par 1) := by unfold PrevO; rw [dif_neg (by omega)]
theorem prevO_succ {k : ℕ} (h : k < 32) : (PrevO Xd Id d L (k + 1) : sProp 𝕄) = Storing Xd Id d L ⟨k, h⟩ := by
  unfold PrevO; rw [dif_pos ⟨Nat.succ_pos _, h⟩]; rfl

/-- The five words at the entry of trip `k`. -/
abbrev accAt (k : ℕ) : BitVec 32 × BitVec 32 × BitVec 32 × BitVec 32 × BitVec 32 := (a6 k, a7 k, a7 k, a9 k, a10 k)

/-- The state before trip `k`. -/
abbrev State (k : ℕ) : sProp 𝕄 :=
  iprop(NextI Id d L k ∗ FetchIdle Id d L (par (k + 1)) ∗ PrevO Xd Id d L k ∗ StoreIdle d L (par k) ∗ Blks Xd Id Od d L (k - 1) k
    ∗ xTok Xd d L ∗ semVal (cell d L cc0_scoped4.sem) 0 ∗ semVal (cell d L cc0_scoped5.sem) 0 ∗ Lv (F := F) ∗ Owing d L O W)
abbrev Inv (k : ℕ) (acc : BitVec 32 × BitVec 32 × BitVec 32 × BitVec 32 × BitVec 32) : sProp 𝕄 :=
  iprop(⌜acc = accAt k⌝ ∗ State Xd Id Od d L O W k)

/-! ## The trip -/

/-- The loop's body at this call's operands. -/
abbrev body := k0_t1_body (F := F) L xV (Memref.isWhole_whole _) iV (Memref.isWhole_whole _) oV (Memref.isWhole_whole _)
  aV (Memref.isWhole_whole _) cc0_scoped1 bV (Memref.isWhole_whole _) cc0_scoped3 cc0_scoped4 cc0_scoped5

/-- The words a trip computes before its gathers. -/
abbrev w5 (k : Fin k0_t1_loop.trips) : BitVec 32 := Scf.iv 0#32 1#32 k
abbrev w64 (k : Fin k0_t1_loop.trips) : BitVec 1 := Scalar.cmpi .eq (w5 k) 0#32
abbrev w65 (k : Fin k0_t1_loop.trips) : BitVec 1 := Scalar.cmpi .eq (w5 k) 31#32
abbrev w66 (k : Fin k0_t1_loop.trips) : BitVec 32 := Scalar.addi (a10 k.val) (v4 L)
abbrev w70 (k : Fin k0_t1_loop.trips) : BitVec 32 :=
  Scalar.select (Scalar.cmpi .eq (Scalar.select 1#1 (Scalar.subi (a10 k.val) 1#32) (a10 k.val)) 4294967295#32) 31#32
    (Scalar.select 1#1 (Scalar.subi (a10 k.val) 1#32) (a10 k.val))
abbrev w71 (k : Fin k0_t1_loop.trips) : BitVec 32 := Scalar.addi (w70 k) (v4 L)
abbrev w75 (k : Fin k0_t1_loop.trips) : BitVec 32 :=
  Scalar.select (Scalar.cmpi .eq (Scalar.select 1#1 (Scalar.addi (a10 k.val) 1#32) (a10 k.val)) 32#32) 0#32
    (Scalar.select 1#1 (Scalar.addi (a10 k.val) 1#32) (a10 k.val))
abbrev w76 (k : Fin k0_t1_loop.trips) : BitVec 32 := Scalar.addi (w75 k) (v4 L)
abbrev w91 (k : Fin k0_t1_loop.trips) : BitVec 32 :=
  Scalar.select (Scalar.andi (Scalar.andi (Scalar.cmpi .ne (w66 L k) (w76 L k)) (Scalar.xori (Scalar.cmpi .sge (w5 k) 31#32) 1#1)) 1#1)
    (Scalar.addi (a6 k.val) 1#32) (a6 k.val)

/-- Waiting for a window's fetch: the semaphore is named by an offset equal to the window's slot. -/
theorem wp_awaitI (hO : ∀ g, O g none = 0) {α : Type} {k : ℕ} (hk : k < 32) {off3 : Fin 1 → ℕ} {h3 : ∀ a, off3 a + S1.size a ≤ S2.size a}
    (e3 : off3 = ![k % 2]) {sp' : Space} {s' : Shape} {e' : EltTy}
    {srcw : Memref sig (thr d L).2.kind sp' s' e'} {off1 : Fin 3 → ℕ} {h1 : ∀ a, off1 a + S1x1x128.size a ≤ S2x1x128.size a} {hsrc : srcw.view.WordExact} {hdst}
    {kont : PUnit → Prog (TpuEff nD τ sig (Elt F) Λ₀ (thr d L).2) α} {Q : α → sProp 𝕄} :
    iprop(Lv (F := F) ∗ Fetching Id d L hk ∗ Owing d L O W)
      ⊢ iprop((iprop((Fetched Id d L hk ∗ iTok Id d L (par k)) ∗ semVal (cell d L (semI (par k))) 0 ∗ Owing d L O W) -∗ WP (kont ⟨⟩) Q) -∗
        WP (.op (.waitDma2 ((cc0_scoped1.slice (Rect.unit (s := S2) off3 S1.size h3)).squeeze S_ squeezes_S1_S_).sem srcw
          (((aV).slice (Rect.unit (s := S2x1x128) off1 S1x1x128.size h1) (fun _ => rfl)).squeeze S1x128 squeezes_S1x1x128_S1x128) hsrc hdst) kont) Q) := by
  subst e3
  exact wp_await d L hO rfl

/-- Waiting for a block's store, likewise. -/
theorem wp_awaitO (hO : ∀ g, O g none = 0) {α : Type} (t : Fin 32) {off3 : Fin 1 → ℕ} {h3 : ∀ a, off3 a + S1.size a ≤ S2.size a}
    (e3 : off3 = ![t.val % 2]) {sp' : Space} {s' : Shape} {e' : EltTy}
    {srcw : Memref sig (thr d L).2.kind sp' s' e'} {off2 : Fin 2 → ℕ} {h2 : ∀ a, off2 a + S128x256.size a ≤ S131072x256.size a} {hsrc : srcw.view.WordExact} {hdst}
    {kont : PUnit → Prog (TpuEff nD τ sig (Elt F) Λ₀ (thr d L).2) α} {Q : α → sProp 𝕄} :
    iprop(Lv (F := F) ∗ Storing Xd Id d L t ∗ Owing d L O W)
      ⊢ iprop((iprop((BlkDone Xd Id d L t ∗ iprop(∃ f, slotB d L (par t.val) f)) ∗ semVal (cell d L (semO (par t.val))) 0 ∗ Owing d L O W) -∗ WP (kont ⟨⟩) Q) -∗
        WP (.op (.waitDma2 ((cc0_scoped3.slice (Rect.unit (s := S2) off3 S1.size h3)).squeeze S_ squeezes_S1_S_).sem srcw
          ((oV).slice (Rect.unit (s := S131072x256) off2 S128x256.size h2) (fun _ => rfl)) hsrc hdst) kont) Q) := by
  subst e3
  exact wp_await d L hO rfl

/-- Waiting for a half's indirect copy. -/
theorem wp_awaitG (hO : ∀ g, O g none = 0) {α : Type} {sem : DmaSem sig} {R : sProp 𝕄} {s' : Shape} {e' : EltTy} {sp' : Space}
    {srcw : Memref sig (thr d L).2.kind sp' s' e'} {off1 : Fin 3 → ℕ} {h1 : ∀ a, off1 a + S1x128x256.size a ≤ S2x128x256.size a}
    {co : ℕ} {hb : ∀ a, (![0, co] : Fin 2 → ℕ) a + S128x128.size a ≤ S128x256.size a} {hsrc : srcw.view.WordExact} {hdst}
    {kont : PUnit → Prog (TpuEff nD τ sig (Elt F) Λ₀ (thr d L).2) α} {Q : α → sProp 𝕄} :
    iprop(Lv (F := F) ∗ Fly d L sem NG R ∗ Owing d L O W)
      ⊢ iprop((iprop(R ∗ semVal (cell d L sem) 0 ∗ Owing d L O W) -∗ WP (kont ⟨⟩) Q) -∗
        WP (SparseCore.waitIndirectGather sem srcw
          ((((bV).slice (Rect.unit (s := S2x128x256) off1 S1x128x256.size h1) (fun _ => rfl)).squeeze S128x256 squeezes_S1x128x256_S128x256).slice
            (Rect.unit (s := S128x256) ![0, co] S128x128.size hb) (fun _ => rfl)) hsrc hdst >>= kont) Q) :=
  wp_await d L hO rfl

local notation "PART[" p "]" => p L xV (Memref.isWhole_whole _) iV (Memref.isWhole_whole _) oV (Memref.isWhole_whole _)
  aV (Memref.isWhole_whole _) cc0_scoped1 bV (Memref.isWhole_whole _) cc0_scoped3 cc0_scoped4 cc0_scoped5

/-- The five words at the end of trip `k` are those at the entry of trip `k + 1`. -/
theorem acc_next : ∀ (L : grid0.Coords) (k : Fin k0_t1_loop.trips),
    ((w91 L k, Scalar.select (Scalar.ori (Scalar.cmpi .ne (w66 L k) (w76 L k)) (w65 k)) (Scalar.addi (a7 k.val) 1#32) (a7 k.val),
      Scalar.select (Scalar.andi (Scalar.ori (Scalar.cmpi .ne (w66 L k) (w76 L k)) (w65 k)) 1#1) (Scalar.addi (a7 k.val) 1#32) (a7 k.val),
      Scalar.select (Scalar.andi (Scalar.andi (Scalar.cmpi .ne (w66 L k) (w71 L k)) (Scalar.xori (w64 k) 1#1)) 1#1) (Scalar.addi (a9 k.val) 1#32) (a9 k.val),
      w75 k) : BitVec 32 × BitVec 32 × BitVec 32 × BitVec 32 × BitVec 32) = accAt (k.val + 1) := by decide +kernel

/-- The start of the trip: the fetch of window `k + 1`. -/
theorem wp_part1 (k : Fin k0_t1_loop.trips) (Q) :
    FetchIdle Id d L (par (k.val + 1))
      ⊢ iprop((NextI Id d L (k.val + 1) -∗ Q ⟨chk3_ok k, chk2_ok k, chk1_ok L k, w5 k, w64 k, w65 k, w66 L k, w71 L k, w76 L k, w91 L k,
            Scalar.cmpi .ne (w66 L k) (w71 L k)⟩)
        -∗ WP (PART[k0_part1 (F := F)] (v4 L) 0#32 1#32 k (a6 k.val) (a7 k.val) (a7 k.val) (a9 k.val) (a10 k.val)) Q) := by
  rw [k0_part1_eq_skeleton]
  unfold k0_part1_skel
  simp only [Prog.bind_lift]
  rw [wp_assume_of _ _ _ _ (chk3_ok k), wp_assume_of _ _ _ _ (chk2_ok k), wp_assume_of _ _ _ _ (chk1_ok L k)]
  iintro H Hk
  by_cases h : k.val < 31
  · rw [dif_pos ((cond1_iff L k).2 h)]
    iapply (wp_fetch Id d L (k := k.val + 1) (by omega) (off4_eq k h) (off5_eq L k h) (off6_eq k h)) $$ H
    iintro HF
    rw [wp_pure]
    imodintro
    iapply Hk
    rw [nextI_of_lt Id d L (by omega)]
    iexact HF
  · rw [dif_neg (fun e => h ((cond1_iff L k).1 e)), wp_pure]
    imodintro
    iapply Hk
    rw [nextI_of_le Id d L (by omega)]
    iexact H

/-- The middle of the trip: the wait for window `k` and the indirect copy of the left halves of its rows. -/
theorem wp_part2 (hO : ∀ g, O g none = 0) (hI : InRange Id) (k : Fin k0_t1_loop.trips) (hk : k.val < 32) (b5 : BitVec 32) (b64 : BitVec 1) (b66 b71 : BitVec 32) (b96 : BitVec 1) (Q) :
    iprop(Fetching Id d L hk ∗ Rows Xd Id d L hk (fun _ => False) ∗ xTok Xd d L ∗ semVal (cell d L cc0_scoped4.sem) 0 ∗ Lv (F := F) ∗ Owing d L O W)
      ⊢ iprop((iprop(Fetched Id d L hk ∗ iTok Id d L (par k.val) ∗ semVal (cell d L (semI (par k.val))) 0 ∗ Rows Xd Id d L hk (fun y => False ∨ inHalf 0 y) ∗ xTok Xd d L
            ∗ semVal (cell d L cc0_scoped4.sem) 0 ∗ Lv (F := F) ∗ Owing d L O W) -∗ Q ⟨⟩)
        -∗ WP (PART[k0_part2 (F := F)] k (a6 k.val) (a7 k.val) (a7 k.val) (a9 k.val) (a10 k.val) (chk3_ok k) (chk2_ok k) (chk1_ok L k) b5 b64 b66 b71 b96) Q) := by
  rw [k0_part2_eq_skeleton]
  unfold k0_part2_skel
  rw [dif_pos (cond2_eq L k)]
  simp only [Prog.bind_lift, ite_self]
  iintro ⟨HF, HR, Hx, Hs, #Hlv, HO⟩ Hk
  iapply (wp_awaitI Id d L O W hO hk (off9_eq k)) $$ [HF HO]
  · isplitr; · iexact Hlv
    isplitl [HF]; · iexact HF
    iexact HO
  iintro ⟨⟨HA, Hi⟩, HsI, HO⟩
  iapply (wp_half Xd Id d L hI hk (co := 0) (by decide) (off10_eq k) (off11_eq k)) $$ [HA HR Hx Hs]
  · isplitl [HA]; · iexact HA
    isplitl [HR]; · iexact HR
    isplitl [Hx]; · iexact Hx
    iexact Hs
  iintro HF
  iapply (wp_awaitG d L O W hO) $$ [HF HO]
  · isplitr; · iexact Hlv
    isplitl [HF]; · iexact HF
    iexact HO
  iintro ⟨⟨HA, HR, Hx⟩, Hs, HO⟩
  rw [wp_pure]
  imodintro
  iapply Hk
  isplitl [HA]; · iexact HA
  isplitl [Hi]; · iexact Hi
  isplitl [HsI]; · iexact HsI
  isplitl [HR]; · iexact HR
  isplitl [Hx]; · iexact Hx
  isplitl [Hs]; · iexact Hs
  isplitr; · iexact Hlv
  iexact HO

/-- The rest of the copying: the indirect copy of the right halves and the start of the store of block `k`. -/
theorem wp_part3 (hO : ∀ g, O g none = 0) (hI : InRange Id) (k : Fin k0_t1_loop.trips) (hk : k.val < 32) (b64 b65 : BitVec 1) (b66 b71 b76 : BitVec 32) (Q) :
    iprop(Fetched Id d L hk ∗ Rows Xd Id d L hk (fun y => False ∨ inHalf 0 y) ∗ xTok Xd d L ∗ semVal (cell d L cc0_scoped5.sem) 0
        ∗ BlkInit Od d L ⟨k.val, hk⟩ ∗ semVal (cell d L (semO (par k.val))) 0 ∗ Lv (F := F) ∗ Owing d L O W)
      ⊢ iprop((iprop(Fetched Id d L hk ∗ Storing Xd Id d L ⟨k.val, hk⟩ ∗ xTok Xd d L
            ∗ semVal (cell d L cc0_scoped5.sem) 0 ∗ Lv (F := F) ∗ Owing d L O W) -∗
          Q ⟨Scalar.select (Scalar.andi (Scalar.ori (Scalar.cmpi .ne b66 b76) b65) 1#1) (Scalar.addi (a7 k.val) 1#32) (a7 k.val),
            Scalar.andi (Scalar.cmpi .ne b66 b71) (Scalar.xori b64 1#1), Scalar.extui (Scalar.andi (Scalar.cmpi .ne b66 b71) (Scalar.xori b64 1#1)), 0#32⟩)
        -∗ WP (PART[k0_part3 (F := F)] k (a6 k.val) (a7 k.val) (a7 k.val) (a9 k.val) (a10 k.val) (chk3_ok k) (chk2_ok k) (chk1_ok L k) b64 b65 b66 b71 b76) Q) := by
  rw [k0_part3_eq_skeleton]
  unfold k0_part3_skel
  rw [dif_pos (cond5_eq L k)]
  simp only [Prog.bind_lift, ite_self]
  iintro ⟨HA, HR, Hx, Hs, Hb, HsO, #Hlv, HO⟩ Hk
  iapply (wp_half Xd Id d L hI hk (co := 128) (by decide) (off10_eq k) (off11_eq k)) $$ [HA HR Hx Hs]
  · isplitl [HA]; · iexact HA
    isplitl [HR]; · iexact HR
    isplitl [Hx]; · iexact Hx
    iexact Hs
  iintro HF
  iapply (wp_awaitG d L O W hO) $$ [HF HO]
  · isplitr; · iexact Hlv
    isplitl [HF]; · iexact HF
    iexact HO
  iintro ⟨⟨HA, HR, Hx⟩, Hs, HO⟩
  have hall : (fun y => (False ∨ inHalf 0 y) ∨ inHalf 128 y) = (fun _ => True) := by
    funext y
    have hy : (y 1).val < 256 := (y 1).isLt
    simp only [inHalf, eq_iff_iff, iff_true]
    omega
  rw [hall]
  iapply (wp_store Xd Id Od d L hk (off12_eq k) (off13_eq L k) (off14_eq k)) $$ [HR Hb HsO]
  · isplitl [HR]; · iexact HR
    isplitl [Hb]; · iexact Hb
    iexact HsO
  iintro HS
  rw [wp_pure]
  imodintro
  iapply Hk
  isplitl [HA]; · iexact HA
  isplitl [HS]; · iexact HS
  isplitl [Hx]; · iexact Hx
  isplitl [Hs]; · iexact Hs
  isplitr; · iexact Hlv
  iexact HO

/-- The end of the trip: the wait for the store of block `k - 1`, whose slot it gives back. -/
theorem wp_last (hO : ∀ g, O g none = 0) (k : Fin k0_t1_loop.trips) (hk : k.val < 32) {α : Type} {kont : PUnit → Prog (TpuEff nD τ sig (Elt F) Λ₀ (thr d L).2) α} {Q : α → sProp 𝕄}
    {h1 : k0_cond7 L k (a10 k.val) = 1#1 → ∀ a, k0_off15 (a9 k.val) a + S1x128x256.size a ≤ S2x128x256.size a}
    {h2 : k0_cond7 L k (a10 k.val) = 1#1 → ∀ a, k0_off16 L (a10 k.val) a + S128x256.size a ≤ S131072x256.size a}
    {h3 : k0_cond7 L k (a10 k.val) = 1#1 → ∀ a, k0_off17 (a9 k.val) a + S1.size a ≤ S2.size a}
    {hsrc : ∀ h : k0_cond7 L k (a10 k.val) = 1#1, (((bV).slice (Rect.unit (s := S2x128x256) (k0_off15 (a9 k.val)) S1x128x256.size (h1 h)) (fun _ => rfl)).squeeze S128x256 squeezes_S1x128x256_S128x256).view.WordExact}
    {hdst : ∀ h : k0_cond7 L k (a10 k.val) = 1#1, ((oV).slice (Rect.unit (s := S131072x256) (k0_off16 L (a10 k.val)) S128x256.size (h2 h)) (fun _ => rfl)).view.WordExact} :
    iprop(PrevO Xd Id d L k.val ∗ Blks Xd Id Od d L (k.val - 1) (k.val + 1) ∗ Lv (F := F) ∗ Owing d L O W)
      ⊢ iprop((iprop(StoreIdle d L (par (k.val + 1)) ∗ Blks Xd Id Od d L k.val (k.val + 1) ∗ Lv (F := F) ∗ Owing d L O W) -∗ WP (kont ⟨⟩) Q) -∗
        WP (if h : k0_cond7 L k (a10 k.val) = 1#1 then
            .op (.waitDma2 ((cc0_scoped3.slice (Rect.unit (s := S2) (k0_off17 (a9 k.val)) S1.size (h3 h))).squeeze S_ squeezes_S1_S_).sem
              (((bV).slice (Rect.unit (s := S2x128x256) (k0_off15 (a9 k.val)) S1x128x256.size (h1 h)) (fun _ => rfl)).squeeze S128x256 squeezes_S1x128x256_S128x256)
              ((oV).slice (Rect.unit (s := S131072x256) (k0_off16 L (a10 k.val)) S128x256.size (h2 h)) (fun _ => rfl)) (hsrc h) (hdst h)) kont
          else kont ⟨⟩) Q) := by
  by_cases h : k.val = 0
  · rw [dif_neg (fun e => (cond7_iff L k).1 e h), h, prevO_zero]
    iintro ⟨HP, HB, #Hlv, HO⟩ Hk
    iapply Hk
    isplitl [HP]; · iexact HP
    isplitl [HB]; · iexact HB
    isplitr; · iexact Hlv
    iexact HO
  · rw [dif_pos ((cond7_iff L k).2 h)]
    obtain ⟨j, hj⟩ : ∃ j, k.val = j + 1 := ⟨k.val - 1, by omega⟩
    have hj32 : j < 32 := by omega
    have e : PrevO Xd Id d L k.val = (Storing Xd Id d L ⟨j, hj32⟩ : sProp 𝕄) := by rw [hj]; exact prevO_succ Xd Id d L hj32
    have e1 : k.val - 1 = j := by omega
    have e2 : Blks Xd Id Od d L k.val (k.val + 1) = (iprop(BlkDone Xd Id d L ⟨j, hj32⟩ ∗ Blks Xd Id Od d L j (k.val + 1)) : sProp 𝕄) := by
      rw [blks_put Xd Id Od d L hj32 (by omega), ← hj]
    rw [e, e1, e2, show par (k.val + 1) = par j by rw [hj]; exact par_add_two j]
    iintro ⟨HP, HB, #Hlv, HO⟩ Hk
    iapply (wp_awaitO Xd Id d L O W hO ⟨j, hj32⟩ ((off17_eq k h).trans (by rw [hj]; rfl))) $$ [HP HO]
    · isplitr; · iexact Hlv
      isplitl [HP]; · iexact HP
      iexact HO
    iintro ⟨⟨HD, HS⟩, Hs, HO⟩
    iapply Hk
    isplitl [HS Hs]
    · isplitl [HS]; · iexact HS
      iexact Hs
    isplitl [HD HB]
    · isplitl [HD]; · iexact HD
      iexact HB
    isplitr; · iexact Hlv
    iexact HO

variable {O W} in
theorem trip (hO : ∀ g, O g none = 0) (hI : InRange Id) (k : Fin k0_t1_loop.trips) :
    State Xd Id Od d L O W k.val ⊢ WP (body L (v4 L) k (accAt k.val)) (Inv Xd Id Od d L O W (k.val + 1)) := by
  have hk : k.val < 32 := lt_of_lt_of_eq k.isLt trips_eq
  unfold State body k0_t1_body
  simp only [wp_bind, Prog.bind_lift, ite_self]
  rw [nextI_of_lt Id d L hk, blks_take Xd Id Od d L (Nat.sub_le _ _) hk]
  iintro ⟨HN, HI, HP, ⟨⟨%fb, Hb⟩, HsO⟩, ⟨Hbk, HB⟩, Hx, Hs4, Hs5, #Hlv, HO⟩
  iapply (wp_part1 Id d L k) $$ HI
  iintro HN1
  iapply (wp_part2 Xd Id d L O W hO hI k hk) $$ [HN Hb Hx Hs4 HO]
  · isplitl [HN]; · iexact HN
    isplitl [Hb]
    · iexists _; isplitr
      swap; · iexact Hb
      ipureintro; intro y hy; exact hy.elim
    isplitl [Hx]; · iexact Hx
    isplitl [Hs4]; · iexact Hs4
    isplitr; · iexact Hlv
    iexact HO
  iintro ⟨HA, Hi, HsI, HR, Hx, Hs4, -, HO⟩
  iapply (wp_part3 Xd Id Od d L O W hO hI k hk) $$ [HA HR Hx Hs5 Hbk HsO HO]
  · isplitl [HA]; · iexact HA
    isplitl [HR]; · iexact HR
    isplitl [Hx]; · iexact Hx
    isplitl [Hs5]; · iexact Hs5
    isplitl [Hbk]; · iexact Hbk
    isplitl [HsO]; · iexact HsO
    isplitr; · iexact Hlv
    iexact HO
  iintro ⟨⟨%fa, -, HA⟩, HS, Hx, Hs5, -, HO⟩
  iapply (wp_last Xd Id Od d L O W hO k hk) $$ [HP HB HO]
  · isplitl [HP]; · iexact HP
    isplitl [HB]; · iexact HB
    isplitr; · iexact Hlv
    iexact HO
  iintro ⟨HO1, HB, -, HO⟩
  rw [wp_pure]
  imodintro
  isplitr
  · ipureintro
    exact acc_next L k
  isplitl [HN1]; · iexact HN1
  isplitl [HA Hi HsI]
  · rw [par_add_two]
    isplitl [HA]; · iexists _; iexact HA
    isplitl [Hi]; · iexact Hi
    iexact HsI
  rw [prevO_succ Xd Id d L hk]
  isplitl [HS]; · iexact HS
  isplitl [HO1]; · iexact HO1
  isplitl [HB]; · iexact HB
  isplitl [Hx]; · iexact Hx
  isplitl [Hs4]; · iexact Hs4
  isplitl [Hs5]; · iexact Hs5
  isplitr; · iexact Hlv
  iexact HO

end

end Cert.Proof.Gather

end
-- ==== Proof.Tile.lean ====
/-
  A task from its start to its end: its two rings are split into their slots and its share of the row numbers in two, the
  first window's fetch is started, the loop runs, the last store is awaited, and the rings are put together again.
-/
module

public import proofs.«01_k».proof.Proof.Trip

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The slots make up the rings -/

theorem mem_aSlot (p : Fin 2) (y : S2x1x128.Idx) : y ∈ (aSlot p).view.set ↔ (y 0).val = p.val := by
  have e : (aSlot p).view.set = (Rect.unit (s := S2x1x128) ![p.val, 0, 0] S1x1x128.size (aIn p)).set :=
    (View.set_reshape _ _).trans (View.set_slice_whole _ _)
  rw [e, Rect.mem_set_unit]
  constructor
  · intro h
    have h0 : p.val ≤ (y 0).val ∧ (y 0).val < p.val + 1 := h 0
    omega
  · intro h a
    match a with
    | ⟨0, _⟩ => exact ⟨h.ge, (show (y 0).val < p.val + 1 by omega)⟩
    | ⟨1, _⟩ => exact ⟨Nat.zero_le _, by have h : (y 1).val < 1 := (y 1).isLt; show (y 1).val < 0 + 1; omega⟩
    | ⟨2, _⟩ => exact ⟨Nat.zero_le _, by have h : (y 2).val < 128 := (y 2).isLt; show (y 2).val < 0 + 128; omega⟩

theorem mem_bSlot (p : Fin 2) (y : S2x128x256.Idx) : y ∈ (bSlot p).view.set ↔ (y 0).val = p.val := by
  have e : (bSlot p).view.set = (Rect.unit (s := S2x128x256) ![p.val, 0, 0] S1x128x256.size (bIn p)).set :=
    (View.set_reshape _ _).trans (View.set_slice_whole _ _)
  rw [e, Rect.mem_set_unit]
  constructor
  · intro h
    have h0 : p.val ≤ (y 0).val ∧ (y 0).val < p.val + 1 := h 0
    omega
  · intro h a
    match a with
    | ⟨0, _⟩ => exact ⟨h.ge, (show (y 0).val < p.val + 1 by omega)⟩
    | ⟨1, _⟩ => exact ⟨Nat.zero_le _, by have h : (y 1).val < 128 := (y 1).isLt; show (y 1).val < 0 + 128; omega⟩
    | ⟨2, _⟩ => exact ⟨Nat.zero_le _, by have h : (y 2).val < 256 := (y 2).isLt; show (y 2).val < 0 + 256; omega⟩

theorem aSlots_disj : Disjoint (aSlot 0).view.set (aSlot 1).view.set :=
  Finset.disjoint_left.mpr fun y h0 h1 => by
    have e0 := (mem_aSlot 0 y).1 h0
    have e1 := (mem_aSlot 1 y).1 h1
    rw [e0] at e1; exact absurd e1 (by decide)
theorem bSlots_disj : Disjoint (bSlot 0).view.set (bSlot 1).view.set :=
  Finset.disjoint_left.mpr fun y h0 h1 => by
    have e0 := (mem_bSlot 0 y).1 h0
    have e1 := (mem_bSlot 1 y).1 h1
    rw [e0] at e1; exact absurd e1 (by decide)
theorem aSlots_cover : (aSlot 0).view.set ∪ (aSlot 1).view.set = (Finset.univ : Finset S2x1x128.Idx) :=
  Finset.eq_univ_of_forall fun y => by
    have h : (y 0).val < 2 := (y 0).isLt
    rcases (by omega : (y 0).val = 0 ∨ (y 0).val = 1) with h | h
    · exact Finset.mem_union_left _ ((mem_aSlot 0 y).2 h)
    · exact Finset.mem_union_right _ ((mem_aSlot 1 y).2 h)
theorem bSlots_cover : (bSlot 0).view.set ∪ (bSlot 1).view.set = (Finset.univ : Finset S2x128x256.Idx) :=
  Finset.eq_univ_of_forall fun y => by
    have h : (y 0).val < 2 := (y 0).isLt
    rcases (by omega : (y 0).val = 0 ∨ (y 0).val = 1) with h | h
    · exact Finset.mem_union_left _ ((mem_bSlot 0 y).2 h)
    · exact Finset.mem_union_right _ ((mem_bSlot 1 y).2 h)

section

variable (Xd : ∀ d, Buf (Elt F) (xLoc d)) (Id : ∀ d, Buf (Elt F) (iLoc d)) (Od : ∀ d, Buf (Elt F) (oLoc d))
variable (d : Dev nD) (L : grid0.Coords)
variable (O : CellTallies nD τ sig (HIx 1)) (W : Waits sig (HIx 1))

local notation "WP" => wp frame (wpE (defs₀ (F := F)) 𝒱₀ (thr d L) none) Set.univ
local notation "PART[" p "]" => p L xV (Memref.isWhole_whole _) iV (Memref.isWhole_whole _) oV (Memref.isWhole_whole _)
  aV (Memref.isWhole_whole _) cc0_scoped1 bV (Memref.isWhole_whole _) cc0_scoped3 cc0_scoped4 cc0_scoped5

theorem aRing_split (f : Buf (Elt F) ((thr d L).loc cc0_scoped0)) :
    ((thr d L).loc cc0_scoped0 ↦{fullShare} f : sProp 𝕄) ⊢ iprop(slotA d L 0 f ∗ slotA d L 1 f) :=
  (Entails.of_eq (congrArg (fun S : Finset S2x1x128.Idx => ((thr d L).loc cc0_scoped0 ↦[S]{fullShare} f : sProp 𝕄)) aSlots_cover.symm)).trans
    (pointsTo_union aSlots_disj).1
theorem bRing_split (f : Buf (Elt F) ((thr d L).loc cc0_scoped2)) :
    ((thr d L).loc cc0_scoped2 ↦{fullShare} f : sProp 𝕄) ⊢ iprop(slotB d L 0 f ∗ slotB d L 1 f) :=
  (Entails.of_eq (congrArg (fun S : Finset S2x128x256.Idx => ((thr d L).loc cc0_scoped2 ↦[S]{fullShare} f : sProp 𝕄)) bSlots_cover.symm)).trans
    (pointsTo_union bSlots_disj).1
theorem aRing_join :
    iprop((∃ f, slotA d L 0 f) ∗ ∃ f, slotA d L 1 f) ⊢ (iprop(∃ f, (thr d L).loc cc0_scoped0 ↦{fullShare} f) : sProp 𝕄) := by
  iintro ⟨⟨%f, H⟩, %g, H'⟩
  iexists (aSlot 1).view.set.piecewise g f
  iapply (Entails.of_eq (congrArg (fun S : Finset S2x1x128.Idx => ((thr d L).loc cc0_scoped0 ↦[S]{fullShare} ((aSlot 1).view.set.piecewise g f) : sProp 𝕄)) aSlots_cover))
  iapply (pointsTo_join aSlots_disj)
  isplitl [H]; · iexact H
  iexact H'
theorem bRing_join :
    iprop((∃ f, slotB d L 0 f) ∗ ∃ f, slotB d L 1 f) ⊢ (iprop(∃ f, (thr d L).loc cc0_scoped2 ↦{fullShare} f) : sProp 𝕄) := by
  iintro ⟨⟨%f, H⟩, %g, H'⟩
  iexists (bSlot 1).view.set.piecewise g f
  iapply (Entails.of_eq (congrArg (fun S : Finset S2x128x256.Idx => ((thr d L).loc cc0_scoped2 ↦[S]{fullShare} ((bSlot 1).view.set.piecewise g f) : sProp 𝕄)) bSlots_cover))
  iapply (pointsTo_join bSlots_disj)
  isplitl [H]; · iexact H
  iexact H'

/-! ## The loop -/

theorem blks_init : (Blks Xd Id Od d L 0 0 : sProp 𝕄) = bigSep Finset.univ fun t : Fin 32 => oPts d (wL L) t (Od d) := by
  unfold Blks
  refine bigSep_congr fun t _ => ?_
  unfold blkAt
  rw [if_neg (Nat.not_lt_zero _), if_neg (Nat.not_lt_zero _)]

theorem blks_end : (Blks Xd Id Od d L 32 32 : sProp 𝕄) = bigSep Finset.univ fun t : Fin 32 => oPts d (wL L) t (Gd Xd Id d) := by
  unfold Blks
  refine bigSep_congr fun t _ => ?_
  unfold blkAt
  rw [if_pos t.isLt]

theorem wp_part5 (hO : ∀ g, O g none = 0) (hI : InRange Id) (Q) :
    State Xd Id Od d L O W 0
      ⊢ iprop((State Xd Id Od d L O W 32 -∗ Q ⟨a9 32, a10 32, chk5_ok L, chk4_ok⟩)
        -∗ WP (PART[k0_part5 (F := F)] (v4 L)) Q) := by
  rw [k0_part5_eq_skeleton]
  unfold k0_part5_skel
  iintro H Hk
  ihave HI := (show State Xd Id Od d L O W 0 ⊢ Inv Xd Id Od d L O W 0 (accAt 0) by
    iintro H
    isplitr
    · ipureintro; rfl
    iexact H) $$ H
  iapply (Scf.wp_for_bind (I := Inv Xd Id Od d L O W) frame (wpE (defs₀ (F := F)) 𝒱₀ (thr d L) none) Set.univ _ _ _ _ _ _ (fun k acc => by
      iintro ⟨%e, H⟩
      rw [e]
      iapply (trip Xd Id Od d L hO hI k)
      iexact H)) $$ HI
  iintro %acc HI
  ihave HI := (show Inv Xd Id Od d L O W k0_t1_loop.trips acc ⊢ Inv Xd Id Od d L O W 32 acc from
    Entails.of_eq (by rw [trips_eq])) $$ HI
  icases HI with ⟨%e, H⟩
  rw [e]
  simp only [Prog.bind_lift]
  rw [wp_assume_of _ _ _ _ (chk5_ok L), wp_assume_of _ _ _ _ chk4_ok, wp_pure]
  imodintro
  iapply Hk
  iexact H

/-- The task's number times 32, as the program computes it. -/
theorem v4_eq : ∀ L : grid0.Coords, Scalar.muli (Scalar.addi (Scalar.addi 0#32 (Scalar.muli (BitVec.ofNat 32 (L 1).val) 1#32))
    (Scalar.muli (BitVec.ofNat 32 (L 0).val) 16#32)) 32#32 = v4 L := by decide +kernel

/-- The start of the task: the fetch of window 0. -/
theorem wp_part4 (Q) :
    FetchIdle Id d L (par 0)
      ⊢ iprop((NextI Id d L 0 -∗ Q (v4 L)) -∗ WP (PART[k0_part4 (F := F)]) Q) := by
  rw [k0_part4_eq_skeleton]
  unfold k0_part4_skel
  simp only [Prog.bind_lift]
  iintro H Hk
  iapply (wp_fetch Id d L (k := 0) (by decide) off1_eq (off2_eq L) off3_eq) $$ H
  iintro HF
  rw [wp_pure, v4_eq L]
  imodintro
  iapply Hk
  rw [nextI_of_lt Id d L (by decide)]
  iexact HF

theorem state_end : State Xd Id Od d L O W 32
    = iprop(FetchIdle Id d L 0 ∗ FetchIdle Id d L 1 ∗ Storing Xd Id d L ⟨31, by decide⟩ ∗ StoreIdle d L 0 ∗ Blks Xd Id Od d L 31 32
      ∗ xTok Xd d L ∗ semVal (cell d L cc0_scoped4.sem) 0 ∗ semVal (cell d L cc0_scoped5.sem) 0 ∗ Lv (F := F) ∗ Owing d L O W) := by
  unfold State
  rw [nextI_of_le Id d L (by decide), prevO_succ Xd Id d L (k := 31) (by decide),
    show par 32 = 0 from rfl, show par (32 + 1) = 1 from rfl]

/-! ## The task -/

theorem tile_body (hI : InRange Id) (hO : ∀ g, O g none = 0) :
    iprop(Lv (F := F) ∗ emp ∗ goRes Xd Id Od d (wL L) ∗ scopedBufs (thr d L) ∗ scopedSems0 (thr d L) ∗ owes (thr d L) O W)
      ⊢ WP (PART[cc0_gather (F := F)])
          fun _ => iprop(tdRes Xd Id d (wL L) ∗ scopedBufs (thr d L) ∗ scopedSems0 (thr d L) ∗ Owing d L O W) := by
  rw [cc0_gather_eq_skeleton]
  unfold cc0_gather_skel
  rw [(K (F := F)).scopedBufs_V facts d (cV L) (jV L), SparseCore.Cfg.scopedSems0_V (Val := Elt F) d (cV L) (jV L), ownSems0_thr, ownBufs_thr]
  simp only [wp_bind]
  iintro ⟨#Hlv, -, ⟨Hi, Hx, Ho⟩, ⟨⟨%fa, Ha⟩, ⟨%fb, Hb⟩, Hbufs⟩, ⟨HsI0, HsI1, HsO0, HsO1, Hs4, Hs5, Hsems⟩, HO⟩
  ihave Ha2 := (aRing_split d L fa) $$ Ha
  icases Ha2 with ⟨Ha0, Ha1⟩
  ihave Hb2 := (bRing_split d L fb) $$ Hb
  icases Hb2 with ⟨Hb0, Hb1⟩
  ihave Hi2 := (pointsTo_share (PosShare.mem_left_op_right (qW (wL L)))).1 $$ Hi
  icases Hi2 with ⟨Hi0, Hi1⟩
  iapply (wp_part4 Id d L) $$ [Ha0 Hi0 HsI0]
  · isplitl [Ha0]; · iexists _; iexact Ha0
    isplitl [Hi0]; · iexact Hi0
    iexact HsI0
  iintro HN
  iapply (wp_part5 Xd Id Od d L O W hO hI) $$ [HN Ha1 Hi1 HsI1 Hb0 HsO0 Hb1 HsO1 Ho Hx Hs4 Hs5 HO]
  · isplitl [HN]; · iexact HN
    isplitl [Ha1 Hi1 HsI1]
    · isplitl [Ha1]; · iexists _; iexact Ha1
      isplitl [Hi1]; · iexact Hi1
      iexact HsI1
    isplitl [Hb1 HsO1]
    · rw [prevO_zero]
      isplitl [Hb1]; · iexists _; iexact Hb1
      iexact HsO1
    isplitl [Hb0 HsO0]
    · isplitl [Hb0]; · iexists _; iexact Hb0
      iexact HsO0
    isplitl [Ho]
    · iapply (Entails.of_eq (blks_init Xd Id Od d L).symm); iexact Ho
    isplitl [Hx]; · iexact Hx
    isplitl [Hs4]; · iexact Hs4
    isplitl [Hs5]; · iexact Hs5
    isplitr; · iexact Hlv
    iexists W; isplitr
    · ipureintro; intro p hp; exact .inl hp
    iexact HO
  rw [state_end, ← wp_bind]
  simp only [Prog.bind_lift]
  iintro ⟨⟨Ha0, Hi0, HsI0⟩, ⟨Ha1, Hi1, HsI1⟩, HS, ⟨Hb0, HsO0⟩, HB, Hx, Hs4, Hs5, -, HO⟩
  iapply (wp_awaitO Xd Id d L O W hO ⟨31, by decide⟩ off20_eq) $$ [HS HO]
  · isplitr; · iexact Hlv
    isplitl [HS]; · iexact HS
    iexact HO
  iintro ⟨⟨HD, Hb1⟩, HsO1, HO⟩
  rw [wp_pure]
  imodintro
  ihave Ha := (aRing_join d L) $$ [Ha0 Ha1]
  · isplitl [Ha0]; · iexact Ha0
    iexact Ha1
  ihave Hb := (bRing_join d L) $$ [Hb0 Hb1]
  · isplitl [Hb0]; · iexact Hb0
    iexact Hb1
  ihave HBD := (Entails.of_eq (blks_put Xd Id Od d L (k := 31) (hi := 32) (by decide) (by decide))) $$ [HD HB]
  · isplitl [HD]; · iexact HD
    iexact HB
  isplitl [Hi0 Hi1 Hx HBD]
  · isplitl [Hi0 Hi1]
    · iapply (pointsTo_share (PosShare.mem_left_op_right (qW (wL L)))).2
      isplitl [Hi0]; · iexact Hi0
      iexact Hi1
    isplitl [Hx]; · iexact Hx
    iapply (Entails.of_eq (blks_end Xd Id Od d L)); iexact HBD
  isplitl [Ha Hb Hbufs]
  · isplitl [Ha]; · iexact Ha
    isplitl [Hb]; · iexact Hb
    iexact Hbufs
  isplitl [HsI0 HsI1 HsO0 HsO1 Hs4 Hs5 Hsems]
  · isplitl [HsI0]; · iexact HsI0
    isplitl [HsI1]; · iexact HsI1
    isplitl [HsO0]; · iexact HsO0
    isplitl [HsO1]; · iexact HsO1
    isplitl [Hs4]; · iexact Hs4
    isplitl [Hs5]; · iexact Hs5
    iexact Hsems
  iexact HO

end

end Cert.Proof.Gather

end
-- ==== Proof.Launch.lean ====
/-
  The gather's launch, from the host program's side: the operations before the call leave the packed rows and the row
  numbers, the call's tasks are handed their shares and their blocks of the result, and what they bring back joins to
  the whole gathered array, which the last reshape turns into the program's result.
-/
module

public import proofs.«01_k».proof.Proof.Tile

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held after wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tasks' parts of the arrays -/

/-- A product over the SparseCores and their subcores is one over the thirty-two tasks. -/
theorem bigSep_cores (Φ : Fin 32 → sProp 𝕄) :
    (bigSep Finset.univ fun c : Fin ((K (F := F)).nCore 0) => bigSep Finset.univ fun i : Fin ((K (F := F)).nSub 0) =>
      Φ (widN (Fin.cast nCore_zero c) (Fin.cast nSub_zero i))) = bigSep Finset.univ Φ := by
  rw [bigSep_univ_equiv (finProdFinEquiv : Fin 2 × Fin 16 ≃ Fin (2 * 16)) Φ, bigSep_univ_prod]
  exact bigSep_congr fun c _ => bigSep_congr fun i _ => congrArg Φ (Fin.ext rfl)

/-- A product over the tasks and each task's blocks is one over the thousand and twenty-four blocks. -/
theorem bigSep_blocks (Φ : Fin 1024 → sProp 𝕄) :
    (bigSep Finset.univ fun w : Fin 32 => bigSep Finset.univ fun t : Fin 32 => Φ (blkOf w t)) = bigSep Finset.univ Φ := by
  rw [bigSep_univ_equiv (finProdFinEquiv : Fin 32 × Fin 32 ≃ Fin (32 * 32)) Φ, bigSep_univ_prod]
  exact bigSep_congr fun w _ => bigSep_congr fun t _ => congrArg Φ (Fin.ext (Nat.add_comm _ _))

/-- A place of the result is in block `n` when its row is. -/
theorem mem_oSetN (n : Fin 1024) (y : S131072x256.Idx) : y ∈ oSetN n ↔ (y 0).val / 128 = n.val := by
  have e : oSetN n = (Rect.unit (s := S131072x256) ![128 * n.val, 0] S128x256.size (oIn n.isLt)).set := by
    show ((View.whole (main_v15_scv : Ref sig .scVector)).slice _).set = _
    rw [View.set_slice]; exact Finset.map_refl
  rw [e, Rect.mem_set_unit]
  constructor
  · intro h
    have h0 : 128 * n.val ≤ (y 0).val ∧ (y 0).val < 128 * n.val + 128 := h 0
    omega
  · intro h a
    match a with
    | ⟨0, _⟩ => show 128 * n.val ≤ (y 0).val ∧ (y 0).val < 128 * n.val + 128; omega
    | ⟨1, _⟩ => exact ⟨Nat.zero_le _, (Nat.zero_add _).symm ▸ (y 1).isLt⟩

theorem oSets_disjoint : ∀ i ∈ (Finset.univ : Finset (Fin 1024)), ∀ j ∈ (Finset.univ : Finset (Fin 1024)), i ≠ j → Disjoint (oSetN i) (oSetN j) :=
  fun i _ j _ h => Finset.disjoint_left.mpr fun y hy hy' => h (Fin.ext (((mem_oSetN i y).mp hy).symm.trans ((mem_oSetN j y).mp hy')))

set_option maxRecDepth 16384 in
theorem oSets_cover : (Finset.univ : Finset (Fin 1024)).biUnion oSetN = Finset.univ :=
  Finset.eq_univ_iff_forall.mpr fun y => by
    have h : (y 0).val / 128 < 1024 := by have : (y 0).val < 131072 := (y 0).isLt; omega
    have key : ∀ k : ℕ, k < 1024 → ∃ n : Fin 1024, n.val = k := fun k hk => ⟨⟨k, hk⟩, rfl⟩
    exact (key _ h).elim fun n hn => Finset.mem_biUnion.mpr ⟨n, Finset.mem_univ _, (mem_oSetN _ y).mpr hn.symm⟩

theorem oPts_blocks (d : Dev nD) (f : Buf (Elt F) (oLoc d)) :
    (oLoc d ↦{fullShare} f : sProp 𝕄) = bigSep Finset.univ fun w : Fin 32 => bigSep Finset.univ fun t : Fin 32 => oPts d w t f := by
  rw [bigSep_blocks (F := F) (fun n => (oLoc d ↦[oSetN n]{fullShare} f)), ← pointsTo_biUnion Finset.univ (ℓ := oLoc d) oSetN oSets_disjoint, oSets_cover]
  try rfl

section Res

variable (Xd : ∀ d, Buf (Elt F) (xLoc d)) (Id : ∀ d, Buf (Elt F) (iLoc d)) (Od : ∀ d, Buf (Elt F) (oLoc d))

/-- The three arrays whole are the tasks' parts together. -/
theorem parts_eq (d : Dev nD) (f : Buf (Elt F) (oLoc d)) :
    (iprop((iLoc d ↦{fullShare} Id d) ∗ (xLoc d ↦{fullShare} Xd d) ∗ oLoc d ↦{fullShare} f) : sProp 𝕄)
      = bigSep Finset.univ fun w : Fin 32 => iprop((iLoc d ↦{qW w} Id d) ∗ (xLoc d ↦{qW w} Xd d) ∗ bigSep Finset.univ fun t : Fin 32 => oPts d w t f) := by
  rw [bigSep_sep', bigSep_sep', oPts_blocks,
    ShareLeaves.pointsTo_leaves (ℓ := iLoc d) Finset.univ (Id d) 5 fullShare,
    ShareLeaves.pointsTo_leaves (ℓ := xLoc d) Finset.univ (Xd d) 5 fullShare]
  rfl

theorem st_eq (d : Dev nD) : (bigSep Finset.univ fun c : Fin ((K (F := F)).nCore 0) => (P Xd Id Od).st 0 d c)
    = (iprop((iLoc d ↦{fullShare} Id d) ∗ (xLoc d ↦{fullShare} Xd d) ∗ oLoc d ↦{fullShare} Od d) : sProp 𝕄) :=
  (bigSep_cores (F := F) (goRes Xd Id Od d)).trans (parts_eq Xd Id d (Od d)).symm
theorem dn_eq (d : Dev nD) : (bigSep Finset.univ fun c : Fin ((K (F := F)).nCore 0) => (P Xd Id Od).dn 0 d c)
    = (iprop((iLoc d ↦{fullShare} Id d) ∗ (xLoc d ↦{fullShare} Xd d) ∗ oLoc d ↦{fullShare} Gd Xd Id d) : sProp 𝕄) :=
  (bigSep_cores (F := F) (tdRes Xd Id d)).trans (parts_eq Xd Id d (Gd Xd Id d)).symm

/-! ## A task's obligation -/

variable [FloatOps F]

abbrev coordsV (c : Fin (grid0.bound 0)) (i : Fin (grid0.bound 1)) : grid0.Coords := fun | 0 => c | 1 => i

theorem defs₀_vector (c : Fin τ.nSC) (s : Fin τ.nSub) : defs₀ (F := F) (.scVector c s) 0 ()
    = SparseCore.onTile hcore0 hsub0 (fun c s => cc0_gather (coordsV c s) xV (Memref.isWhole_whole _) iV (Memref.isWhole_whole _)
        oV (Memref.isWhole_whole _) aV (Memref.isWhole_whole _) cc0_scoped1 bV (Memref.isWhole_whole _) cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; intro p hp; rcases hW' p hp with h | h <;> simp [h]
  · iexact HO

set_option maxRecDepth 16384 in
theorem tileObl (hI : InRange Id) : (K (F := F)).TileObl (D (F := F)) 𝒱 (P Xd Id Od) v₀ 0 := by
  intro d c i O W hO _ _
  simp only [show (P Xd Id Od).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body Xd Id Od d (coordsV ⟨_, hci.1⟩ ⟨_, hci.2⟩) O W hI hO).trans (wp_mono frame _ _ fun _ => obl_post)

/-! ## The launch's ghost state -/

def u₀ : UU := (initOf (K (F := F)).hsCells (K (F := F)).hsToks, 1)

omit [FloatOps F] in
theorem bigSep_emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P Xd Id Od).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp_all]; iempintro
  rw [show (bigSep Finset.univ fun thr : Thread nD τ => bigSep Finset.univ fun q : Fin 1 => (P Xd Id Od).x q thr) = bigSep Finset.univ fun _ => iprop(emp) from
    bigSep_congr fun _ _ => bigSep_univ_of_subsingleton (0 : Fin 1), bigSep_emp_all]
  iempintro

end Res

/-! ## The host program -/

section Main

variable [FloatOps F] (m : (ℓ : Loc nD τ sig) → Buf (Elt F) ℓ) (ρ : Dev nD → PrngReg)

/-- The operations before the call: the row numbers and the packed rows, as the call takes them. -/
def opsPre : List (HloOp τ sig (Elt F)) :=
  [StableHlo.nullary main_v0 (iotaInDim S16 32 0),
   StableHlo.nullary main_c (constantI S_ 32 2048#32),
   StableHlo.unary main_c main_v1 (broadcastInDim S16 ![] bcast_S_S16 : (⟨S_, .i32⟩ : BufTy).Contents (Elt F) → (⟨S16, .i32⟩ : BufTy).Contents (Elt F)),
   StableHlo.binary main_v0 main_v1 main_v2 (muli : (⟨S16, .i32⟩ : BufTy).Contents (Elt F) → (⟨S16, .i32⟩ : BufTy).Contents (Elt F) → (⟨S16, .i32⟩ : BufTy).Contents (Elt F)),
   StableHlo.unary main_v2 main_v3 (broadcastInDim S16x1x1 ![0] bcast_S16_S16x1x1_0 : (⟨S16, .i32⟩ : BufTy).Contents (Elt F) → (⟨S16x1x1, .i32⟩ : BufTy).Contents (Elt F)),
   StableHlo.unary main_v3 main_v4 (broadcastInDim S16x16x256 ![0, 1, 2] bcast_S16x1x1_S16x16x256_0_1_2 : (⟨S16x1x1, .i32⟩ : BufTy).Contents (Elt F) → (⟨S16x16x256, .i32⟩ : BufTy).Contents (Elt F)),
   StableHlo.binary main_arg1 main_v4 main_v5 (addi : (⟨S16x16x256, .i32⟩ : BufTy).Contents (Elt F) → (⟨S16x16x256, .i32⟩ : BufTy).Contents (Elt F) → (⟨S16x16x256, .i32⟩ : BufTy).Contents (Elt F)),
   StableHlo.unary main_v5 main_v6 ((transpose S16x16x256 [1, 0, 2] · transposes_S16x16x256_S16x16x256_1_0_2) : (⟨S16x16x256, .i32⟩ : BufTy).Contents (Elt F) → (⟨S16x16x256, .i32⟩ : BufTy).Contents (Elt F)),
   StableHlo.reshape main_v6 main_v7 (rfl : (.i32 : EltTy) = .i32) shapeCasts_S16x16x256_S65536,
   StableHlo.nullary main_c_0 (constantI S_ 32 0#32),
   StableHlo.unary main_c_0 main_v8 (broadcastInDim S65536 ![] bcast_S_S65536 : (⟨S_, .i32⟩ : BufTy).Contents (Elt F) → (⟨S65536, .i32⟩ : BufTy).Contents (Elt F)),
   StableHlo.binary main_v7 main_v8 main_v9 (addi : (⟨S65536, .i32⟩ : BufTy).Contents (Elt F) → (⟨S65536, .i32⟩ : BufTy).Contents (Elt F) → (⟨S65536, .i32⟩ : BufTy).Contents (Elt F)),
   StableHlo.nullary main_c_1 (constantI S_ 32 32768#32),
   StableHlo.unary main_c_1 main_v10 (broadcastInDim S65536 ![] bcast_S_S65536 : (⟨S_, .i32⟩ : BufTy).Contents (Elt F) → (⟨S65536, .i32⟩ : BufTy).Contents (Elt F)),
   StableHlo.binary main_v7 main_v10 main_v11 (addi : (⟨S65536, .i32⟩ : BufTy).Contents (Elt F) → (⟨S65536, .i32⟩ : BufTy).Contents (Elt F) → (⟨S65536, .i32⟩ : BufTy).Contents (Elt F)),
   StableHlo.binary main_v9 main_v11 main_v12 ((fun a b => concatenate S131072 0 [⟨S65536, a⟩, ⟨S65536, b⟩] concatenates_S65536_S65536_S131072_d0) : (⟨S65536, .i32⟩ : BufTy).Contents (Elt F) → (⟨S65536, .i32⟩ : BufTy).Contents (Elt F) → (⟨S131072, .i32⟩ : BufTy).Contents (Elt F)),
   StableHlo.reshape main_arg0 main_v13 (rfl : (.i32 : EltTy) = .i32) shapeCasts_S2x16x2048x256_S65536x256,
   StableHlo.reshape main_v12 main_v14 (rfl : (.i32 : EltTy) = .i32) shapeCasts_S131072_S1x131072]

/-- The one operation after it. -/
abbrev opPost : HloOp τ sig (Elt F) := StableHlo.reshape main_v15 main_v16 (rfl : (.i32 : EltTy) = .i32) shapeCasts_S131072x256_S2x16x4096x256

theorem main_eq (d : Dev nD) : (main d : Prog (TpuEff nD τ sig (Elt F) _ .tc) PUnit)
    = StableHlo.seq (opsPre (F := F)) >>= fun _ => (sc (F := F)).run d 0 >>= fun _ => StableHlo.seq [opPost (F := F)] >>= fun _ => pure ⟨⟩ := rfl

/-- The arrays of the host program. -/
def UB : Finset (DevRef τ sig) := (StableHlo.tcRefs τ sig).filter fun b => ¬ b.isScoped

theorem unscoped_held (d : Dev nD) (W : Valuation τ sig (Elt F)) :
    (unscopedBufs d (fun b => W (Proc.devRef .tc b)) : sProp 𝕄) = held (T d) UB W := by
  unfold unscopedBufs StableHlo.held UB StableHlo.tcRefs
  rw [Finset.filter_map, BI.bigSep_map]
  rfl

/-- Their contents at launch, before the call, and after it. -/
def V0 (d : Dev nD) : Valuation τ sig (Elt F) := fun b => m (d, b)
def V1 (d : Dev nD) : Valuation τ sig (Elt F) := after (opsPre (F := F)) (V0 m d)

abbrev xR : DevRef τ sig := Proc.devRef .tc (main_v13 : Ref sig .tc)
abbrev iR : DevRef τ sig := Proc.devRef .tc (main_v14 : Ref sig .tc)
abbrev oR : DevRef τ sig := Proc.devRef .tc (main_v15 : Ref sig .tc)
abbrev rR : DevRef τ sig := Proc.devRef .tc (main_v16 : Ref sig .tc)
abbrev a0R : DevRef τ sig := Proc.devRef .tc (main_arg0 : Ref sig .tc)
abbrev a1R : DevRef τ sig := Proc.devRef .tc (main_arg1 : Ref sig .tc)

abbrev Xm (d : Dev nD) : Buf (Elt F) (xLoc d) := V1 m d xR
abbrev Im (d : Dev nD) : Buf (Elt F) (iLoc d) := V1 m d iR
abbrev Om (d : Dev nD) : Buf (Elt F) (oLoc d) := V1 m d oR
def V2 (d : Dev nD) : Valuation τ sig (Elt F) := Function.update (V1 m d) oR (Gd (Xm m) (Im m) d)
def V3 (d : Dev nD) : Valuation τ sig (Elt F) := after [opPost (F := F)] (V2 m d)

/-- The arrays, with the call's three apart. -/
abbrev restR : Finset (DevRef τ sig) := ((UB.erase iR).erase xR).erase oR

theorem mem_UB (b : Ref sig .tc) (h : b.isScoped = false) : Proc.devRef .tc b ∈ UB :=
  Finset.mem_filter.mpr ⟨Finset.mem_map.mpr ⟨b, Finset.mem_univ _, rfl⟩, by show ¬ (b.isScoped = true); rw [h]; exact Bool.false_ne_true⟩

omit [FloatOps F] in
theorem held_split (d : Dev nD) (W : Valuation τ sig (Elt F)) :
    (held (T d) UB W : sProp 𝕄)
      = iprop((iLoc d ↦{fullShare} W iR) ∗ (xLoc d ↦{fullShare} W xR) ∗ (oLoc d ↦{fullShare} W oR) ∗ held (T d) restR W) := by
  unfold StableHlo.held
  rw [SparseCore.bigSep_erase' (mem_UB main_v14 rfl),
    SparseCore.bigSep_erase' (Finset.mem_erase.mpr ⟨by decide, mem_UB main_v13 rfl⟩),
    SparseCore.bigSep_erase' (Finset.mem_erase.mpr ⟨by decide, Finset.mem_erase.mpr ⟨by decide, mem_UB main_v15 rfl⟩⟩)]

omit [FloatOps F] in
theorem held_two (d : Dev nD) (W : Valuation τ sig (Elt F)) :
    (held (T d) UB W : sProp 𝕄)
      ⊢ iprop(((SparseCore.T d).loc main_v16 ↦{fullShare} W rR) ∗ ((SparseCore.T d).loc main_arg0 ↦{fullShare} W a0R) ∗ ((SparseCore.T d).loc main_arg1 ↦{fullShare} W a1R)) := by
  unfold StableHlo.held
  rw [SparseCore.bigSep_erase' (mem_UB main_v16 rfl),
    SparseCore.bigSep_erase' (Finset.mem_erase.mpr ⟨by decide, mem_UB main_arg0 rfl⟩),
    SparseCore.bigSep_erase' (Finset.mem_erase.mpr ⟨by decide, Finset.mem_erase.mpr ⟨by decide, mem_UB main_arg1 rfl⟩⟩)]
  iintro ⟨H1, H2, H3, -⟩
  isplitl [H1]; · iexact H1
  isplitl [H2]; · iexact H2
  iexact H3

theorem held_V2 (d : Dev nD) :
    (held (T d) UB (V2 m d) : sProp 𝕄)
      = iprop((iLoc d ↦{fullShare} Im m d) ∗ (xLoc d ↦{fullShare} Xm m d) ∗ (oLoc d ↦{fullShare} Gd (Xm m) (Im m) d) ∗ held (T d) restR (V1 m d)) := by
  rw [held_split]
  have e1 : V2 m d iR = Im m d := Function.update_of_ne (show iR ≠ oR by decide) _ _
  have e2 : V2 m d xR = Xm m d := Function.update_of_ne (show xR ≠ oR by decide) _ _
  have e3 : V2 m d oR = Gd (Xm m) (Im m) d := Function.update_self _ _ _
  have e4 : (held (T d) restR (V2 m d) : sProp 𝕄) = held (T d) restR (V1 m d) := by
    unfold StableHlo.held
    exact bigSep_congr fun b hb => by
      rw [show V2 m d b = V1 m d b from Function.update_of_ne (Finset.ne_of_mem_erase hb) _ _]
  rw [e1, e2, e3, e4]

theorem opsPre_bufs : ∀ op ∈ opsPre (F := F), op.bufs ⊆ UB := by
  intro op h
  simp only [opsPre, List.mem_cons, List.not_mem_nil, or_false] at h
  rcases h with h | h | h | h | h | h | h | h | h | h | h | h | h | h | h | h | h | h <;> subst h <;>
    (intro b hb; simp only [StableHlo.nullary, StableHlo.unary, StableHlo.binary, StableHlo.reshape, Finset.mem_insert, Finset.mem_singleton] at hb
     rcases hb with rfl | rfl | rfl <;> exact mem_UB _ rfl)

theorem opsPre_fresh : ∀ op ∈ opsPre (F := F), op.fresh = ∅ := by
  intro op h
  simp only [opsPre, List.mem_cons, List.not_mem_nil, or_false] at h
  rcases h with h | h | h | h | h | h | h | h | h | h | h | h | h | h | h | h | h | h <;> subst h <;> rfl

theorem opPost_bufs : ∀ op ∈ [opPost (F := F)], op.bufs ⊆ UB := by
  intro op h
  rw [List.mem_singleton] at h; subst h
  intro b hb; simp only [opPost, StableHlo.reshape, Finset.mem_insert, Finset.mem_singleton] at hb
  rcases hb with rfl | rfl <;> exact mem_UB _ rfl
theorem opPost_fresh : ∀ op ∈ [opPost (F := F)], op.fresh = ∅ := by
  intro op h
  rw [List.mem_singleton] at h; subst h; rfl

/-- What the host program leaves: its result and its two arguments. -/
abbrev FIN (d : Dev nD) : sProp 𝕄 :=
  iprop(((SparseCore.T d).loc main_v16 ↦{fullShare} V3 m d rR) ∗ ((SparseCore.T d).loc main_arg0 ↦{fullShare} V3 m d a0R) ∗ ((SparseCore.T d).loc main_arg1 ↦{fullShare} V3 m d a1R))

theorem hmain (κ : GSem nD τ sig → ℕ) (d : Dev nD) :
    iprop((K (F := F)).ctx EH (P (Xm m) (Im m) (Om m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) UB (V0 m d) from unscoped_held d (V0 m d), main_eq]
  iintro ⟨#Hctx, Hst, ⟨Hb, Hheld, Hts, -⟩, -⟩
  iapply (StableHlo.wp_seq 𝒱 none Set.univ d UB _ (opsPre (F := F)) opsPre_bufs opsPre_fresh (V0 m d)) $$ [Hb Hheld]
  · isplitl [Hb] <;> iassumption
  iintro ⟨Hb, Hheld⟩
  rw [wp_bind]
  ihave Hh := (Entails.of_eq (show (held (d.tc : Thread nD τ) UB (after (opsPre (F := F)) (V0 m d)) : sProp 𝕄) = _ from held_split (F := F) d (V1 m d))) $$ Hheld
  icases Hh with ⟨Hi, Hx, Ho, Hr⟩
  iapply ((K (F := F)).wp_run (D (F := F)) 𝒱 (EH := EH) (P := P (Xm m) (Im m) (Om m)) κ d 0) $$ [Hst Hi Hx Ho Hb Hr Hts]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq (Xm m) (Im m) (Om m) d)) $$ Hdn
  icases Hdn' with ⟨Hi, Hx, Ho⟩
  iapply (StableHlo.wp_seq 𝒱 none Set.univ d UB _ [opPost (F := F)] opPost_bufs opPost_fresh (V2 m d)) $$ [Hb Hi Hx Ho Hr]
  · isplitl [Hb]; · iexact Hb
    rw [held_V2]
    isplitl [Hi]; · iexact Hi
    isplitl [Hx]; · iexact Hx
    isplitl [Ho]; · iexact Ho
    iexact Hr
  iintro ⟨Hb, Hheld⟩
  ihave Hh := (show (held (d.tc : Thread nD τ) UB (after [opPost (F := F)] (V2 m d)) : sProp 𝕄) ⊢ _ from held_two (F := F) d (V3 m d)) $$ Hheld
  rw [wp_pure]; imodintro
  isplitl [Hst]; · iexact Hst
  isplitr [Hb Hts]
  · iexact Hh
  isplitl [Hb] <;> iassumption

/-! ## The run -/

/-- What the claims read of device `d`'s final state. -/
def fq (d : Dev nD) (s' : Phys nD τ sig (Elt F)) : Prop :=
  s'.mem.mem ((SparseCore.T d).loc main_v16) = V3 m d rR ∧ s'.mem.mem ((SparseCore.T d).loc main_arg0) = V3 m d a0R
    ∧ s'.mem.mem ((SparseCore.T d).loc main_arg1) = V3 m d a1R

set_option maxRecDepth 16384 in
theorem hfin (d : Dev nD) (s' : Phys nD τ sig (Elt F)) : iprop(FIN m d ∗ SI s') ⊢ (⌜fq m d s'⌝ : sProp 𝕄) := by
  iintro ⟨⟨Hr, H0, H1⟩, HSI⟩
  ihave H := (persistent_entails_right (SI_pointsTo_agree (st := s') (ℓ := (SparseCore.T d).loc main_v16) (I := Finset.univ) (q := fullShare) (f := V3 m d rR))) $$ [HSI Hr]
  · isplitl [HSI] <;> iassumption
  icases H with ⟨%h1, HSI, -⟩
  ihave H := (persistent_entails_right (SI_pointsTo_agree (st := s') (ℓ := (SparseCore.T d).loc main_arg0) (I := Finset.univ) (q := fullShare) (f := V3 m d a0R))) $$ [HSI H0]
  · isplitl [HSI] <;> iassumption
  icases H with ⟨%h2, HSI, -⟩
  ihave H := (SI_pointsTo_agree (st := s') (ℓ := (SparseCore.T d).loc main_arg1) (I := Finset.univ) (q := fullShare) (f := V3 m d a1R)) $$ [HSI H1]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem ((SparseCore.T c).loc main_v16) = V3 m c rR ∧ r.2.mem ((SparseCore.T c).loc main_arg0) = V3 m c a0R
    ∧ r.2.mem ((SparseCore.T c).loc main_arg1) = V3 m c a1R) ∧ r.2.sem = fun _ => 0

/-- The program's run, from any memory whose row numbers the call finds in range. -/
theorem run_main [∀ e, Nonempty (Elt F e)] (hI : InRange (Im m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xm m) (Im m) (Om m)) (A := ∅) facts v₀
    (fun q hq => match q with | 0 => nomatch hq)
    (fun q _ => match q with | 0 => tileObl (Xm m) (Im m) (Om m) hI)
    (fun q _ => match q with | 0 => SparseCore.Cfg.VecSplit.of_plain (vecSplit (Xm m) (Im m) (Om m)))
    m ρ main (fun _ => iprop(emp)) (FIN m) (u₀ (F := F)) (sep_elim_left.trans (hu₀ (Xm m) (Im m) (Om m))) (hmain m ρ) (fq m) (hfin m) (QC m) (fun _ h hz => ⟨h, hz⟩)

end Main

end Cert.Proof.Gather

end
-- ==== Proof.Value.lean ====
/-
  What the gather's host program computes, read entry by entry: the row numbers the call is handed, the packed rows as
  a matrix, and the result as the array of rows the token numbers name.
-/
module

public import proofs.«01_k».proof.Proof.Launch
public import Idealize.ShloMosaic.Lib.Pipeline.Value
public import Idealize.ShloMosaic.Lib.Pointwise.Index

@[expose] public section

noncomputable section

namespace Cert.Proof.Gather

open Cert.KernelIdeal Cert.KernelIdeal.Gen
open Idealize.ShloMosaic
open Idealize.ShloMosaic.StableHlo (held after wp_hlo_within)

variable {F : FTy → Type} [FloatOps F]

/-! ## The host operations as functions -/

/-- The token numbers offset by their sample's first row, samples before experts exchanged, in one line. -/
def idLine (I : S16x16x256.Idx → BitVec 32) : S65536.Idx → BitVec 32 :=
  shapeCast S65536 (transpose S16x16x256 [1, 0, 2]
    (addi I (broadcastInDim S16x16x256 ![0, 1, 2] bcast_S16x1x1_S16x16x256_0_1_2
      (broadcastInDim S16x1x1 ![0] bcast_S16_S16x1x1_0
        (muli (iotaInDim S16 32 0) (broadcastInDim S16 ![] bcast_S_S16 (constantI S_ 32 2048#32)))))) transposes_S16x16x256_S16x16x256_1_0_2)
    shapeCasts_S16x16x256_S65536

/-- The row numbers: the line for the first pack part, then the line for the second. -/
def idsK (I : S16x16x256.Idx → BitVec 32) : S1x131072.Idx → BitVec 32 :=
  shapeCast S1x131072 (concatenate S131072 0
    [⟨S65536, addi (idLine I) (broadcastInDim S65536 ![] bcast_S_S65536 (constantI S_ 32 0#32))⟩,
     ⟨S65536, addi (idLine I) (broadcastInDim S65536 ![] bcast_S_S65536 (constantI S_ 32 32768#32))⟩]
    concatenates_S65536_S65536_S131072_d0) shapeCasts_S131072_S1x131072

def rowsK (H : S2x16x2048x256.Idx → BitVec 32) : S65536x256.Idx → BitVec 32 := shapeCast S65536x256 H shapeCasts_S2x16x2048x256_S65536x256

def outK (H : S2x16x2048x256.Idx → BitVec 32) (I : S16x16x256.Idx → BitVec 32) : S2x16x4096x256.Idx → BitVec 32 :=
  shapeCast S2x16x4096x256 (gathered (rowsK H) (idsK I)) shapeCasts_S131072x256_S2x16x4096x256

section Run

variable (m : (ℓ : Loc nD τ sig) → Buf (Elt F) ℓ)

theorem Xm_eq (d : Dev nD) : Xm m d = rowsK (m ((SparseCore.T d).loc main_arg0)) := by
  show after (opsPre (F := F)) (V0 m d) (Proc.devRef .tc main_v13) = _
  unfold opsPre
  after_results
  rfl

theorem Im_eq (d : Dev nD) : Im m d = idsK (m ((SparseCore.T d).loc main_arg1)) := by
  show after (opsPre (F := F)) (V0 m d) (Proc.devRef .tc main_v14) = _
  unfold opsPre
  after_results
  rfl

theorem V1_arg0 (d : Dev nD) : V1 m d a0R = m ((SparseCore.T d).loc main_arg0) := by
  show after (opsPre (F := F)) (V0 m d) (Proc.devRef .tc main_arg0) = _
  unfold opsPre
  after_results
  try rfl
theorem V1_arg1 (d : Dev nD) : V1 m d a1R = m ((SparseCore.T d).loc main_arg1) := by
  show after (opsPre (F := F)) (V0 m d) (Proc.devRef .tc main_arg1) = _
  unfold opsPre
  after_results
  try rfl

theorem V3_arg0 (d : Dev nD) : V3 m d a0R = m ((SparseCore.T d).loc main_arg0) := by
  show after [opPost (F := F)] (V2 m d) (Proc.devRef .tc main_arg0) = _
  after_results
  exact (Function.update_of_ne (show a0R ≠ oR by decide) _ _).trans (V1_arg0 m d)
theorem V3_arg1 (d : Dev nD) : V3 m d a1R = m ((SparseCore.T d).loc main_arg1) := by
  show after [opPost (F := F)] (V2 m d) (Proc.devRef .tc main_arg1) = _
  after_results
  exact (Function.update_of_ne (show a1R ≠ oR by decide) _ _).trans (V1_arg1 m d)

theorem V3_out (d : Dev nD) : V3 m d rR = outK (m ((SparseCore.T d).loc main_arg0)) (m ((SparseCore.T d).loc main_arg1)) := by
  show after [opPost (F := F)] (V2 m d) (Proc.devRef .tc main_v16) = _
  after_results
  have e : V2 m d (Proc.devRef .tc main_v15) = gathered (Xm m d) (Im m d) := Function.update_self _ _ _
  rw [e, Xm_eq, Im_eq]
  rfl

end Run

/-! ## Entry by entry -/

variable (H : S2x16x2048x256.Idx → BitVec 32) (I : S16x16x256.Idx → BitVec 32)

/-- The line at expert `e`, sample `b`, place `c`: the token number, offset by the sample's first row. -/
theorem idLine_apply (e b : Fin 16) (c : Fin 256) (r : S65536.Idx) (hr : (r 0).val = e.val * 4096 + b.val * 256 + c.val) :
    idLine I r = I (ix3 b e c) + BitVec.ofNat 32 b.val * 2048#32 := by
  unfold idLine
  refine (shapeCast_apply _ _ r (ix3 e b c) ?_).trans ?_
  · rw [Shape.rowMajor_val_three, Shape.rowMajor_val_one, hr]
    show (e.val * 16 + b.val) * 256 + c.val = _
    omega
  refine (transpose_apply _ _ _ (ix3 e b c) (ix3 b e c) ?_).trans ?_
  · intro a
    match a with
    | ⟨0, _⟩ => rfl
    | ⟨1, _⟩ => rfl
    | ⟨2, _⟩ => rfl
  · show I (ix3 b e c) + _ = _
    refine congrArg (I (ix3 b e c) + ·) ?_
    refine (broadcastInDim_apply _ _ _ (ix3 b e c) (ix3 b (0 : Fin 1) (0 : Fin 1)) ?_).trans ?_
    · intro a
      match a with
      | ⟨0, _⟩ => rfl
      | ⟨1, _⟩ => rfl
      | ⟨2, _⟩ => rfl
    refine (broadcastInDim_apply _ _ _ (ix3 b (0 : Fin 1) (0 : Fin 1)) (ix1 b) ?_).trans ?_
    · intro a
      match a with
      | ⟨0, _⟩ => rfl
    rfl

/-- The row number at pack part `p`, expert `e`, sample `b`, place `c`. -/
theorem idsK_apply (p : Fin 2) (e b : Fin 16) (c : Fin 256) (r : S1x131072.Idx)
    (hr : (r 1).val = p.val * 65536 + e.val * 4096 + b.val * 256 + c.val) :
    idsK I r = I (ix3 b e c) + BitVec.ofNat 32 b.val * 2048#32 + BitVec.ofNat 32 (p.val * 32768) := by
  have hr1 : (r 1).val < 131072 := (r 1).isLt
  have hr0 : (r 0).val < 1 := (r 0).isLt
  have hl : e.val * 4096 + b.val * 256 + c.val < 65536 := by omega
  unfold idsK
  refine (shapeCast_apply _ _ r (ix1 (⟨(r 1).val, hr1⟩ : Fin 131072)) ?_).trans ?_
  · rw [Shape.rowMajor_val_two, Shape.rowMajor_val_one]
    have h0 : (r 0).val = 0 := by omega
    rw [h0, Nat.zero_mul, Nat.zero_add]; rfl
  have hp : p = 0 ∨ p = 1 := by omega
  rcases hp with rfl | rfl
  · refine (concatenate_pair_apply_left (t := S131072) (s₁ := S65536) (s₂ := S65536) 0 _ _ _ _ rfl (ix1 (⟨e.val * 4096 + b.val * 256 + c.val, hl⟩ : Fin 65536)) ?_).trans ?_
    · intro a
      match a with
      | ⟨0, _⟩ => show e.val * 4096 + b.val * 256 + c.val = (r 1).val; rw [hr]; simp
    · show idLine I _ + 0#32 = _
      rw [idLine_apply I e b c _ rfl]; rfl
  · refine (concatenate_pair_apply_right (t := S131072) (s₁ := S65536) (s₂ := S65536) 0 _ _ _ _ rfl rfl (ix1 (⟨e.val * 4096 + b.val * 256 + c.val, hl⟩ : Fin 65536)) ?_ ?_).trans ?_
    · intro a ha
      match a with
      | ⟨0, _⟩ => exact absurd rfl ha
    · show e.val * 4096 + b.val * 256 + c.val + 65536 = (r 1).val
      rw [hr]; simp; omega
    · show idLine I _ + 32768#32 = _
      rw [idLine_apply I e b c _ rfl]; rfl

/-- Every token number is a token of its sample. -/
def InSeq : Prop := ∀ j, (I j).toNat < 2048

theorem idsK_toNat (hI : InSeq I) (p : Fin 2) (e b : Fin 16) (c : Fin 256) (r : S1x131072.Idx)
    (hr : (r 1).val = p.val * 65536 + e.val * 4096 + b.val * 256 + c.val) :
    (idsK I r).toNat = p.val * 32768 + b.val * 2048 + (I (ix3 b e c)).toNat := by
  have h := hI (ix3 b e c)
  rw [idsK_apply I p e b c r hr]
  simp only [BitVec.toNat_add, BitVec.toNat_mul, BitVec.toNat_ofNat]
  omega

theorem split_row (x : ℕ) (h : x < 131072) : ∃ (p : Fin 2) (e b : Fin 16) (c : Fin 256), x = p.val * 65536 + e.val * 4096 + b.val * 256 + c.val :=
  ⟨⟨x / 65536, by omega⟩, ⟨x / 4096 % 16, by omega⟩, ⟨x / 256 % 16, by omega⟩, ⟨x % 256, by omega⟩, by
    show x = x / 65536 * 65536 + x / 4096 % 16 * 4096 + x / 256 % 16 * 256 + x % 256; omega⟩

theorem idsK_lt (hI : InSeq I) (r : S1x131072.Idx) : (idsK I r).toNat < 65536 := by
  obtain ⟨p, e, b, c, h⟩ := split_row (r 1).val (r 1).isLt
  rw [idsK_toNat I hI p e b c r h]
  have := hI (ix3 b e c)
  omega

/-- The specification: at pack part `p`, expert `e`, row `b * 256 + c`, the packed row of sample `b` that the token
    number at `(b, e, c)` names. -/
def picked : S2x16x4096x256.Idx → BitVec 32 := fun y =>
  H (ix4 (⟨(y 0).val, (y 0).isLt⟩ : Fin 2)
    (⟨(y 2).val / 256, by have : (y 2).val < 4096 := (y 2).isLt; omega⟩ : Fin 16)
    (⟨(I (ix3 (⟨(y 2).val / 256, by have : (y 2).val < 4096 := (y 2).isLt; omega⟩ : Fin 16) (⟨(y 1).val, (y 1).isLt⟩ : Fin 16)
      (⟨(y 2).val % 256, Nat.mod_lt _ (by decide)⟩ : Fin 256))).toNat % 2048, Nat.mod_lt _ (by decide)⟩ : Fin 2048)
    (⟨(y 3).val, (y 3).isLt⟩ : Fin 256))

theorem outK_eq (hI : InSeq I) : outK H I = picked H I := by
  funext y
  have h0 : (y 0).val < 2 := (y 0).isLt
  have h1 : (y 1).val < 16 := (y 1).isLt
  have h2 : (y 2).val < 4096 := (y 2).isLt
  have h3 : (y 3).val < 256 := (y 3).isLt
  have hR : (y 0).val * 65536 + (y 1).val * 4096 + (y 2).val < 131072 := by omega
  unfold outK
  refine (shapeCast_apply _ _ y (ix2 (⟨(y 0).val * 65536 + (y 1).val * 4096 + (y 2).val, hR⟩ : Fin 131072) (⟨(y 3).val, h3⟩ : Fin 256)) ?_).trans ?_
  · rw [Shape.rowMajor_val_two, Shape.rowMajor_val_four]
    show ((y 0).val * 65536 + (y 1).val * 4096 + (y 2).val) * 256 + (y 3).val = (((y 0).val * 16 + (y 1).val) * 4096 + (y 2).val) * 256 + (y 3).val
    omega
  unfold gathered rowsK picked
  refine shapeCast_apply _ _ _ _ ?_
  rw [Shape.rowMajor_val_two, Shape.rowMajor_val_four]
  have hv := idsK_toNat I hI (⟨(y 0).val, h0⟩ : Fin 2) (⟨(y 1).val, h1⟩ : Fin 16) (⟨(y 2).val / 256, by omega⟩ : Fin 16)
    (⟨(y 2).val % 256, Nat.mod_lt _ (by decide)⟩ : Fin 256)
    (ix2 (0 : Fin 1) (⟨(y 0).val * 65536 + (y 1).val * 4096 + (y 2).val, hR⟩ : Fin 131072))
    (by show (y 0).val * 65536 + (y 1).val * 4096 + (y 2).val = (y 0).val * 65536 + (y 1).val * 4096 + (y 2).val / 256 * 256 + (y 2).val % 256; omega)
  have hb := hI (ix3 (⟨(y 2).val / 256, by omega⟩ : Fin 16) (⟨(y 1).val, h1⟩ : Fin 16) (⟨(y 2).val % 256, Nat.mod_lt _ (by decide)⟩ : Fin 256))
  show (((y 0).val * 16 + (y 2).val / 256) * 2048 + (I (ix3 _ _ _)).toNat % 2048) * 256 + (y 3).val
    = ((idsK I (ix2 (0 : Fin 1) (⟨(y 0).val * 65536 + (y 1).val * 4096 + (y 2).val, hR⟩ : Fin 131072))).toNat % 65536) * 256 + (y 3).val
  rw [hv]
  show _ = (((y 0).val * 32768 + (y 2).val / 256 * 2048 + _) % 65536) * 256 + (y 3).val
  rw [Nat.mod_eq_of_lt hb]
  omega

/-! ## The run's value -/

theorem run_value [∀ e, Nonempty (Elt F e)] (m : (ℓ : Loc nD τ sig) → Buf (Elt F) ℓ) (ρ : Dev nD → PrngReg)
    (hI : ∀ d, InSeq (m ((SparseCore.T d).loc main_arg1))) :
    θ_run (Cert.KernelIdeal.defs (F := F)) (Cert.KernelIdeal.threads (F := F)) ⟨m, fun _ => 0, ρ⟩ fun r =>
      (∀ c : Dev nD, r.2.mem ((SparseCore.T c).loc main_v16) = picked (m ((SparseCore.T c).loc main_arg0)) (m ((SparseCore.T c).loc main_arg1))
        ∧ r.2.mem ((SparseCore.T c).loc main_arg0) = m ((SparseCore.T c).loc main_arg0)
        ∧ r.2.mem ((SparseCore.T c).loc main_arg1) = m ((SparseCore.T c).loc main_arg1)) ∧ r.2.sem = fun _ => 0 :=
  (θ_run (Cert.KernelIdeal.defs (F := F)) _ _).mono
    (fun _ h => ⟨fun c => ⟨(h.1 c).1.trans ((V3_out m c).trans (outK_eq _ _ (hI c))), (h.1 c).2.1.trans (V3_arg0 m c), (h.1 c).2.2.trans (V3_arg1 m c)⟩, h.2⟩)
    (run_main m ρ fun d j => by
      rw [Im_eq]; exact idsK_lt _ (hI d) j)

end Cert.Proof.Gather

end
-- ==== Proof.Ref.lean ====
/-
  The reference: its operations' run, and its result read entry by entry.
-/
module

public import proofs.«01_k».proof.Proof.Value
public import proofs.«01_k».proof.ReferenceIdeal
public import proofs.«01_k».proof.Proof.Gen.ReferenceIdeal
public import Idealize.ShloMosaic.Lib.StableHlo.RunHlo
public import Idealize.ShloMosaic.Lib.Claim

@[expose] public section

noncomputable section

namespace Cert.Proof.Ref

open Cert.ReferenceIdeal Cert.ReferenceIdeal.Gen
open Idealize.ShloMosaic Idealize.SL.Sem
open Cert.Proof.Gather (InSeq picked)
open Idealize.ShloMosaic.StableHlo (after launchContents)

variable {F : FTy → Type} [FloatOps F]

/-! ## The reference as functions -/

/-- The token numbers, a negative one taken from the end. -/
def wrapped (I : S16x16x256.Idx → BitVec 32) : S16x16x256.Idx → BitVec 32 :=
  select (cmpi .slt I (broadcastInDim S16x16x256 ![] bcast_S_S16x16x256 (constantI S_ 32 0#32)))
    (addi I (broadcastInDim S16x16x256 ![] bcast_S_S16x16x256 (constantI S_ 32 2048#32))) I

def taken (H : S2x16x2048x256.Idx → BitVec 32) (I : S16x16x256.Idx → BitVec 32) : S2x16x16x256x256.Idx → BitVec 32 :=
  Host.gather gather_S2x16x2048x256_S16x16x256x1_S2x16x16x256x256_04_2_1_0_2_3_211256 H
    (broadcastInDim S16x16x256x1 ![0, 1, 2] bcast_S16x16x256_S16x16x256x1_0_1_2 (wrapped I))

def outR (H : S2x16x2048x256.Idx → BitVec 32) (I : S16x16x256.Idx → BitVec 32) : S2x16x4096x256.Idx → BitVec 32 :=
  shapeCast S2x16x4096x256 (transpose S2x16x16x256x256 [0, 2, 1, 3, 4] (taken H I) transposes_S2x16x16x256x256_S2x16x16x256x256_0_2_1_3_4)
    shapeCasts_S2x16x16x256x256_S2x16x4096x256

/-! ## Entry by entry -/

variable (H : S2x16x2048x256.Idx → BitVec 32) (I : S16x16x256.Idx → BitVec 32)

theorem wrapped_eq (hI : InSeq I) : wrapped I = I := by
  funext j
  have h := hI j
  have hs : BitVec.slt (I j) 0#32 = false := by
    rw [BitVec.slt_eq_decide, decide_eq_false_iff_not, BitVec.toInt_eq_toNat_cond]
    simp only [BitVec.toInt_zero]
    rw [if_pos (by omega)]
    omega
  show (if BitVec.ofBool (BitVec.slt (I j) 0#32) = 1#1 then _ else I j) = I j
  rw [hs]; rfl

theorem toInt_lt (v : BitVec 32) (h : v.toNat < 2048) : v.toInt.toNat = v.toNat := by
  rw [BitVec.toInt_eq_toNat_cond, if_pos (by omega)]; rfl

local notation "dG" => gather_S2x16x2048x256_S16x16x256x1_S2x16x16x256x256_04_2_1_0_2_3_211256

theorem taken_apply (hI : InSeq I) (p : Fin 2) (b e : Fin 16) (c w : Fin 256) (n : Fin 2048) (hn : n.val = (I (ix3 b e c)).toNat) :
    taken H I (ix5 p b e c w) = H (ix4 p b n w) := by
  unfold taken Host.gather
  rw [wrapped_eq I hI]
  refine congrArg H (funext fun a => Fin.ext ?_)
  match a with
  | ⟨0, _⟩ =>
    show (dG).start (ix5 p b e c w) _ (0 : Fin 4) + (dG).batchCoord (ix5 p b e c w) (0 : Fin 4) + (dG).offCoord (ix5 p b e c w) (0 : Fin 4) = p.val
    rw [GatherDims.batchCoord_eq_zero _ _ _ (by decide)]
    unfold GatherDims.start GatherDims.offCoord
    rw [dif_neg (by decide), dif_pos (by decide)]
    show 0 + 0 + p.val = p.val
    omega
  | ⟨1, _⟩ =>
    show (dG).start (ix5 p b e c w) _ (1 : Fin 4) + (dG).batchCoord (ix5 p b e c w) (1 : Fin 4) + (dG).offCoord (ix5 p b e c w) (1 : Fin 4) = b.val
    rw [GatherDims.offCoord_eq_zero _ _ _ (by decide)]
    unfold GatherDims.start GatherDims.batchCoord
    rw [dif_neg (by decide), dif_pos (by decide)]
    show 0 + b.val + 0 = b.val
    omega
  | ⟨2, _⟩ =>
    show (dG).start (ix5 p b e c w) _ (2 : Fin 4) + (dG).batchCoord (ix5 p b e c w) (2 : Fin 4) + (dG).offCoord (ix5 p b e c w) (2 : Fin 4) = n.val
    rw [GatherDims.batchCoord_eq_zero _ _ _ (by decide), GatherDims.offCoord_eq_zero _ _ _ (by decide)]
    unfold GatherDims.start
    rw [dif_pos (by decide)]
    have hb : ∀ k : S16x16x256x1.Idx, (k 0).val = b.val → (k 1).val = e.val → (k 2).val = c.val →
        broadcastInDim S16x16x256x1 ![0, 1, 2] bcast_S16x16x256_S16x16x256x1_0_1_2 I k = I (ix3 b e c) := by
      intro k h0 h1 h2
      refine broadcastInDim_apply _ _ _ k (ix3 b e c) ?_
      intro a
      match a with
      | ⟨0, _⟩ => exact h0.symm
      | ⟨1, _⟩ => exact h1.symm
      | ⟨2, _⟩ => exact h2.symm
    rw [hb _ rfl rfl rfl, toInt_lt _ (hI _), ← hn]
    show min n.val (2048 - 1) + 0 + 0 = n.val
    have := n.isLt
    omega
  | ⟨3, _⟩ =>
    show (dG).start (ix5 p b e c w) _ (3 : Fin 4) + (dG).batchCoord (ix5 p b e c w) (3 : Fin 4) + (dG).offCoord (ix5 p b e c w) (3 : Fin 4) = w.val
    rw [GatherDims.batchCoord_eq_zero _ _ _ (by decide)]
    unfold GatherDims.start GatherDims.offCoord
    rw [dif_neg (by decide), dif_pos (by decide)]
    show 0 + 0 + w.val = w.val
    omega

theorem outR_eq (hI : InSeq I) : outR H I = picked H I := by
  funext y
  have h0 : (y 0).val < 2 := (y 0).isLt
  have h1 : (y 1).val < 16 := (y 1).isLt
  have h2 : (y 2).val < 4096 := (y 2).isLt
  have h3 : (y 3).val < 256 := (y 3).isLt
  have hq : (y 2).val / 256 < 16 := by omega
  have hc : (y 2).val % 256 < 256 := Nat.mod_lt _ (by decide)
  unfold outR
  refine (shapeCast_apply _ _ y (ix5 (⟨(y 0).val, h0⟩ : Fin 2) (⟨(y 1).val, h1⟩ : Fin 16) (⟨(y 2).val / 256, hq⟩ : Fin 16)
    (⟨(y 2).val % 256, hc⟩ : Fin 256) (⟨(y 3).val, h3⟩ : Fin 256)) ?_).trans ?_
  · rw [Shape.rowMajor_val_five, Shape.rowMajor_val_four]
    show ((((y 0).val * 16 + (y 1).val) * 16 + (y 2).val / 256) * 256 + (y 2).val % 256) * 256 + (y 3).val
      = (((y 0).val * 16 + (y 1).val) * 4096 + (y 2).val) * 256 + (y 3).val
    omega
  refine (transpose_apply _ _ _ _ (ix5 (⟨(y 0).val, h0⟩ : Fin 2) (⟨(y 2).val / 256, hq⟩ : Fin 16) (⟨(y 1).val, h1⟩ : Fin 16)
    (⟨(y 2).val % 256, hc⟩ : Fin 256) (⟨(y 3).val, h3⟩ : Fin 256)) ?_).trans ?_
  · intro a
    match a with
    | ⟨0, _⟩ => rfl
    | ⟨1, _⟩ => rfl
    | ⟨2, _⟩ => rfl
    | ⟨3, _⟩ => rfl
    | ⟨4, _⟩ => rfl
  refine (taken_apply H I hI _ _ _ _ _ (⟨(I (ix3 (⟨(y 2).val / 256, hq⟩ : Fin 16) (⟨(y 1).val, h1⟩ : Fin 16)
      (⟨(y 2).val % 256, hc⟩ : Fin 256))).toNat % 2048, Nat.mod_lt _ (by decide)⟩ : Fin 2048) (Nat.mod_eq_of_lt (hI _))).trans ?_
  rfl

/-! ## The run -/

theorem run_value (m : (ℓ : Loc nD τ sig) → Buf (Elt F) ℓ) (ρ : Dev nD → PrngReg)
    (hI : ∀ d : Dev nD, InSeq (m ((d.tc : Thread nD τ).loc main_arg1))) :
    θ_run (Cert.ReferenceIdeal.defs (F := F)) (onTc (τ := τ) (Cert.ReferenceIdeal.main (F := F))) ⟨m, fun _ => 0, ρ⟩ fun r =>
      ∀ c : Dev nD, r.2.mem ((c.tc : Thread nD τ).loc main_v8) = picked (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run (Cert.ReferenceIdeal.defs (F := F)) _ _).mono (fun r h c => ?_)
    (StableHlo.run_hlo (Cert.ReferenceIdeal.defs (F := F)) Cert.ReferenceIdeal.main (by hlo_seq) (by decide) (by decide) ?_ ?_ m ρ)
  · refine ⟨((h c main_v8).trans ?_).trans (outR_eq _ _ (hI c)), (h c main_arg0).trans ?_, (h c main_arg1).trans ?_⟩
    · after_results
      rfl
    · after_results
    · after_results
  · simp
  · intro op hop
    (repeat (cases hop with | head => rfl | tail _ hop => ?_)); exact nomatch hop

end Cert.Proof.Ref

end
-- ==== Proof.lean ====
/-
  The proof of `Cert.Claim`. One run of the gather's program, over any values of the float types (`Gather.run_value`),
  gives both programs' frames and both value claims' kernel side; one run of the reference (`Ref.run_value`) the rest.
  Both end with the array of rows the token numbers name (`Gather.picked`). The feed-forward likewise: one run of its
  program (`Ffn.run_ffn`) and one of its reference (`FfnRef.run_ffn`), whose results are one function of the arrays at
  the extended reals (`Ffn.ffn`). The mixer's claims are in Mix/Claims.lean (at the extended reals) and Mix/FrameB.lean
  (the frame at the machine's floats).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel3
public import proofs.«01_k».proof.Proof.Mix.Claims
public import proofs.«01_k».proof.Proof.Mix.FrameB
public import proofs.«01_k».proof.Proof.Gen.Kernel2.Frame
public import proofs.«01_k».proof.Proof.FfnBlock
public import proofs.«01_k».proof.Proof.FfnRef
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem
open Cert.Proof.Gather (InSeq picked)

/-! ## The programs' stated facts that no generated module proves -/

instance preFacts : Cert.Pre_idx_in_seq.Facts where
  bcast_S_S16x16x256 := by decide

instance refFacts₀ : Cert.Reference.Facts₀ where
  bcast_S_S16x16x256 := by decide
  bcast_S16x16x256_S16x16x256x1_0_1_2 := by decide
  transposes_S2x16x16x256x256_S2x16x16x256x256_0_2_1_3_4 := by decide
  shapeCasts_S2x16x16x256x256_S2x16x4096x256 := by decide
  gather_S2x16x2048x256_S16x16x256x1_S2x16x16x256x256_04_2_1_0_2_3_211256_wf := by decide
instance refFacts : Cert.Reference.Facts where

/-! ## The precondition -/

/-- The precondition's word at an entry says that the token number there is below 2048. -/
theorem inSeq_of_pre {F : FTy → Type} [FloatOps F] (H : IVec Cert.Pre_idx_in_seq.S2x16x2048x256 32) (I : IVec Cert.Pre_idx_in_seq.S16x16x256 32)
    (h : Cert.Pre_idx_in_seq.fn (F := F) H I = fun _ => 1#1) : InSeq I := by
  have both (p q : Bool) : IntOp.andi (BitVec.ofBool p) (BitVec.ofBool q) = 1#1 → p = true ∧ q = true := by
    cases p <;> cases q <;> decide
  intro j
  have e := congrFun h j
  simp only [Cert.Pre_idx_in_seq.fn, andi, cmpi, broadcastInDim, constantI, IntOp.cmpi] at e
  obtain ⟨h1, h2⟩ := both _ _ e
  simp only [BitVec.sle_eq_decide, BitVec.slt_eq_decide, decide_eq_true_eq, BitVec.toInt_eq_toNat_cond, BitVec.toNat_ofNat, Nat.reducePow,
    Nat.reduceMod] at h1 h2
  omega

/-! ## The claims -/

theorem frame_kernel : Cert.quiescent_Kernel := fun m ρ hp =>
  (θ_run Cert.KernelIdeal.defs _ _).mono (fun _ h => ⟨fun c => (h.1 c).2, h.2⟩)
    (Gather.run_value (F := Bits) m ρ fun d => inSeq_of_pre _ _ (hp d))

theorem frame_kernelIdeal : Cert.quiescent_KernelIdeal := fun m ρ hp =>
  (θ_run Cert.KernelIdeal.defs _ _).mono (fun _ h => ⟨fun c => (h.1 c).2, h.2⟩)
    (Gather.run_value (F := Ideal) m ρ fun d => inSeq_of_pre _ _ (hp d))

theorem frame_referenceIdeal : Cert.quiescent_ReferenceIdeal := fun m ρ hp =>
  (θ_run Cert.ReferenceIdeal.defs _ _).mono (fun r h => ⟨fun c => (h c).2, sem_eq_zero_of_no_sems (by decide) r.2⟩)
    (Ref.run_value (F := Ideal) m ρ fun d => inSeq_of_pre _ _ (hp d))

theorem frame_reference : Cert.quiescent_Reference := fun m ρ hp =>
  (θ_run Cert.ReferenceIdeal.defs _ _).mono (fun r h => ⟨fun c => (h c).2, sem_eq_zero_of_no_sems (by decide) r.2⟩)
    (Ref.run_value (F := Bits) m ρ fun d => inSeq_of_pre _ _ (hp d))

theorem algebraic : Cert.algebraic_KernelIdeal_ReferenceIdeal := fun m ρ m' ρ' hp hm =>
  ⟨fun c => picked (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h => h.1) (Gather.run_value (F := Ideal) m ρ fun d => inSeq_of_pre _ _ (hp d)),
    (θ_run Cert.ReferenceIdeal.defs _ _).mono
      (fun _ h c => ⟨(h c).1.trans (by rw [(hm c).1, (hm c).2]), (h c).2⟩)
      (Ref.run_value (F := Ideal) m' ρ' fun d => by rw [(hm d).2]; exact inSeq_of_pre _ _ (hp d))⟩

theorem bitexact : Cert.bitexact_Kernel_Reference := fun m ρ m' ρ' hp hm =>
  ⟨fun c => picked (m ((c.tc : Thread Cert.Kernel.nD Cert.Kernel.τ).loc Cert.Kernel.main_arg0))
      (m ((c.tc : Thread Cert.Kernel.nD Cert.Kernel.τ).loc Cert.Kernel.main_arg1)),
    (θ_run Cert.KernelIdeal.defs _ _).mono (fun _ h => h.1) (Gather.run_value (F := Bits) m ρ fun d => inSeq_of_pre _ _ (hp d)),
    (θ_run Cert.ReferenceIdeal.defs _ _).mono
      (fun _ h c => ⟨(h c).1.trans (congrArg₂ picked (hm c).1 (hm c).2), (h c).2⟩)
      (Ref.run_value (F := Bits) m' ρ' fun d => (congrArg InSeq (hm d).2).mpr (inSeq_of_pre _ _ (hp d)))⟩

/-! ## The feed-forward's claims -/

theorem frame_kernel2 : Cert.quiescent_Kernel2 := fun m ρ _ => Cert.Kernel2.Gen.frame (F := Bits) m ρ

theorem frame_kernel2Ideal : Cert.quiescent_Kernel2Ideal := fun m ρ _ => Cert.Kernel2Ideal.Gen.frame (F := Ideal) m ρ

theorem frame_reference2Ideal : Cert.quiescent_Reference2Ideal := fun m ρ _ =>
  (θ_run Cert.Reference2Ideal.defs _ _).mono (fun r h => ⟨fun c => (h c).2, sem_eq_zero_of_no_sems (by decide) r.2⟩)
    (FfnRef.run_ffn (F := Ideal) m ρ)

theorem algebraic2 : Cert.algebraic_Kernel2Ideal_Reference2Ideal := fun m ρ m' ρ' _ hm =>
  ⟨fun c i => Ffn.ffn (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (i 0) (i 1) (i 2),
    (θ_run Cert.Kernel2Ideal.defs _ _).mono
      (fun _ h c => ⟨(h c).1.trans (funext fun i => by rw [eq_ix3 i]; exact Ffn.ffnOut_apply _ _ _ _ _ _ _), (h c).2⟩) (Ffn.run_ffn (F := Ideal) m ρ),
    (θ_run Cert.Reference2Ideal.defs _ _).mono
      (fun _ h c => ⟨(h c).1.trans (funext fun i => by
        rw [(hm c).1, (hm c).2.1, (hm c).2.2.1, (hm c).2.2.2, eq_ix3 i]; exact FfnRef.ffnRef_apply _ _ _ _ _ _ _), (h c).2⟩)
      (FfnRef.run_ffn (F := Ideal) m' ρ')⟩

/-! ## Everything, with the mixer's claims -/

theorem claim : Cert.Claim :=
  ⟨Cert.Kernel.Gen.facts, Cert.KernelIdeal.Gen.facts, Cert.ReferenceIdeal.Gen.facts, refFacts, Cert.Kernel2.Gen.facts,
    Cert.Kernel2Ideal.Gen.facts, Cert.Reference2Ideal.Gen.facts, Cert.Kernel3.Gen.facts, Cert.Kernel3Ideal.Gen.facts,
    Cert.Reference3Ideal.Gen.facts, preFacts,
    frame_kernel, frame_kernelIdeal, frame_referenceIdeal, frame_reference, frame_kernel2, frame_kernel2Ideal, frame_reference2Ideal,
    Mix.frame_kernel3, Mix.frame_kernel3Ideal, Mix.frame_reference3Ideal,
    trivial, algebraic, bitexact, trivial, algebraic2, trivial, Mix.algebraic3⟩

end Cert.Proof

end
